-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)) (v4 : (c : Dev Cert.KernelIdeal.nD) → Buf (Elt Ideal) ((c.tc : Thread Cert.KernelIdeal.nD Cert.KernelIdeal.τ).loc Cert.KernelIdeal.main_v23_4)) (v5 : (c : Dev Cert.KernelIdeal.nD) → Buf (Elt Ideal) ((c.tc : Thread Cert.KernelIdeal.nD Cert.KernelIdeal.τ).loc Cert.KernelIdeal.main_v23_5)) (v6 : (c : Dev Cert.KernelIdeal.nD) → Buf (Elt Ideal) ((c.tc : Thread Cert.KernelIdeal.nD Cert.KernelIdeal.τ).loc Cert.KernelIdeal.main_v23_6)) (v7 : (c : Dev Cert.KernelIdeal.nD) → Buf (Elt Ideal) ((c.tc : Thread Cert.KernelIdeal.nD Cert.KernelIdeal.τ).loc Cert.KernelIdeal.main_v23_7)) (v8 : (c : Dev Cert.KernelIdeal.nD) → Buf (Elt Ideal) ((c.tc : Thread Cert.KernelIdeal.nD Cert.KernelIdeal.τ).loc Cert.KernelIdeal.main_v23_8)) (v9 : (c : Dev Cert.KernelIdeal.nD) → Buf (Elt Ideal) ((c.tc : Thread Cert.KernelIdeal.nD Cert.KernelIdeal.τ).loc Cert.KernelIdeal.main_v23_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_v23_4) = v4 c
          ∧ r.2.mem ((c.tc : Thread Cert.KernelIdeal.nD Cert.KernelIdeal.τ).loc Cert.KernelIdeal.main_v23_5) = v5 c
          ∧ r.2.mem ((c.tc : Thread Cert.KernelIdeal.nD Cert.KernelIdeal.τ).loc Cert.KernelIdeal.main_v23_6) = v6 c
          ∧ r.2.mem ((c.tc : Thread Cert.KernelIdeal.nD Cert.KernelIdeal.τ).loc Cert.KernelIdeal.main_v23_7) = v7 c
          ∧ r.2.mem ((c.tc : Thread Cert.KernelIdeal.nD Cert.KernelIdeal.τ).loc Cert.KernelIdeal.main_v23_8) = v8 c
          ∧ r.2.mem ((c.tc : Thread Cert.KernelIdeal.nD Cert.KernelIdeal.τ).loc Cert.KernelIdeal.main_v23_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v317) = v0 c
          ∧ r.2.mem ((c.tc : Thread Cert.ReferenceIdeal.nD Cert.ReferenceIdeal.τ).loc Cert.ReferenceIdeal.main_v318) = v1 c
          ∧ r.2.mem ((c.tc : Thread Cert.ReferenceIdeal.nD Cert.ReferenceIdeal.τ).loc Cert.ReferenceIdeal.main_v319) = v2 c
          ∧ r.2.mem ((c.tc : Thread Cert.ReferenceIdeal.nD Cert.ReferenceIdeal.τ).loc Cert.ReferenceIdeal.main_v320) = v3 c
          ∧ r.2.mem ((c.tc : Thread Cert.ReferenceIdeal.nD Cert.ReferenceIdeal.τ).loc Cert.ReferenceIdeal.main_v322) = v4 c
          ∧ r.2.mem ((c.tc : Thread Cert.ReferenceIdeal.nD Cert.ReferenceIdeal.τ).loc Cert.ReferenceIdeal.main_v323) = v5 c
          ∧ r.2.mem ((c.tc : Thread Cert.ReferenceIdeal.nD Cert.ReferenceIdeal.τ).loc Cert.ReferenceIdeal.main_v324) = v6 c
          ∧ r.2.mem ((c.tc : Thread Cert.ReferenceIdeal.nD Cert.ReferenceIdeal.τ).loc Cert.ReferenceIdeal.main_v244) = v7 c
          ∧ r.2.mem ((c.tc : Thread Cert.ReferenceIdeal.nD Cert.ReferenceIdeal.τ).loc Cert.ReferenceIdeal.main_v325) = v8 c
          ∧ r.2.mem ((c.tc : Thread Cert.ReferenceIdeal.nD Cert.ReferenceIdeal.τ).loc Cert.ReferenceIdeal.main_v326) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v11) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)) (v2 : (c : Dev Cert.Kernel7Ideal.nD) → Buf (Elt Ideal) ((c.tc : Thread Cert.Kernel7Ideal.nD Cert.Kernel7Ideal.τ).loc Cert.Kernel7Ideal.main_v5_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_v5_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v19) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)) (v6 : (c : Dev Cert.Kernel9Ideal.nD) → Buf (Elt Ideal) ((c.tc : Thread Cert.Kernel9Ideal.nD Cert.Kernel9Ideal.τ).loc Cert.Kernel9Ideal.main_v0_6)) (v7 : (c : Dev Cert.Kernel9Ideal.nD) → Buf (Elt Ideal) ((c.tc : Thread Cert.Kernel9Ideal.nD Cert.Kernel9Ideal.τ).loc Cert.Kernel9Ideal.main_v0_7)) (v8 : (c : Dev Cert.Kernel9Ideal.nD) → Buf (Elt Ideal) ((c.tc : Thread Cert.Kernel9Ideal.nD Cert.Kernel9Ideal.τ).loc Cert.Kernel9Ideal.main_v0_8)) (v9 : (c : Dev Cert.Kernel9Ideal.nD) → Buf (Elt Ideal) ((c.tc : Thread Cert.Kernel9Ideal.nD Cert.Kernel9Ideal.τ).loc Cert.Kernel9Ideal.main_v0_9)) (v10 : (c : Dev Cert.Kernel9Ideal.nD) → Buf (Elt Ideal) ((c.tc : Thread Cert.Kernel9Ideal.nD Cert.Kernel9Ideal.τ).loc Cert.Kernel9Ideal.main_v0_10)) (v11 : (c : Dev Cert.Kernel9Ideal.nD) → Buf (Elt Ideal) ((c.tc : Thread Cert.Kernel9Ideal.nD Cert.Kernel9Ideal.τ).loc Cert.Kernel9Ideal.main_v0_11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_v0_6) = v6 c
          ∧ r.2.mem ((c.tc : Thread Cert.Kernel9Ideal.nD Cert.Kernel9Ideal.τ).loc Cert.Kernel9Ideal.main_v0_7) = v7 c
          ∧ r.2.mem ((c.tc : Thread Cert.Kernel9Ideal.nD Cert.Kernel9Ideal.τ).loc Cert.Kernel9Ideal.main_v0_8) = v8 c
          ∧ r.2.mem ((c.tc : Thread Cert.Kernel9Ideal.nD Cert.Kernel9Ideal.τ).loc Cert.Kernel9Ideal.main_v0_9) = v9 c
          ∧ r.2.mem ((c.tc : Thread Cert.Kernel9Ideal.nD Cert.Kernel9Ideal.τ).loc Cert.Kernel9Ideal.main_v0_10) = v10 c
          ∧ r.2.mem ((c.tc : Thread Cert.Kernel9Ideal.nD Cert.Kernel9Ideal.τ).loc Cert.Kernel9Ideal.main_v0_11) = v11 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_v7) = v2 c
          ∧ r.2.mem ((c.tc : Thread Cert.Reference9Ideal.nD Cert.Reference9Ideal.τ).loc Cert.Reference9Ideal.main_v13) = v3 c
          ∧ r.2.mem ((c.tc : Thread Cert.Reference9Ideal.nD Cert.Reference9Ideal.τ).loc Cert.Reference9Ideal.main_v29) = v4 c
          ∧ r.2.mem ((c.tc : Thread Cert.Reference9Ideal.nD Cert.Reference9Ideal.τ).loc Cert.Reference9Ideal.main_v53) = v5 c
          ∧ r.2.mem ((c.tc : Thread Cert.Reference9Ideal.nD Cert.Reference9Ideal.τ).loc Cert.Reference9Ideal.main_v34) = v6 c
          ∧ r.2.mem ((c.tc : Thread Cert.Reference9Ideal.nD Cert.Reference9Ideal.τ).loc Cert.Reference9Ideal.main_v40) = v7 c
          ∧ r.2.mem ((c.tc : Thread Cert.Reference9Ideal.nD Cert.Reference9Ideal.τ).loc Cert.Reference9Ideal.main_v56) = v8 c
          ∧ r.2.mem ((c.tc : Thread Cert.Reference9Ideal.nD Cert.Reference9Ideal.τ).loc Cert.Reference9Ideal.main_v80) = v9 c
          ∧ r.2.mem ((c.tc : Thread Cert.Reference9Ideal.nD Cert.Reference9Ideal.τ).loc Cert.Reference9Ideal.main_v61) = v10 c
          ∧ r.2.mem ((c.tc : Thread Cert.Reference9Ideal.nD Cert.Reference9Ideal.τ).loc Cert.Reference9Ideal.main_v67) = v11 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_v16) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v29) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_v16) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v26) = v1 c
          ∧ r.2.mem ((c.tc : Thread Cert.Reference12Ideal.nD Cert.Reference12Ideal.τ).loc Cert.Reference12Ideal.main_v7) = v2 c
          ∧ r.2.mem ((c.tc : Thread Cert.Reference12Ideal.nD Cert.Reference12Ideal.τ).loc Cert.Reference12Ideal.main_v13) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v7) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4096x1024 : Shape := ⟨2, ![4096, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2560 : S_.BroadcastsInDim S1024x2560 (![] : Fin 0 → Fin S1024x2560.rank)
  reducesTo_S1024x2560_S_d0_1 : S1024x2560.ReducesTo [0, 1] S_
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S3x512 : S_.BroadcastsInDim S3x512 (![] : Fin 0 → Fin S3x512.rank)
  reducesTo_S3x512_S_d0_1 : S3x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : IVec S_ 1 := andi main_v3 main_v7
  let main_v49 : IVec S_ 1 := andi main_v48 main_v11
  let main_v50 : IVec S_ 1 := andi main_v49 main_v15
  let main_v51 : IVec S_ 1 := andi main_v50 main_v19
  let main_v52 : IVec S_ 1 := andi main_v51 main_v23
  let main_v53 : IVec S_ 1 := andi main_v52 main_v27
  let main_v54 : IVec S_ 1 := andi main_v53 main_v31
  let main_v55 : IVec S_ 1 := andi main_v54 main_v35
  let main_v56 : IVec S_ 1 := andi main_v55 main_v39
  let main_v57 : IVec S_ 1 := andi main_v56 main_v43
  let main_v58 : IVec S_ 1 := andi main_v57 main_v47
  main_v58

def fn_part2 {F : FTy → Type} [FloatOps F] (main_arg8 : FVec F S3x512 .f32) (main_arg9 : FVec F S512 .f32) (main_arg10 : FVec F S512 .f32) (main_arg11 : FVec F S1024x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S3x512 .f32 := Host.absf main_arg8
  let main_cst_14 : FVec F S_ .f32 := constant S_ .f32 0x7F800000#32
  let main_v33 : FVec F S3x512 .f32 := broadcastInDim S3x512 ![] bcast_S_S3x512 main_cst_14
  let main_v34 : IVec S3x512 1 := cmpf .olt main_v32 main_v33
  let main_c_15 : IVec S_ 1 := constantI S_ 1 1#1
  let main_v35 : IVec S_ 1 := (fun x v => Host.reduce IntOp.andi x v reducesTo_S3x512_S_d0_1 h_S_) main_v34 main_c_15
  let main_v36 : FVec F S512 .f32 := Host.absf main_arg9
  let main_cst_16 : FVec F S_ .f32 := constant S_ .f32 0x7F800000#32
  let main_v37 : FVec F S512 .f32 := broadcastInDim S512 ![] bcast_S_S512 main_cst_16
  let main_v38 : IVec S512 1 := cmpf .olt main_v36 main_v37
  let main_c_17 : IVec S_ 1 := constantI S_ 1 1#1
  let main_v39 : IVec S_ 1 := (fun x v => Host.reduce IntOp.andi x v reducesTo_S512_S_d0 h_S_) main_v38 main_c_17
  let main_v40 : FVec F S512 .f32 := Host.absf main_arg10
  let main_cst_18 : FVec F S_ .f32 := constant S_ .f32 0x7F800000#32
  let main_v41 : FVec F S512 .f32 := broadcastInDim S512 ![] bcast_S_S512 main_cst_18
  let main_v42 : IVec S512 1 := cmpf .olt main_v40 main_v41
  let main_c_19 : IVec S_ 1 := constantI S_ 1 1#1
  let main_v43 : IVec S_ 1 := (fun x v => Host.reduce IntOp.andi x v reducesTo_S512_S_d0 h_S_) main_v42 main_c_19
  let main_v44 : FVec F S1024x1024 .f32 := Host.absf main_arg11
  let main_cst_20 : FVec F S_ .f32 := constant S_ .f32 0x7F800000#32
  let main_v45 : FVec F S1024x1024 .f32 := broadcastInDim S1024x1024 ![] bcast_S_S1024x1024 main_cst_20
  let main_v46 : IVec S1024x1024 1 := cmpf .olt main_v44 main_v45
  let main_c_21 : IVec S_ 1 := constantI S_ 1 1#1
  let main_v47 : IVec S_ 1 := (fun x v => Host.reduce IntOp.andi x v reducesTo_S1024x1024_S_d0_1 h_S_) main_v46 main_c_21
  fn_part3 (F := F) main_v3 main_v7 main_v11 main_v15 main_v19 main_v23 main_v27 main_v31 main_v35 main_v39 main_v43 main_v47

def fn_part1 {F : FTy → Type} [FloatOps F] (main_arg4 : FVec F S512 .f32) (main_arg5 : FVec F S512 .f32) (main_arg6 : FVec F S4x128x128 .f32) (main_arg7 : FVec F S4x128 .f32) (main_arg8 : FVec F S3x512 .f32) (main_arg9 : FVec F S512 .f32) (main_arg10 : FVec F S512 .f32) (main_arg11 : FVec F S1024x1024 .f32) (main_v3 : IVec S_ 1) (main_v7 : IVec S_ 1) (main_v11 : IVec S_ 1) (main_v15 : IVec S_ 1) : IVec S_ 1 :=
  let main_v16 : FVec F S512 .f32 := Host.absf main_arg4
  let main_cst_6 : FVec F S_ .f32 := constant S_ .f32 0x7F800000#32
  let main_v17 : FVec F S512 .f32 := broadcastInDim S512 ![] bcast_S_S512 main_cst_6
  let main_v18 : IVec S512 1 := cmpf .olt main_v16 main_v17
  let main_c_7 : IVec S_ 1 := constantI S_ 1 1#1
  let main_v19 : IVec S_ 1 := (fun x v => Host.reduce IntOp.andi x v reducesTo_S512_S_d0 h_S_) main_v18 main_c_7
  let main_v20 : FVec F S512 .f32 := Host.absf main_arg5
  let main_cst_8 : FVec F S_ .f32 := constant S_ .f32 0x7F800000#32
  let main_v21 : FVec F S512 .f32 := broadcastInDim S512 ![] bcast_S_S512 main_cst_8
  let main_v22 : IVec S512 1 := cmpf .olt main_v20 main_v21
  let main_c_9 : IVec S_ 1 := constantI S_ 1 1#1
  let main_v23 : IVec S_ 1 := (fun x v => Host.reduce IntOp.andi x v reducesTo_S512_S_d0 h_S_) main_v22 main_c_9
  let main_v24 : FVec F S4x128x128 .f32 := Host.absf main_arg6
  let main_cst_10 : FVec F S_ .f32 := constant S_ .f32 0x7F800000#32
  let main_v25 : FVec F S4x128x128 .f32 := broadcastInDim S4x128x128 ![] bcast_S_S4x128x128 main_cst_10
  let main_v26 : IVec S4x128x128 1 := cmpf .olt main_v24 main_v25
  let main_c_11 : IVec S_ 1 := constantI S_ 1 1#1
  let main_v27 : IVec S_ 1 := (fun x v => Host.reduce IntOp.andi x v reducesTo_S4x128x128_S_d0_1_2 h_S_) main_v26 main_c_11
  let main_v28 : FVec F S4x128 .f32 := Host.absf main_arg7
  let main_cst_12 : FVec F S_ .f32 := constant S_ .f32 0x7F800000#32
  let main_v29 : FVec F S4x128 .f32 := broadcastInDim S4x128 ![] bcast_S_S4x128 main_cst_12
  let main_v30 : IVec S4x128 1 := cmpf .olt main_v28 main_v29
  let main_c_13 : IVec S_ 1 := constantI S_ 1 1#1
  let main_v31 : IVec S_ 1 := (fun x v => Host.reduce IntOp.andi x v reducesTo_S4x128_S_d0_1 h_S_) main_v30 main_c_13
  fn_part2 (F := F) main_arg8 main_arg9 main_arg10 main_arg11 main_v3 main_v7 main_v11 main_v15 main_v19 main_v23 main_v27 main_v31

def fn {F : FTy → Type} [FloatOps F] (main_arg0 : FVec F S4096x1024 .f32) (main_arg1 : FVec F S4096x1024 .f32) (main_arg2 : FVec F S1024 .f32) (main_arg3 : FVec F S1024x2560 .f32) (main_arg4 : FVec F S512 .f32) (main_arg5 : FVec F S512 .f32) (main_arg6 : FVec F S4x128x128 .f32) (main_arg7 : FVec F S4x128 .f32) (main_arg8 : FVec F S3x512 .f32) (main_arg9 : FVec F S512 .f32) (main_arg10 : FVec F S512 .f32) (main_arg11 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x2560 .f32 := Host.absf main_arg3
  let main_cst_4 : FVec F S_ .f32 := constant S_ .f32 0x7F800000#32
  let main_v13 : FVec F S1024x2560 .f32 := broadcastInDim S1024x2560 ![] bcast_S_S1024x2560 main_cst_4
  let main_v14 : IVec S1024x2560 1 := cmpf .olt main_v12 main_v13
  let main_c_5 : IVec S_ 1 := constantI S_ 1 1#1
  let main_v15 : IVec S_ 1 := (fun x v => Host.reduce IntOp.andi x v reducesTo_S1024x2560_S_d0_1 h_S_) main_v14 main_c_5
  fn_part1 (F := F) main_arg4 main_arg5 main_arg6 main_arg7 main_arg8 main_arg9 main_arg10 main_arg11 main_v3 main_v7 main_v11 main_v15
-- ==== Pre_finite_ffn.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x1024 .f32) (main_arg1 : FVec F S4096x1024 .f32) (main_arg2 : FVec F S1024x5632 .f32) (main_arg3 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1024x5632 .f32 := Host.absf main_arg2
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_v3 main_v7 main_v11 main_v15
-- ==== Kernel.lean ====
abbrev S4096x1024 : Shape := ⟨2, ![4096, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩
abbrev S1x512 : Shape := ⟨2, ![1, 512]⟩
abbrev S128x4 : Shape := ⟨2, ![128, 4]⟩
abbrev S2560x1024 : Shape := ⟨2, ![2560, 1024]⟩
abbrev S8x512 : Shape := ⟨2, ![8, 512]⟩
abbrev S128x512 : Shape := ⟨2, ![128, 512]⟩
abbrev S512x1024 : Shape := ⟨2, ![512, 1024]⟩
abbrev S16x1024 : Shape := ⟨2, ![16, 1024]⟩
abbrev S512x2560 : Shape := ⟨2, ![512, 2560]⟩
abbrev S16x2560 : Shape := ⟨2, ![16, 2560]⟩
abbrev S512x512 : Shape := ⟨2, ![512, 512]⟩
abbrev S128x128 : Shape := ⟨2, ![128, 128]⟩
abbrev S1x128x128 : Shape := ⟨3, ![1, 128, 128]⟩
abbrev S16x1536 : Shape := ⟨2, ![16, 1536]⟩
abbrev S528x1024 : Shape := ⟨2, ![528, 1024]⟩
abbrev S512x1536 : Shape := ⟨2, ![512, 1536]⟩
abbrev S544x1536 : Shape := ⟨2, ![544, 1536]⟩
abbrev S544x1 : Shape := ⟨2, ![544, 1]⟩
abbrev S544x512 : Shape := ⟨2, ![544, 512]⟩
abbrev S528x512 : Shape := ⟨2, ![528, 512]⟩
abbrev S528 : Shape := ⟨1, ![528]⟩
abbrev S528x1 : Shape := ⟨2, ![528, 1]⟩
abbrev S512x1 : Shape := ⟨2, ![512, 1]⟩
abbrev S128x1 : Shape := ⟨2, ![128, 1]⟩

abbrev nBuf : Space → Nat
  | .hbm => 48
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x2560, .f32⟩
  | .hbm, ⟨4, _⟩ => ⟨S512, .f32⟩
  | .hbm, ⟨5, _⟩ => ⟨S512, .f32⟩
  | .hbm, ⟨6, _⟩ => ⟨S4x128x128, .f32⟩
  | .hbm, ⟨7, _⟩ => ⟨S4x128, .f32⟩
  | .hbm, ⟨8, _⟩ => ⟨S3x512, .f32⟩
  | .hbm, ⟨9, _⟩ => ⟨S512, .f32⟩
  | .hbm, ⟨10, _⟩ => ⟨S512, .f32⟩
  | .hbm, ⟨11, _⟩ => ⟨S1024x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2560, .f32⟩
  | .hbm, ⟨29, _⟩ => ⟨S1x1024, .f32⟩
  | .hbm, ⟨30, _⟩ => ⟨S1x512, .f32⟩
  | .hbm, ⟨31, _⟩ => ⟨S1x512, .f32⟩
  | .hbm, ⟨32, _⟩ => ⟨S128x4, .f32⟩
  | .hbm, ⟨33, _⟩ => ⟨S1x512, .f32⟩
  | .hbm, ⟨34, _⟩ => ⟨S1x512, .f32⟩
  | .hbm, ⟨35, _⟩ => ⟨S1024x1024, .bf16⟩
  | .hbm, ⟨36, _⟩ => ⟨S2560x1024, .f32⟩
  | .hbm, ⟨37, _⟩ => ⟨S2560x1024, .bf16⟩
  | .hbm, ⟨38, _⟩ => ⟨S4096x2560, .bf16⟩
  | .hbm, ⟨39, _⟩ => ⟨S4096x1024, .f32⟩
  | .hbm, ⟨40, _⟩ => ⟨S1x512, .f32⟩
  | .hbm, ⟨41, _⟩ => ⟨S1x512, .f32⟩
  | .hbm, ⟨42, _⟩ => ⟨S8x512, .f32⟩
  | .hbm, ⟨43, _⟩ => ⟨S1x512, .f32⟩
  | .hbm, ⟨44, _⟩ => ⟨S1x512, .f32⟩
  | .hbm, ⟨45, _⟩ => ⟨S4x128x128, .f32⟩
  | .hbm, ⟨46, _⟩ => ⟨S128x512, .f32⟩
  | .hbm, ⟨47, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x2560, .f32⟩
  | .local _ .vmem, ⟨8, _⟩ => ⟨S512x2560, .f32⟩
  | .local _ .vmem, ⟨9, _⟩ => ⟨S16x2560, .f32⟩
  | .local _ .vmem, ⟨10, _⟩ => ⟨S16x2560, .f32⟩
  | .local _ .vmem, ⟨11, _⟩ => ⟨S16x2560, .f32⟩
  | .local _ .vmem, ⟨12, _⟩ => ⟨S16x2560, .f32⟩
  | .local _ .vmem, ⟨13, _⟩ => ⟨S1x512, .f32⟩
  | .local _ .vmem, ⟨14, _⟩ => ⟨S1x512, .f32⟩
  | .local _ .vmem, ⟨15, _⟩ => ⟨S4x128x128, .f32⟩
  | .local _ .vmem, ⟨16, _⟩ => ⟨S128x4, .f32⟩
  | .local _ .vmem, ⟨17, _⟩ => ⟨S3x512, .f32⟩
  | .local _ .vmem, ⟨18, _⟩ => ⟨S1x512, .f32⟩
  | .local _ .vmem, ⟨19, _⟩ => ⟨S1x512, .f32⟩
  | .local _ .vmem, ⟨20, _⟩ => ⟨S1024x1024, .bf16⟩
  | .local _ .vmem, ⟨21, _⟩ => ⟨S2560x1024, .bf16⟩
  | .local _ .vmem, ⟨22, _⟩ => ⟨S512x2560, .bf16⟩
  | .local _ .vmem, ⟨23, _⟩ => ⟨S512x2560, .bf16⟩
  | .local _ .vmem, ⟨24, _⟩ => ⟨S512x1024, .f32⟩
  | .local _ .vmem, ⟨25, _⟩ => ⟨S512x1024, .f32⟩
  | .local _ .vmem, ⟨26, _⟩ => ⟨S1x512, .f32⟩
  | .local _ .vmem, ⟨27, _⟩ => ⟨S1x512, .f32⟩
  | .local _ .vmem, ⟨28, _⟩ => ⟨S8x512, .f32⟩
  | .local _ .vmem, ⟨29, _⟩ => ⟨S1x512, .f32⟩
  | .local _ .vmem, ⟨30, _⟩ => ⟨S1x512, .f32⟩
  | .local _ .vmem, ⟨31, _⟩ => ⟨S4x128x128, .f32⟩
  | .local _ .vmem, ⟨32, _⟩ => ⟨S128x512, .f32⟩
  | .local _ .vmem, ⟨33, _⟩ => ⟨S1x1024, .f32⟩
  | .local _ .vmem, ⟨34, _⟩ => ⟨S512x512, .f32⟩
  | .local _ .vmem, ⟨35, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_v23_3 : Ref sig .tc := ⟨.hbm, 41, rfl⟩
abbrev main_v23_4 : Ref sig .tc := ⟨.hbm, 42, rfl⟩
abbrev main_v23_5 : Ref sig .tc := ⟨.hbm, 43, rfl⟩
abbrev main_v23_6 : Ref sig .tc := ⟨.hbm, 44, rfl⟩
abbrev main_v23_7 : Ref sig .tc := ⟨.hbm, 45, rfl⟩
abbrev main_v23_8 : Ref sig .tc := ⟨.hbm, 46, rfl⟩
abbrev main_v23_9 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg24_0 : Ref sig .tc := ⟨.vmem, 32, rfl⟩
abbrev cc0_stg25_0 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem24_0 : DmaSem sig := 32
abbrev cc0_sem25_0 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2560x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x2560 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S4096x1024 : Shape := ⟨2, ![4096, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S128x4 : Shape := ⟨2, ![128, 4]⟩
abbrev S128x4x1 : Shape := ⟨3, ![128, 4, 1]⟩
abbrev S128x4x128 : Shape := ⟨3, ![128, 4, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2560 : Shape := ⟨2, ![4096, 2560]⟩
abbrev S4096x512 : Shape := ⟨2, ![4096, 512]⟩
abbrev S1x512 : Shape := ⟨2, ![1, 512]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S1x128x4x128 : Shape := ⟨4, ![1, 128, 4, 128]⟩
abbrev S4096x1536 : Shape := ⟨2, ![4096, 1536]⟩
abbrev S2x512 : Shape := ⟨2, ![2, 512]⟩
abbrev S4098x512 : Shape := ⟨2, ![4098, 512]⟩
abbrev S5x512 : Shape := ⟨2, ![5, 512]⟩
abbrev S8x512 : Shape := ⟨2, ![8, 512]⟩
abbrev S128x512 : Shape := ⟨2, ![128, 512]⟩

abbrev nBuf : Space → Nat
  | .hbm => 424
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024x2560, .f32⟩
  | 4 => ⟨S512, .f32⟩
  | 5 => ⟨S512, .f32⟩
  | 6 => ⟨S4x128x128, .f32⟩
  | 7 => ⟨S4x128, .f32⟩
  | 8 => ⟨S3x512, .f32⟩
  | 9 => ⟨S512, .f32⟩
  | 10 => ⟨S512, .f32⟩
  | 11 => ⟨S1024x1024, .f32⟩
  | 12 => ⟨S128x4, .f32⟩
  | 13 => ⟨S128x4x1, .f32⟩
  | 14 => ⟨S128x4x128, .f32⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S1x1024, .f32⟩
  | 33 => ⟨S4096x1024, .f32⟩
  | 34 => ⟨S4096x1024, .f32⟩
  | 35 => ⟨S4096x2560, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S4096x1024, .f32⟩
  | 68 => ⟨S4096x512, .f32⟩
  | 69 => ⟨S4096x512, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S_, .f32⟩
  | 83 => ⟨S4096, .f32⟩
  | 84 => ⟨S4096x1, .f32⟩
  | 85 => ⟨S_, .f32⟩
  | 86 => ⟨S4096x1, .f32⟩
  | 87 => ⟨S4096x1, .f32⟩
  | 88 => ⟨S4096x512, .f32⟩
  | 89 => ⟨S4096x512, .f32⟩
  | 90 => ⟨S_, .f32⟩
  | 91 => ⟨S4096x1, .f32⟩
  | 92 => ⟨S4096x1, .f32⟩
  | 93 => ⟨S4096x1, .f32⟩
  | 94 => ⟨S4096x1, .f32⟩
  | 95 => ⟨S_, .f32⟩
  | 96 => ⟨S4096x1, .f32⟩
  | 97 => ⟨S4096x1, .f32⟩
  | 98 => ⟨S4096x512, .f32⟩
  | 99 => ⟨S4096x512, .f32⟩
  | 100 => ⟨S1x512, .f32⟩
  | 101 => ⟨S4096x512, .f32⟩
  | 102 => ⟨S4096x512, .f32⟩
  | 103 => ⟨S1x512, .f32⟩
  | 104 => ⟨S4096x512, .f32⟩
  | 105 => ⟨S4096x512, .f32⟩
  | 106 => ⟨S32x128x4x128, .f32⟩
  | 107 => ⟨S_, .f32⟩
  | 108 => ⟨S128x128, .f32⟩
  | 109 => ⟨S128x128, .i32⟩
  | 110 => ⟨S_, .i32⟩
  | 111 => ⟨S128x128, .i32⟩
  | 112 => ⟨S128x128, .i32⟩
  | 113 => ⟨S128x128, .i32⟩
  | 114 => ⟨S128x128, .i1⟩
  | 115 => ⟨S_, .f32⟩
  | 116 => ⟨S128x128, .f32⟩
  | 117 => ⟨S128x128, .f32⟩
  | 118 => ⟨S1x128x128, .f32⟩
  | 119 => ⟨S4x128x128, .f32⟩
  | 120 => ⟨S4x128x128, .f32⟩
  | 121 => ⟨S4x32x128x128, .f32⟩
  | 122 => ⟨S32x128x4x128, .f32⟩
  | 123 => ⟨S1x128x4x128, .f32⟩
  | 124 => ⟨S32x128x4x128, .f32⟩
  | 125 => ⟨S32x128x4x128, .f32⟩
  | 126 => ⟨S4096x512, .f32⟩
  | 127 => ⟨S4096x512, .f32⟩
  | _ => ⟨S4096x1024, .f32⟩

abbrev hbmTy0_1 (i : Nat) : BufTy := match i % 128 with
  | 0 => ⟨S4096x512, .f32⟩
  | 1 => ⟨S_, .f32⟩
  | 2 => ⟨S4096, .f32⟩
  | 3 => ⟨S4096x1, .f32⟩
  | 4 => ⟨S_, .f32⟩
  | 5 => ⟨S4096x1, .f32⟩
  | 6 => ⟨S4096x1, .f32⟩
  | 7 => ⟨S_, .f32⟩
  | 8 => ⟨S4096x1, .f32⟩
  | 9 => ⟨S4096x1, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S4096x512, .f32⟩
  | 16 => ⟨S4096x512, .f32⟩
  | 17 => ⟨S1x512, .f32⟩
  | 18 => ⟨S4096x512, .f32⟩
  | 19 => ⟨S4096x512, .f32⟩
  | 20 => ⟨S4096x1536, .f32⟩
  | 21 => ⟨S4096x512, .f32⟩
  | 22 => ⟨S4096x512, .f32⟩
  | 23 => ⟨S4096x512, .f32⟩
  | 24 => ⟨S4096x512, .f32⟩
  | 25 => ⟨S_, .f32⟩
  | 26 => ⟨S2x512, .f32⟩
  | 27 => ⟨S4098x512, .f32⟩
  | 28 => ⟨S_, .f32⟩
  | 29 => ⟨S2x512, .f32⟩
  | 30 => ⟨S1x512, .f32⟩
  | 31 => ⟨S512, .f32⟩
  | 32 => ⟨S4096x512, .f32⟩
  | 33 => ⟨S1x512, .f32⟩
  | 34 => ⟨S4096x512, .f32⟩
  | 35 => ⟨S4096x512, .f32⟩
  | 36 => ⟨S1x512, .f32⟩
  | 37 => ⟨S512, .f32⟩
  | 38 => ⟨S4096x512, .f32⟩
  | 39 => ⟨S1x512, .f32⟩
  | 40 => ⟨S4096x512, .f32⟩
  | 41 => ⟨S4096x512, .f32⟩
  | 42 => ⟨S4096x512, .f32⟩
  | 43 => ⟨S1x512, .f32⟩
  | 44 => ⟨S512, .f32⟩
  | 45 => ⟨S4096x512, .f32⟩
  | 46 => ⟨S1x512, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x512, .f32⟩
  | 67 => ⟨S4096x512, .f32⟩
  | 68 => ⟨S1x512, .f32⟩
  | 69 => ⟨S4096x512, .f32⟩
  | 70 => ⟨S4096x512, .f32⟩
  | 71 => ⟨S4096x1024, .f32⟩
  | 72 => ⟨S4096x1024, .f32⟩
  | 73 => ⟨S4096x1024, .f32⟩
  | 74 => ⟨S4096x512, .f32⟩
  | 75 => ⟨S4096x512, .f32⟩
  | 76 => ⟨S4096x512, .f32⟩
  | 77 => ⟨S_, .f32⟩
  | 78 => ⟨S512, .f32⟩
  | 79 => ⟨S1x512, .f32⟩
  | 80 => ⟨S4096x512, .f32⟩
  | 81 => ⟨S4096x512, .f32⟩
  | 82 => ⟨S_, .f32⟩
  | 83 => ⟨S512, .f32⟩
  | 84 => ⟨S4096x512, .f32⟩
  | 85 => ⟨S_, .f32⟩
  | 86 => ⟨S4096, .f32⟩
  | 87 => ⟨S4096x1, .f32⟩
  | 88 => ⟨S4096x512, .f32⟩
  | 89 => ⟨S4096x512, .f32⟩
  | 90 => ⟨S4096x1, .f32⟩
  | 91 => ⟨S_, .f32⟩
  | 92 => ⟨S4096x1, .f32⟩
  | 93 => ⟨S4096x1, .f32⟩
  | 94 => ⟨S_, .f32⟩
  | 95 => ⟨S4096, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S_, .f32⟩
  | 107 => ⟨S512, .f32⟩
  | 108 => ⟨S1x512, .f32⟩
  | 109 => ⟨S_, .f32⟩
  | 110 => ⟨S512, .f32⟩
  | 111 => ⟨S_, .f32⟩
  | 112 => ⟨S4098x512, .f32⟩
  | 113 => ⟨S1x512, .f32⟩
  | 114 => ⟨S_, .f32⟩
  | 115 => ⟨S3x512, .f32⟩
  | 116 => ⟨S4096x512, .f32⟩
  | 117 => ⟨S4096x512, .f32⟩
  | 118 => ⟨S4096x512, .f32⟩
  | 119 => ⟨S_, .f32⟩
  | 120 => ⟨S512, .f32⟩
  | 121 => ⟨S1x512, .f32⟩
  | 122 => ⟨S_, .f32⟩
  | 123 => ⟨S512, .f32⟩
  | 124 => ⟨S_, .f32⟩
  | 125 => ⟨S4098x512, .f32⟩
  | 126 => ⟨S4098x512, .f32⟩
  | 127 => ⟨S1x512, .f32⟩
  | _ => ⟨S4096x1024, .f32⟩

abbrev hbmTy0_2 (i : Nat) : BufTy := match i % 128 with
  | 0 => ⟨S_, .f32⟩
  | 1 => ⟨S3x512, .f32⟩
  | 2 => ⟨S3x512, .f32⟩
  | 3 => ⟨S4096x512, .f32⟩
  | 4 => ⟨S4096x512, .f32⟩
  | 5 => ⟨S4096x512, .f32⟩
  | 6 => ⟨S_, .f32⟩
  | 7 => ⟨S512, .f32⟩
  | 8 => ⟨S1x512, .f32⟩
  | 9 => ⟨S_, .f32⟩
  | 10 => ⟨S512, .f32⟩
  | 11 => ⟨S_, .f32⟩
  | 12 => ⟨S4098x512, .f32⟩
  | 13 => ⟨S4098x512, .f32⟩
  | 14 => ⟨S1x512, .f32⟩
  | 15 => ⟨S_, .f32⟩
  | 16 => ⟨S3x512, .f32⟩
  | 17 => ⟨S3x512, .f32⟩
  | 18 => ⟨S2x512, .f32⟩
  | 19 => ⟨S4096x512, .f32⟩
  | 20 => ⟨S4096x512, .f32⟩
  | 21 => ⟨S4096x512, .f32⟩
  | 22 => ⟨S4096x1536, .f32⟩
  | 23 => ⟨S_, .f32⟩
  | 24 => ⟨S4096x2560, .f32⟩
  | 25 => ⟨S4096x512, .f32⟩
  | 26 => ⟨S_, .f32⟩
  | 27 => ⟨S512, .f32⟩
  | 28 => ⟨S1x512, .f32⟩
  | 29 => ⟨S4096x512, .f32⟩
  | 30 => ⟨S4096x512, .f32⟩
  | 31 => ⟨S_, .f32⟩
  | 32 => ⟨S512, .f32⟩
  | 33 => ⟨S4096x512, .f32⟩
  | 34 => ⟨S_, .f32⟩
  | 35 => ⟨S4096, .f32⟩
  | 36 => ⟨S4096x1, .f32⟩
  | 37 => ⟨S4096x512, .f32⟩
  | 38 => ⟨S4096x512, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S32x128x4x128, .f32⟩
  | 53 => ⟨S_, .f32⟩
  | 54 => ⟨S128x4x128, .f32⟩
  | 55 => ⟨S1x128x4x128, .f32⟩
  | 56 => ⟨S_, .f32⟩
  | 57 => ⟨S128x4x128, .f32⟩
  | 58 => ⟨S4x32x128x128, .f32⟩
  | 59 => ⟨S4x128x128, .f32⟩
  | 60 => ⟨S4x32x128x128, .f32⟩
  | 61 => ⟨S32x128x4x128, .f32⟩
  | 62 => ⟨S4x128x128, .f32⟩
  | 63 => ⟨S4x128x128, .f32⟩
  | 64 => ⟨S4096x512, .f32⟩
  | 65 => ⟨S_, .f32⟩
  | 66 => ⟨S512, .f32⟩
  | 67 => ⟨S1x512, .f32⟩
  | 68 => ⟨S_, .f32⟩
  | 69 => ⟨S512, .f32⟩
  | 70 => ⟨S4096x512, .f32⟩
  | 71 => ⟨S_, .f32⟩
  | 72 => ⟨S512, .f32⟩
  | 73 => ⟨S1x512, .f32⟩
  | 74 => ⟨S4096x512, .f32⟩
  | 75 => ⟨S4096x512, .f32⟩
  | 76 => ⟨S_, .f32⟩
  | 77 => ⟨S512, .f32⟩
  | 78 => ⟨S4096x512, .f32⟩
  | 79 => ⟨S_, .f32⟩
  | 80 => ⟨S4096, .f32⟩
  | 81 => ⟨S4096x1, .f32⟩
  | 82 => ⟨S4096x512, .f32⟩
  | 83 => ⟨S4096x512, .f32⟩
  | 84 => ⟨S4096x1, .f32⟩
  | 85 => ⟨S4096x512, .f32⟩
  | 86 => ⟨S_, .f32⟩
  | 87 => ⟨S4096, .f32⟩
  | 88 => ⟨S4096x1, .f32⟩
  | 89 => ⟨S_, .f32⟩
  | 90 => ⟨S4096x1, .f32⟩
  | 91 => ⟨S4096x1, .f32⟩
  | 92 => ⟨S_, .f32⟩
  | 93 => ⟨S4096, .f32⟩
  | 94 => ⟨S4096x512, .f32⟩
  | 95 => ⟨S4096x512, .f32⟩
  | 96 => ⟨S4096x512, .f32⟩
  | 97 => ⟨S_, .f32⟩
  | 98 => ⟨S4096, .f32⟩
  | 99 => ⟨S4096x1, .f32⟩
  | 100 => ⟨S4096x512, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096, .f32⟩
  | 107 => ⟨S4096x512, .f32⟩
  | 108 => ⟨S4096x512, .f32⟩
  | 109 => ⟨S4096x1024, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S4096x1024, .f32⟩
  | 116 => ⟨S_, .f32⟩
  | 117 => ⟨S4096x1024, .f32⟩
  | 118 => ⟨S4096x1024, .f32⟩
  | 119 => ⟨S4096x1024, .f32⟩
  | 120 => ⟨S_, .f32⟩
  | 121 => ⟨S4096x1024, .f32⟩
  | 122 => ⟨S4096x1024, .f32⟩
  | 123 => ⟨S_, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_3 (i : Nat) : BufTy := match i % 128 with
  | 0 => ⟨S_, .f32⟩
  | 1 => ⟨S4096x2560, .f32⟩
  | 2 => ⟨S4096x2560, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S4096x1024, .f32⟩
  | 9 => ⟨S4096x1024, .f32⟩
  | 10 => ⟨S_, .f32⟩
  | 11 => ⟨S1024, .f32⟩
  | 12 => ⟨S4096x1024, .f32⟩
  | 13 => ⟨S_, .f32⟩
  | 14 => ⟨S4096, .f32⟩
  | 15 => ⟨S4096x1, .f32⟩
  | 16 => ⟨S4096x1024, .f32⟩
  | 17 => ⟨S4096x1024, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x2560, .bf16⟩
  | 30 => ⟨S4096x1024, .f32⟩
  | 31 => ⟨S1x512, .f32⟩
  | 32 => ⟨S1x512, .f32⟩
  | 33 => ⟨S_, .f32⟩
  | 34 => ⟨S5x512, .f32⟩
  | 35 => ⟨S8x512, .f32⟩
  | 36 => ⟨S1x512, .f32⟩
  | 37 => ⟨S1x512, .f32⟩
  | 38 => ⟨S128x512, .f32⟩
  | 39 => ⟨S1x1024, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_v54 : Ref sig .tc := ⟨.hbm, 81, rfl⟩
abbrev main_cst_14 : Ref sig .tc := ⟨.hbm, 82, rfl⟩
abbrev main_v55 : Ref sig .tc := ⟨.hbm, 83, rfl⟩
abbrev main_v56 : Ref sig .tc := ⟨.hbm, 84, rfl⟩
abbrev main_cst_15 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_16 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_17 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_18 : Ref sig .tc := ⟨.hbm, 107, rfl⟩
abbrev main_v76 : Ref sig .tc := ⟨.hbm, 108, rfl⟩
abbrev main_call0_v0 : Ref sig .tc := ⟨.hbm, 109, rfl⟩
abbrev main_call0_c : Ref sig .tc := ⟨.hbm, 110, rfl⟩
abbrev main_call0_v1 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_call0_cst : Ref sig .tc := ⟨.hbm, 115, rfl⟩
abbrev main_call0_v5 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_19 : Ref sig .tc := ⟨.hbm, 129, rfl⟩
abbrev main_v89 : Ref sig .tc := ⟨.hbm, 130, rfl⟩
abbrev main_v90 : Ref sig .tc := ⟨.hbm, 131, rfl⟩
abbrev main_cst_20 : Ref sig .tc := ⟨.hbm, 132, rfl⟩
abbrev main_v91 : Ref sig .tc := ⟨.hbm, 133, rfl⟩
abbrev main_v92 : Ref sig .tc := ⟨.hbm, 134, rfl⟩
abbrev main_cst_21 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_22 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_23 : Ref sig .tc := ⟨.hbm, 153, rfl⟩
abbrev main_v109 : Ref sig .tc := ⟨.hbm, 154, rfl⟩
abbrev main_v110 : Ref sig .tc := ⟨.hbm, 155, rfl⟩
abbrev main_cst_24 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_25 : Ref sig .tc := ⟨.hbm, 180, rfl⟩
abbrev main_v134 : Ref sig .tc := ⟨.hbm, 181, rfl⟩
abbrev main_v135 : Ref sig .tc := ⟨.hbm, 182, rfl⟩
abbrev main_cst_26 : Ref sig .tc := ⟨.hbm, 183, rfl⟩
abbrev main_v136 : Ref sig .tc := ⟨.hbm, 184, rfl⟩
abbrev main_v137 : Ref sig .tc := ⟨.hbm, 185, rfl⟩
abbrev main_cst_27 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_28 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_29 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_cst_30 : Ref sig .tc := ⟨.hbm, 210, rfl⟩
abbrev main_v159 : Ref sig .tc := ⟨.hbm, 211, rfl⟩
abbrev main_v160 : Ref sig .tc := ⟨.hbm, 212, rfl⟩
abbrev main_cst_31 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_cst_32 : Ref sig .tc := ⟨.hbm, 219, rfl⟩
abbrev main_v166 : Ref sig .tc := ⟨.hbm, 220, rfl⟩
abbrev main_v167 : Ref sig .tc := ⟨.hbm, 221, rfl⟩
abbrev main_cst_33 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_34 : Ref sig .tc := ⟨.hbm, 234, rfl⟩
abbrev main_v179 : Ref sig .tc := ⟨.hbm, 235, rfl⟩
abbrev main_v180 : Ref sig .tc := ⟨.hbm, 236, rfl⟩
abbrev main_cst_35 : Ref sig .tc := ⟨.hbm, 237, rfl⟩
abbrev main_v181 : Ref sig .tc := ⟨.hbm, 238, rfl⟩
abbrev main_cst_36 : Ref sig .tc := ⟨.hbm, 239, rfl⟩
abbrev main_v182 : Ref sig .tc := ⟨.hbm, 240, rfl⟩
abbrev main_v183 : Ref sig .tc := ⟨.hbm, 241, rfl⟩
abbrev main_cst_37 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_cst_38 : Ref sig .tc := ⟨.hbm, 247, rfl⟩
abbrev main_v188 : Ref sig .tc := ⟨.hbm, 248, rfl⟩
abbrev main_v189 : Ref sig .tc := ⟨.hbm, 249, rfl⟩
abbrev main_cst_39 : Ref sig .tc := ⟨.hbm, 250, rfl⟩
abbrev main_v190 : Ref sig .tc := ⟨.hbm, 251, rfl⟩
abbrev main_cst_40 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_cst_41 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_cst_42 : Ref sig .tc := ⟨.hbm, 262, rfl⟩
abbrev main_v199 : Ref sig .tc := ⟨.hbm, 263, rfl⟩
abbrev main_v200 : Ref sig .tc := ⟨.hbm, 264, rfl⟩
abbrev main_cst_43 : Ref sig .tc := ⟨.hbm, 265, rfl⟩
abbrev main_v201 : Ref sig .tc := ⟨.hbm, 266, rfl⟩
abbrev main_cst_44 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_cst_45 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_cst_46 : Ref sig .tc := ⟨.hbm, 279, rfl⟩
abbrev main_v212 : Ref sig .tc := ⟨.hbm, 280, rfl⟩
abbrev main_v213 : Ref sig .tc := ⟨.hbm, 281, rfl⟩
abbrev main_cst_47 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_cst_48 : Ref sig .tc := ⟨.hbm, 287, rfl⟩
abbrev main_v218 : Ref sig .tc := ⟨.hbm, 288, rfl⟩
abbrev main_v219 : Ref sig .tc := ⟨.hbm, 289, rfl⟩
abbrev main_cst_49 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_cst_50 : Ref sig .tc := ⟨.hbm, 296, rfl⟩
abbrev main_v225 : Ref sig .tc := ⟨.hbm, 297, rfl⟩
abbrev main_v226 : Ref sig .tc := ⟨.hbm, 298, rfl⟩
abbrev main_cst_51 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_cst_52 : Ref sig .tc := ⟨.hbm, 309, rfl⟩
abbrev main_v236 : Ref sig .tc := ⟨.hbm, 310, rfl⟩
abbrev main_v237 : Ref sig .tc := ⟨.hbm, 311, rfl⟩
abbrev main_cst_53 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_cst_54 : Ref sig .tc := ⟨.hbm, 321, rfl⟩
abbrev main_v246 : Ref sig .tc := ⟨.hbm, 322, rfl⟩
abbrev main_v247 : Ref sig .tc := ⟨.hbm, 323, rfl⟩
abbrev main_cst_55 : Ref sig .tc := ⟨.hbm, 324, rfl⟩
abbrev main_v248 : Ref sig .tc := ⟨.hbm, 325, rfl⟩
abbrev main_v249 : Ref sig .tc := ⟨.hbm, 326, rfl⟩
abbrev main_cst_56 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_cst_57 : Ref sig .tc := ⟨.hbm, 332, rfl⟩
abbrev main_v254 : Ref sig .tc := ⟨.hbm, 333, rfl⟩
abbrev main_v255 : Ref sig .tc := ⟨.hbm, 334, rfl⟩
abbrev main_cst_58 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_cst_59 : Ref sig .tc := ⟨.hbm, 342, rfl⟩
abbrev main_v262 : Ref sig .tc := ⟨.hbm, 343, rfl⟩
abbrev main_v263 : Ref sig .tc := ⟨.hbm, 344, rfl⟩
abbrev main_cst_60 : Ref sig .tc := ⟨.hbm, 345, rfl⟩
abbrev main_v264 : Ref sig .tc := ⟨.hbm, 346, rfl⟩
abbrev main_v265 : Ref sig .tc := ⟨.hbm, 347, rfl⟩
abbrev main_cst_61 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩
abbrev main_cst_62 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_cst_63 : Ref sig .tc := ⟨.hbm, 358, rfl⟩
abbrev main_v274 : Ref sig .tc := ⟨.hbm, 359, rfl⟩
abbrev main_v275 : Ref sig .tc := ⟨.hbm, 360, rfl⟩
abbrev main_cst_64 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_cst_65 : Ref sig .tc := ⟨.hbm, 368, rfl⟩
abbrev main_v282 : Ref sig .tc := ⟨.hbm, 369, rfl⟩
abbrev main_v283 : Ref sig .tc := ⟨.hbm, 370, rfl⟩
abbrev main_v284 : Ref sig .tc := ⟨.hbm, 371, rfl⟩
abbrev main_cst_66 : Ref sig .tc := ⟨.hbm, 372, rfl⟩
abbrev main_v285 : Ref sig .tc := ⟨.hbm, 373, rfl⟩
abbrev main_v286 : Ref sig .tc := ⟨.hbm, 374, rfl⟩
abbrev main_v287 : Ref sig .tc := ⟨.hbm, 375, rfl⟩
abbrev main_cst_67 : Ref sig .tc := ⟨.hbm, 376, rfl⟩
abbrev main_v288 : Ref sig .tc := ⟨.hbm, 377, rfl⟩
abbrev main_v289 : Ref sig .tc := ⟨.hbm, 378, rfl⟩
abbrev main_cst_68 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_cst_69 : Ref sig .tc := ⟨.hbm, 384, rfl⟩
abbrev main_v294 : Ref sig .tc := ⟨.hbm, 385, rfl⟩
abbrev main_v295 : Ref sig .tc := ⟨.hbm, 386, rfl⟩
abbrev main_v296 : Ref sig .tc := ⟨.hbm, 387, rfl⟩
abbrev main_v297 : Ref sig .tc := ⟨.hbm, 388, rfl⟩
abbrev main_cst_70 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_cst_71 : Ref sig .tc := ⟨.hbm, 394, rfl⟩
abbrev main_v302 : Ref sig .tc := ⟨.hbm, 395, rfl⟩
abbrev main_v303 : Ref sig .tc := ⟨.hbm, 396, rfl⟩
abbrev main_cst_72 : Ref sig .tc := ⟨.hbm, 397, rfl⟩
abbrev main_v304 : Ref sig .tc := ⟨.hbm, 398, rfl⟩
abbrev main_v305 : Ref sig .tc := ⟨.hbm, 399, rfl⟩
abbrev main_v306 : Ref sig .tc := ⟨.hbm, 400, rfl⟩
abbrev main_v307 : Ref sig .tc := ⟨.hbm, 401, rfl⟩
abbrev main_v308 : Ref sig .tc := ⟨.hbm, 402, rfl⟩
abbrev main_cst_73 : Ref sig .tc := ⟨.hbm, 403, rfl⟩
abbrev main_v309 : Ref sig .tc := ⟨.hbm, 404, rfl⟩
abbrev main_v310 : Ref sig .tc := ⟨.hbm, 405, rfl⟩
abbrev main_cst_74 : Ref sig .tc := ⟨.hbm, 406, rfl⟩
abbrev main_v311 : Ref sig .tc := ⟨.hbm, 407, rfl⟩
abbrev main_v312 : Ref sig .tc := ⟨.hbm, 408, rfl⟩
abbrev main_v313 : Ref sig .tc := ⟨.hbm, 409, rfl⟩
abbrev main_v314 : Ref sig .tc := ⟨.hbm, 410, rfl⟩
abbrev main_v315 : Ref sig .tc := ⟨.hbm, 411, rfl⟩
abbrev main_v316 : Ref sig .tc := ⟨.hbm, 412, rfl⟩
abbrev main_v317 : Ref sig .tc := ⟨.hbm, 413, rfl⟩
abbrev main_v318 : Ref sig .tc := ⟨.hbm, 414, rfl⟩
abbrev main_v319 : Ref sig .tc := ⟨.hbm, 415, rfl⟩
abbrev main_v320 : Ref sig .tc := ⟨.hbm, 416, rfl⟩
abbrev main_cst_75 : Ref sig .tc := ⟨.hbm, 417, rfl⟩
abbrev main_v321 : Ref sig .tc := ⟨.hbm, 418, rfl⟩
abbrev main_v322 : Ref sig .tc := ⟨.hbm, 419, rfl⟩
abbrev main_v323 : Ref sig .tc := ⟨.hbm, 420, rfl⟩
abbrev main_v324 : Ref sig .tc := ⟨.hbm, 421, rfl⟩
abbrev main_v325 : Ref sig .tc := ⟨.hbm, 422, rfl⟩
abbrev main_v326 : Ref sig .tc := ⟨.hbm, 423, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S5632x1024 : Shape := ⟨2, ![5632, 1024]⟩
abbrev S2x4x704x1024 : Shape := ⟨4, ![2, 4, 704, 1024]⟩
abbrev S4x4096x704 : Shape := ⟨3, ![4, 4096, 704]⟩
abbrev S1024x1024 : Shape := ⟨2, ![1024, 1024]⟩
abbrev S2x1x1024x704 : Shape := ⟨4, ![2, 1, 1024, 704]⟩
abbrev S2x1x704x1024 : Shape := ⟨4, ![2, 1, 704, 1024]⟩
abbrev S704x1024 : Shape := ⟨2, ![704, 1024]⟩
abbrev S1x1024x704 : Shape := ⟨3, ![1, 1024, 704]⟩
abbrev S256x1024 : Shape := ⟨2, ![256, 1024]⟩
abbrev S256x704 : Shape := ⟨2, ![256, 704]⟩
abbrev S1x1x256x704 : Shape := ⟨4, ![1, 1, 256, 704]⟩
abbrev S1x256x704 : Shape := ⟨3, ![1, 256, 704]⟩
abbrev S1x1x704x1024 : Shape := ⟨4, ![1, 1, 704, 1024]⟩

abbrev nBuf : Space → Nat
  | .hbm => 16
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S4096x5632, .f32⟩
  | .hbm, ⟨5, _⟩ => ⟨S4096x5632, .bf16⟩
  | .hbm, ⟨6, _⟩ => ⟨S4096x2x4x704, .bf16⟩
  | .hbm, ⟨7, _⟩ => ⟨S2x4x4096x704, .bf16⟩
  | .hbm, ⟨8, _⟩ => ⟨S5632x1024, .f32⟩
  | .hbm, ⟨9, _⟩ => ⟨S5632x1024, .bf16⟩
  | .hbm, ⟨10, _⟩ => ⟨S2x4x704x1024, .bf16⟩
  | .hbm, ⟨11, _⟩ => ⟨S4096x1024, .bf16⟩
  | .hbm, ⟨12, _⟩ => ⟨S2816x1024, .bf16⟩
  | .hbm, ⟨13, _⟩ => ⟨S4x4096x704, .bf16⟩
  | .hbm, ⟨14, _⟩ => ⟨S2x4x4096x704, .bf16⟩
  | .hbm, ⟨15, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1x1024x704, .bf16⟩
  | .local _ .vmem, ⟨3, _⟩ => ⟨S2x1x1024x704, .bf16⟩
  | .local _ .vmem, ⟨4, _⟩ => ⟨S2x1x704x1024, .bf16⟩
  | .local _ .vmem, ⟨5, _⟩ => ⟨S2x1x704x1024, .bf16⟩
  | .local _ .vmem, ⟨6, _⟩ => ⟨S704x1024, .bf16⟩
  | .local _ .vmem, ⟨7, _⟩ => ⟨S704x1024, .bf16⟩
  | .local _ .vmem, ⟨8, _⟩ => ⟨S1x1024x704, .bf16⟩
  | .local _ .vmem, ⟨9, _⟩ => ⟨S1x1024x704, .bf16⟩
  | .local _ .vmem, ⟨10, _⟩ => ⟨S2x1x1024x704, .bf16⟩
  | .local _ .vmem, ⟨11, _⟩ => ⟨S2x1x1024x704, .bf16⟩
  | .local _ .vmem, ⟨12, _⟩ => ⟨S1024x1024, .f32⟩
  | .local _ .vmem, ⟨13, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩
abbrev S4096x2x4x704 : Shape := ⟨4, ![4096, 2, 4, 704]⟩
abbrev S2x4x4096x704 : Shape := ⟨4, ![2, 4, 4096, 704]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x1024, .f32⟩
  | .hbm, ⟨31, _⟩ => ⟨S4096x2816, .bf16⟩
  | .hbm, ⟨32, _⟩ => ⟨S4096x4x704, .bf16⟩
  | .hbm, ⟨33, _⟩ => ⟨S4x4096x704, .bf16⟩
  | .hbm, ⟨34, _⟩ => ⟨S4096x5632, .bf16⟩
  | .hbm, ⟨35, _⟩ => ⟨S4096x2x4x704, .bf16⟩
  | .hbm, ⟨36, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Kernel3.lean ====
abbrev S4096x5632 : Shape := ⟨2, ![4096, 5632]⟩
abbrev S4096x1024 : Shape := ⟨2, ![4096, 1024]⟩
abbrev S4096x8x704 : Shape := ⟨3, ![4096, 8, 704]⟩
abbrev S8x4096x704 : Shape := ⟨3, ![8, 4096, 704]⟩
abbrev S5632x1024 : Shape := ⟨2, ![5632, 1024]⟩
abbrev S1x4096x704 : Shape := ⟨3, ![1, 4096, 704]⟩
abbrev S704x1024 : Shape := ⟨2, ![704, 1024]⟩
abbrev S4096x704 : Shape := ⟨2, ![4096, 704]⟩

abbrev nBuf : Space → Nat
  | .hbm => 7
  | .vmem => 5
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S4096x5632, .bf16⟩
  | .hbm, ⟨3, _⟩ => ⟨S4096x8x704, .bf16⟩
  | .hbm, ⟨4, _⟩ => ⟨S8x4096x704, .bf16⟩
  | .hbm, ⟨5, _⟩ => ⟨S4096x1024, .bf16⟩
  | .hbm, ⟨6, _⟩ => ⟨S5632x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S704x1024, .f32⟩
  | .local _ .vmem, ⟨4, _⟩ => ⟨S704x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S2816x1024 : Shape := ⟨2, ![2816, 1024]⟩
abbrev S1x4096x704 : Shape := ⟨3, ![1, 4096, 704]⟩
abbrev S704x1024 : Shape := ⟨2, ![704, 1024]⟩
abbrev S4096x704 : Shape := ⟨2, ![4096, 704]⟩

abbrev nBuf : Space → Nat
  | .hbm => 7
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x4x704, .bf16⟩
  | .hbm, ⟨4, _⟩ => ⟨S4x4096x704, .bf16⟩
  | .hbm, ⟨5, _⟩ => ⟨S4096x1024, .bf16⟩
  | .hbm, ⟨6, _⟩ => ⟨S2816x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S704x1024, .f32⟩
  | .local _ .vmem, ⟨4, _⟩ => ⟨S704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x2560 : Shape := ⟨2, ![4096, 2560]⟩
abbrev S4096x1024 : Shape := ⟨2, ![4096, 1024]⟩
abbrev S2560x1024 : Shape := ⟨2, ![2560, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2560, .f32⟩
  | .hbm, ⟨1, _⟩ => ⟨S4096x1024, .f32⟩
  | .hbm, ⟨2, _⟩ => ⟨S4096x2560, .bf16⟩
  | .hbm, ⟨3, _⟩ => ⟨S4096x1024, .bf16⟩
  | .hbm, ⟨4, _⟩ => ⟨S2560x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2560 : Shape := ⟨2, ![4096, 2560]⟩
abbrev S4096x1024 : Shape := ⟨2, ![4096, 1024]⟩
abbrev S_ : Shape := ⟨0, ![]⟩
abbrev S1024x2560 : Shape := ⟨2, ![1024, 2560]⟩
abbrev S2560x1024 : Shape := ⟨2, ![2560, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S4096x1024, .f32⟩
  | .hbm, ⟨2, _⟩ => ⟨S_, .f32⟩
  | .hbm, ⟨3, _⟩ => ⟨S1024x2560, .f32⟩
  | .hbm, ⟨4, _⟩ => ⟨S4096x2560, .f32⟩
  | .hbm, ⟨5, _⟩ => ⟨S2560x1024, .f32⟩
  | .hbm, ⟨6, _⟩ => ⟨S1024x2560, .f32⟩
  | .hbm, ⟨7, _⟩ => ⟨S2560x1024, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x4x704x1024 : Shape := ⟨4, ![2, 4, 704, 1024]⟩
abbrev S1x1024 : Shape := ⟨2, ![1, 1024]⟩
abbrev S2x4x4096x704 : Shape := ⟨4, ![2, 4, 4096, 704]⟩
abbrev S1024x1024 : Shape := ⟨2, ![1024, 1024]⟩
abbrev S2x1x704x1024 : Shape := ⟨4, ![2, 1, 704, 1024]⟩
abbrev S704x1024 : Shape := ⟨2, ![704, 1024]⟩
abbrev S2x1x1024x704 : Shape := ⟨4, ![2, 1, 1024, 704]⟩
abbrev S1024x1 : Shape := ⟨2, ![1024, 1]⟩
abbrev S1x1x704x1024 : Shape := ⟨4, ![1, 1, 704, 1024]⟩
abbrev S1024x704 : Shape := ⟨2, ![1024, 704]⟩
abbrev S1x1x1024x704 : Shape := ⟨4, ![1, 1, 1024, 704]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S5632x1024, .f32⟩
  | .hbm, ⟨5, _⟩ => ⟨S5632x1024, .bf16⟩
  | .hbm, ⟨6, _⟩ => ⟨S2x4x704x1024, .bf16⟩
  | .hbm, ⟨7, _⟩ => ⟨S1x1024, .f32⟩
  | .hbm, ⟨8, _⟩ => ⟨S2816x1024, .bf16⟩
  | .hbm, ⟨9, _⟩ => ⟨S4096x1024, .bf16⟩
  | .hbm, ⟨10, _⟩ => ⟨S2x4x4096x704, .bf16⟩
  | .hbm, ⟨11, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1x704x1024, .bf16⟩
  | .local _ .vmem, ⟨4, _⟩ => ⟨S2x1x704x1024, .bf16⟩
  | .local _ .vmem, ⟨5, _⟩ => ⟨S704x1024, .bf16⟩
  | .local _ .vmem, ⟨6, _⟩ => ⟨S704x1024, .bf16⟩
  | .local _ .vmem, ⟨7, _⟩ => ⟨S1024x1024, .bf16⟩
  | .local _ .vmem, ⟨8, _⟩ => ⟨S1024x1024, .bf16⟩
  | .local _ .vmem, ⟨9, _⟩ => ⟨S2x1x1024x704, .bf16⟩
  | .local _ .vmem, ⟨10, _⟩ => ⟨S2x1x1024x704, .bf16⟩
  | .local _ .vmem, ⟨11, _⟩ => ⟨S1024x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x2x4x704 : Shape := ⟨4, ![4096, 2, 4, 704]⟩
abbrev S2x4x4096x704 : Shape := ⟨4, ![2, 4, 4096, 704]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S4096x5632, .bf16⟩
  | .hbm, ⟨37, _⟩ => ⟨S4096x2x4x704, .bf16⟩
  | .hbm, ⟨38, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Kernel8.lean ====
abbrev S3x64 : Shape := ⟨2, ![3, 64]⟩

abbrev nBuf : Space → Nat
  | .hbm => 7
  | .vmem => 7
  | .smem => 0
  | _ => 0

abbrev bufTy : (tb : Table) → Fin (tcTables nBuf tb) → BufTy
  | .hbm, ⟨0, _⟩ => ⟨S3x64, .f32⟩
  | .hbm, ⟨1, _⟩ => ⟨S3x64, .f32⟩
  | .hbm, ⟨2, _⟩ => ⟨S3x64, .f32⟩
  | .hbm, ⟨3, _⟩ => ⟨S3x64, .f32⟩
  | .hbm, ⟨4, _⟩ => ⟨S3x64, .f32⟩
  | .hbm, ⟨5, _⟩ => ⟨S3x64, .f32⟩
  | .hbm, ⟨6, _⟩ => ⟨S3x64, .f32⟩
  | .local _ .vmem, ⟨0, _⟩ => ⟨S3x64, .f32⟩
  | .local _ .vmem, ⟨1, _⟩ => ⟨S3x64, .f32⟩
  | .local _ .vmem, ⟨2, _⟩ => ⟨S3x64, .f32⟩
  | .local _ .vmem, ⟨3, _⟩ => ⟨S3x64, .f32⟩
  | .local _ .vmem, ⟨4, _⟩ => ⟨S3x64, .f32⟩
  | .local _ .vmem, ⟨5, _⟩ => ⟨S3x64, .f32⟩
  | .local _ .vmem, ⟨6, _⟩ => ⟨S3x64, .f32⟩
  | _, _ => ⟨S3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference8Ideal.lean ====
abbrev S3x64 : Shape := ⟨2, ![3, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x64, .f32⟩
  | .hbm, ⟨1, _⟩ => ⟨S3x64, .f32⟩
  | .hbm, ⟨2, _⟩ => ⟨S3x64, .f32⟩
  | .hbm, ⟨3, _⟩ => ⟨S3x64, .f32⟩
  | .hbm, ⟨4, _⟩ => ⟨S_, .f32⟩
  | .hbm, ⟨5, _⟩ => ⟨S3x64, .f32⟩
  | .hbm, ⟨6, _⟩ => ⟨S3x64, .f32⟩
  | .hbm, ⟨7, _⟩ => ⟨S_, .f32⟩
  | .hbm, ⟨8, _⟩ => ⟨S3x64, .f32⟩
  | .hbm, ⟨9, _⟩ => ⟨S3x64, .f32⟩
  | .hbm, ⟨10, _⟩ => ⟨S3x64, .f32⟩
  | .hbm, ⟨11, _⟩ => ⟨S_, .f32⟩
  | .hbm, ⟨12, _⟩ => ⟨S3x64, .f32⟩
  | .hbm, ⟨13, _⟩ => ⟨S3x64, .f32⟩
  | .hbm, ⟨14, _⟩ => ⟨S3x64, .f32⟩
  | .hbm, ⟨15, _⟩ => ⟨S_, .f32⟩
  | .hbm, ⟨16, _⟩ => ⟨S3x64, .f32⟩
  | .hbm, ⟨17, _⟩ => ⟨S3x64, .f32⟩
  | .hbm, ⟨18, _⟩ => ⟨S3x64, .f32⟩
  | .hbm, ⟨19, _⟩ => ⟨S_, .f32⟩
  | .hbm, ⟨20, _⟩ => ⟨S3x64, .f32⟩
  | .hbm, ⟨21, _⟩ => ⟨S3x64, .f32⟩
  | .hbm, ⟨22, _⟩ => ⟨S_, .f32⟩
  | .hbm, ⟨23, _⟩ => ⟨S3x64, .f32⟩
  | .hbm, ⟨24, _⟩ => ⟨S3x64, .f32⟩
  | .hbm, ⟨25, _⟩ => ⟨S3x64, .f32⟩
  | .hbm, ⟨26, _⟩ => ⟨S_, .f32⟩
  | .hbm, ⟨27, _⟩ => ⟨S3x64, .f32⟩
  | .hbm, ⟨28, _⟩ => ⟨S3x64, .f32⟩
  | .hbm, ⟨29, _⟩ => ⟨S3x64, .f32⟩
  | .hbm, ⟨30, _⟩ => ⟨S_, .f32⟩
  | .hbm, ⟨31, _⟩ => ⟨S3x64, .f32⟩
  | .hbm, ⟨32, _⟩ => ⟨S3x64, .f32⟩
  | .hbm, ⟨33, _⟩ => ⟨S3x64, .f32⟩
  | .hbm, ⟨34, _⟩ => ⟨S_, .f32⟩
  | .hbm, ⟨35, _⟩ => ⟨S3x64, .f32⟩
  | .hbm, ⟨36, _⟩ => ⟨S3x64, .f32⟩
  | _, _ => ⟨S3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 27
  | .vmem => 27
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S3x128x1024, .bf16⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S3x128x1024, .bf16⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .f32⟩
  | .local _ .vmem, ⟨0, _⟩ => ⟨S128x1024, .f32⟩
  | .local _ .vmem, ⟨1, _⟩ => ⟨S3x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S3x128x1024, .bf16⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S3x128x1024, .bf16⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v0_9 : Ref sig .tc := ⟨.hbm, 24, rfl⟩
abbrev main_v0_10 : Ref sig .tc := ⟨.hbm, 25, rfl⟩
abbrev main_v0_11 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S128x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S128x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S128x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S128x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S128x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Reference9Ideal.lean ====
abbrev S128x1024 : Shape := ⟨2, ![128, 1024]⟩
abbrev S3x128x1024 : Shape := ⟨3, ![3, 128, 1024]⟩
abbrev S_ : Shape := ⟨0, ![]⟩

abbrev nBuf : Space → Nat
  | .hbm => 126
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S3x128x1024, .bf16⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S3x128x1024, .bf16⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S3x128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S_, .f32⟩
  | .hbm, ⟨50, _⟩ => ⟨S128x1024, .f32⟩
  | .hbm, ⟨51, _⟩ => ⟨S128x1024, .f32⟩
  | .hbm, ⟨52, _⟩ => ⟨S3x128x1024, .f32⟩
  | .hbm, ⟨53, _⟩ => ⟨S_, .f32⟩
  | .hbm, ⟨54, _⟩ => ⟨S128x1024, .f32⟩
  | .hbm, ⟨55, _⟩ => ⟨S128x1024, .f32⟩
  | .hbm, ⟨56, _⟩ => ⟨S_, .f32⟩
  | .hbm, ⟨57, _⟩ => ⟨S128x1024, .f32⟩
  | .hbm, ⟨58, _⟩ => ⟨S128x1024, .f32⟩
  | .hbm, ⟨59, _⟩ => ⟨S_, .f32⟩
  | .hbm, ⟨60, _⟩ => ⟨S128x1024, .f32⟩
  | .hbm, ⟨61, _⟩ => ⟨S128x1024, .f32⟩
  | .hbm, ⟨62, _⟩ => ⟨S128x1024, .f32⟩
  | .hbm, ⟨63, _⟩ => ⟨S_, .f32⟩
  | .hbm, ⟨64, _⟩ => ⟨S128x1024, .f32⟩
  | .hbm, ⟨65, _⟩ => ⟨S128x1024, .f32⟩
  | .hbm, ⟨66, _⟩ => ⟨S128x1024, .f32⟩
  | .hbm, ⟨67, _⟩ => ⟨S_, .f32⟩
  | .hbm, ⟨68, _⟩ => ⟨S128x1024, .f32⟩
  | .hbm, ⟨69, _⟩ => ⟨S128x1024, .f32⟩
  | .hbm, ⟨70, _⟩ => ⟨S128x1024, .f32⟩
  | .hbm, ⟨71, _⟩ => ⟨S_, .f32⟩
  | .hbm, ⟨72, _⟩ => ⟨S128x1024, .f32⟩
  | .hbm, ⟨73, _⟩ => ⟨S128x1024, .f32⟩
  | .hbm, ⟨74, _⟩ => ⟨S_, .f32⟩
  | .hbm, ⟨75, _⟩ => ⟨S128x1024, .f32⟩
  | .hbm, ⟨76, _⟩ => ⟨S128x1024, .f32⟩
  | .hbm, ⟨77, _⟩ => ⟨S128x1024, .f32⟩
  | .hbm, ⟨78, _⟩ => ⟨S_, .f32⟩
  | .hbm, ⟨79, _⟩ => ⟨S128x1024, .f32⟩
  | .hbm, ⟨80, _⟩ => ⟨S128x1024, .f32⟩
  | .hbm, ⟨81, _⟩ => ⟨S128x1024, .f32⟩
  | .hbm, ⟨82, _⟩ => ⟨S_, .f32⟩
  | .hbm, ⟨83, _⟩ => ⟨S128x1024, .f32⟩
  | .hbm, ⟨84, _⟩ => ⟨S128x1024, .f32⟩
  | .hbm, ⟨85, _⟩ => ⟨S128x1024, .f32⟩
  | .hbm, ⟨86, _⟩ => ⟨S_, .f32⟩
  | .hbm, ⟨87, _⟩ => ⟨S128x1024, .f32⟩
  | .hbm, ⟨88, _⟩ => ⟨S128x1024, .f32⟩
  | .hbm, ⟨89, _⟩ => ⟨S3x128x1024, .f32⟩
  | .hbm, ⟨90, _⟩ => ⟨S_, .f32⟩
  | .hbm, ⟨91, _⟩ => ⟨S128x1024, .f32⟩
  | .hbm, ⟨92, _⟩ => ⟨S128x1024, .f32⟩
  | .hbm, ⟨93, _⟩ => ⟨S_, .f32⟩
  | .hbm, ⟨94, _⟩ => ⟨S128x1024, .f32⟩
  | .hbm, ⟨95, _⟩ => ⟨S128x1024, .f32⟩
  | .hbm, ⟨96, _⟩ => ⟨S_, .f32⟩
  | .hbm, ⟨97, _⟩ => ⟨S128x1024, .f32⟩
  | .hbm, ⟨98, _⟩ => ⟨S128x1024, .f32⟩
  | .hbm, ⟨99, _⟩ => ⟨S128x1024, .f32⟩
  | .hbm, ⟨100, _⟩ => ⟨S_, .f32⟩
  | .hbm, ⟨101, _⟩ => ⟨S128x1024, .f32⟩
  | .hbm, ⟨102, _⟩ => ⟨S128x1024, .f32⟩
  | .hbm, ⟨103, _⟩ => ⟨S128x1024, .f32⟩
  | .hbm, ⟨104, _⟩ => ⟨S_, .f32⟩
  | .hbm, ⟨105, _⟩ => ⟨S128x1024, .f32⟩
  | .hbm, ⟨106, _⟩ => ⟨S128x1024, .f32⟩
  | .hbm, ⟨107, _⟩ => ⟨S128x1024, .f32⟩
  | .hbm, ⟨108, _⟩ => ⟨S_, .f32⟩
  | .hbm, ⟨109, _⟩ => ⟨S128x1024, .f32⟩
  | .hbm, ⟨110, _⟩ => ⟨S128x1024, .f32⟩
  | .hbm, ⟨111, _⟩ => ⟨S_, .f32⟩
  | .hbm, ⟨112, _⟩ => ⟨S128x1024, .f32⟩
  | .hbm, ⟨113, _⟩ => ⟨S128x1024, .f32⟩
  | .hbm, ⟨114, _⟩ => ⟨S128x1024, .f32⟩
  | .hbm, ⟨115, _⟩ => ⟨S_, .f32⟩
  | .hbm, ⟨116, _⟩ => ⟨S128x1024, .f32⟩
  | .hbm, ⟨117, _⟩ => ⟨S128x1024, .f32⟩
  | .hbm, ⟨118, _⟩ => ⟨S128x1024, .f32⟩
  | .hbm, ⟨119, _⟩ => ⟨S_, .f32⟩
  | .hbm, ⟨120, _⟩ => ⟨S128x1024, .f32⟩
  | .hbm, ⟨121, _⟩ => ⟨S128x1024, .f32⟩
  | .hbm, ⟨122, _⟩ => ⟨S128x1024, .f32⟩
  | .hbm, ⟨123, _⟩ => ⟨S_, .f32⟩
  | .hbm, ⟨124, _⟩ => ⟨S128x1024, .f32⟩
  | .hbm, ⟨125, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_v14 : Ref sig .tc := ⟨.hbm, 35, rfl⟩
abbrev main_v15 : Ref sig .tc := ⟨.hbm, 36, rfl⟩
abbrev main_cst_5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_7 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_9 : Ref sig .tc := ⟨.hbm, 53, rfl⟩
abbrev main_v28 : Ref sig .tc := ⟨.hbm, 54, rfl⟩
abbrev main_v29 : Ref sig .tc := ⟨.hbm, 55, rfl⟩
abbrev main_cst_10 : Ref sig .tc := ⟨.hbm, 56, rfl⟩
abbrev main_v30 : Ref sig .tc := ⟨.hbm, 57, rfl⟩
abbrev main_v31 : Ref sig .tc := ⟨.hbm, 58, rfl⟩
abbrev main_cst_11 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_12 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_13 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_14 : Ref sig .tc := ⟨.hbm, 71, rfl⟩
abbrev main_v41 : Ref sig .tc := ⟨.hbm, 72, rfl⟩
abbrev main_v42 : Ref sig .tc := ⟨.hbm, 73, rfl⟩
abbrev main_cst_15 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_16 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_17 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_18 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_19 : Ref sig .tc := ⟨.hbm, 90, rfl⟩
abbrev main_v55 : Ref sig .tc := ⟨.hbm, 91, rfl⟩
abbrev main_v56 : Ref sig .tc := ⟨.hbm, 92, rfl⟩
abbrev main_cst_20 : Ref sig .tc := ⟨.hbm, 93, rfl⟩
abbrev main_v57 : Ref sig .tc := ⟨.hbm, 94, rfl⟩
abbrev main_v58 : Ref sig .tc := ⟨.hbm, 95, rfl⟩
abbrev main_cst_21 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_22 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_23 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_24 : Ref sig .tc := ⟨.hbm, 108, rfl⟩
abbrev main_v68 : Ref sig .tc := ⟨.hbm, 109, rfl⟩
abbrev main_v69 : Ref sig .tc := ⟨.hbm, 110, rfl⟩
abbrev main_cst_25 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_26 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_27 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_28 : Ref sig .tc := ⟨.hbm, 123, rfl⟩
abbrev main_v79 : Ref sig .tc := ⟨.hbm, 124, rfl⟩
abbrev main_v80 : Ref sig .tc := ⟨.hbm, 125, rfl⟩

abbrev nD : Nat := 1
abbrev τ : Topo := Topo.v7x

variable {F : FTy → Type} [FloatOps F]
-- ==== Kernel10.lean ====
abbrev S320x1024 : Shape := ⟨2, ![320, 1024]⟩
abbrev S3x320x1024 : Shape := ⟨3, ![3, 320, 1024]⟩
abbrev S1024x320 : Shape := ⟨2, ![1024, 320]⟩
abbrev S160x1024 : Shape := ⟨2, ![160, 1024]⟩
abbrev S3x160x1024 : Shape := ⟨3, ![3, 160, 1024]⟩
abbrev S1x160x1024 : Shape := ⟨3, ![1, 160, 1024]⟩

abbrev nBuf : Space → Nat
  | .hbm => 12
  | .vmem => 18
  | .smem => 0
  | _ => 0

abbrev bufTy : (tb : Table) → Fin (tcTables nBuf tb) → BufTy
  | .hbm, ⟨0, _⟩ => ⟨S320x1024, .f32⟩
  | .hbm, ⟨1, _⟩ => ⟨S3x320x1024, .bf16⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S320x1024, .f32⟩
  | .hbm, ⟨6, _⟩ => ⟨S320x1024, .f32⟩
  | .hbm, ⟨7, _⟩ => ⟨S320x1024, .f32⟩
  | .hbm, ⟨8, _⟩ => ⟨S320x1024, .f32⟩
  | .hbm, ⟨9, _⟩ => ⟨S320x1024, .f32⟩
  | .hbm, ⟨10, _⟩ => ⟨S320x1024, .f32⟩
  | .hbm, ⟨11, _⟩ => ⟨S320x1024, .f32⟩
  | .local _ .vmem, ⟨0, _⟩ => ⟨S160x1024, .f32⟩
  | .local _ .vmem, ⟨1, _⟩ => ⟨S160x1024, .f32⟩
  | .local _ .vmem, ⟨2, _⟩ => ⟨S3x160x1024, .bf16⟩
  | .local _ .vmem, ⟨3, _⟩ => ⟨S3x160x1024, .bf16⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | .local _ .vmem, ⟨14, _⟩ => ⟨S160x1024, .f32⟩
  | .local _ .vmem, ⟨15, _⟩ => ⟨S160x1024, .f32⟩
  | .local _ .vmem, ⟨16, _⟩ => ⟨S160x1024, .f32⟩
  | .local _ .vmem, ⟨17, _⟩ => ⟨S160x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S160x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S320x1024 : Shape := ⟨2, ![320, 1024]⟩
abbrev S3x320x1024 : Shape := ⟨3, ![3, 320, 1024]⟩
abbrev S1024x320 : Shape := ⟨2, ![1024, 320]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S320x1024, .f32⟩
  | .hbm, ⟨1, _⟩ => ⟨S3x320x1024, .bf16⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S320x1024, .f32⟩
  | .hbm, ⟨6, _⟩ => ⟨S320x1024, .f32⟩
  | .hbm, ⟨7, _⟩ => ⟨S320x1024, .f32⟩
  | .hbm, ⟨8, _⟩ => ⟨S3x320x1024, .f32⟩
  | .hbm, ⟨9, _⟩ => ⟨S_, .f32⟩
  | .hbm, ⟨10, _⟩ => ⟨S320x1024, .f32⟩
  | .hbm, ⟨11, _⟩ => ⟨S320x1024, .f32⟩
  | .hbm, ⟨12, _⟩ => ⟨S_, .f32⟩
  | .hbm, ⟨13, _⟩ => ⟨S320x1024, .f32⟩
  | .hbm, ⟨14, _⟩ => ⟨S320x1024, .f32⟩
  | .hbm, ⟨15, _⟩ => ⟨S_, .f32⟩
  | .hbm, ⟨16, _⟩ => ⟨S320x1024, .f32⟩
  | .hbm, ⟨17, _⟩ => ⟨S320x1024, .f32⟩
  | .hbm, ⟨18, _⟩ => ⟨S320x1024, .f32⟩
  | .hbm, ⟨19, _⟩ => ⟨S_, .f32⟩
  | .hbm, ⟨20, _⟩ => ⟨S320x1024, .f32⟩
  | .hbm, ⟨21, _⟩ => ⟨S320x1024, .f32⟩
  | .hbm, ⟨22, _⟩ => ⟨S320x1024, .f32⟩
  | .hbm, ⟨23, _⟩ => ⟨S_, .f32⟩
  | .hbm, ⟨24, _⟩ => ⟨S320x1024, .f32⟩
  | .hbm, ⟨25, _⟩ => ⟨S320x1024, .f32⟩
  | .hbm, ⟨26, _⟩ => ⟨S320x1024, .f32⟩
  | .hbm, ⟨27, _⟩ => ⟨S_, .f32⟩
  | .hbm, ⟨28, _⟩ => ⟨S320x1024, .f32⟩
  | .hbm, ⟨29, _⟩ => ⟨S320x1024, .f32⟩
  | .hbm, ⟨30, _⟩ => ⟨S_, .f32⟩
  | .hbm, ⟨31, _⟩ => ⟨S320x1024, .f32⟩
  | .hbm, ⟨32, _⟩ => ⟨S320x1024, .f32⟩
  | .hbm, ⟨33, _⟩ => ⟨S320x1024, .f32⟩
  | .hbm, ⟨34, _⟩ => ⟨S_, .f32⟩
  | .hbm, ⟨35, _⟩ => ⟨S320x1024, .f32⟩
  | .hbm, ⟨36, _⟩ => ⟨S320x1024, .f32⟩
  | .hbm, ⟨37, _⟩ => ⟨S320x1024, .f32⟩
  | .hbm, ⟨38, _⟩ => ⟨S_, .f32⟩
  | .hbm, ⟨39, _⟩ => ⟨S320x1024, .f32⟩
  | .hbm, ⟨40, _⟩ => ⟨S320x1024, .f32⟩
  | .hbm, ⟨41, _⟩ => ⟨S320x1024, .f32⟩
  | .hbm, ⟨42, _⟩ => ⟨S_, .f32⟩
  | .hbm, ⟨43, _⟩ => ⟨S320x1024, .f32⟩
  | .hbm, ⟨44, _⟩ => ⟨S320x1024, .f32⟩
  | _, _ => ⟨S320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel11.lean ====
abbrev S704x1024 : Shape := ⟨2, ![704, 1024]⟩
abbrev S3x704x1024 : Shape := ⟨3, ![3, 704, 1024]⟩
abbrev S1024x704 : Shape := ⟨2, ![1024, 704]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 12
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S704x1024 : Shape := ⟨2, ![704, 1024]⟩
abbrev S3x704x1024 : Shape := ⟨3, ![3, 704, 1024]⟩
abbrev S1024x704 : Shape := ⟨2, ![1024, 704]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S3x704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel12.lean ====
abbrev S352x1024 : Shape := ⟨2, ![352, 1024]⟩
abbrev S3x352x1024 : Shape := ⟨3, ![3, 352, 1024]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S352x1024 : Shape := ⟨2, ![352, 1024]⟩
abbrev S3x352x1024 : Shape := ⟨3, ![3, 352, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S3x352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel13.lean ====
abbrev S1024x256 : Shape := ⟨2, ![1024, 256]⟩
abbrev S3x1024x256 : Shape := ⟨3, ![3, 1024, 256]⟩
abbrev S256x256 : Shape := ⟨2, ![256, 256]⟩
abbrev S3x256x256 : Shape := ⟨3, ![3, 256, 256]⟩
abbrev S1x256x256 : Shape := ⟨3, ![1, 256, 256]⟩

abbrev nBuf : Space → Nat
  | .hbm => 9
  | .vmem => 18
  | .smem => 0
  | _ => 0

abbrev bufTy : (tb : Table) → Fin (tcTables nBuf tb) → BufTy
  | .hbm, ⟨0, _⟩ => ⟨S1024x256, .f32⟩
  | .hbm, ⟨1, _⟩ => ⟨S3x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S3x256x256, .bf16⟩
  | .local _ .vmem, ⟨3, _⟩ => ⟨S3x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S1024x256 : Shape := ⟨2, ![1024, 256]⟩
abbrev S3x1024x256 : Shape := ⟨3, ![3, 1024, 256]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S3x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S3x1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.RunB.lean ====
/- The body of the gradient kernel at a grid point that is not the first: one run of the whole body, which starts
   the eight accumulated outputs from what the point before left in them. -/
module

public import proofs.«01_k».proof.Proof.Gen.KernelIdeal.Frame.RunA

@[expose] public section

set_option maxRecDepth 16384

noncomputable section

namespace Cert.Mix.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

-- the body has some 330 statements, which one run steps
set_option maxHeartbeats 2400000 in
/-- THE BODY AFTER THE FIRST POINT. From the sixteen inputs' buffers at `x0 … x15`, the accumulated outputs' at
    `xo18 … xo25` and the other buffers at anything, the body ends with the inputs as they were and each output's
    buffer at the pieces `L16 … L25` its stores wrote; the run finds the pieces. -/
def runB (c : Dev nD) (i : grid0.Coords)
    (arg1 : Memref sig .tc .vmem S512x1024 .f32) (harg1 : arg1.IsWhole) (arg2 : Memref sig .tc .vmem S16x1024 .f32) (harg2 : arg2.IsWhole)
    (arg3 : Memref sig .tc .vmem S512x1024 .f32) (harg3 : arg3.IsWhole) (arg4 : Memref sig .tc .vmem S1x1024 .f32) (harg4 : arg4.IsWhole)
    (arg5 : Memref sig .tc .vmem S512x2560 .f32) (harg5 : arg5.IsWhole) (arg6 : Memref sig .tc .vmem S16x2560 .f32) (harg6 : arg6.IsWhole)
    (arg7 : Memref sig .tc .vmem S16x2560 .f32) (harg7 : arg7.IsWhole) (arg8 : Memref sig .tc .vmem S1x512 .f32) (harg8 : arg8.IsWhole)
    (arg9 : Memref sig .tc .vmem S1x512 .f32) (harg9 : arg9.IsWhole) (arg10 : Memref sig .tc .vmem S4x128x128 .f32) (harg10 : arg10.IsWhole)
    (arg11 : Memref sig .tc .vmem S128x4 .f32) (harg11 : arg11.IsWhole) (arg12 : Memref sig .tc .vmem S3x512 .f32) (harg12 : arg12.IsWhole)
    (arg13 : Memref sig .tc .vmem S1x512 .f32) (harg13 : arg13.IsWhole) (arg14 : Memref sig .tc .vmem S1x512 .f32) (harg14 : arg14.IsWhole)
    (arg15 : Memref sig .tc .vmem S1024x1024 .bf16) (harg15 : arg15.IsWhole) (arg16 : Memref sig .tc .vmem S2560x1024 .bf16) (harg16 : arg16.IsWhole)
    (arg17 : Memref sig .tc .vmem S512x2560 .bf16) (harg17 : arg17.IsWhole) (arg18 : Memref sig .tc .vmem S512x1024 .f32) (harg18 : arg18.IsWhole)
    (arg19 : Memref sig .tc .vmem S1x512 .f32) (harg19 : arg19.IsWhole) (arg20 : Memref sig .tc .vmem S1x512 .f32) (harg20 : arg20.IsWhole)
    (arg21 : Memref sig .tc .vmem S8x512 .f32) (harg21 : arg21.IsWhole) (arg22 : Memref sig .tc .vmem S1x512 .f32) (harg22 : arg22.IsWhole)
    (arg23 : Memref sig .tc .vmem S1x512 .f32) (harg23 : arg23.IsWhole) (arg24 : Memref sig .tc .vmem S4x128x128 .f32) (harg24 : arg24.IsWhole)
    (arg25 : Memref sig .tc .vmem S128x512 .f32) (harg25 : arg25.IsWhole) (arg26 : Memref sig .tc .vmem S1x1024 .f32) (harg26 : arg26.IsWhole)
    (arg27 : Memref sig .tc .vmem S512x512 .f32) (harg27 : arg27.IsWhole) (arg28 : Memref sig .tc .vmem S512x512 .f32) (harg28 : arg28.IsWhole)
    (hc0 : ¬cond0_0 i)
    (x0 : Vec F S512x1024 .f32) (x1 : Vec F S16x1024 .f32) (x2 : Vec F S512x1024 .f32) (x3 : Vec F S1x1024 .f32)
    (x4 : Vec F S512x2560 .f32) (x5 : Vec F S16x2560 .f32) (x6 : Vec F S16x2560 .f32) (x7 : Vec F S1x512 .f32)
    (x8 : Vec F S1x512 .f32) (x9 : Vec F S4x128x128 .f32) (x10 : Vec F S128x4 .f32) (x11 : Vec F S3x512 .f32)
    (x12 : Vec F S1x512 .f32) (x13 : Vec F S1x512 .f32) (x14 : Vec F S1024x1024 .bf16) (x15 : Vec F S2560x1024 .bf16)
    (xo18 : Vec F S1x512 .f32) (xo19 : Vec F S1x512 .f32) (xo20 : Vec F S8x512 .f32) (xo21 : Vec F S1x512 .f32)
    (xo22 : Vec F S1x512 .f32) (xo23 : Vec F S4x128x128 .f32) (xo24 : Vec F S128x512 .f32) (xo25 : Vec F S1x1024 .f32) :
    Σ' (L16 : List (View.Piece (Elt F) S512x2560 .bf16)), Σ' (L17 : List (View.Piece (Elt F) S512x1024 .f32)),
    Σ' (L18 : List (View.Piece (Elt F) S1x512 .f32)), Σ' (L19 : List (View.Piece (Elt F) S1x512 .f32)),
    Σ' (L20 : List (View.Piece (Elt F) S8x512 .f32)), Σ' (L21 : List (View.Piece (Elt F) S1x512 .f32)),
    Σ' (L22 : List (View.Piece (Elt F) S1x512 .f32)), Σ' (L23 : List (View.Piece (Elt F) S4x128x128 .f32)),
    Σ' (L24 : List (View.Piece (Elt F) S128x512 .f32)),
    { L25 : List (View.Piece (Elt F) S1x1024 .f32) //
      ∀ (E : Set ℕ) (K : PUnit → sProp 𝕄),
        iprop(owns (c : Thread nD τ) arg1 fullShare x0 ∗ owns (c : Thread nD τ) arg2 fullShare x1 ∗
          owns (c : Thread nD τ) arg3 fullShare x2 ∗ owns (c : Thread nD τ) arg4 fullShare x3 ∗
          owns (c : Thread nD τ) arg5 fullShare x4 ∗ owns (c : Thread nD τ) arg6 fullShare x5 ∗
          owns (c : Thread nD τ) arg7 fullShare x6 ∗ owns (c : Thread nD τ) arg8 fullShare x7 ∗
          owns (c : Thread nD τ) arg9 fullShare x8 ∗ owns (c : Thread nD τ) arg10 fullShare x9 ∗
          owns (c : Thread nD τ) arg11 fullShare x10 ∗ owns (c : Thread nD τ) arg12 fullShare x11 ∗
          owns (c : Thread nD τ) arg13 fullShare x12 ∗ owns (c : Thread nD τ) arg14 fullShare x13 ∗
          owns (c : Thread nD τ) arg15 fullShare x14 ∗ owns (c : Thread nD τ) arg16 fullShare x15 ∗
          (∃ d, owns (c : Thread nD τ) arg17 fullShare d) ∗ (∃ d, owns (c : Thread nD τ) arg18 fullShare d) ∗
          owns (c : Thread nD τ) arg19 fullShare xo18 ∗ owns (c : Thread nD τ) arg20 fullShare xo19 ∗
          owns (c : Thread nD τ) arg21 fullShare xo20 ∗ owns (c : Thread nD τ) arg22 fullShare xo21 ∗
          owns (c : Thread nD τ) arg23 fullShare xo22 ∗ owns (c : Thread nD τ) arg24 fullShare xo23 ∗
          owns (c : Thread nD τ) arg25 fullShare xo24 ∗ owns (c : Thread nD τ) arg26 fullShare xo25 ∗
          (∃ d, owns (c : Thread nD τ) arg27 fullShare d) ∗ (∃ d, owns (c : Thread nD τ) arg28 fullShare d) ∗
          (iprop(owns (c : Thread nD τ) arg1 fullShare x0 ∗ owns (c : Thread nD τ) arg2 fullShare x1 ∗
            owns (c : Thread nD τ) arg3 fullShare x2 ∗ owns (c : Thread nD τ) arg4 fullShare x3 ∗
            owns (c : Thread nD τ) arg5 fullShare x4 ∗ owns (c : Thread nD τ) arg6 fullShare x5 ∗
            owns (c : Thread nD τ) arg7 fullShare x6 ∗ owns (c : Thread nD τ) arg8 fullShare x7 ∗
            owns (c : Thread nD τ) arg9 fullShare x8 ∗ owns (c : Thread nD τ) arg10 fullShare x9 ∗
            owns (c : Thread nD τ) arg11 fullShare x10 ∗ owns (c : Thread nD τ) arg12 fullShare x11 ∗
            owns (c : Thread nD τ) arg13 fullShare x12 ∗ owns (c : Thread nD τ) arg14 fullShare x13 ∗
            owns (c : Thread nD τ) arg15 fullShare x14 ∗ owns (c : Thread nD τ) arg16 fullShare x15 ∗
            (∃ f, arg17.view.loc (c : Thread nD τ) ↦[arg17.view.set]{fullShare} arg17.view.writes (Elt F) f L16) ∗
            (∃ f, arg18.view.loc (c : Thread nD τ) ↦[arg18.view.set]{fullShare} arg18.view.writes (Elt F) f L17) ∗
            (∃ f, arg19.view.loc (c : Thread nD τ) ↦[arg19.view.set]{fullShare} arg19.view.writes (Elt F) f L18) ∗
            (∃ f, arg20.view.loc (c : Thread nD τ) ↦[arg20.view.set]{fullShare} arg20.view.writes (Elt F) f L19) ∗
            (arg21.view.loc (c : Thread nD τ) ↦[arg21.view.set]{fullShare} arg21.view.writes (Elt F) (harg21.unread xo20) L20) ∗
            (∃ f, arg22.view.loc (c : Thread nD τ) ↦[arg22.view.set]{fullShare} arg22.view.writes (Elt F) f L21) ∗
            (∃ f, arg23.view.loc (c : Thread nD τ) ↦[arg23.view.set]{fullShare} arg23.view.writes (Elt F) f L22) ∗
            (∃ f, arg24.view.loc (c : Thread nD τ) ↦[arg24.view.set]{fullShare} arg24.view.writes (Elt F) f L23) ∗
            (∃ f, arg25.view.loc (c : Thread nD τ) ↦[arg25.view.set]{fullShare} arg25.view.writes (Elt F) f L24) ∗
            (∃ f, arg26.view.loc (c : Thread nD τ) ↦[arg26.view.set]{fullShare} arg26.view.writes (Elt F) f L25) ∗
            (∃ d, owns (c : Thread nD τ) arg27 fullShare d) ∗ (∃ d, owns (c : Thread nD τ) arg28 fullShare d)) -∗ K ⟨⟩))
        ⊢ wp frame (wpE (defs₀ (F := F)) Variants.none c none) E (cc0_mix_backward i
            arg1 harg1 arg2 harg2 arg3 harg3 arg4 harg4 arg5 harg5 arg6 harg6 arg7 harg7
            arg8 harg8 arg9 harg9 arg10 harg10 arg11 harg11 arg12 harg12 arg13 harg13 arg14 harg14
            arg15 harg15 arg16 harg16 arg17 harg17 arg18 harg18 arg19 harg19 arg20 harg20 arg21 harg21
            arg22 harg22 arg23 harg23 arg24 harg24 arg25 harg25 arg26 harg26 arg27 harg27 arg28 harg28) K } := by
  refine ⟨?_, ?_, ?_, ?_, ?_, ?_, ?_, ?_, ?_, ?_, fun E K => ?run⟩
  case run =>
    simp only [cc0_mix_backward_eq_skeleton]; unfold cc0_mix_backward_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%f14, %hf14, H14⟩, ⟨%f15, %hf15, H15⟩, ⟨%d16, %f16, -, H16⟩, ⟨%d17, %f17, -, H17⟩,
      ⟨%f18, %hf18, H18⟩, ⟨%f19, %hf19, H19⟩, ⟨%f20, %hf20, H20⟩, ⟨%f21, %hf21, H21⟩, ⟨%f22, %hf22, H22⟩, ⟨%f23, %hf23, H23⟩,
      ⟨%f24, %hf24, H24⟩, ⟨%f25, %hf25, H25⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg10.eq_unread hf9; obtain rfl := harg11.eq_unread hf10; obtain rfl := harg12.eq_unread hf11
    obtain rfl := harg13.eq_unread hf12; obtain rfl := harg14.eq_unread hf13; obtain rfl := harg15.eq_unread hf14
    obtain rfl := harg16.eq_unread hf15; obtain rfl := harg19.eq_unread hf18; obtain rfl := harg20.eq_unread hf19
    obtain rfl := harg21.eq_unread hf20; obtain rfl := harg22.eq_unread hf21; obtain rfl := harg23.eq_unread hf22
    obtain rfl := harg24.eq_unread hf23; obtain rfl := harg25.eq_unread hf24; obtain rfl := harg26.eq_unread hf25
    sl_exec (disch := first | sl_exact hc0)
    sl_step
    iapply Hk
    isplitl [H0]; · iexists _; isplitr; (ipureintro; exact harg1.read_unread _); iexact H0
    isplitl [H1]; · iexists _; isplitr; (ipureintro; exact harg2.read_unread _); iexact H1
    isplitl [H2]; · iexists _; isplitr; (ipureintro; exact harg3.read_unread _); iexact H2
    isplitl [H3]; · iexists _; isplitr; (ipureintro; exact harg4.read_unread _); iexact H3
    isplitl [H4]; · iexists _; isplitr; (ipureintro; exact harg5.read_unread _); iexact H4
    isplitl [H5]; · iexists _; isplitr; (ipureintro; exact harg6.read_unread _); iexact H5
    isplitl [H6]; · iexists _; isplitr; (ipureintro; exact harg7.read_unread _); iexact H6
    isplitl [H7]; · iexists _; isplitr; (ipureintro; exact harg8.read_unread _); iexact H7
    isplitl [H8]; · iexists _; isplitr; (ipureintro; exact harg9.read_unread _); iexact H8
    isplitl [H9]; · iexists _; isplitr; (ipureintro; exact harg10.read_unread _); iexact H9
    isplitl [H10]; · iexists _; isplitr; (ipureintro; exact harg11.read_unread _); iexact H10
    isplitl [H11]; · iexists _; isplitr; (ipureintro; exact harg12.read_unread _); iexact H11
    isplitl [H12]; · iexists _; isplitr; (ipureintro; exact harg13.read_unread _); iexact H12
    isplitl [H13]; · iexists _; isplitr; (ipureintro; exact harg14.read_unread _); iexact H13
    isplitl [H14]; · iexists _; isplitr; (ipureintro; exact harg15.read_unread _); iexact H14
    isplitl [H15]; · iexists _; isplitr; (ipureintro; exact harg16.read_unread _); iexact H15
    isplitl [H16]; · iexists _; iexact H16
    isplitl [H17]; · iexists _; iexact H17
    isplitl [H18]; · iexists _; iexact H18
    isplitl [H19]; · iexists _; iexact H19
    isplitl [H20]; · iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]
    · iexists _, _; isplitr; swap; · iexact HS0
      ipureintro; rfl
    iexists _, _; isplitr; swap; · iexact HS1
    ipureintro; rfl

end Cert.Mix.K

end
-- ==== Proof.KOuts.lean ====
/- What the kernel's ten outputs hold after each of the eight grid points (`outsAt`): the first point starts the
   accumulated ones from zero and every later point from what the point before left. -/
module

public import proofs.«01_k».proof.Proof.RunB
public import Idealize.ShloMosaic.Lib.Claim

@[expose] public section

set_option maxRecDepth 16384

noncomputable section

namespace Cert.Mix.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-! ## What a point leaves in the outputs -/

/-- The ten outputs' blocks, in window order: dh, dx, dga, dgb, dcw, dlng, dlnb, dwsp, dbs, dgm. -/
abbrev Outs (F : FTy → Type) [FloatOps F] [Named F] : Type :=
  Vec F S512x2560 .bf16 × Vec F S512x1024 .f32 × Vec F S1x512 .f32 × Vec F S1x512 .f32 ×
  Vec F S8x512 .f32 × Vec F S1x512 .f32 × Vec F S1x512 .f32 × Vec F S4x128x128 .f32 ×
  Vec F S128x512 .f32 × Vec F S1x1024 .f32

/-- The body's run at the first point, over the point's buffers and input blocks. -/
abbrev tA (h0 : t.val % 8 = 0) :=
  kernelRun0_A c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) (ms0_24 t) (hs0_24 t)
    (ms0_25 t) (hs0_25 t)
    scM0_0 (Memref.isWhole_whole _) scM0_1 (Memref.isWhole_whole _) ((hcond0_0 t).mpr h0)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)

/-- The body's run at a later point, the accumulated outputs at `o`'s. -/
abbrev tB (h0 : ¬t.val % 8 = 0) (o : Outs F) :=
  runB c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) (ms0_24 t) (hs0_24 t)
    (ms0_25 t) (hs0_25 t)
    scM0_0 (Memref.isWhole_whole _) scM0_1 (Memref.isWhole_whole _) (fun h => h0 ((hcond0_0 t).mp h))
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    o.2.2.1 o.2.2.2.1 o.2.2.2.2.1 o.2.2.2.2.2.1 o.2.2.2.2.2.2.1 o.2.2.2.2.2.2.2.1 o.2.2.2.2.2.2.2.2.1 o.2.2.2.2.2.2.2.2.2

/-- What the first point leaves: the pieces its run wrote, read back. -/
def outA (h0 : t.val % 8 = 0) : Outs F :=
   (VO0_16.read (Elt F) (VO0_16.writes (Elt F) VO0_16.junk (tA m c t h0).1),
    VO0_17.read (Elt F) (VO0_17.writes (Elt F) VO0_17.junk (tA m c t h0).2.1),
    VO0_18.read (Elt F) (VO0_18.writes (Elt F) VO0_18.junk (tA m c t h0).2.2.1),
    VO0_19.read (Elt F) (VO0_19.writes (Elt F) VO0_19.junk (tA m c t h0).2.2.2.1),
    VO0_20.read (Elt F) (VO0_20.writes (Elt F) VO0_20.junk (tA m c t h0).2.2.2.2.1),
    VO0_21.read (Elt F) (VO0_21.writes (Elt F) VO0_21.junk (tA m c t h0).2.2.2.2.2.1),
    VO0_22.read (Elt F) (VO0_22.writes (Elt F) VO0_22.junk (tA m c t h0).2.2.2.2.2.2.1),
    VO0_23.read (Elt F) (VO0_23.writes (Elt F) VO0_23.junk (tA m c t h0).2.2.2.2.2.2.2.1),
    VO0_24.read (Elt F) (VO0_24.writes (Elt F) VO0_24.junk (tA m c t h0).2.2.2.2.2.2.2.2.1),
    VO0_25.read (Elt F) (VO0_25.writes (Elt F) VO0_25.junk (tA m c t h0).2.2.2.2.2.2.2.2.2.1))

/-- What a later point leaves, the point before having left `o`; the stores into output 20 cover three of its rows. -/
def outB (h0 : ¬t.val % 8 = 0) (o : Outs F) : Outs F :=
   (VO0_16.read (Elt F) (VO0_16.writes (Elt F) VO0_16.junk (tB m c t h0 o).1),
    VO0_17.read (Elt F) (VO0_17.writes (Elt F) VO0_17.junk (tB m c t h0 o).2.1),
    VO0_18.read (Elt F) (VO0_18.writes (Elt F) VO0_18.junk (tB m c t h0 o).2.2.1),
    VO0_19.read (Elt F) (VO0_19.writes (Elt F) VO0_19.junk (tB m c t h0 o).2.2.2.1),
    (ms0_20 t).view.read (Elt F) ((ms0_20 t).view.writes (Elt F) ((hs0_20 t).unread o.2.2.2.2.1) (tB m c t h0 o).2.2.2.2.1),
    VO0_21.read (Elt F) (VO0_21.writes (Elt F) VO0_21.junk (tB m c t h0 o).2.2.2.2.2.1),
    VO0_22.read (Elt F) (VO0_22.writes (Elt F) VO0_22.junk (tB m c t h0 o).2.2.2.2.2.2.1),
    VO0_23.read (Elt F) (VO0_23.writes (Elt F) VO0_23.junk (tB m c t h0 o).2.2.2.2.2.2.2.1),
    VO0_24.read (Elt F) (VO0_24.writes (Elt F) VO0_24.junk (tB m c t h0 o).2.2.2.2.2.2.2.2.1),
    VO0_25.read (Elt F) (VO0_25.writes (Elt F) VO0_25.junk (tB m c t h0 o).2.2.2.2.2.2.2.2.2.1))

/-- What the outputs hold after point `n`. -/
def outsAt : (n : ℕ) → n < cfg0.N → Outs F
  | 0, hn => outA m c ⟨0, hn⟩ (Nat.zero_mod 8)
  | n + 1, hn =>
    if h0 : (n + 1) % 8 = 0 then outA m c ⟨n + 1, hn⟩ h0
    else outB m c ⟨n + 1, hn⟩ h0 (outsAt n (Nat.lt_of_succ_lt hn))

theorem outsAt_A (h0 : t.val % 8 = 0) : outsAt m c t.val t.isLt = outA m c t h0 := by
  obtain ⟨n, hn⟩ := t
  cases n with
  | zero => exact rfl
  | succ n => exact (dif_pos h0).trans rfl

theorem outsAt_B (h0 : ¬t.val % 8 = 0) : outsAt m c t.val t.isLt
    = outB m c t h0 (outsAt m c (t.val - 1) (Nat.lt_of_le_of_lt (Nat.sub_le _ _) t.isLt)) := by
  obtain ⟨n, hn⟩ := t
  cases n with
  | zero => exact absurd (Nat.zero_mod 8) h0
  | succ n => exact (dif_neg h0).trans rfl

end Cert.Mix.K
-- ==== Proof.KDats.lean ====
/- The pipeline's proof data: the stores of each point cover the outputs' blocks, every input's buffer stays at its block
   and every output's holds `outsAt`; and what the body is called with and what it returns. -/
module

public import proofs.«01_k».proof.Proof.KOuts

@[expose] public section

set_option maxRecDepth 16384

noncomputable section

namespace Cert.Mix.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-! ## The stores cover the outputs' blocks -/

theorem coverA_16 (h0 : t.val % 8 = 0) (y : S512x2560.Idx) :
    ∃ pc ∈ (tA m c t h0).1, y ∈ pc.1.set :=
  View.cover_of_tiledBy (tA m c t h0).1 ![512, 512] (by sl_kernel_rfl) y

theorem coverA_17 (h0 : t.val % 8 = 0) (y : S512x1024.Idx) :
    ∃ pc ∈ (tA m c t h0).2.1, y ∈ pc.1.set :=
  View.cover_of_tiledL (tA m c t h0).2.1 S512x1024.size (by sl_kernel_rfl) y

theorem coverA_18 (h0 : t.val % 8 = 0) (y : S1x512.Idx) :
    ∃ pc ∈ (tA m c t h0).2.2.1, y ∈ pc.1.set :=
  View.cover_of_tiledL (tA m c t h0).2.2.1 S1x512.size (by sl_kernel_rfl) y

theorem coverA_19 (h0 : t.val % 8 = 0) (y : S1x512.Idx) :
    ∃ pc ∈ (tA m c t h0).2.2.2.1, y ∈ pc.1.set :=
  View.cover_of_tiledL (tA m c t h0).2.2.2.1 S1x512.size (by sl_kernel_rfl) y

theorem coverA_20 (h0 : t.val % 8 = 0) (y : S8x512.Idx) :
    ∃ pc ∈ (tA m c t h0).2.2.2.2.1, y ∈ pc.1.set :=
  View.cover_of_tiledBy (tA m c t h0).2.2.2.2.1 ![1, 512] (by sl_kernel_rfl) y

theorem coverA_21 (h0 : t.val % 8 = 0) (y : S1x512.Idx) :
    ∃ pc ∈ (tA m c t h0).2.2.2.2.2.1, y ∈ pc.1.set :=
  View.cover_of_tiledL (tA m c t h0).2.2.2.2.2.1 S1x512.size (by sl_kernel_rfl) y

theorem coverA_22 (h0 : t.val % 8 = 0) (y : S1x512.Idx) :
    ∃ pc ∈ (tA m c t h0).2.2.2.2.2.2.1, y ∈ pc.1.set :=
  View.cover_of_tiledL (tA m c t h0).2.2.2.2.2.2.1 S1x512.size (by sl_kernel_rfl) y

theorem coverA_23 (h0 : t.val % 8 = 0) (y : S4x128x128.Idx) :
    ∃ pc ∈ (tA m c t h0).2.2.2.2.2.2.2.1, y ∈ pc.1.set :=
  View.cover_of_tiledBy (tA m c t h0).2.2.2.2.2.2.2.1 ![1, 128, 128] (by sl_kernel_rfl) y

theorem coverA_24 (h0 : t.val % 8 = 0) (y : S128x512.Idx) :
    ∃ pc ∈ (tA m c t h0).2.2.2.2.2.2.2.2.1, y ∈ pc.1.set :=
  View.cover_of_tiledL (tA m c t h0).2.2.2.2.2.2.2.2.1 S128x512.size (by sl_kernel_rfl) y

theorem coverA_25 (h0 : t.val % 8 = 0) (y : S1x1024.Idx) :
    ∃ pc ∈ (tA m c t h0).2.2.2.2.2.2.2.2.2.1, y ∈ pc.1.set :=
  View.cover_of_tiledL (tA m c t h0).2.2.2.2.2.2.2.2.2.1 S1x1024.size (by sl_kernel_rfl) y

theorem coverB_16 (h0 : ¬t.val % 8 = 0) (o : Outs F) (y : S512x2560.Idx) :
    ∃ pc ∈ (tB m c t h0 o).1, y ∈ pc.1.set :=
  View.cover_of_tiledBy (tB m c t h0 o).1 ![512, 512] (by sl_kernel_rfl) y

theorem coverB_17 (h0 : ¬t.val % 8 = 0) (o : Outs F) (y : S512x1024.Idx) :
    ∃ pc ∈ (tB m c t h0 o).2.1, y ∈ pc.1.set :=
  View.cover_of_tiledL (tB m c t h0 o).2.1 S512x1024.size (by sl_kernel_rfl) y

theorem coverB_18 (h0 : ¬t.val % 8 = 0) (o : Outs F) (y : S1x512.Idx) :
    ∃ pc ∈ (tB m c t h0 o).2.2.1, y ∈ pc.1.set :=
  View.cover_of_tiledL (tB m c t h0 o).2.2.1 S1x512.size (by sl_kernel_rfl) y

theorem coverB_19 (h0 : ¬t.val % 8 = 0) (o : Outs F) (y : S1x512.Idx) :
    ∃ pc ∈ (tB m c t h0 o).2.2.2.1, y ∈ pc.1.set :=
  View.cover_of_tiledL (tB m c t h0 o).2.2.2.1 S1x512.size (by sl_kernel_rfl) y

theorem coverB_21 (h0 : ¬t.val % 8 = 0) (o : Outs F) (y : S1x512.Idx) :
    ∃ pc ∈ (tB m c t h0 o).2.2.2.2.2.1, y ∈ pc.1.set :=
  View.cover_of_tiledL (tB m c t h0 o).2.2.2.2.2.1 S1x512.size (by sl_kernel_rfl) y

theorem coverB_22 (h0 : ¬t.val % 8 = 0) (o : Outs F) (y : S1x512.Idx) :
    ∃ pc ∈ (tB m c t h0 o).2.2.2.2.2.2.1, y ∈ pc.1.set :=
  View.cover_of_tiledL (tB m c t h0 o).2.2.2.2.2.2.1 S1x512.size (by sl_kernel_rfl) y

theorem coverB_23 (h0 : ¬t.val % 8 = 0) (o : Outs F) (y : S4x128x128.Idx) :
    ∃ pc ∈ (tB m c t h0 o).2.2.2.2.2.2.2.1, y ∈ pc.1.set :=
  View.cover_of_tiledL (tB m c t h0 o).2.2.2.2.2.2.2.1 S1x128x128.size (by sl_kernel_rfl) y

theorem coverB_24 (h0 : ¬t.val % 8 = 0) (o : Outs F) (y : S128x512.Idx) :
    ∃ pc ∈ (tB m c t h0 o).2.2.2.2.2.2.2.2.1, y ∈ pc.1.set :=
  View.cover_of_tiledL (tB m c t h0 o).2.2.2.2.2.2.2.2.1 S128x512.size (by sl_kernel_rfl) y

theorem coverB_25 (h0 : ¬t.val % 8 = 0) (o : Outs F) (y : S1x1024.Idx) :
    ∃ pc ∈ (tB m c t h0 o).2.2.2.2.2.2.2.2.2.1, y ∈ pc.1.set :=
  View.cover_of_tiledL (tB m c t h0 o).2.2.2.2.2.2.2.2.2.1 S1x1024.size (by sl_kernel_rfl) y

/-- A buffer with pieces written that cover its block is owned at the pieces read back over anything. -/
theorem owns_of_writes {s : Shape} {e : EltTy} {a : Memref sig .tc .vmem s e} {v' : View sig .tc .vmem s e}
    {f f'} (L : List (View.Piece (Elt F) s e)) (h : ∀ y, ∃ pc ∈ L, y ∈ pc.1.set) :
    (iprop(a.view.loc (c : Thread nD τ) ↦[a.view.set]{fullShare} a.view.writes (Elt F) f L) : sProp 𝕄)
      ⊢ owns (c : Thread nD τ) a fullShare (v'.read (Elt F) (v'.writes (Elt F) f' L)) := by
  unfold owns
  iintro H
  iexists _; isplitr
  swap; · iexact H
  ipureintro; exact View.read_writes_of_cover _ _ _ _ _ h

/-! ## The pipeline's proof data -/

/-- The proof data: the arrays as the launch finds them, each input's buffer at its block after every point, the
    outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt m c t.val t.isLt).1
    | ⟨17, _⟩ => (outsAt m c t.val t.isLt).2.1
    | ⟨18, _⟩ => (outsAt m c t.val t.isLt).2.2.1
    | ⟨19, _⟩ => (outsAt m c t.val t.isLt).2.2.2.1
    | ⟨20, _⟩ => (outsAt m c t.val t.isLt).2.2.2.2.1
    | ⟨21, _⟩ => (outsAt m c t.val t.isLt).2.2.2.2.2.1
    | ⟨22, _⟩ => (outsAt m c t.val t.isLt).2.2.2.2.2.2.1
    | ⟨23, _⟩ => (outsAt m c t.val t.isLt).2.2.2.2.2.2.2.1
    | ⟨24, _⟩ => (outsAt m c t.val t.isLt).2.2.2.2.2.2.2.2.1
    | ⟨25, _⟩ => (outsAt m c t.val t.isLt).2.2.2.2.2.2.2.2.2
    | ⟨_ + 26, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = iblk m c 9 t := by dsimp only [dats]
theorem after_10 (t : Fin cfg0.N) : (dats m 0 c).after 10 t = iblk m c 10 t := by dsimp only [dats]
theorem after_11 (t : Fin cfg0.N) : (dats m 0 c).after 11 t = iblk m c 11 t := by dsimp only [dats]
theorem after_12 (t : Fin cfg0.N) : (dats m 0 c).after 12 t = iblk m c 12 t := by dsimp only [dats]
theorem after_13 (t : Fin cfg0.N) : (dats m 0 c).after 13 t = iblk m c 13 t := by dsimp only [dats]
theorem after_14 (t : Fin cfg0.N) : (dats m 0 c).after 14 t = iblk m c 14 t := by dsimp only [dats]
theorem after_15 (t : Fin cfg0.N) : (dats m 0 c).after 15 t = iblk m c 15 t := by dsimp only [dats]
theorem after_16 (t : Fin cfg0.N) : (dats m 0 c).after 16 t = (outsAt m c t.val t.isLt).1 := by
  dsimp only [dats]
theorem after_17 (t : Fin cfg0.N) : (dats m 0 c).after 17 t = (outsAt m c t.val t.isLt).2.1 := by
  dsimp only [dats]
theorem after_18 (t : Fin cfg0.N) : (dats m 0 c).after 18 t = (outsAt m c t.val t.isLt).2.2.1 := by
  dsimp only [dats]
theorem after_19 (t : Fin cfg0.N) : (dats m 0 c).after 19 t = (outsAt m c t.val t.isLt).2.2.2.1 := by
  dsimp only [dats]
theorem after_20 (t : Fin cfg0.N) : (dats m 0 c).after 20 t = (outsAt m c t.val t.isLt).2.2.2.2.1 := by
  dsimp only [dats]
theorem after_21 (t : Fin cfg0.N) : (dats m 0 c).after 21 t = (outsAt m c t.val t.isLt).2.2.2.2.2.1 := by
  dsimp only [dats]
theorem after_22 (t : Fin cfg0.N) : (dats m 0 c).after 22 t = (outsAt m c t.val t.isLt).2.2.2.2.2.2.1 := by
  dsimp only [dats]
theorem after_23 (t : Fin cfg0.N) : (dats m 0 c).after 23 t = (outsAt m c t.val t.isLt).2.2.2.2.2.2.2.1 := by
  dsimp only [dats]
theorem after_24 (t : Fin cfg0.N) : (dats m 0 c).after 24 t = (outsAt m c t.val t.isLt).2.2.2.2.2.2.2.2.1 := by
  dsimp only [dats]
theorem after_25 (t : Fin cfg0.N) : (dats m 0 c).after 25 t = (outsAt m c t.val t.isLt).2.2.2.2.2.2.2.2.2 := by
  dsimp only [dats]

theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d
theorem before_6 (d) : (dats m 0 c).before 6 t d = iblk m c 6 t :=
  before0_6_of m (dats m 0 c) (A_eq m c 6) (after_6 m c) t d
theorem before_7 (d) : (dats m 0 c).before 7 t d = iblk m c 7 t :=
  before0_7_of m (dats m 0 c) (A_eq m c 7) (after_7 m c) t d
theorem before_8 (d) : (dats m 0 c).before 8 t d = iblk m c 8 t :=
  before0_8_of m (dats m 0 c) (A_eq m c 8) (after_8 m c) t d
theorem before_9 (d) : (dats m 0 c).before 9 t d = iblk m c 9 t :=
  before0_9_of m (dats m 0 c) (A_eq m c 9) (after_9 m c) t d
theorem before_10 (d) : (dats m 0 c).before 10 t d = iblk m c 10 t :=
  before0_10_of m (dats m 0 c) (A_eq m c 10) (after_10 m c) t d
theorem before_11 (d) : (dats m 0 c).before 11 t d = iblk m c 11 t :=
  before0_11_of m (dats m 0 c) (A_eq m c 11) (after_11 m c) t d
theorem before_12 (d) : (dats m 0 c).before 12 t d = iblk m c 12 t :=
  before0_12_of m (dats m 0 c) (A_eq m c 12) (after_12 m c) t d
theorem before_13 (d) : (dats m 0 c).before 13 t d = iblk m c 13 t :=
  before0_13_of m (dats m 0 c) (A_eq m c 13) (after_13 m c) t d
theorem before_14 (d) : (dats m 0 c).before 14 t d = iblk m c 14 t :=
  before0_14_of m (dats m 0 c) (A_eq m c 14) (after_14 m c) t d
theorem before_15 (d) : (dats m 0 c).before 15 t d = iblk m c 15 t :=
  before0_15_of m (dats m 0 c) (A_eq m c 15) (after_15 m c) t d

/-- A point's number, and that its accumulators are not written back between the points. -/
theorem point_lt : t.val < 8 := lt_of_lt_of_eq t.isLt (show cfg0.N = 8 from N_0)

theorem before_18 (h0 : ¬t.val % 8 = 0) (d) : (dats m 0 c).before 18 t d
    = (outsAt m c (t.val - 1) (Nat.lt_of_le_of_lt (Nat.sub_le _ _) t.isLt)).2.2.1 := by
  have hN := point_lt t
  rw [Dat.before_out_kept _ 18 rfl t (by omega) (Bool.eq_false_iff.mpr fun h => by
    have := (flush0_18 _).mp h; dsimp only at this; omega) (fun _ => rfl) (fun _ _ => rfl)]
  dsimp only [dats]
theorem before_19 (h0 : ¬t.val % 8 = 0) (d) : (dats m 0 c).before 19 t d
    = (outsAt m c (t.val - 1) (Nat.lt_of_le_of_lt (Nat.sub_le _ _) t.isLt)).2.2.2.1 := by
  have hN := point_lt t
  rw [Dat.before_out_kept _ 19 rfl t (by omega) (Bool.eq_false_iff.mpr fun h => by
    have := (flush0_19 _).mp h; dsimp only at this; omega) (fun _ => rfl) (fun _ _ => rfl)]
  dsimp only [dats]
theorem before_20 (h0 : ¬t.val % 8 = 0) (d) : (dats m 0 c).before 20 t d
    = (outsAt m c (t.val - 1) (Nat.lt_of_le_of_lt (Nat.sub_le _ _) t.isLt)).2.2.2.2.1 := by
  have hN := point_lt t
  rw [Dat.before_out_kept _ 20 rfl t (by omega) (Bool.eq_false_iff.mpr fun h => by
    have := (flush0_20 _).mp h; dsimp only at this; omega) (fun _ => rfl) (fun _ _ => rfl)]
  dsimp only [dats]
theorem before_21 (h0 : ¬t.val % 8 = 0) (d) : (dats m 0 c).before 21 t d
    = (outsAt m c (t.val - 1) (Nat.lt_of_le_of_lt (Nat.sub_le _ _) t.isLt)).2.2.2.2.2.1 := by
  have hN := point_lt t
  rw [Dat.before_out_kept _ 21 rfl t (by omega) (Bool.eq_false_iff.mpr fun h => by
    have := (flush0_21 _).mp h; dsimp only at this; omega) (fun _ => rfl) (fun _ _ => rfl)]
  dsimp only [dats]
theorem before_22 (h0 : ¬t.val % 8 = 0) (d) : (dats m 0 c).before 22 t d
    = (outsAt m c (t.val - 1) (Nat.lt_of_le_of_lt (Nat.sub_le _ _) t.isLt)).2.2.2.2.2.2.1 := by
  have hN := point_lt t
  rw [Dat.before_out_kept _ 22 rfl t (by omega) (Bool.eq_false_iff.mpr fun h => by
    have := (flush0_22 _).mp h; dsimp only at this; omega) (fun _ => rfl) (fun _ _ => rfl)]
  dsimp only [dats]
theorem before_23 (h0 : ¬t.val % 8 = 0) (d) : (dats m 0 c).before 23 t d
    = (outsAt m c (t.val - 1) (Nat.lt_of_le_of_lt (Nat.sub_le _ _) t.isLt)).2.2.2.2.2.2.2.1 := by
  have hN := point_lt t
  rw [Dat.before_out_kept _ 23 rfl t (by omega) (Bool.eq_false_iff.mpr fun h => by
    have := (flush0_23 _).mp h; dsimp only at this; omega) (fun _ => rfl) (fun _ _ => rfl)]
  dsimp only [dats]
theorem before_24 (h0 : ¬t.val % 8 = 0) (d) : (dats m 0 c).before 24 t d
    = (outsAt m c (t.val - 1) (Nat.lt_of_le_of_lt (Nat.sub_le _ _) t.isLt)).2.2.2.2.2.2.2.2.1 := by
  have hN := point_lt t
  rw [Dat.before_out_kept _ 24 rfl t (by omega) (Bool.eq_false_iff.mpr fun h => by
    have := (flush0_24 _).mp h; dsimp only at this; omega) (fun _ => rfl) (fun _ _ => rfl)]
  dsimp only [dats]
theorem before_25 (h0 : ¬t.val % 8 = 0) (d) : (dats m 0 c).before 25 t d
    = (outsAt m c (t.val - 1) (Nat.lt_of_le_of_lt (Nat.sub_le _ _) t.isLt)).2.2.2.2.2.2.2.2.2 := by
  have hN := point_lt t
  rw [Dat.before_out_kept _ 25 rfl t (by omega) (Bool.eq_false_iff.mpr fun h => by
    have := (flush0_25 _).mp h; dsimp only at this; omega) (fun _ => rfl) (fun _ _ => rfl)]
  dsimp only [dats]

/-! ## The body at every point -/

/-- What the body is called with at point `t`, -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

end Cert.Mix.K

end
-- ==== Proof.KSoundA.lean ====
/- The body at the first grid point: the point's run applies to what the body is called with and leaves what it returns. -/
module

public import proofs.«01_k».proof.Proof.KDats

@[expose] public section

set_option maxRecDepth 16384

noncomputable section

namespace Cert.Mix.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

set_option maxHeartbeats 4000000 in
/-- The inputs' buffers hold their blocks, so the first point's run applies; the scratch buffers come back at some contents. -/
theorem sound_A (h0 : t.val % 8 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12,
    after_13, after_14, after_15, after_16, after_17, after_18, after_19, after_20, after_21, after_22, after_23, after_24, after_25]
  rw [show (dats m 0 c).Φ t.castSucc = Pipeline.ΦA spec0 c from rfl, PhiA0_eq]
  rw [outsAt_A m c t h0]
  unfold outA; (try dsimp only)
  have cov16 := coverA_16 m c t h0
  have cov17 := coverA_17 m c t h0
  have cov18 := coverA_18 m c t h0
  have cov19 := coverA_19 m c t h0
  have cov20 := coverA_20 m c t h0
  have cov21 := coverA_21 m c t h0
  have cov22 := coverA_22 m c t h0
  have cov23 := coverA_23 m c t h0
  have cov24 := coverA_24 m c t h0
  have cov25 := coverA_25 m c t h0
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩,
    ⟨%d18, H18⟩, ⟨%d19, H19⟩, ⟨%d20, H20⟩, ⟨%d21, H21⟩, ⟨%d22, H22⟩, ⟨%d23, H23⟩, ⟨%d24, H24⟩, ⟨%d25, H25⟩⟩
  iapply ((tA m c t h0).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [HS0]; · iexact HS0
  isplitl [HS1]; · iexact HS1
  iintro ⟨H0, H1, H2, H3, H4, H5, H6, H7, H8, H9, H10, H11, H12, H13,
    H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iapply (owns_of_writes c _ cov16); iexact H16
  isplitl [H17]
  · iapply (owns_of_writes c _ cov17); iexact H17
  isplitl [H18]
  · iapply (owns_of_writes c _ cov18); iexact H18
  isplitl [H19]
  · iapply (owns_of_writes c _ cov19); iexact H19
  isplitl [H20]
  · iapply (owns_of_writes c _ cov20); iexact H20
  isplitl [H21]
  · iapply (owns_of_writes c _ cov21); iexact H21
  isplitl [H22]
  · iapply (owns_of_writes c _ cov22); iexact H22
  isplitl [H23]
  · iapply (owns_of_writes c _ cov23); iexact H23
  isplitl [H24]
  · iapply (owns_of_writes c _ cov24); iexact H24
  iapply (owns_of_writes c _ cov25); iexact H25

end Cert.Mix.K

end
-- ==== Proof.KSoundB.lean ====
/- The body at a later grid point: the accumulated outputs' buffers hold what the point before left, and the point's run
   applies from there. -/
module

public import proofs.«01_k».proof.Proof.KDats

@[expose] public section

set_option maxRecDepth 16384

noncomputable section

namespace Cert.Mix.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

set_option maxHeartbeats 4000000 in
/-- The inputs' buffers hold their blocks and the accumulators what the point before left, so the later point's run applies;
    the scratch buffers come back at some contents. -/
theorem sound_B (h0 : ¬t.val % 8 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12,
    after_13, after_14, after_15, after_16, after_17, after_18, after_19, after_20, after_21, after_22, after_23, after_24, after_25]
  rw [show (dats m 0 c).Φ t.castSucc = Pipeline.ΦA spec0 c from rfl, PhiA0_eq]
  rw [outsAt_B m c t h0]
  simp only [before_18 m c t h0, before_19 m c t h0, before_20 m c t h0, before_21 m c t h0, before_22 m c t h0, before_23 m c t h0, before_24 m c t h0, before_25 m c t h0]
  generalize outsAt m c (t.val - 1) (Nat.lt_of_le_of_lt (Nat.sub_le _ _) t.isLt) = o
  unfold outB; (try dsimp only)
  have cov16 := coverB_16 m c t h0 o
  have cov17 := coverB_17 m c t h0 o
  have cov18 := coverB_18 m c t h0 o
  have cov19 := coverB_19 m c t h0 o
  have cov21 := coverB_21 m c t h0 o
  have cov22 := coverB_22 m c t h0 o
  have cov23 := coverB_23 m c t h0 o
  have cov24 := coverB_24 m c t h0 o
  have cov25 := coverB_25 m c t h0 o
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩,
    ⟨%d18, H18⟩, ⟨%d19, H19⟩, ⟨%d20, H20⟩, ⟨%d21, H21⟩, ⟨%d22, H22⟩, ⟨%d23, H23⟩, ⟨%d24, H24⟩, ⟨%d25, H25⟩⟩
  iapply ((tB m c t h0 o).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [HS0]; · iexact HS0
  isplitl [HS1]; · iexact HS1
  iintro ⟨H0, H1, H2, H3, H4, H5, H6, H7, H8, H9, H10, H11, H12, H13,
    H14, H15, ⟨%e16, H16⟩, ⟨%e17, H17⟩, ⟨%e18, H18⟩, ⟨%e19, H19⟩, H20, ⟨%e21, H21⟩, ⟨%e22, H22⟩, ⟨%e23, H23⟩, ⟨%e24, H24⟩, ⟨%e25, H25⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iapply (owns_of_writes c _ cov16); iexact H16
  isplitl [H17]
  · iapply (owns_of_writes c _ cov17); iexact H17
  isplitl [H18]
  · iapply (owns_of_writes c _ cov18); iexact H18
  isplitl [H19]
  · iapply (owns_of_writes c _ cov19); iexact H19
  isplitl [H20]
  · unfold owns; iexists _; isplitr; swap; · iexact H20
    ipureintro; rfl
  isplitl [H21]
  · iapply (owns_of_writes c _ cov21); iexact H21
  isplitl [H22]
  · iapply (owns_of_writes c _ cov22); iexact H22
  isplitl [H23]
  · iapply (owns_of_writes c _ cov23); iexact H23
  isplitl [H24]
  · iapply (owns_of_writes c _ cov24); iexact H24
  iapply (owns_of_writes c _ cov25); iexact H25

end Cert.Mix.K

end
-- ==== Proof.KFrame.lean ====
/- The kernel's run and its frame: the run of the whole program with every output array named, and the frame (arguments
   unchanged, counters at zero). -/
module

public import proofs.«01_k».proof.Proof.KSoundA
public import proofs.«01_k».proof.Proof.KSoundB

@[expose] public section

set_option maxRecDepth 16384

noncomputable section

namespace Cert.Mix.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-- The body at any point. -/
theorem sound_body :
    bodyPre m c t ⊢ wp frame (wpE (defs₀ (F := F)) Variants.none c none) Set.univ (bodyAt0 t) (fun _ => bodyPost m c t) := by
  by_cases h0 : t.val % 8 = 0
  · exact sound_A m c t h0
  · exact sound_B m c t h0

/-- The body table's row at point `t` is the body over the point's buffers. -/
theorem defs₀_row : defs₀ (F := F) .tc cfg0.body (cfg0.bodyArgs t (cfg0.slots t)) = bodyAt0 t := by
  unfold defs₀; rw [Defs.onTc_tc]

set_option maxHeartbeats 4000000 in
/-- The body at every point, as the pipeline asks it. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs to completion; every array of the pipeline ends at what the proof data say, every other buffer as
    the launch found it, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The twelve arguments end as they were launched, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) ((θ_run defs _ _).mono (fun _ h => h.1) (run_quiescent m ρ))

/-- and so does every counter: the frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_quiescent m ρ))

/-- The run with each output array named. -/
theorem run_arrays : θ_run defs (onTc (τ := τ) (main (F := F))) ⟨m, fun _ => 0, ρ⟩ (fun r => ∀ c : Dev nD,
      (r.2.mem ((c.tc : Thread nD τ).loc main_v23_0) = (dats m 0 c).arrAt 16 cfg0.N
      ∧ r.2.mem ((c.tc : Thread nD τ).loc main_v23_1) = (dats m 0 c).arrAt 17 cfg0.N
      ∧ r.2.mem ((c.tc : Thread nD τ).loc main_v23_2) = (dats m 0 c).arrAt 18 cfg0.N
      ∧ r.2.mem ((c.tc : Thread nD τ).loc main_v23_3) = (dats m 0 c).arrAt 19 cfg0.N
      ∧ r.2.mem ((c.tc : Thread nD τ).loc main_v23_4) = (dats m 0 c).arrAt 20 cfg0.N
      ∧ r.2.mem ((c.tc : Thread nD τ).loc main_v23_5) = (dats m 0 c).arrAt 21 cfg0.N
      ∧ r.2.mem ((c.tc : Thread nD τ).loc main_v23_6) = (dats m 0 c).arrAt 22 cfg0.N
      ∧ r.2.mem ((c.tc : Thread nD τ).loc main_v23_7) = (dats m 0 c).arrAt 23 cfg0.N
      ∧ r.2.mem ((c.tc : Thread nD τ).loc main_v23_8) = (dats m 0 c).arrAt 24 cfg0.N
      ∧ r.2.mem ((c.tc : Thread nD τ).loc main_v23_9) = (dats m 0 c).arrAt 25 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨⟨(h.1.1 c).1 16, (h.1.1 c).1 17, (h.1.1 c).1 18, (h.1.1 c).1 19, (h.1.1 c).1 20, (h.1.1 c).1 21, (h.1.1 c).1 22, (h.1.1 c).1 23, (h.1.1 c).1 24, (h.1.1 c).1 25⟩, h.2 c⟩)
    (θ_run_and (run_quiescent m ρ) (unchanged m ρ))

end Cert.Mix.K

end
-- ==== Proof.Model.lean ====
/- The mixing layer and its gradient as functions of real numbers, row and column counted by naturals.
   `Inp` holds the twelve arguments as such functions; the other definitions follow the layer's forward pass and
   the closed form of each gradient. The kernel's blocks and the reference's arrays are both read as these. -/
module

public import Idealize.ShloMosaic.PureOps.Ideal
public import Idealize.ShloMosaic.Lib.Pointwise

@[expose] public section

noncomputable section

namespace Cert.Mix

open scoped BigOperators

/-- The number added to a mean square before its root is taken. -/
def eps : ℝ := 8796093 / 2 ^ 43

/-- The factor inside the hyperbolic tangent of the gate. -/
def gc : ℝ := 13386282 / 2 ^ 24

/-- The coefficient of the cube in the gate, 0.044715. -/
def gq : ℝ := 8943 / 200000

theorem eps_pos : 0 < eps := by unfold eps; positivity

/-- The mean square of the first `n` entries, plus `eps`. -/
def msq (n : ℕ) (f : ℕ → ℝ) : ℝ := (∑ k : Fin n, f k * f k) * (1 / n) + eps

theorem msq_pos (n : ℕ) (f : ℕ → ℝ) : 0 < msq n f :=
  add_pos_of_nonneg_of_pos
    (mul_nonneg (Finset.sum_nonneg fun _ _ => mul_self_nonneg _) (by positivity)) eps_pos

/-- One over the root of the mean square. -/
def rstd (n : ℕ) (f : ℕ → ℝ) : ℝ := (√(msq n f))⁻¹

/-- The gradient of a root-mean-square normalisation of the row `x` with gain `g`, at cotangent `d`. -/
def rmsBwd (n : ℕ) (d x g : ℕ → ℝ) (j : ℕ) : ℝ :=
  rstd n x * (d j * g j)
    - x j * (rstd n x * rstd n x * rstd n x) * ((∑ k : Fin n, d k * g k * x k) * (1 / n))

/-- The hyperbolic tangent of the gate at `a`. -/
def gth (a : ℝ) : ℝ := Real.tanh (gc * (a + gq * a * a * a))

/-- The gate. -/
def gelu (a : ℝ) : ℝ := 1 / 2 * a * (1 + gth a)

/-- The gate's derivative. -/
def dgelu (a : ℝ) : ℝ :=
  1 / 2 * (1 + gth a) + 1 / 2 * a * (1 - gth a * gth a) * (gc * (1 + 3 * gq * a * a))

/-- The arguments of the layer's gradient, as real functions of natural coordinates. -/
structure Inp where
  /-- the cotangent of the layer's output -/
  dy : ℕ → ℕ → ℝ
  /-- the layer's input -/
  x : ℕ → ℕ → ℝ
  /-- the gain of the input's normalisation -/
  gm : ℕ → ℝ
  /-- the input projection -/
  win : ℕ → ℕ → ℝ
  /-- gain and shift of the normalisation inside the spatial gate -/
  lng : ℕ → ℝ
  lnb : ℕ → ℝ
  /-- the spatial weights, head by head, and their bias -/
  wsp : ℕ → ℕ → ℕ → ℝ
  bs : ℕ → ℕ → ℝ
  /-- the convolution's three taps -/
  cw : ℕ → ℕ → ℝ
  /-- the gains of the two groups -/
  ga : ℕ → ℝ
  gb : ℕ → ℝ
  /-- the output projection -/
  wout : ℕ → ℕ → ℝ

namespace Inp

variable (p : Inp)

/-- The projected input. -/
def h (r j : ℕ) : ℝ := ∑ k : Fin 1024, p.x r k * rstd 1024 (p.x r) * p.gm k * p.win k j

/-- The cotangent of the two normalised groups side by side. -/
def dyc (r j : ℕ) : ℝ := ∑ k : Fin 1024, p.dy r k * p.wout j k

/-! ### The convolution group -/

/-- The gated value the convolution runs over. -/
def z (r j : ℕ) : ℝ := p.h r (1536 + j) * p.h r (2048 + j)

/-- The same, `d` rows earlier, and zero before the first row. -/
def zs (d r j : ℕ) : ℝ := if r < d then 0 else p.z (r - d) j

theorem zs_zero (r j : ℕ) : p.zs 0 r j = p.z r j := by simp [zs]

/-- The causal convolution. -/
def conv (r j : ℕ) : ℝ := p.cw 0 j * p.zs 2 r j + p.cw 1 j * p.zs 1 r j + p.cw 2 j * p.z r j

/-- The gated convolution. -/
def sc (r j : ℕ) : ℝ := p.h r (1024 + j) * p.conv r j

/-- The cotangent of the gated convolution. -/
def dsc (r j : ℕ) : ℝ := rmsBwd 512 (fun k => p.dyc r (512 + k)) (p.sc r) p.gb j

/-- The cotangent of the convolution. -/
def dconv (r j : ℕ) : ℝ := p.dsc r j * p.h r (1024 + j)

/-- The same, `d` rows later, and zero past the last row. -/
def dcs (d r j : ℕ) : ℝ := if r + d < 4096 then p.dconv (r + d) j else 0

/-- The cotangent of the gated value. -/
def dz (r j : ℕ) : ℝ := p.cw 2 j * p.dconv r j + p.cw 1 j * p.dcs 1 r j + p.cw 0 j * p.dcs 2 r j

/-! ### The spatial gate -/

/-- The two halves of the gated projection. -/
def u (r j : ℕ) : ℝ := gelu (p.h r j)
def v (r j : ℕ) : ℝ := gelu (p.h r (512 + j))

/-- The second half less its row's mean. -/
def vc (r j : ℕ) : ℝ := p.v r j - (∑ k : Fin 512, p.v r k) * (1 / (512 : ℕ))

/-- The second half normalised, then scaled and shifted. -/
def xh (r j : ℕ) : ℝ := p.vc r j * rstd 512 (p.vc r)
def vln (r j : ℕ) : ℝ := p.xh r j * p.lng j + p.lnb j

/-- The lower-triangular spatial weights. -/
def wm (g a b : ℕ) : ℝ := p.wsp g a b * (if b ≤ a then 1 else 0)

/-- The mix over the positions of a chunk of 128 rows. -/
def mixed (r j : ℕ) : ℝ :=
  (∑ s : Fin 128, p.wm (j / 128) (r % 128) s * p.vln (r / 128 * 128 + s) j) + p.bs (j / 128) (r % 128)

/-- The spatial gate. -/
def sg (r j : ℕ) : ℝ := p.u r j * p.mixed r j

/-- The cotangents of the gate, of its first half and of the mix. -/
def dsg (r j : ℕ) : ℝ := rmsBwd 512 (fun k => p.dyc r k) (p.sg r) p.ga j
def du (r j : ℕ) : ℝ := p.dsg r j * p.mixed r j
def dmx (r j : ℕ) : ℝ := p.dsg r j * p.u r j

/-- The cotangent of the normalised second half. -/
def dvln (r j : ℕ) : ℝ := ∑ a : Fin 128, p.wm (j / 128) a (r % 128) * p.dmx (r / 128 * 128 + a) j

/-- … before its scale. -/
def dxh (r j : ℕ) : ℝ := p.dvln r j * p.lng j

/-- The cotangent of the second half. -/
def dv (r j : ℕ) : ℝ :=
  rstd 512 (p.vc r) * (p.dxh r j - (∑ k : Fin 512, p.dxh r k) * (1 / (512 : ℕ))
    - p.xh r j * ((∑ k : Fin 512, p.dxh r k * p.xh r k) * (1 / (512 : ℕ))))

/-! ### The results -/

/-- The gradient of the projected input: four groups of 512 columns after the gate's two. -/
def dh (r j : ℕ) : ℝ :=
  if j < 512 then p.du r j * dgelu (p.h r j)
  else if j < 1024 then p.dv r (j - 512) * dgelu (p.h r j)
  else if j < 1536 then p.dsc r (j - 1024) * p.conv r (j - 1024)
  else if j < 2048 then p.dz r (j - 1536) * p.h r (j + 512)
  else p.dz r (j - 2048) * p.h r (j - 512)

/-- The cotangent of the normalised input. -/
def dxn (r j : ℕ) : ℝ := ∑ k : Fin 2560, p.dh r k * p.win j k

/-- The gradient of the layer's input, the residual's cotangent added. -/
def dx (r j : ℕ) : ℝ := p.dy r j + rmsBwd 1024 (p.dxn r) (p.x r) p.gm j

/-- The gradients of the parameters, as the sums over the rows of these terms. -/
def tga (r j : ℕ) : ℝ := p.dyc r j * (p.sg r j * rstd 512 (p.sg r))
def tgb (r j : ℕ) : ℝ := p.dyc r (512 + j) * (p.sc r j * rstd 512 (p.sc r))
def tcw (d r j : ℕ) : ℝ := p.dconv r j * p.zs d r j
def tlng (r j : ℕ) : ℝ := p.dvln r j * p.xh r j
def tlnb (r j : ℕ) : ℝ := p.dvln r j
def tgm (r j : ℕ) : ℝ := p.dxn r j * (p.x r j * rstd 1024 (p.x r))

/-- The gradient of the spatial weights: a sum over the chunks. -/
def twsp (q g a b : ℕ) : ℝ :=
  (if b ≤ a then 1 else 0) * ∑ j : Fin 128, p.dmx (q * 128 + a) (g * 128 + j) * p.vln (q * 128 + b) (g * 128 + j)

/-- The gradient of the bias, still spread over the columns of a head: a sum over the chunks. -/
def tbs (q a j : ℕ) : ℝ := p.dmx (q * 128 + a) j

end Inp

end Cert.Mix

end
-- ==== Proof.Reals.lean ====
/- Extended reals that are real: the sums, quotients and roots of the two programs read on real numbers, and the
   float constants they spell. -/
module

public import proofs.«01_k».proof.Proof.Model

@[expose] public section

noncomputable section

namespace Cert.Mix

open Idealize.ShloMosaic
open scoped BigOperators

/-- A sum of reals, read in the extended reals. -/
theorem coe_sum {ι : Type} [Fintype ι] (f : ι → ℝ) : ∑ i, ((f i : ℝ) : EReal) = ((∑ i, f i : ℝ) : EReal) := by
  classical
  refine Finset.induction_on (Finset.univ : Finset ι) (by simp) fun a s ha ih => ?_
  rw [Finset.sum_insert ha, Finset.sum_insert ha, ih, EReal.coe_add]

/-- The reciprocal root of a positive real. -/
theorem rsqrt_pos {r : ℝ} (h : 0 < r) : Ideal.rsqrt (r : EReal) = (((√r)⁻¹ : ℝ) : EReal) := by
  show (if r < 0 then (⊥ : EReal) else if r = 0 then ⊤ else (((√r)⁻¹ : ℝ) : EReal)) = _
  rw [if_neg (not_lt.2 h.le), if_neg h.ne']

theorem rsqrt_msq (n : ℕ) (f : ℕ → ℝ) : Ideal.rsqrt (msq n f : EReal) = ((rstd n f : ℝ) : EReal) :=
  rsqrt_pos (msq_pos n f)

theorem tanh_real (r : ℝ) : Ideal.tanh (r : EReal) = ((Real.tanh r : ℝ) : EReal) := rfl

theorem div_real (a b : ℝ) (h : b ≠ 0) : Ideal.div (a : EReal) (b : EReal) = ((a * (1 / b) : ℝ) : EReal) := by
  rw [Ideal.div_coe h, ← EReal.coe_mul]

/-- The operations on reals, from the extended reals inward: the set that turns a scalar expression into one real. -/
theorem lift : (∀ a b : ℝ, (a : EReal) * b = ((a * b : ℝ) : EReal)) ∧ (∀ a b : ℝ, (a : EReal) + b = ((a + b : ℝ) : EReal))
    ∧ (∀ a b : ℝ, (a : EReal) - b = ((a - b : ℝ) : EReal)) ∧ (∀ a : ℝ, Ideal.tanh (a : EReal) = ((Real.tanh a : ℝ) : EReal))
    ∧ (0 : EReal) = ((0 : ℝ) : EReal) ∧ (1 : EReal) = ((1 : ℝ) : EReal) ∧ (∀ a : ℝ, -(a : EReal) = ((-a : ℝ) : EReal)) :=
  ⟨fun _ _ => (EReal.coe_mul _ _).symm, fun _ _ => (EReal.coe_add _ _).symm, fun _ _ => (EReal.coe_sub _ _).symm,
    fun _ => rfl, rfl, rfl, fun _ => (EReal.coe_neg _).symm⟩

/-! ### Constants -/

theorem k_eps : Ideal.ofBits .f32 0x358637BD#32 = ((eps : ℝ) : EReal) := by
  simp [Ideal.ofBits, Ideal.ieee, eps, -EReal.coe_mul]; norm_num
theorem k_gc : Ideal.ofBits .f32 0x3F4C422A#32 = ((gc : ℝ) : EReal) := by
  simp [Ideal.ofBits, Ideal.ieee, gc, -EReal.coe_mul]; norm_num
theorem k_512 : Ideal.ofBits .f32 0x44000000#32 = ((512 : ℝ) : EReal) := by
  simp [Ideal.ofBits, Ideal.ieee, -EReal.coe_mul]; norm_num
theorem k_1024 : Ideal.ofBits .f32 0x44800000#32 = ((1024 : ℝ) : EReal) := by
  simp [Ideal.ofBits, Ideal.ieee, -EReal.coe_mul]; norm_num
theorem k_i512 : Ideal.ofBits .f32 0x3B000000#32 = ((1 / 512 : ℝ) : EReal) := by
  simp [Ideal.ofBits, Ideal.ieee, -EReal.coe_mul]; norm_num
theorem k_i1024 : Ideal.ofBits .f32 0x3A800000#32 = ((1 / 1024 : ℝ) : EReal) := by
  simp [Ideal.ofBits, Ideal.ieee, -EReal.coe_mul]; norm_num
theorem k_half : Ideal.ofBits .f32 0x3F000000#32 = ((1 / 2 : ℝ) : EReal) := by
  simp [Ideal.ofBits, Ideal.ieee, -EReal.coe_mul]; norm_num
theorem k_mhalf : Ideal.ofBits .f32 0xBF000000#32 = ((-(1 / 2) : ℝ) : EReal) := by
  simp [Ideal.ofBits, Ideal.ieee, -EReal.coe_mul, -EReal.coe_neg]; norm_num
theorem k_2 : Ideal.ofBits .f32 0x40000000#32 = ((2 : ℝ) : EReal) := by
  simp [Ideal.ofBits, Ideal.ieee, -EReal.coe_mul]; norm_num
theorem k_3 : Ideal.ofBits .f32 0x40400000#32 = ((3 : ℝ) : EReal) := by
  simp [Ideal.ofBits, Ideal.ieee, -EReal.coe_mul]; norm_num
theorem k_44715 : Ideal.ofBits .f32 0x472EAB00#32 = ((44715 : ℝ) : EReal) := by
  simp [Ideal.ofBits, Ideal.ieee, -EReal.coe_mul]; norm_num
theorem k_1e6 : Ideal.ofBits .f32 0x49742400#32 = ((1000000 : ℝ) : EReal) := by
  simp [Ideal.ofBits, Ideal.ieee, -EReal.coe_mul]; norm_num
theorem k_inf : Ideal.ofBits .f32 0x7F800000#32 = ⊤ := by
  simp [Ideal.ofBits, Ideal.ieee]

end Cert.Mix

end
-- ==== Proof.PayA.lean ====
/- The entries of the kernel's convolution branch, one array at a time: at a point of the grid whose blocks hold the model's
   numbers, each array the body computes holds the model's numbers too. -/
module

public import proofs.«01_k».proof.Proof.Reals
public import proofs.«01_k».proof.Proof.Gen.KernelIdeal.Skeleton

@[expose] public section

set_option maxRecDepth 16384

noncomputable section

namespace Cert.Mix.K

open Idealize.ShloMosaic Idealize.ShloMosaic.TcCoe Idealize.SL.Sem
open Cert.KernelIdeal Cert.KernelIdeal.Gen

/-- The row of the whole array that row `e` of the extended block of point `t` holds. -/
def hrow (t e : ℕ) : ℕ :=
  if e < 16 then 16 * (32 * t - 1) + e else if e < 528 then 512 * t + (e - 16) else 16 * min (32 * (t + 1)) 255 + (e - 528)

variable (p : Inp) (t : ℕ)

theorem pay19_at (v26 : FVec Ideal S512x2560 .f32) (v30 v31 : FVec Ideal S16x1536 .f32)
    (h26 : ∀ (a : Fin 512) (b : Fin 2560), v26 (ix2 a b) = ((p.h (512 * t + a) b : ℝ) : EReal))
    (h30 : ∀ (a : Fin 16) (b : Fin 1536), v30 (ix2 a b) = ((p.h (16 * (32 * t - 1) + a) (1024 + b) : ℝ) : EReal))
    (h31 : ∀ (a : Fin 16) (b : Fin 1536), v31 (ix2 a b) = ((p.h (16 * min (32 * (t + 1)) 255 + a) (1024 + b) : ℝ) : EReal))
    (e : Fin 544) (j : Fin 1536) :
    k0_pay19 v26 v30 v31 (ix2 e j) = ((p.h (hrow t e) (1024 + j) : ℝ) : EReal) := by
  pointwise [k0_pay19, h26, h30, h31]
  by_cases h1 : (e : ℕ) < 16
  · rw [dif_pos h1, hrow, if_pos h1]
  by_cases h2 : (e : ℕ) < 528
  · rw [dif_neg h1, dif_pos (by omega), hrow, if_neg h1, if_pos h2]
  · rw [dif_neg h1, dif_neg (by omega), hrow, if_neg h1, if_neg h2, show (e : ℕ) - 16 - 512 = e - 528 by omega]

/-- A row of the extended block past its first 528 counts only if there is a next block. -/
def ok (t r : ℕ) : Prop := r < 512 ∨ t < 7

theorem hrow_eq {t e : ℕ} (he : 14 ≤ e) (h16 : ¬ 512 * t + e < 16) (h : ok t (e - 16)) (h544 : e < 544) :
    hrow t e = 512 * t + e - 16 := by
  unfold hrow ok at *
  by_cases h1 : e < 16
  · rw [if_pos h1]; omega
  by_cases h2 : e < 528
  · rw [if_neg h1, if_pos h2]; omega
  · rw [if_neg h1, if_neg h2]; omega

/-- The words that mask the rows before the first and past the last, as comparisons of naturals. -/
theorem mask_lo (t e : ℕ) (ht : t < 8) (he : e < 544) :
    IntOp.andi (Scalar.cmpi .eq (BitVec.ofNat 32 t) 0#32) (IntOp.cmpi .slt (BitVec.ofNat 32 e) 16#32)
      = if t = 0 ∧ e < 16 then 1#1 else 0#1 :=
  (by decide +kernel : ∀ (t : Fin 8) (e : Fin 544),
    IntOp.andi (Scalar.cmpi .eq (BitVec.ofNat 32 t) 0#32) (IntOp.cmpi .slt (BitVec.ofNat 32 e) 16#32)
      = if t.val = 0 ∧ e.val < 16 then 1#1 else 0#1) ⟨t, ht⟩ ⟨e, he⟩

theorem mask_hi (t e : ℕ) (ht : t < 8) (he : e < 528) :
    IntOp.andi (Scalar.cmpi .eq (BitVec.ofNat 32 t) 7#32) (IntOp.cmpi .sge (BitVec.ofNat 32 e) 512#32)
      = if t = 7 ∧ 512 ≤ e then 1#1 else 0#1 :=
  (by decide +kernel : ∀ (t : Fin 8) (e : Fin 528),
    IntOp.andi (Scalar.cmpi .eq (BitVec.ofNat 32 t) 7#32) (IntOp.cmpi .sge (BitVec.ofNat 32 e) 512#32)
      = if t.val = 7 ∧ 512 ≤ e.val then 1#1 else 0#1) ⟨t, ht⟩ ⟨e, he⟩

section ext

variable (ht : t < 8) (v24 : FVec Ideal S3x512 .f32) (v26 : FVec Ideal S512x2560 .f32) (v30 v31 : FVec Ideal S16x1536 .f32)
    (h24 : ∀ (a : Fin 3) (b : Fin 512), v24 (ix2 a b) = ((p.cw a b : ℝ) : EReal))
    (h26 : ∀ (a : Fin 512) (b : Fin 2560), v26 (ix2 a b) = ((p.h (512 * t + a) b : ℝ) : EReal))
    (h30 : ∀ (a : Fin 16) (b : Fin 1536), v30 (ix2 a b) = ((p.h (16 * (32 * t - 1) + a) (1024 + b) : ℝ) : EReal))
    (h31 : ∀ (a : Fin 16) (b : Fin 1536), v31 (ix2 a b) = ((p.h (16 * min (32 * (t + 1)) 255 + a) (1024 + b) : ℝ) : EReal))

include ht h26 h30 h31

theorem pay20_at (e : Fin 544) (j : Fin 512) (h14 : 14 ≤ (e : ℕ)) (hok : ok t (e - 16)) :
    k0_pay20 (BitVec.ofNat 32 t) v26 v30 v31 (ix2 e j)
      = ((if 512 * t + e < 16 then 0 else p.z (512 * t + e - 16) j : ℝ) : EReal) := by
  have h19 := pay19_at p t v26 v30 v31 h26 h30 h31
  pointwise [k0_pay20, h19, lift]
  rw [mask_lo t e ht e.2]
  by_cases hz : 512 * t + (e : ℕ) < 16
  · rw [if_pos ⟨by omega, by omega⟩, if_pos hz]; rfl
  · rw [if_neg (by omega), if_neg hz, hrow_eq h14 hz hok e.2, ← Nat.add_assoc, ← Nat.add_assoc]; rfl

theorem pay21_at (e : Fin 544) (j : Fin 512) (h16 : 16 ≤ (e : ℕ)) (hok : ok t (e - 16)) :
    k0_pay21 (BitVec.ofNat 32 t) v26 v30 v31 (ix2 e j) = ((p.zs 2 (512 * t + e - 16) j : ℝ) : EReal) := by
  pointwise [k0_pay21]
  have hm : ((e : ℕ) + 544 - 2) % 544 = e - 2 := by omega
  have hr : ((e : ℕ) - 2) - 16 ≤ e - 16 := by omega
  refine (congrArg (fun a => k0_pay20 (BitVec.ofNat 32 t) v26 v30 v31 (ix2 a j)) (Fin.ext hm :
    (⟨((e : ℕ) + 544 - 2) % 544, Nat.mod_lt _ (by norm_num)⟩ : Fin 544) = ⟨e - 2, by omega⟩)).trans ?_
  rw [pay20_at p t ht v26 v30 v31 h26 h30 h31 ⟨e - 2, by omega⟩ j (by simp; omega)
    (by unfold ok at *; rcases hok with h | h; exacts [Or.inl (by simp; omega), Or.inr h])]
  unfold Inp.zs
  congr 1
  by_cases hz : 512 * t + (e : ℕ) - 16 < 2
  · rw [if_pos (by simp; omega), if_pos hz]
  · rw [if_neg (by simp; omega), if_neg hz]
    congr 1; simp; omega

theorem pay22_at (e : Fin 544) (j : Fin 512) (h16 : 16 ≤ (e : ℕ)) (hok : ok t (e - 16)) :
    k0_pay22 (BitVec.ofNat 32 t) v26 v30 v31 (ix2 e j) = ((p.zs 1 (512 * t + e - 16) j : ℝ) : EReal) := by
  pointwise [k0_pay22]
  have hm : ((e : ℕ) + 544 - 1) % 544 = e - 1 := by omega
  have hr : ((e : ℕ) - 1) - 16 ≤ e - 16 := by omega
  refine (congrArg (fun a => k0_pay20 (BitVec.ofNat 32 t) v26 v30 v31 (ix2 a j)) (Fin.ext hm :
    (⟨((e : ℕ) + 544 - 1) % 544, Nat.mod_lt _ (by norm_num)⟩ : Fin 544) = ⟨e - 1, by omega⟩)).trans ?_
  rw [pay20_at p t ht v26 v30 v31 h26 h30 h31 ⟨e - 1, by omega⟩ j (by simp; omega)
    (by unfold ok at *; rcases hok with h | h; exacts [Or.inl (by simp; omega), Or.inr h])]
  unfold Inp.zs
  congr 1
  by_cases hz : 512 * t + (e : ℕ) - 16 < 1
  · rw [if_pos (by simp; omega), if_pos hz]
  · rw [if_neg (by simp; omega), if_neg hz]
    congr 1; simp; omega

theorem pay20_at' (e : Fin 544) (j : Fin 512) (h16 : 16 ≤ (e : ℕ)) (hok : ok t (e - 16)) :
    k0_pay20 (BitVec.ofNat 32 t) v26 v30 v31 (ix2 e j) = ((p.z (512 * t + e - 16) j : ℝ) : EReal) := by
  rw [pay20_at p t ht v26 v30 v31 h26 h30 h31 e j (by omega) hok, if_neg (by omega)]

include h24 in
theorem pay23_at (r : Fin 528) (j : Fin 512) (hok : ok t r) :
    k0_pay23 (BitVec.ofNat 32 t) v24 v26 v30 v31 (ix2 r j) = ((p.conv (512 * t + r) j : ℝ) : EReal) := by
  have e0 := pay20_at' p t ht v26 v30 v31 h26 h30 h31 ⟨16 + r, by omega⟩ j (by simp) (by simpa using hok)
  have e1 := pay21_at p t ht v26 v30 v31 h26 h30 h31 ⟨16 + r, by omega⟩ j (by simp) (by simpa using hok)
  have e2 := pay22_at p t ht v26 v30 v31 h26 h30 h31 ⟨16 + r, by omega⟩ j (by simp) (by simpa using hok)
  pointwise [k0_pay23, e0, e1, e2, h24, lift]
  rw [show 512 * t + (16 + (r : ℕ)) - 16 = 512 * t + r by omega]
  rfl

theorem pay24_at (r : Fin 528) (j : Fin 512) (hok : ok t r) :
    k0_pay24 v26 v30 v31 (ix2 r j) = ((p.h (512 * t + r) (1024 + j) : ℝ) : EReal) := by
  have h19 := pay19_at p t v26 v30 v31 h26 h30 h31
  pointwise [k0_pay24, h19]
  rw [hrow_eq (by omega) (by omega) (by simpa using hok) (by omega)]
  rw [show 512 * t + (16 + (r : ℕ)) - 16 = 512 * t + r by omega]

include h24 in
theorem pay25_at (r : Fin 528) (j : Fin 512) (hok : ok t r) :
    k0_pay25 (BitVec.ofNat 32 t) v24 v26 v30 v31 (ix2 r j) = ((p.sc (512 * t + r) j : ℝ) : EReal) := by
  have e0 := pay24_at p t ht v26 v30 v31 h26 h30 h31 r j hok
  have e1 := pay23_at p t ht v24 v26 v30 v31 h24 h26 h30 h31 r j hok
  pointwise [k0_pay25, e0, e1, lift]
  rfl

include h24 in
theorem pay26_at (r : Fin 528) (hok : ok t r) :
    k0_pay26 (BitVec.ofNat 32 t) v24 v26 v30 v31 (ix2 r 0) = ((rstd 512 (p.sc (512 * t + r)) : ℝ) : EReal) := by
  have e1 := fun j => pay25_at p t ht v24 v26 v30 v31 h24 h26 h30 h31 r j hok
  pointwise [k0_pay26, e1, k_512, k_eps, lift, coe_sum, div_real _ _ (by norm_num : (512 : ℝ) ≠ 0)]
  exact rsqrt_msq 512 _

end ext

end Cert.Mix.K

end
-- ==== Proof.PayB.lean ====
/- The convolution group of the kernel's body, from its cotangent to the three column groups of the gradient and
   the rows it adds to the parameters' gradients, read on real numbers. -/
module

public import proofs.«01_k».proof.Proof.PayA

@[expose] public section

set_option maxRecDepth 16384

noncomputable section

namespace Cert.Mix.K

open Idealize.ShloMosaic Idealize.ShloMosaic.TcCoe Idealize.SL.Sem
open Cert.KernelIdeal Cert.KernelIdeal.Gen

variable (p : Inp) (t : ℕ)

theorem pay18_at (v27 : FVec Ideal S512x1024 .f32) (v28 : FVec Ideal S16x1024 .f32) (v35 : FVec Ideal S1024x1024 .bf16)
    (h27 : ∀ (a : Fin 512) (b : Fin 1024), v27 (ix2 a b) = ((p.dy (512 * t + a) b : ℝ) : EReal))
    (h28 : ∀ (a : Fin 16) (b : Fin 1024), v28 (ix2 a b) = ((p.dy (16 * min (32 * (t + 1)) 255 + a) b : ℝ) : EReal))
    (h35 : ∀ (a b : Fin 1024), v35 (ix2 a b) = ((p.wout a b : ℝ) : EReal))
    (r : Fin 528) (j : Fin 1024) (hok : ok t r) :
    k0_pay18 (F := Ideal) v27 v28 v35 (ix2 r j) = ((p.dyc (512 * t + r) j : ℝ) : EReal) := by
  pointwise [k0_pay18, h27, h28, h35]
  unfold Inp.dyc
  rw [← coe_sum]
  refine Finset.sum_congr rfl fun k _ => ?_
  by_cases h : (r : ℕ) < 512
  · rw [dif_pos h, lift.1]
  · have h7 : t < 7 := by unfold ok at hok; omega
    rw [dif_neg h, lift.1, show 16 * min (32 * (t + 1)) 255 + ((r : ℕ) - 512) = 512 * t + r by omega]

theorem pay27_at (v27 : FVec Ideal S512x1024 .f32) (v28 : FVec Ideal S16x1024 .f32) (v35 : FVec Ideal S1024x1024 .bf16)
    (h27 : ∀ (a : Fin 512) (b : Fin 1024), v27 (ix2 a b) = ((p.dy (512 * t + a) b : ℝ) : EReal))
    (h28 : ∀ (a : Fin 16) (b : Fin 1024), v28 (ix2 a b) = ((p.dy (16 * min (32 * (t + 1)) 255 + a) b : ℝ) : EReal))
    (h35 : ∀ (a b : Fin 1024), v35 (ix2 a b) = ((p.wout a b : ℝ) : EReal))
    (r : Fin 528) (j : Fin 512) (hok : ok t r) :
    k0_pay27 (F := Ideal) v27 v28 v35 (ix2 r j) = ((p.dyc (512 * t + r) (512 + j) : ℝ) : EReal) := by
  have e := pay18_at p t v27 v28 v35 h27 h28 h35 r ⟨512 + j, by omega⟩ hok
  pointwise [k0_pay27, e]

section bwd

variable (v24 : FVec Ideal S3x512 .f32) (v26 : FVec Ideal S512x2560 .f32)
    (v40 : IVec S544x1 32) (v53 v54 v52 : FVec Ideal S544x512 .f32)
    (v66 v67 v68 v77 v95 : FVec Ideal S528x512 .f32) (v76 : FVec Ideal S528x1 .f32) (v78 acc : FVec Ideal S1x512 .f32)
    (v119 v121 v124 v117 v132 : FVec Ideal S512x512 .f32) (v125 : FVec Ideal S1x512 .f32)
    (h24 : ∀ (a : Fin 3) (b : Fin 512), v24 (ix2 a b) = ((p.cw a b : ℝ) : EReal))
    (h26 : ∀ (a : Fin 512) (b : Fin 2560), v26 (ix2 a b) = ((p.h (512 * t + a) b : ℝ) : EReal))
    (h40 : ∀ a : Fin 544, v40 (ix2 a 0) = BitVec.ofNat 32 a)
    (h66 : ∀ (r : Fin 528) (j : Fin 512), ok t r → v66 (ix2 r j) = ((p.conv (512 * t + r) j : ℝ) : EReal))
    (h67 : ∀ (r : Fin 528) (j : Fin 512), ok t r → v67 (ix2 r j) = ((p.h (512 * t + r) (1024 + j) : ℝ) : EReal))
    (h68 : ∀ (r : Fin 528) (j : Fin 512), ok t r → v68 (ix2 r j) = ((p.sc (512 * t + r) j : ℝ) : EReal))
    (h76 : ∀ r : Fin 528, ok t r → v76 (ix2 r 0) = ((rstd 512 (p.sc (512 * t + r)) : ℝ) : EReal))
    (h77 : ∀ (r : Fin 528) (j : Fin 512), ok t r → v77 (ix2 r j) = ((p.dyc (512 * t + r) (512 + j) : ℝ) : EReal))
    (h78 : ∀ j : Fin 512, v78 (ix2 0 j) = ((p.gb j : ℝ) : EReal))

include h68 h76 h77 h78 in
theorem pay28_at (r : Fin 528) (j : Fin 512) (hok : ok t r) :
    k0_pay28 v68 v76 v77 v78 (ix2 r j) = ((p.dsc (512 * t + r) j : ℝ) : EReal) := by
  have e1 := fun k => h68 r k hok
  have e2 := h76 r hok
  have e3 := fun k => h77 r k hok
  pointwise [k0_pay28, e1, e2, e3, h78, k_i512, lift, coe_sum]
  rfl

include h68 h76 h77 in
/-- What the body adds to the gradient of the convolution group's gain. -/
theorem pay29_at (A : ℕ → ℝ) (hacc : ∀ j : Fin 512, acc (ix2 0 j) = ((A j : ℝ) : EReal)) (j : Fin 512) :
    k0_pay29 v68 v76 v77 acc (ix2 0 j) = ((A j + ∑ r : Fin 512, p.tgb (512 * t + r) j : ℝ) : EReal) := by
  have e1 := fun (r : Fin 512) k => h68 ⟨r, by omega⟩ k (Or.inl r.2)
  have e2 := fun (r : Fin 512) => h76 ⟨r, by omega⟩ (Or.inl r.2)
  have e3 := fun (r : Fin 512) k => h77 ⟨r, by omega⟩ k (Or.inl r.2)
  pointwise [k0_pay29, e1, e2, e3, hacc, lift, coe_sum]
  rfl

include h40 h67 h68 h76 h77 h78 in
theorem pay30_at (ht : t < 8) (r : Fin 528) (j : Fin 512) :
    k0_pay30 (BitVec.ofNat 32 t) v40 v67 v68 v76 v77 v78 (ix2 r j)
      = ((if 512 * t + r < 4096 then p.dconv (512 * t + r) j else 0 : ℝ) : EReal) := by
  have e0 := h40 ⟨r, by omega⟩
  by_cases hok : ok t r
  · have e1 := pay28_at p t v68 v77 v76 v78 h68 h76 h77 h78 r j hok
    have e2 := h67 r j hok
    pointwise [k0_pay30, e0, e1, e2, lift]
    rw [mask_hi t r ht r.2, if_neg (by unfold ok at hok; omega), if_pos (by unfold ok at hok; omega)]
    rfl
  · pointwise [k0_pay30, e0]
    rw [mask_hi t r ht r.2, if_pos (by unfold ok at hok; omega), if_neg (by unfold ok at hok; omega)]
    rfl

include h40 h67 h68 h76 h77 h78 in
theorem pay31_at (ht : t < 8) (r : Fin 512) (j : Fin 512) :
    k0_pay31 (BitVec.ofNat 32 t) v40 v67 v68 v76 v77 v78 (ix2 r j) = ((p.dconv (512 * t + r) j : ℝ) : EReal) := by
  have e := pay30_at p t v40 v67 v68 v77 v76 v78 h40 h67 h68 h76 h77 h78 ht ⟨r, by omega⟩ j
  rw [if_pos (by simp; omega)] at e
  pointwise [k0_pay31, e]

include h40 h67 h68 h76 h77 h78 in
theorem pay32_at (ht : t < 8) (r : Fin 512) (j : Fin 512) :
    k0_pay32 (BitVec.ofNat 32 t) v40 v67 v68 v76 v77 v78 (ix2 r j) = ((p.dcs 1 (512 * t + r) j : ℝ) : EReal) := by
  have e := pay30_at p t v40 v67 v68 v77 v76 v78 h40 h67 h68 h76 h77 h78 ht ⟨r + 1, by omega⟩ j
  pointwise [k0_pay32]
  refine (congrArg (fun a => k0_pay30 (BitVec.ofNat 32 t) v40 v67 v68 v76 v77 v78 (ix2 a j)) (Fin.ext (by simp; omega) :
    (⟨((r : ℕ) + 528 - 527) % 528, Nat.mod_lt _ (by norm_num)⟩ : Fin 528) = ⟨r + 1, by omega⟩)).trans e

include h40 h67 h68 h76 h77 h78 in
theorem pay33_at (ht : t < 8) (r : Fin 512) (j : Fin 512) :
    k0_pay33 (BitVec.ofNat 32 t) v40 v67 v68 v76 v77 v78 (ix2 r j) = ((p.dcs 2 (512 * t + r) j : ℝ) : EReal) := by
  have e := pay30_at p t v40 v67 v68 v77 v76 v78 h40 h67 h68 h76 h77 h78 ht ⟨r + 2, by omega⟩ j
  pointwise [k0_pay33]
  refine (congrArg (fun a => k0_pay30 (BitVec.ofNat 32 t) v40 v67 v68 v76 v77 v78 (ix2 a j)) (Fin.ext (by simp; omega) :
    (⟨((r : ℕ) + 528 - 526) % 528, Nat.mod_lt _ (by norm_num)⟩ : Fin 528) = ⟨r + 2, by omega⟩)).trans e

include h24 h40 h67 h68 h76 h77 h78 in
theorem pay34_at (ht : t < 8) (r : Fin 512) (j : Fin 512) :
    k0_pay34 (BitVec.ofNat 32 t) v24 v40 v67 v68 v76 v77 v78 (ix2 r j)
      = ((p.cw 2 j * p.dconv (512 * t + r) j : ℝ) : EReal) := by
  have e := pay31_at p t v40 v67 v68 v77 v76 v78 h40 h67 h68 h76 h77 h78 ht r j
  pointwise [k0_pay34, e, h24, lift]

section dz

variable (h119 : ∀ (r j : Fin 512), v119 (ix2 r j) = ((p.dcs 1 (512 * t + r) j : ℝ) : EReal))
    (h121 : ∀ (r j : Fin 512), v121 (ix2 r j) = ((p.dcs 2 (512 * t + r) j : ℝ) : EReal))
    (h124 : ∀ (r j : Fin 512), v124 (ix2 r j) = ((p.cw 2 j * p.dconv (512 * t + r) j : ℝ) : EReal))

include h24 h119 h121 h124 in
theorem pay36_at (r : Fin 512) (j : Fin 512) :
    k0_pay36 v24 v119 v121 v124 (k0_pay35 v24) (ix2 r j) = ((p.dz (512 * t + r) j : ℝ) : EReal) := by
  pointwise [k0_pay36, k0_pay35, h119, h121, h124, h24, lift]
  rfl

include h24 h26 h119 h121 h124 in
theorem pay41_at (r : Fin 512) (j : Fin 512) :
    k0_pay41 v24 v26 v119 v121 v124 (k0_pay35 v24) (ix2 r j)
      = ((p.dz (512 * t + r) j * p.h (512 * t + r) (2048 + j) : ℝ) : EReal) := by
  have e := pay36_at p t v24 v119 v121 v124 h24 h119 h121 h124
  pointwise [k0_pay41, e, h26, lift]

end dz

include h26 in
theorem pay42_at (h132 : ∀ (r j : Fin 512), v132 (ix2 r j) = ((p.dz (512 * t + r) j : ℝ) : EReal))
    (r : Fin 512) (j : Fin 512) :
    k0_pay42 v26 v132 (ix2 r j) = ((p.dz (512 * t + r) j * p.h (512 * t + r) (1536 + j) : ℝ) : EReal) := by
  pointwise [k0_pay42, h132, h26, lift]

include h66 in
theorem pay40_at (h95 : ∀ (r : Fin 528) (j : Fin 512), ok t r → v95 (ix2 r j) = ((p.dsc (512 * t + r) j : ℝ) : EReal))
    (r : Fin 512) (j : Fin 512) :
    k0_pay40 v66 v95 (ix2 r j) = ((p.dsc (512 * t + r) j * p.conv (512 * t + r) j : ℝ) : EReal) := by
  have e1 := h66 ⟨r, by omega⟩ j (Or.inl r.2)
  have e2 := h95 ⟨r, by omega⟩ j (Or.inl r.2)
  pointwise [k0_pay40, e1, e2, lift]

/-- What the body adds to the three rows of the taps' gradient. -/
theorem pay37_at (h53 : ∀ (e : Fin 544) (j : Fin 512), 16 ≤ (e : ℕ) → ok t (e - 16) →
      v53 (ix2 e j) = ((p.zs 2 (512 * t + e - 16) j : ℝ) : EReal))
    (h117 : ∀ (r j : Fin 512), v117 (ix2 r j) = ((p.dconv (512 * t + r) j : ℝ) : EReal))
    (A : ℕ → ℝ) (hacc : ∀ j : Fin 512, acc (ix2 0 j) = ((A j : ℝ) : EReal)) (j : Fin 512) :
    k0_pay37 v53 v117 acc (ix2 0 j) = ((A j + ∑ r : Fin 512, p.tcw 2 (512 * t + r) j : ℝ) : EReal) := by
  have e1 := fun (r : Fin 512) j => h53 ⟨16 + r, by omega⟩ j (by simp) (Or.inl (by simp))
  pointwise [k0_pay37, e1, h117, hacc, lift, coe_sum]
  refine congrArg (fun s : ℝ => ((A j + s : ℝ) : EReal)) (Finset.sum_congr rfl fun r _ => ?_)
  rw [show 512 * t + (16 + (r : ℕ)) - 16 = 512 * t + r by omega]
  rfl

theorem pay38_at (h54 : ∀ (e : Fin 544) (j : Fin 512), 16 ≤ (e : ℕ) → ok t (e - 16) →
      v54 (ix2 e j) = ((p.zs 1 (512 * t + e - 16) j : ℝ) : EReal))
    (h117 : ∀ (r j : Fin 512), v117 (ix2 r j) = ((p.dconv (512 * t + r) j : ℝ) : EReal))
    (A : ℕ → ℝ) (hacc : ∀ j : Fin 512, acc (ix2 0 j) = ((A j : ℝ) : EReal)) (j : Fin 512) :
    k0_pay38 v54 v117 acc (ix2 0 j) = ((A j + ∑ r : Fin 512, p.tcw 1 (512 * t + r) j : ℝ) : EReal) := by
  have e1 := fun (r : Fin 512) j => h54 ⟨16 + r, by omega⟩ j (by simp) (Or.inl (by simp))
  pointwise [k0_pay38, e1, h117, hacc, lift, coe_sum]
  refine congrArg (fun s : ℝ => ((A j + s : ℝ) : EReal)) (Finset.sum_congr rfl fun r _ => ?_)
  rw [show 512 * t + (16 + (r : ℕ)) - 16 = 512 * t + r by omega]
  rfl

theorem pay39_at (h52 : ∀ (e : Fin 544) (j : Fin 512), 16 ≤ (e : ℕ) → ok t (e - 16) →
      v52 (ix2 e j) = ((p.z (512 * t + e - 16) j : ℝ) : EReal))
    (h117 : ∀ (r j : Fin 512), v117 (ix2 r j) = ((p.dconv (512 * t + r) j : ℝ) : EReal))
    (A : ℕ → ℝ) (hacc : ∀ j : Fin 512, acc (ix2 0 j) = ((A j : ℝ) : EReal)) (j : Fin 512) :
    k0_pay39 v52 v117 acc (ix2 0 j) = ((A j + ∑ r : Fin 512, p.tcw 0 (512 * t + r) j : ℝ) : EReal) := by
  have e1 := fun (r : Fin 512) j => h52 ⟨16 + r, by omega⟩ j (by simp) (Or.inl (by simp))
  pointwise [k0_pay39, e1, h117, hacc, lift, coe_sum]
  refine congrArg (fun s : ℝ => ((A j + s : ℝ) : EReal)) (Finset.sum_congr rfl fun r _ => ?_)
  rw [show 512 * t + (16 + (r : ℕ)) - 16 = 512 * t + r by omega]
  rw [Inp.tcw, p.zs_zero]

end bwd

end Cert.Mix.K

end
-- ==== Proof.PayC.lean ====
/- The spatial gate of the kernel's body, forward: the gate, the normalised half, and the blocks of the mix. -/
module

public import proofs.«01_k».proof.Proof.Reals
public import proofs.«01_k».proof.Proof.Gen.KernelIdeal.Skeleton
public import Idealize.ShloMosaic.PureOps.IdealRules

@[expose] public section

set_option maxRecDepth 16384

noncomputable section

namespace Cert.Mix.K

open Idealize.ShloMosaic Idealize.ShloMosaic.TcCoe Idealize.SL.Sem
open Cert.KernelIdeal Cert.KernelIdeal.Gen

/-- The two named coefficients of the gate. -/
theorem k_gq : Named.named (F := Ideal) κ "gelu_a" (φ := .f32) 0x3D372713#32 = ((gq : ℝ) : EReal) :=
  IdealRules.named_const.ideal_named_scalar _ _ _ _ rfl

theorem k_3gq : Named.named (F := Ideal) κ "gelu_3a" (φ := .f32) 0x3E095D4F#32 = ((3 * gq : ℝ) : EReal) := by
  have e : (26829 / 200000 : ℝ) = 3 * gq := by unfold gq; norm_num
  rw [← e]
  exact IdealRules.named_const.ideal_named_scalar _ _ _ _ rfl

variable (p : Inp) (t : ℕ)

section fwd

variable (v26 : FVec Ideal S512x2560 .f32)
    (h26 : ∀ (a : Fin 512) (b : Fin 2560), v26 (ix2 a b) = ((p.h (512 * t + a) b : ℝ) : EReal))

include h26

theorem pay43_at (r : Fin 512) (j : Fin 1024) : k0_pay43 v26 (ix2 r j) = ((p.h (512 * t + r) j : ℝ) : EReal) := by
  pointwise [k0_pay43, h26]

theorem pay47_at (r : Fin 512) (j : Fin 1024) : k0_pay47 v26 (ix2 r j) = ((gth (p.h (512 * t + r) j) : ℝ) : EReal) := by
  have e := pay43_at p t v26 h26
  pointwise [k0_pay47, e, k_gq, k_gc, lift]
  rfl

theorem pay48_at (r : Fin 512) (j : Fin 1024) : k0_pay48 v26 (ix2 r j) = ((gelu (p.h (512 * t + r) j) : ℝ) : EReal) := by
  have e := pay43_at p t v26 h26
  have e' := pay47_at p t v26 h26
  pointwise [k0_pay48, e, e', k_half, lift]
  rfl

theorem pay49_at (r j : Fin 512) : k0_pay49 v26 (ix2 r j) = ((p.u (512 * t + r) j : ℝ) : EReal) := by
  have e := pay48_at p t v26 h26
  pointwise [k0_pay49, e]
  rfl

theorem pay50_at (r j : Fin 512) : k0_pay50 v26 (ix2 r j) = ((p.vc (512 * t + r) j : ℝ) : EReal) := by
  have e := pay48_at p t v26 h26
  pointwise [k0_pay50, e, k_512, lift, coe_sum, div_real _ _ (by norm_num : (512 : ℝ) ≠ 0)]
  rfl

theorem pay53_at (r : Fin 512) :
    k0_pay53 (k0_pay51 v26) k0_pay52 (ix2 r 0) = ((rstd 512 (p.vc (512 * t + r)) : ℝ) : EReal) := by
  have e := pay50_at p t v26 h26
  pointwise [k0_pay53, k0_pay51, k0_pay52, e, k_512, k_eps, lift, coe_sum, div_real _ _ (by norm_num : (512 : ℝ) ≠ 0)]
  exact rsqrt_msq 512 _

theorem pay54_at (r j : Fin 512) :
    k0_pay54 (k0_pay50 v26) (k0_pay51 v26) k0_pay52 (ix2 r j) = ((p.xh (512 * t + r) j : ℝ) : EReal) := by
  have e := pay50_at p t v26 h26
  have e' := pay53_at p t v26 h26
  pointwise [k0_pay54, e, e', lift]
  rfl

theorem pay55_at (v172 v174 : FVec Ideal S1x512 .f32) (h172 : ∀ j : Fin 512, v172 (ix2 0 j) = ((p.lng j : ℝ) : EReal))
    (h174 : ∀ j : Fin 512, v174 (ix2 0 j) = ((p.lnb j : ℝ) : EReal)) (r j : Fin 512) :
    k0_pay55 v172 v174 (k0_pay50 v26) (k0_pay51 v26) k0_pay52 (ix2 r j) = ((p.vln (512 * t + r) j : ℝ) : EReal) := by
  have e' := pay54_at p t v26 h26
  pointwise [k0_pay55, e', h172, h174, lift]
  rfl

end fwd

/-- The word that keeps the lower triangle, as a real. -/
theorem mask_tril (a b : Fin 128) :
    ((BitVec.setWidth 32 (IntOp.cmpi .sle (BitVec.ofNat 32 b) (BitVec.ofNat 32 a))).toInt : ℤ)
      = if (b : ℕ) ≤ a then 1 else 0 :=
  (by decide +kernel : ∀ a b : Fin 128,
    ((BitVec.setWidth 32 (IntOp.cmpi .sle (BitVec.ofNat 32 b) (BitVec.ofNat 32 a))).toInt : ℤ)
      = if (b : ℕ) ≤ a then 1 else 0) a b

theorem pay11_at (a b : Fin 128) :
    k0_pay11 (F := Ideal) (ix2 a b) = ((if (b : ℕ) ≤ a then 1 else 0 : ℝ) : EReal) := by
  pointwise [k0_pay11]
  show (((_ : ℤ) : ℝ) : EReal) = _
  rw [mask_tril]
  split <;> simp

/-- A head's lower-triangular weights, whichever head the loaded slab `w` holds. -/
theorem pay12_at (g : ℕ) (w : FVec Ideal S1x128x128 .f32)
    (hw : ∀ a b : Fin 128, w (ix3 0 a b) = ((p.wsp g a b : ℝ) : EReal)) (a b : Fin 128) :
    k0_pay12 (F := Ideal) w (ix2 a b) = ((p.wm g a b : ℝ) : EReal) := by
  pointwise [k0_pay12, pay11_at, hw, lift]
  rfl

/-- The mix at row `a` of chunk `q` and column `b` of head `g`, of point `t`. -/
theorem mixed_blk {q g a b : ℕ} (ha : a < 128) (hb : b < 128) :
    (∑ s : Fin 128, p.wm g a s * p.vln (512 * t + (128 * q + s)) (128 * g + b)) + p.bs g a
      = p.mixed (512 * t + (128 * q + a)) (128 * g + b) := by
  unfold Inp.mixed
  rw [show (128 * g + b) / 128 = g by omega, show (512 * t + (128 * q + a)) % 128 = a by omega,
    show (512 * t + (128 * q + a)) / 128 * 128 = 512 * t + 128 * q by omega]
  simp only [Nat.add_assoc]

/-- The cotangent of the normalised half there. -/
theorem dvln_blk {q g a b : ℕ} (ha : a < 128) (hb : b < 128) :
    (∑ s : Fin 128, p.wm g s a * p.dmx (512 * t + (128 * q + s)) (128 * g + b))
      = p.dvln (512 * t + (128 * q + a)) (128 * g + b) := by
  unfold Inp.dvln
  rw [show (128 * g + b) / 128 = g by omega, show (512 * t + (128 * q + a)) % 128 = a by omega,
    show (512 * t + (128 * q + a)) / 128 * 128 = 512 * t + 128 * q by omega]
  simp only [Nat.add_assoc]

end Cert.Mix.K

end
-- ==== Proof.PayD.lean ====
/- The spatial gate of the kernel's body, backward, and what follows it: the gradient of the projection's output, of
   the layer's input, and the rows these add to the parameters' gradients, read on real numbers. -/
module

public import proofs.«01_k».proof.Proof.PayB
public import proofs.«01_k».proof.Proof.PayC

@[expose] public section

set_option maxRecDepth 16384

noncomputable section

namespace Cert.Mix.K

open Idealize.ShloMosaic Idealize.ShloMosaic.TcCoe Idealize.SL.Sem
open Cert.KernelIdeal Cert.KernelIdeal.Gen

variable (p : Inp) (t : ℕ)

section gate

variable (v37 : FVec Ideal S528x1024 .f32) (v190 v357 v385 v207 v674 v395 : FVec Ideal S512x512 .f32)
    (v368 acc v688 : FVec Ideal S1x512 .f32) (v205 : FVec Ideal S512x1 .f32)
    (h37 : ∀ (r : Fin 528) (j : Fin 1024), ok t r → v37 (ix2 r j) = ((p.dyc (512 * t + r) j : ℝ) : EReal))
    (h190 : ∀ r j : Fin 512, v190 (ix2 r j) = ((p.u (512 * t + r) j : ℝ) : EReal))
    (h357 : ∀ r j : Fin 512, v357 (ix2 r j) = ((p.mixed (512 * t + r) j : ℝ) : EReal))
    (h368 : ∀ j : Fin 512, v368 (ix2 0 j) = ((p.ga j : ℝ) : EReal))
    (h385 : ∀ r j : Fin 512, v385 (ix2 r j) = ((p.dsg (512 * t + r) j : ℝ) : EReal))
    (h207 : ∀ r j : Fin 512, v207 (ix2 r j) = ((p.xh (512 * t + r) j : ℝ) : EReal))
    (h674 : ∀ r j : Fin 512, v674 (ix2 r j) = ((p.dvln (512 * t + r) j : ℝ) : EReal))
    (h395 : ∀ r j : Fin 512, v395 (ix2 r j) = ((p.du (512 * t + r) j : ℝ) : EReal))
    (h205 : ∀ r : Fin 512, v205 (ix2 r 0) = ((rstd 512 (p.vc (512 * t + r)) : ℝ) : EReal))
    (h688 : ∀ j : Fin 512, v688 (ix2 0 j) = ((p.lng j : ℝ) : EReal))

include h37 in
theorem pay77_at (r j : Fin 512) : k0_pay77 v37 (ix2 r j) = ((p.dyc (512 * t + r) j : ℝ) : EReal) := by
  have e := h37 ⟨r, by omega⟩ ⟨j, by omega⟩ (Or.inl r.2)
  pointwise [k0_pay77, e]

include h190 h357 in
theorem pay76_at (r j : Fin 512) : k0_pay76 v190 v357 (ix2 r j) = ((p.sg (512 * t + r) j : ℝ) : EReal) := by
  pointwise [k0_pay76, h190, h357, lift]
  rfl

include h190 h357 in
theorem pay78_at (r : Fin 512) :
    k0_pay78 v190 v357 (ix2 r 0) = ((rstd 512 (p.sg (512 * t + r)) : ℝ) : EReal) := by
  have e := pay76_at p t v190 v357 h190 h357
  pointwise [k0_pay78, e, k_512, k_eps, lift, coe_sum, div_real _ _ (by norm_num : (512 : ℝ) ≠ 0)]
  exact rsqrt_msq 512 _

include h37 h190 h357 h368 in
theorem pay79_at (r j : Fin 512) :
    k0_pay79 v37 v190 v357 v368 (ix2 r j) = ((p.dsg (512 * t + r) j : ℝ) : EReal) := by
  have e1 := pay76_at p t v190 v357 h190 h357
  have e2 := pay78_at p t v190 v357 h190 h357
  have e3 := pay77_at p t v37 h37
  pointwise [k0_pay79, e1, e2, e3, h368, k_i512, lift, coe_sum]
  rfl

include h37 h190 h357 in
/-- What the body adds to the gradient of the gate group's gain. -/
theorem pay80_at (A : ℕ → ℝ) (hacc : ∀ j : Fin 512, acc (ix2 0 j) = ((A j : ℝ) : EReal)) (j : Fin 512) :
    k0_pay80 v37 v190 v357 acc (ix2 0 j) = ((A j + ∑ r : Fin 512, p.tga (512 * t + r) j : ℝ) : EReal) := by
  have e1 := pay76_at p t v190 v357 h190 h357
  have e2 := pay78_at p t v190 v357 h190 h357
  have e3 := pay77_at p t v37 h37
  pointwise [k0_pay80, e1, e2, e3, hacc, lift, coe_sum]
  rfl

include h357 h385 in
theorem pay81_at (r j : Fin 512) : k0_pay81 v357 v385 (ix2 r j) = ((p.du (512 * t + r) j : ℝ) : EReal) := by
  pointwise [k0_pay81, h357, h385, lift]
  rfl

include h190 h385 in
theorem pay82_at (r j : Fin 512) : k0_pay82 v190 v385 (ix2 r j) = ((p.dmx (512 * t + r) j : ℝ) : EReal) := by
  pointwise [k0_pay82, h190, h385, lift]
  rfl

include h190 h385 in
theorem pay83_at (r j : Fin 512) :
    k0_pay83 (F := Ideal) v190 v385 (ix2 r j) = ((p.dmx (512 * t + r) j : ℝ) : EReal) := by
  have e := pay82_at p t v190 v385 h190 h385
  pointwise [k0_pay83, e]

include h207 h674 in
/-- What the body adds to the gradient of the normalisation's gain, and of its shift. -/
theorem pay124_at (A : ℕ → ℝ) (hacc : ∀ j : Fin 512, acc (ix2 0 j) = ((A j : ℝ) : EReal)) (j : Fin 512) :
    k0_pay124 v207 v674 acc (ix2 0 j) = ((A j + ∑ r : Fin 512, p.tlng (512 * t + r) j : ℝ) : EReal) := by
  pointwise [k0_pay124, h207, h674, hacc, lift, coe_sum]
  rfl

include h674 in
theorem pay125_at (A : ℕ → ℝ) (hacc : ∀ j : Fin 512, acc (ix2 0 j) = ((A j : ℝ) : EReal)) (j : Fin 512) :
    k0_pay125 (F := Ideal) v674 acc (ix2 0 j) = ((A j + ∑ r : Fin 512, p.tlnb (512 * t + r) j : ℝ) : EReal) := by
  pointwise [k0_pay125, h674, hacc, lift, coe_sum]
  rfl

include h205 h207 h395 h674 h688 in
/-- The cotangents of the gate's two halves side by side. -/
theorem pay126_at (r : Fin 512) (j : Fin 1024) :
    k0_pay126 v205 v207 v395 v674 v688 (ix2 r j)
      = ((if (j : ℕ) < 512 then p.du (512 * t + r) j else p.dv (512 * t + r) (j - 512) : ℝ) : EReal) := by
  pointwise [k0_pay126, h205, h207, h395, h674, h688, k_512, lift, coe_sum,
    div_real _ _ (by norm_num : (512 : ℝ) ≠ 0)]
  by_cases h : (j : ℕ) < 512
  · rw [dif_pos h, if_pos h]
  · rw [dif_neg h, if_neg h]
    rfl

end gate

section dgate

variable (v170 v184 v708 v712 v718 v721 v722 : FVec Ideal S512x1024 .f32)
    (h170 : ∀ (r : Fin 512) (j : Fin 1024), v170 (ix2 r j) = ((p.h (512 * t + r) j : ℝ) : EReal))
    (h184 : ∀ (r : Fin 512) (j : Fin 1024), v184 (ix2 r j) = ((gth (p.h (512 * t + r) j) : ℝ) : EReal))
    (h708 : ∀ (r : Fin 512) (j : Fin 1024), v708 (ix2 r j)
      = ((if (j : ℕ) < 512 then p.du (512 * t + r) j else p.dv (512 * t + r) (j - 512) : ℝ) : EReal))

include h170 h184 h708 in
/-- The first two column groups of the gradient. -/
theorem pay131_at (r : Fin 512) (j : Fin 1024) :
    k0_pay131 (F := Ideal) v708 (k0_pay127 v184) (k0_pay128 v170 v184) (k0_pay129 v170) k0_pay130 (ix2 r j)
      = ((p.dh (512 * t + r) j : ℝ) : EReal) := by
  pointwise [k0_pay131, k0_pay127, k0_pay128, k0_pay129, k0_pay130, h170, h184, h708, k_3gq, k_gc, k_half, lift]
  unfold Inp.dh
  by_cases h : (j : ℕ) < 512
  · rw [if_pos h, if_pos h]
    rfl
  · rw [if_neg h, if_neg h, if_pos (by omega)]
    rfl

end dgate

section input

variable (v731 : FVec Ideal S512x2560 .bf16) (v733 : FVec Ideal S2560x1024 .bf16) (v735 v736 v762 v764 : FVec Ideal S512x1024 .f32)
    (v745 acc : FVec Ideal S1x1024 .f32)
    (h731 : ∀ (r : Fin 512) (j : Fin 2560), v731 (ix2 r j) = ((p.dh (512 * t + r) j : ℝ) : EReal))
    (h733 : ∀ (a : Fin 2560) (b : Fin 1024), v733 (ix2 a b) = ((p.win b a : ℝ) : EReal))
    (h736 : ∀ (r : Fin 512) (j : Fin 1024), v736 (ix2 r j) = ((p.x (512 * t + r) j : ℝ) : EReal))
    (h745 : ∀ j : Fin 1024, v745 (ix2 0 j) = ((p.gm j : ℝ) : EReal))

include h731 h733 in
theorem pay132_at (r : Fin 512) (j : Fin 1024) :
    k0_pay132 (F := Ideal) v731 v733 (ix2 r j) = ((p.dxn (512 * t + r) j : ℝ) : EReal) := by
  pointwise [k0_pay132, h731, h733, lift, coe_sum]
  rfl

include h736 in
theorem pay133_at (r : Fin 512) :
    k0_pay133 (F := Ideal) v736 (ix2 r 0) = ((rstd 1024 (p.x (512 * t + r)) : ℝ) : EReal) := by
  pointwise [k0_pay133, h736, k_1024, k_eps, lift, coe_sum, div_real _ _ (by norm_num : (1024 : ℝ) ≠ 0)]
  exact rsqrt_msq 1024 _

include h731 h733 h736 h745 in
theorem pay134_at (r : Fin 512) (j : Fin 1024) :
    k0_pay134 (F := Ideal) v731 v733 v736 v745 (ix2 r j)
      = ((rmsBwd 1024 (p.dxn (512 * t + r)) (p.x (512 * t + r)) p.gm j : ℝ) : EReal) := by
  have e1 := pay132_at p t v731 v733 h731 h733
  have e2 := pay133_at p t v736 h736
  pointwise [k0_pay134, e1, e2, h736, h745, k_i1024, lift, coe_sum]
  rfl

include h731 h733 h736 in
/-- What the body adds to the gradient of the input's gain. -/
theorem pay1_at (A : ℕ → ℝ) (hacc : ∀ j : Fin 1024, acc (ix2 0 j) = ((A j : ℝ) : EReal)) (j : Fin 1024) :
    k0_pay1 (k0_pay132 (F := Ideal) v731 v733) (k0_pay135 v736) acc (ix2 0 j)
      = ((A j + ∑ r : Fin 512, p.tgm (512 * t + r) j : ℝ) : EReal) := by
  have e1 := pay132_at p t v731 v733 h731 h733
  have e2 := pay133_at p t v736 h736
  pointwise [k0_pay1, k0_pay135, e1, e2, h736, hacc, lift, coe_sum]
  rfl

include h731 h733 h736 h745 in
theorem pay2_at (v27 : FVec Ideal S512x1024 .f32)
    (h27 : ∀ (r : Fin 512) (j : Fin 1024), v27 (ix2 r j) = ((p.dy (512 * t + r) j : ℝ) : EReal))
    (r : Fin 512) (j : Fin 1024) :
    k0_pay2 v27 (k0_pay134 (F := Ideal) v731 v733 v736 v745) (ix2 r j) = ((p.dx (512 * t + r) j : ℝ) : EReal) := by
  have e := pay134_at p t v731 v733 v736 v745 h731 h733 h736 h745
  pointwise [k0_pay2, e, h27, lift]
  rfl

end input

end Cert.Mix.K

end
-- ==== Proof.PayE.lean ====
/- The two scratch arrays of the kernel's body as it reads them back: sixteen blocks of 128 by 128, chunk by chunk and
   head by head, which hold the mixed rows and the cotangent of the normalised half. -/
module

public import proofs.«01_k».proof.Proof.PayD
public import Idealize.ShloMosaic.Lib.Pipeline.ValueKit

@[expose] public section

set_option maxRecDepth 16384

noncomputable section

namespace Cert.Mix.K

open Idealize.ShloMosaic Idealize.ShloMosaic.TcCoe Idealize.SL.Sem
open Cert.KernelIdeal Cert.KernelIdeal.Gen

/-- The rectangle of all 512 by 512 entries is where its index says. -/
theorem idx_whole512 (r j : Fin 512) :
    (Rect.unit (s := S512x512) ![0, 0] ![512, 512] inb_S512x512_S512x512_0_0).toLoadRect.idx (ix2 r j) = ix2 r j := by
  funext a; fin_cases a <;> exact Fin.ext (by simp [LoadRect.idx, Rect.toLoadRect, Rect.unit])

variable (p : Inp) (t : ℕ) (w0 w1 w2 w3 : FVec Ideal S128x128 .bf16)
    (hw0 : ∀ a b : Fin 128, w0 (ix2 a b) = ((p.wm 0 a b : ℝ) : EReal))
    (hw1 : ∀ a b : Fin 128, w1 (ix2 a b) = ((p.wm 1 a b : ℝ) : EReal))
    (hw2 : ∀ a b : Fin 128, w2 (ix2 a b) = ((p.wm 2 a b : ℝ) : EReal))
    (hw3 : ∀ a b : Fin 128, w3 (ix2 a b) = ((p.wm 3 a b : ℝ) : EReal))

include hw0 hw1 hw2 hw3

/-- The first scratch array read back is the mix. -/
theorem mix_read (bt : FVec Ideal S128x4 .f32) (a b : FVec Ideal S1x512 .f32) (V : FVec Ideal S512x512 .f32)
    (R : FVec Ideal S512x1 .f32) (z : Vec Ideal S512x1 .f32)
    (hbt : ∀ (s : Fin 128) (g : Fin 4), bt (ix2 s g) = ((p.bs g s : ℝ) : EReal))
    (hv : ∀ r j : Fin 512, k0_pay55 a b V R z (ix2 r j) = ((p.vln (512 * t + r) j : ℝ) : EReal)) (r j : Fin 512) :
    (View.whole cc0_scratch0).readCov (Val := Elt Ideal) [
      ⟨(Rect.unit (s := S512x512) ![0, 0] ![512, 512] inb_S512x512_S512x512_0_0).within (Rect.unit (s := S512x512) ![384, 384] ![128, 128] inb_S512x512_S128x128_384_384) (fun _ => rfl),
        k0_pay75 (k0_pay74 w3 bt (k0_pay55 a b V R z))⟩,
      ⟨(Rect.unit (s := S512x512) ![0, 0] ![512, 512] inb_S512x512_S512x512_0_0).within (Rect.unit (s := S512x512) ![384, 256] ![128, 128] inb_S512x512_S128x128_384_256) (fun _ => rfl),
        k0_pay73 w2 bt (k0_pay55 a b V R z)⟩,
      ⟨(Rect.unit (s := S512x512) ![0, 0] ![512, 512] inb_S512x512_S512x512_0_0).within (Rect.unit (s := S512x512) ![384, 128] ![128, 128] inb_S512x512_S128x128_384_128) (fun _ => rfl),
        k0_pay72 w1 bt (k0_pay55 a b V R z)⟩,
      ⟨(Rect.unit (s := S512x512) ![0, 0] ![512, 512] inb_S512x512_S512x512_0_0).within (Rect.unit (s := S512x512) ![384, 0] ![128, 128] inb_S512x512_S128x128_384_0) (fun _ => rfl),
        k0_pay71 w0 bt (k0_pay55 a b V R z)⟩,
      ⟨(Rect.unit (s := S512x512) ![0, 0] ![512, 512] inb_S512x512_S512x512_0_0).within (Rect.unit (s := S512x512) ![256, 384] ![128, 128] inb_S512x512_S128x128_256_384) (fun _ => rfl),
        k0_pay70 (k0_pay69 w3 bt (k0_pay55 a b V R z))⟩,
      ⟨(Rect.unit (s := S512x512) ![0, 0] ![512, 512] inb_S512x512_S512x512_0_0).within (Rect.unit (s := S512x512) ![256, 256] ![128, 128] inb_S512x512_S128x128_256_256) (fun _ => rfl),
        k0_pay68 w2 bt (k0_pay55 a b V R z)⟩,
      ⟨(Rect.unit (s := S512x512) ![0, 0] ![512, 512] inb_S512x512_S512x512_0_0).within (Rect.unit (s := S512x512) ![256, 128] ![128, 128] inb_S512x512_S128x128_256_128) (fun _ => rfl),
        k0_pay67 w1 bt (k0_pay55 a b V R z)⟩,
      ⟨(Rect.unit (s := S512x512) ![0, 0] ![512, 512] inb_S512x512_S512x512_0_0).within (Rect.unit (s := S512x512) ![256, 0] ![128, 128] inb_S512x512_S128x128_256_0) (fun _ => rfl),
        k0_pay66 w0 bt (k0_pay55 a b V R z)⟩,
      ⟨(Rect.unit (s := S512x512) ![0, 0] ![512, 512] inb_S512x512_S512x512_0_0).within (Rect.unit (s := S512x512) ![128, 384] ![128, 128] inb_S512x512_S128x128_128_384) (fun _ => rfl),
        k0_pay65 (k0_pay64 w3 bt (k0_pay55 a b V R z))⟩,
      ⟨(Rect.unit (s := S512x512) ![0, 0] ![512, 512] inb_S512x512_S512x512_0_0).within (Rect.unit (s := S512x512) ![128, 256] ![128, 128] inb_S512x512_S128x128_128_256) (fun _ => rfl),
        k0_pay63 w2 bt (k0_pay55 a b V R z)⟩,
      ⟨(Rect.unit (s := S512x512) ![0, 0] ![512, 512] inb_S512x512_S512x512_0_0).within (Rect.unit (s := S512x512) ![128, 128] ![128, 128] inb_S512x512_S128x128_128_128) (fun _ => rfl),
        k0_pay62 w1 bt (k0_pay55 a b V R z)⟩,
      ⟨(Rect.unit (s := S512x512) ![0, 0] ![512, 512] inb_S512x512_S512x512_0_0).within (Rect.unit (s := S512x512) ![128, 0] ![128, 128] inb_S512x512_S128x128_128_0) (fun _ => rfl),
        k0_pay61 w0 bt (k0_pay55 a b V R z)⟩,
      ⟨(Rect.unit (s := S512x512) ![0, 0] ![512, 512] inb_S512x512_S512x512_0_0).within (Rect.unit (s := S512x512) ![0, 384] ![128, 128] inb_S512x512_S128x128_0_384) (fun _ => rfl),
        k0_pay60 (k0_pay59 w3 a b bt V R z)⟩,
      ⟨(Rect.unit (s := S512x512) ![0, 0] ![512, 512] inb_S512x512_S512x512_0_0).within (Rect.unit (s := S512x512) ![0, 256] ![128, 128] inb_S512x512_S128x128_0_256) (fun _ => rfl),
        k0_pay58 w2 a b bt V R z⟩,
      ⟨(Rect.unit (s := S512x512) ![0, 0] ![512, 512] inb_S512x512_S512x512_0_0).within (Rect.unit (s := S512x512) ![0, 128] ![128, 128] inb_S512x512_S128x128_0_128) (fun _ => rfl),
        k0_pay57 w1 a b bt V R z⟩,
      ⟨(Rect.unit (s := S512x512) ![0, 0] ![512, 512] inb_S512x512_S512x512_0_0).within (Rect.unit (s := S512x512) ![0, 0] ![128, 128] inb_S512x512_S128x128_0_0) (fun _ => rfl),
        k0_pay56 w0 a b bt V R z⟩]
      (Rect.unit (s := S512x512) ![0, 0] ![512, 512] inb_S512x512_S512x512_0_0).toLoadRect (ix2 r j)
      = ((p.mixed (512 * t + r) j : ℝ) : EReal) := by
  rw [View.readCov_eq_canon']
  show View.canon _ ((Rect.unit (s := S512x512) ![0, 0] ![512, 512] inb_S512x512_S512x512_0_0).toLoadRect.idx (ix2 r j)) = _
  rw [idx_whole512]
  canon_tiles x h
  all_goals first | (intro a; fin_cases a <;> decide) | skip
  all_goals
    idx_vars x
    pointwise [k0_pay75, k0_pay74, k0_pay73, k0_pay72, k0_pay71, k0_pay70, k0_pay69, k0_pay68, k0_pay67, k0_pay66, k0_pay65, k0_pay64, k0_pay63, k0_pay62, k0_pay61, k0_pay60, k0_pay59, k0_pay58, k0_pay57, k0_pay56, hw0, hw1, hw2, hw3, hbt, hv, lift, coe_sum, zero_add]
    refine congrArg (fun s : ℝ => (s : EReal)) ?_
    unfold Inp.mixed
    exact congrArg₂ (· + ·) (Finset.sum_congr rfl fun s _ => congrArg₂ (· * ·) (by congr 1 <;> omega) (by congr 1 <;> omega))
      (by congr 1 <;> omega)

/-- The second read back is the cotangent of the normalised half. -/
theorem dvln_read (U D : FVec Ideal S512x512 .f32)
    (hU : ∀ r j : Fin 512, U (ix2 r j) = ((p.u (512 * t + r) j : ℝ) : EReal))
    (hD : ∀ r j : Fin 512, D (ix2 r j) = ((p.dsg (512 * t + r) j : ℝ) : EReal)) (r j : Fin 512) :
    (View.whole cc0_scratch1).readCov (Val := Elt Ideal) [
      ⟨(Rect.unit (s := S512x512) ![0, 0] ![512, 512] inb_S512x512_S512x512_0_0).within (Rect.unit (s := S512x512) ![384, 384] ![128, 128] inb_S512x512_S128x128_384_384) (fun _ => rfl),
        k0_pay122 w3 (k0_pay83 U D)⟩,
      ⟨(Rect.unit (s := S512x512) ![0, 0] ![512, 512] inb_S512x512_S512x512_0_0).within (Rect.unit (s := S512x512) ![384, 256] ![128, 128] inb_S512x512_S128x128_384_256) (fun _ => rfl),
        k0_pay120 w2 (k0_pay83 U D)⟩,
      ⟨(Rect.unit (s := S512x512) ![0, 0] ![512, 512] inb_S512x512_S512x512_0_0).within (Rect.unit (s := S512x512) ![384, 128] ![128, 128] inb_S512x512_S128x128_384_128) (fun _ => rfl),
        k0_pay118 w1 (k0_pay83 U D)⟩,
      ⟨(Rect.unit (s := S512x512) ![0, 0] ![512, 512] inb_S512x512_S512x512_0_0).within (Rect.unit (s := S512x512) ![384, 0] ![128, 128] inb_S512x512_S128x128_384_0) (fun _ => rfl),
        k0_pay116 w0 (k0_pay83 U D)⟩,
      ⟨(Rect.unit (s := S512x512) ![0, 0] ![512, 512] inb_S512x512_S512x512_0_0).within (Rect.unit (s := S512x512) ![256, 384] ![128, 128] inb_S512x512_S128x128_256_384) (fun _ => rfl),
        k0_pay113 w3 (k0_pay83 U D)⟩,
      ⟨(Rect.unit (s := S512x512) ![0, 0] ![512, 512] inb_S512x512_S512x512_0_0).within (Rect.unit (s := S512x512) ![256, 256] ![128, 128] inb_S512x512_S128x128_256_256) (fun _ => rfl),
        k0_pay110 w2 (k0_pay83 U D)⟩,
      ⟨(Rect.unit (s := S512x512) ![0, 0] ![512, 512] inb_S512x512_S512x512_0_0).within (Rect.unit (s := S512x512) ![256, 128] ![128, 128] inb_S512x512_S128x128_256_128) (fun _ => rfl),
        k0_pay108 w1 (k0_pay83 U D)⟩,
      ⟨(Rect.unit (s := S512x512) ![0, 0] ![512, 512] inb_S512x512_S512x512_0_0).within (Rect.unit (s := S512x512) ![256, 0] ![128, 128] inb_S512x512_S128x128_256_0) (fun _ => rfl),
        k0_pay105 w0 (k0_pay83 U D)⟩,
      ⟨(Rect.unit (s := S512x512) ![0, 0] ![512, 512] inb_S512x512_S512x512_0_0).within (Rect.unit (s := S512x512) ![128, 384] ![128, 128] inb_S512x512_S128x128_128_384) (fun _ => rfl),
        k0_pay102 (k0_pay101 w3 (k0_pay83 U D))⟩,
      ⟨(Rect.unit (s := S512x512) ![0, 0] ![512, 512] inb_S512x512_S512x512_0_0).within (Rect.unit (s := S512x512) ![128, 256] ![128, 128] inb_S512x512_S128x128_128_256) (fun _ => rfl),
        k0_pay99 w2 (k0_pay83 U D)⟩,
      ⟨(Rect.unit (s := S512x512) ![0, 0] ![512, 512] inb_S512x512_S512x512_0_0).within (Rect.unit (s := S512x512) ![128, 128] ![128, 128] inb_S512x512_S128x128_128_128) (fun _ => rfl),
        k0_pay97 (k0_pay96 w1 (k0_pay83 U D))⟩,
      ⟨(Rect.unit (s := S512x512) ![0, 0] ![512, 512] inb_S512x512_S512x512_0_0).within (Rect.unit (s := S512x512) ![128, 0] ![128, 128] inb_S512x512_S128x128_128_0) (fun _ => rfl),
        k0_pay94 w0 (k0_pay83 U D)⟩,
      ⟨(Rect.unit (s := S512x512) ![0, 0] ![512, 512] inb_S512x512_S512x512_0_0).within (Rect.unit (s := S512x512) ![0, 384] ![128, 128] inb_S512x512_S128x128_0_384) (fun _ => rfl),
        k0_pay91 w3 (k0_pay83 U D)⟩,
      ⟨(Rect.unit (s := S512x512) ![0, 0] ![512, 512] inb_S512x512_S512x512_0_0).within (Rect.unit (s := S512x512) ![0, 256] ![128, 128] inb_S512x512_S128x128_0_256) (fun _ => rfl),
        k0_pay89 w2 (k0_pay83 U D)⟩,
      ⟨(Rect.unit (s := S512x512) ![0, 0] ![512, 512] inb_S512x512_S512x512_0_0).within (Rect.unit (s := S512x512) ![0, 128] ![128, 128] inb_S512x512_S128x128_0_128) (fun _ => rfl),
        k0_pay87 w1 U D⟩,
      ⟨(Rect.unit (s := S512x512) ![0, 0] ![512, 512] inb_S512x512_S512x512_0_0).within (Rect.unit (s := S512x512) ![0, 0] ![128, 128] inb_S512x512_S128x128_0_0) (fun _ => rfl),
        k0_pay85 w0 U D⟩]
      (Rect.unit (s := S512x512) ![0, 0] ![512, 512] inb_S512x512_S512x512_0_0).toLoadRect (ix2 r j)
      = ((p.dvln (512 * t + r) j : ℝ) : EReal) := by
  have hd := pay83_at p t U D hU hD
  rw [View.readCov_eq_canon']
  show View.canon _ ((Rect.unit (s := S512x512) ![0, 0] ![512, 512] inb_S512x512_S512x512_0_0).toLoadRect.idx (ix2 r j)) = _
  rw [idx_whole512]
  canon_tiles x h
  all_goals first | (intro a; fin_cases a <;> decide) | skip
  all_goals
    idx_vars x
    pointwise [k0_pay122, k0_pay120, k0_pay118, k0_pay116, k0_pay113, k0_pay110, k0_pay108, k0_pay105, k0_pay102, k0_pay101, k0_pay99, k0_pay97, k0_pay96, k0_pay94, k0_pay91, k0_pay89, k0_pay87, k0_pay85, hw0, hw1, hw2, hw3, hd, lift, coe_sum, zero_add]
    refine congrArg (fun s : ℝ => (s : EReal)) ?_
    unfold Inp.dvln
    exact Finset.sum_congr rfl fun s _ => congrArg₂ (· * ·) (by congr 1 <;> omega) (by congr 1 <;> omega)

end Cert.Mix.K
-- ==== Proof.Blocks.lean ====
/- The arrays the kernel is called on and the blocks of them a grid point reads, at the model: the projected input the
   host computes first, the rows and transposes it prepares, the tiles of 512 rows and the 16 rows before and after. -/
module

public import proofs.«01_k».proof.Proof.Gen.KernelIdeal.Frame.Runs
public import proofs.«01_k».proof.Proof.Model
public import proofs.«01_k».proof.Proof.Reals
public import Idealize.ShloMosaic.Lib.Claim
public import Idealize.ShloMosaic.Lib.Pipeline.ValueKit

@[expose] public section

set_option maxRecDepth 16384

noncomputable section

namespace Cert.Mix.K

open Idealize.ShloMosaic Idealize.ShloMosaic.TcCoe Idealize.SL.Sem
open Cert.KernelIdeal Cert.KernelIdeal.Gen

/-- A memory whose twelve argument arrays on core `c` hold the model's numbers. -/
structure Holds (p : Inp) (m : (ℓ : Loc nD τ sig) → Buf (Elt Ideal) ℓ) (c : Dev nD) : Prop where
  a0 : ∀ (r : Fin 4096) (j : Fin 1024), (m ((c : Thread nD τ).loc main_arg0) : FVec Ideal S4096x1024 .f32) (ix2 r j) = ((p.dy r j : ℝ) : EReal)
  a1 : ∀ (r : Fin 4096) (j : Fin 1024), (m ((c : Thread nD τ).loc main_arg1) : FVec Ideal S4096x1024 .f32) (ix2 r j) = ((p.x r j : ℝ) : EReal)
  a2 : ∀ j : Fin 1024, (m ((c : Thread nD τ).loc main_arg2) : FVec Ideal S1024 .f32) (ix1 j) = ((p.gm j : ℝ) : EReal)
  a3 : ∀ (k : Fin 1024) (j : Fin 2560), (m ((c : Thread nD τ).loc main_arg3) : FVec Ideal S1024x2560 .f32) (ix2 k j) = ((p.win k j : ℝ) : EReal)
  a4 : ∀ j : Fin 512, (m ((c : Thread nD τ).loc main_arg4) : FVec Ideal S512 .f32) (ix1 j) = ((p.lng j : ℝ) : EReal)
  a5 : ∀ j : Fin 512, (m ((c : Thread nD τ).loc main_arg5) : FVec Ideal S512 .f32) (ix1 j) = ((p.lnb j : ℝ) : EReal)
  a6 : ∀ (g : Fin 4) (a b : Fin 128), (m ((c : Thread nD τ).loc main_arg6) : FVec Ideal S4x128x128 .f32) (ix3 g a b) = ((p.wsp g a b : ℝ) : EReal)
  a7 : ∀ (g : Fin 4) (a : Fin 128), (m ((c : Thread nD τ).loc main_arg7) : FVec Ideal S4x128 .f32) (ix2 g a) = ((p.bs g a : ℝ) : EReal)
  a8 : ∀ (d : Fin 3) (j : Fin 512), (m ((c : Thread nD τ).loc main_arg8) : FVec Ideal S3x512 .f32) (ix2 d j) = ((p.cw d j : ℝ) : EReal)
  a9 : ∀ j : Fin 512, (m ((c : Thread nD τ).loc main_arg9) : FVec Ideal S512 .f32) (ix1 j) = ((p.ga j : ℝ) : EReal)
  a10 : ∀ j : Fin 512, (m ((c : Thread nD τ).loc main_arg10) : FVec Ideal S512 .f32) (ix1 j) = ((p.gb j : ℝ) : EReal)
  a11 : ∀ a b : Fin 1024, (m ((c : Thread nD τ).loc main_arg11) : FVec Ideal S1024x1024 .f32) (ix2 a b) = ((p.wout a b : ℝ) : EReal)

/-! ## What the host prepares -/

section Host

variable (m : (ℓ : Loc nD τ sig) → Buf (Elt Ideal) ℓ) (c : Dev nD)

/-- The projection of the normalised input. -/
def proj (x : FVec Ideal S4096x1024 .f32) (g : FVec Ideal S1024 .f32) (w : FVec Ideal S1024x2560 .f32) :
    FVec Ideal S4096x2560 .f32 :=
  Host.dotGeneral dot_S4096x1024_S1024x2560_S4096x2560_1_0_0_1_n_n none
    (mulf (mulf x (broadcastInDim S4096x1024 ![0, 1] bcast_S4096x1_S4096x1024_0_1
        (Host.rsqrt (addf (Host.divf
          (broadcastInDim S4096x1 ![0] bcast_S4096_S4096x1_0
            (Host.reduceAdd (mulf x x) (constant S_ .f32 0x00000000#32) reducesTo_S4096x1024_S4096_d1 h_S_))
          (broadcastInDim S4096x1 ![] bcast_S_S4096x1 (constant S_ .f32 0x44800000#32)))
          (broadcastInDim S4096x1 ![] bcast_S_S4096x1 (constant S_ .f32 0x358637BD#32))))))
      (broadcastInDim S4096x1024 ![0, 1] bcast_S1x1024_S4096x1024_0_1
        (broadcastInDim S1x1024 ![1] bcast_S1024_S1x1024_1 g))) w

theorem V_v13 : V m c main_v13 = proj (m ((c : Thread nD τ).loc main_arg1)) (m ((c : Thread nD τ).loc main_arg2)) (m ((c : Thread nD τ).loc main_arg3)) := by
  unfold V; after_results; try rfl

theorem V_v14 : V m c main_v14 = shapeCast S1x1024 (m ((c : Thread nD τ).loc main_arg2) : FVec Ideal S1024 .f32) shapeCasts_S1024_S1x1024 := by
  unfold V; after_results; try rfl

theorem V_v17 : V m c main_v17 = transpose S128x4 [1, 0] (m ((c : Thread nD τ).loc main_arg7) : FVec Ideal S4x128 .f32) transposes_S4x128_S128x4_1_0 := by
  unfold V; after_results; try rfl

theorem V_v22 : (V m c main_v22 : FVec Ideal S2560x1024 .bf16) = truncf (F := Ideal) .bf16 (transpose S2560x1024 [1, 0] (m ((c : Thread nD τ).loc main_arg3) : FVec Ideal S1024x2560 .f32) transposes_S1024x2560_S2560x1024_1_0) bitsLt_bf16_f32 := by
  unfold V; after_results; try rfl

theorem V_v15 : V m c main_v15 = shapeCast S1x512 (m ((c : Thread nD τ).loc main_arg4) : FVec Ideal S512 .f32) shapeCasts_S512_S1x512 := by
  unfold V; after_results; try rfl

theorem V_v16 : V m c main_v16 = shapeCast S1x512 (m ((c : Thread nD τ).loc main_arg5) : FVec Ideal S512 .f32) shapeCasts_S512_S1x512 := by
  unfold V; after_results; try rfl

theorem V_v18 : V m c main_v18 = shapeCast S1x512 (m ((c : Thread nD τ).loc main_arg9) : FVec Ideal S512 .f32) shapeCasts_S512_S1x512 := by
  unfold V; after_results; try rfl

theorem V_v19 : V m c main_v19 = shapeCast S1x512 (m ((c : Thread nD τ).loc main_arg10) : FVec Ideal S512 .f32) shapeCasts_S512_S1x512 := by
  unfold V; after_results; try rfl

theorem V_v20 : (V m c main_v20 : FVec Ideal S1024x1024 .bf16) = truncf (F := Ideal) .bf16 (m ((c : Thread nD τ).loc main_arg11) : FVec Ideal S1024x1024 .f32) bitsLt_bf16_f32 := by
  unfold V; after_results; try rfl

variable {m c} {p : Inp} (H : Holds p m c)
include H

/-- The host's projection is the model's. -/
theorem v13_at (r : Fin 4096) (j : Fin 2560) :
    (V m c main_v13 : FVec Ideal S4096x2560 .f32) (ix2 r j) = ((p.h r j : ℝ) : EReal) := by
  rw [V_v13]
  pointwise [proj, H.a1, H.a2, H.a3, k_eps, k_1024, lift, coe_sum, zero_add]
  have e := rsqrt_msq 1024 (p.x r)
  simp only [msq, Nat.cast_ofNat] at e
  simp only [div_real _ _ (show (1024 : ℝ) ≠ 0 by norm_num), lift, zero_add, e, coe_sum]
  rfl

theorem v14_at (j : Fin 1024) : (V m c main_v14 : FVec Ideal S1x1024 .f32) (ix2 0 j) = ((p.gm j : ℝ) : EReal) := by
  rw [V_v14]; pointwise [H.a2]
theorem v15_at (j : Fin 512) : (V m c main_v15 : FVec Ideal S1x512 .f32) (ix2 0 j) = ((p.lng j : ℝ) : EReal) := by
  rw [V_v15]; pointwise [H.a4]
theorem v16_at (j : Fin 512) : (V m c main_v16 : FVec Ideal S1x512 .f32) (ix2 0 j) = ((p.lnb j : ℝ) : EReal) := by
  rw [V_v16]; pointwise [H.a5]
theorem v17_at (a : Fin 128) (g : Fin 4) : (V m c main_v17 : FVec Ideal S128x4 .f32) (ix2 a g) = ((p.bs g a : ℝ) : EReal) := by
  rw [V_v17]; pointwise [H.a7]
theorem v18_at (j : Fin 512) : (V m c main_v18 : FVec Ideal S1x512 .f32) (ix2 0 j) = ((p.ga j : ℝ) : EReal) := by
  rw [V_v18]; pointwise [H.a9]
theorem v19_at (j : Fin 512) : (V m c main_v19 : FVec Ideal S1x512 .f32) (ix2 0 j) = ((p.gb j : ℝ) : EReal) := by
  rw [V_v19]; pointwise [H.a10]
theorem v20_at (a b : Fin 1024) : (V m c main_v20 : FVec Ideal S1024x1024 .bf16) (ix2 a b) = ((p.wout a b : ℝ) : EReal) := by
  rw [V_v20]; pointwise [H.a11]
theorem v22_at (a : Fin 2560) (b : Fin 1024) : (V m c main_v22 : FVec Ideal S2560x1024 .bf16) (ix2 a b) = ((p.win b a : ℝ) : EReal) := by
  rw [V_v22]; pointwise [H.a3]

end Host

/-! ## The blocks -/

/-- The block coordinates of the moving windows at each point. -/
theorem idx_win : ∀ t : Fin cfg0.N, win0_0.index t = ![t.val, 0] ∧ win0_1.index t = ![min (32 * (t.val + 1)) 255, 0]
    ∧ win0_2.index t = ![t.val, 0] ∧ win0_4.index t = ![t.val, 0] ∧ win0_5.index t = ![32 * t.val - 1, 0]
    ∧ win0_6.index t = ![min (32 * (t.val + 1)) 255, 0] := (by decide +kernel : ∀ t : Fin grid0.N, _)

/-- The other windows are one block, the whole array. -/
theorem idx_whole : ∀ t : Fin cfg0.N, win0_3.index t = ![0, 0] ∧ win0_7.index t = ![0, 0] ∧ win0_8.index t = ![0, 0]
    ∧ win0_9.index t = ![0, 0, 0] ∧ win0_10.index t = ![0, 0] ∧ win0_11.index t = ![0, 0] ∧ win0_12.index t = ![0, 0]
    ∧ win0_13.index t = ![0, 0] ∧ win0_14.index t = ![0, 0] ∧ win0_15.index t = ![0, 0] :=
  (by decide +kernel : ∀ t : Fin grid0.N, _)

section Reads

variable {m : (ℓ : Loc nD τ sig) → Buf (Elt Ideal) ℓ} {c : Dev nD} {p : Inp} (H : Holds p m c) (t : Fin cfg0.N)
include H

theorem b0_at (a : Fin 512) (b : Fin 1024) :
    (iblk m c 0 t : FVec Ideal S512x1024 .f32) (ix2 a b) = ((p.dy (512 * t + a) b : ℝ) : EReal) := by
  have ht : t.val < 8 := lt_of_lt_of_eq t.isLt N_0
  refine Eq.trans (b := (V m c main_arg0 : FVec Ideal S4096x1024 .f32) (ix2 ⟨512 * t + a, by omega⟩ b)) ?_ (by rw [V_main_arg0]; exact H.a0 _ _)
  blk_point [iblk, idx_win t, idx_whole t]

theorem b1_at (a : Fin 16) (b : Fin 1024) :
    (iblk m c 1 t : FVec Ideal S16x1024 .f32) (ix2 a b) = ((p.dy (16 * min (32 * (t.val + 1)) 255 + a) b : ℝ) : EReal) := by
  have ht : t.val < 8 := lt_of_lt_of_eq t.isLt N_0
  refine Eq.trans (b := (V m c main_arg0 : FVec Ideal S4096x1024 .f32) (ix2 ⟨16 * min (32 * (t.val + 1)) 255 + a, by omega⟩ b)) ?_ (by rw [V_main_arg0]; exact H.a0 _ _)
  blk_point [iblk, idx_win t, idx_whole t]

theorem b2_at (a : Fin 512) (b : Fin 1024) :
    (iblk m c 2 t : FVec Ideal S512x1024 .f32) (ix2 a b) = ((p.x (512 * t + a) b : ℝ) : EReal) := by
  have ht : t.val < 8 := lt_of_lt_of_eq t.isLt N_0
  refine Eq.trans (b := (V m c main_arg1 : FVec Ideal S4096x1024 .f32) (ix2 ⟨512 * t + a, by omega⟩ b)) ?_ (by rw [V_main_arg1]; exact H.a1 _ _)
  blk_point [iblk, idx_win t, idx_whole t]

theorem b3_at (j : Fin 1024) :
    (iblk m c 3 t : FVec Ideal S1x1024 .f32) (ix2 0 j) = ((p.gm j : ℝ) : EReal) := by
  refine Eq.trans (b := (V m c main_v14 : FVec Ideal S1x1024 .f32) (ix2 0 j)) ?_ (v14_at H j)
  blk_point [iblk, idx_win t, idx_whole t]

theorem b4_at (a : Fin 512) (b : Fin 2560) :
    (iblk m c 4 t : FVec Ideal S512x2560 .f32) (ix2 a b) = ((p.h (512 * t + a) b : ℝ) : EReal) := by
  have ht : t.val < 8 := lt_of_lt_of_eq t.isLt N_0
  refine Eq.trans (b := (V m c main_v13 : FVec Ideal S4096x2560 .f32) (ix2 ⟨512 * t + a, by omega⟩ b)) ?_ (v13_at H _ _)
  blk_point [iblk, idx_win t, idx_whole t]

theorem b5_at (a : Fin 16) (b : Fin 2560) :
    (iblk m c 5 t : FVec Ideal S16x2560 .f32) (ix2 a b) = ((p.h (16 * (32 * t.val - 1) + a) b : ℝ) : EReal) := by
  have ht : t.val < 8 := lt_of_lt_of_eq t.isLt N_0
  refine Eq.trans (b := (V m c main_v13 : FVec Ideal S4096x2560 .f32) (ix2 ⟨16 * (32 * t.val - 1) + a, by omega⟩ b)) ?_ (v13_at H _ _)
  blk_point [iblk, idx_win t, idx_whole t]

theorem b6_at (a : Fin 16) (b : Fin 2560) :
    (iblk m c 6 t : FVec Ideal S16x2560 .f32) (ix2 a b) = ((p.h (16 * min (32 * (t.val + 1)) 255 + a) b : ℝ) : EReal) := by
  have ht : t.val < 8 := lt_of_lt_of_eq t.isLt N_0
  refine Eq.trans (b := (V m c main_v13 : FVec Ideal S4096x2560 .f32) (ix2 ⟨16 * min (32 * (t.val + 1)) 255 + a, by omega⟩ b)) ?_ (v13_at H _ _)
  blk_point [iblk, idx_win t, idx_whole t]

theorem b7_at (j : Fin 512) :
    (iblk m c 7 t : FVec Ideal S1x512 .f32) (ix2 0 j) = ((p.lng j : ℝ) : EReal) := by
  refine Eq.trans (b := (V m c main_v15 : FVec Ideal S1x512 .f32) (ix2 0 j)) ?_ (v15_at H j)
  blk_point [iblk, idx_win t, idx_whole t]

theorem b8_at (j : Fin 512) :
    (iblk m c 8 t : FVec Ideal S1x512 .f32) (ix2 0 j) = ((p.lnb j : ℝ) : EReal) := by
  refine Eq.trans (b := (V m c main_v16 : FVec Ideal S1x512 .f32) (ix2 0 j)) ?_ (v16_at H j)
  blk_point [iblk, idx_win t, idx_whole t]

theorem b9_at (g : Fin 4) (a b : Fin 128) :
    (iblk m c 9 t : FVec Ideal S4x128x128 .f32) (ix3 g a b) = ((p.wsp g a b : ℝ) : EReal) := by
  refine Eq.trans (b := (V m c main_arg6 : FVec Ideal S4x128x128 .f32) (ix3 g a b)) ?_ (by rw [V_main_arg6]; exact H.a6 _ _ _)
  blk_point [iblk, idx_win t, idx_whole t]

theorem b10_at (a : Fin 128) (g : Fin 4) :
    (iblk m c 10 t : FVec Ideal S128x4 .f32) (ix2 a g) = ((p.bs g a : ℝ) : EReal) := by
  refine Eq.trans (b := (V m c main_v17 : FVec Ideal S128x4 .f32) (ix2 a g)) ?_ (v17_at H _ _)
  blk_point [iblk, idx_win t, idx_whole t]

theorem b11_at (d : Fin 3) (j : Fin 512) :
    (iblk m c 11 t : FVec Ideal S3x512 .f32) (ix2 d j) = ((p.cw d j : ℝ) : EReal) := by
  refine Eq.trans (b := (V m c main_arg8 : FVec Ideal S3x512 .f32) (ix2 d j)) ?_ (by rw [V_main_arg8]; exact H.a8 _ _)
  blk_point [iblk, idx_win t, idx_whole t]

theorem b12_at (j : Fin 512) :
    (iblk m c 12 t : FVec Ideal S1x512 .f32) (ix2 0 j) = ((p.ga j : ℝ) : EReal) := by
  refine Eq.trans (b := (V m c main_v18 : FVec Ideal S1x512 .f32) (ix2 0 j)) ?_ (v18_at H j)
  blk_point [iblk, idx_win t, idx_whole t]

theorem b13_at (j : Fin 512) :
    (iblk m c 13 t : FVec Ideal S1x512 .f32) (ix2 0 j) = ((p.gb j : ℝ) : EReal) := by
  refine Eq.trans (b := (V m c main_v19 : FVec Ideal S1x512 .f32) (ix2 0 j)) ?_ (v19_at H j)
  blk_point [iblk, idx_win t, idx_whole t]

theorem b14_at (a b : Fin 1024) :
    (iblk m c 14 t : FVec Ideal S1024x1024 .bf16) (ix2 a b) = ((p.wout a b : ℝ) : EReal) := by
  refine Eq.trans (b := (V m c main_v20 : FVec Ideal S1024x1024 .bf16) (ix2 a b)) ?_ (v20_at H _ _)
  blk_point [iblk, idx_win t, idx_whole t]

theorem b15_at (a : Fin 2560) (b : Fin 1024) :
    (iblk m c 15 t : FVec Ideal S2560x1024 .bf16) (ix2 a b) = ((p.win b a : ℝ) : EReal) := by
  refine Eq.trans (b := (V m c main_v22 : FVec Ideal S2560x1024 .bf16) (ix2 a b)) ?_ (v22_at H _ _)
  blk_point [iblk, idx_win t, idx_whole t]

end Reads

end Cert.Mix.K
-- ==== Proof.Point.lean ====
/- What the kernel's body computes at a grid point over the point's blocks, value by value at the model: the steps of
   its computation up to the gradients' blocks. -/
module

public import proofs.«01_k».proof.Proof.PayE
public import proofs.«01_k».proof.Proof.Blocks

@[expose] public section

set_option maxRecDepth 16384

noncomputable section

namespace Cert.Mix.K

open Idealize.ShloMosaic Idealize.ShloMosaic.TcCoe Idealize.SL.Sem
open Cert.KernelIdeal Cert.KernelIdeal.Gen

/-- The grid's one coordinate is the point. -/
theorem coord_val : ∀ t : Fin cfg0.N, (grid0.coords t 0).val = t.val := (by decide +kernel : ∀ t : Fin grid0.N, (grid0.coords t 0).val = t.val)

section Names

variable (m : (ℓ : Loc nD τ sig) → Buf (Elt Ideal) ℓ) (c : Dev nD) (t : Fin cfg0.N)

/-! The body's values, named after what they hold. -/

abbrev eT : BitVec 32 := BitVec.ofNat 32 ↑(grid0.coords t 0)
abbrev eI : IVec S544x1 32 := iota Kind.tc S544x1 32 [0] iota_S544x1_d0_w32
abbrev eH : FVec Ideal S512x2560 .f32 := k0_pay16 (iblk m c 4 t)
abbrev eL : FVec Ideal S16x1536 .f32 :=
  k0_pay17 (View.ld (iblk m c 5 t) (Rect.unit (s := S16x2560) ![0, 1024] ![16, 1536] inb_S16x2560_S16x1536_0_1024))
abbrev eR : FVec Ideal S16x1536 .f32 :=
  View.ld (iblk m c 6 t) (Rect.unit (s := S16x2560) ![0, 1024] ![16, 1536] inb_S16x2560_S16x1536_0_1024)
abbrev eDyc : FVec Ideal S528x1024 .f32 := k0_pay18 (iblk m c 0 t) (iblk m c 1 t) (iblk m c 14 t)
abbrev e27 : FVec Ideal S528x512 .f32 := k0_pay27 (iblk m c 0 t) (iblk m c 1 t) (iblk m c 14 t)
abbrev eZ0 : FVec Ideal S544x512 .f32 := k0_pay20 (eT t) (eH m c t) (eL m c t) (eR m c t)
abbrev eZ2 : FVec Ideal S544x512 .f32 := k0_pay21 (eT t) (eH m c t) (eL m c t) (eR m c t)
abbrev eZ1 : FVec Ideal S544x512 .f32 := k0_pay22 (eT t) (eH m c t) (eL m c t) (eR m c t)
abbrev eConv : FVec Ideal S528x512 .f32 := k0_pay23 (eT t) (iblk m c 11 t) (eH m c t) (eL m c t) (eR m c t)
abbrev e24 : FVec Ideal S528x512 .f32 := k0_pay24 (eH m c t) (eL m c t) (eR m c t)
abbrev eSc : FVec Ideal S528x512 .f32 := k0_pay25 (eT t) (iblk m c 11 t) (eH m c t) (eL m c t) (eR m c t)
abbrev eRs : FVec Ideal S528x1 .f32 := k0_pay26 (eT t) (iblk m c 11 t) (eH m c t) (eL m c t) (eR m c t)
abbrev eDsc : FVec Ideal S528x512 .f32 := k0_pay28 (eSc m c t) (eRs m c t) (e27 m c t) (iblk m c 13 t)
abbrev eDconv : FVec Ideal S512x512 .f32 := k0_pay31 (eT t) eI (e24 m c t) (eSc m c t) (eRs m c t) (e27 m c t) (iblk m c 13 t)
abbrev e32 : FVec Ideal S512x512 .f32 := k0_pay32 (eT t) eI (e24 m c t) (eSc m c t) (eRs m c t) (e27 m c t) (iblk m c 13 t)
abbrev e33 : FVec Ideal S512x512 .f32 := k0_pay33 (eT t) eI (e24 m c t) (eSc m c t) (eRs m c t) (e27 m c t) (iblk m c 13 t)
abbrev e34 : FVec Ideal S512x512 .f32 := k0_pay34 (eT t) (iblk m c 11 t) eI (e24 m c t) (eSc m c t) (eRs m c t) (e27 m c t) (iblk m c 13 t)
abbrev eDz : FVec Ideal S512x512 .f32 := k0_pay36 (iblk m c 11 t) (e32 m c t) (e33 m c t) (e34 m c t) (k0_pay35 (iblk m c 11 t))
abbrev eU : FVec Ideal S512x512 .f32 := k0_pay49 (eH m c t)
abbrev eXh : FVec Ideal S512x512 .f32 := k0_pay54 (k0_pay50 (eH m c t)) (k0_pay51 (eH m c t)) k0_pay52
abbrev eW0 : FVec Ideal S128x128 .bf16 := k0_pay12 (View.ld (iblk m c 9 t) (Rect.unit (s := S4x128x128) ![0, 0, 0] ![1, 128, 128] inb_S4x128x128_S1x128x128_0_0_0))
abbrev eW1 : FVec Ideal S128x128 .bf16 := k0_pay13 (View.ld (iblk m c 9 t) (Rect.unit (s := S4x128x128) ![1, 0, 0] ![1, 128, 128] inb_S4x128x128_S1x128x128_1_0_0))
abbrev eW2 : FVec Ideal S128x128 .bf16 := k0_pay14 (View.ld (iblk m c 9 t) (Rect.unit (s := S4x128x128) ![2, 0, 0] ![1, 128, 128] inb_S4x128x128_S1x128x128_2_0_0))
abbrev eW3 : FVec Ideal S128x128 .bf16 := k0_pay15 (View.ld (iblk m c 9 t) (Rect.unit (s := S4x128x128) ![3, 0, 0] ![1, 128, 128] inb_S4x128x128_S1x128x128_3_0_0))

abbrev eMix : FVec Ideal S512x512 .f32 :=
  (View.whole cc0_scratch0).readCov (Val := Elt Ideal) [
      ⟨(Rect.unit (s := S512x512) ![0, 0] ![512, 512] inb_S512x512_S512x512_0_0).within (Rect.unit (s := S512x512) ![384, 384] ![128, 128] inb_S512x512_S128x128_384_384) (fun _ => rfl),
        k0_pay75 (k0_pay74 (eW3 m c t) (k0_pay46 (iblk m c 10 t)) (k0_pay55 (k0_pay44 (iblk m c 7 t)) (k0_pay45 (iblk m c 8 t)) (k0_pay50 (eH m c t)) (k0_pay51 (eH m c t)) k0_pay52))⟩,
      ⟨(Rect.unit (s := S512x512) ![0, 0] ![512, 512] inb_S512x512_S512x512_0_0).within (Rect.unit (s := S512x512) ![384, 256] ![128, 128] inb_S512x512_S128x128_384_256) (fun _ => rfl),
        k0_pay73 (eW2 m c t) (k0_pay46 (iblk m c 10 t)) (k0_pay55 (k0_pay44 (iblk m c 7 t)) (k0_pay45 (iblk m c 8 t)) (k0_pay50 (eH m c t)) (k0_pay51 (eH m c t)) k0_pay52)⟩,
      ⟨(Rect.unit (s := S512x512) ![0, 0] ![512, 512] inb_S512x512_S512x512_0_0).within (Rect.unit (s := S512x512) ![384, 128] ![128, 128] inb_S512x512_S128x128_384_128) (fun _ => rfl),
        k0_pay72 (eW1 m c t) (k0_pay46 (iblk m c 10 t)) (k0_pay55 (k0_pay44 (iblk m c 7 t)) (k0_pay45 (iblk m c 8 t)) (k0_pay50 (eH m c t)) (k0_pay51 (eH m c t)) k0_pay52)⟩,
      ⟨(Rect.unit (s := S512x512) ![0, 0] ![512, 512] inb_S512x512_S512x512_0_0).within (Rect.unit (s := S512x512) ![384, 0] ![128, 128] inb_S512x512_S128x128_384_0) (fun _ => rfl),
        k0_pay71 (eW0 m c t) (k0_pay46 (iblk m c 10 t)) (k0_pay55 (k0_pay44 (iblk m c 7 t)) (k0_pay45 (iblk m c 8 t)) (k0_pay50 (eH m c t)) (k0_pay51 (eH m c t)) k0_pay52)⟩,
      ⟨(Rect.unit (s := S512x512) ![0, 0] ![512, 512] inb_S512x512_S512x512_0_0).within (Rect.unit (s := S512x512) ![256, 384] ![128, 128] inb_S512x512_S128x128_256_384) (fun _ => rfl),
        k0_pay70 (k0_pay69 (eW3 m c t) (k0_pay46 (iblk m c 10 t)) (k0_pay55 (k0_pay44 (iblk m c 7 t)) (k0_pay45 (iblk m c 8 t)) (k0_pay50 (eH m c t)) (k0_pay51 (eH m c t)) k0_pay52))⟩,
      ⟨(Rect.unit (s := S512x512) ![0, 0] ![512, 512] inb_S512x512_S512x512_0_0).within (Rect.unit (s := S512x512) ![256, 256] ![128, 128] inb_S512x512_S128x128_256_256) (fun _ => rfl),
        k0_pay68 (eW2 m c t) (k0_pay46 (iblk m c 10 t)) (k0_pay55 (k0_pay44 (iblk m c 7 t)) (k0_pay45 (iblk m c 8 t)) (k0_pay50 (eH m c t)) (k0_pay51 (eH m c t)) k0_pay52)⟩,
      ⟨(Rect.unit (s := S512x512) ![0, 0] ![512, 512] inb_S512x512_S512x512_0_0).within (Rect.unit (s := S512x512) ![256, 128] ![128, 128] inb_S512x512_S128x128_256_128) (fun _ => rfl),
        k0_pay67 (eW1 m c t) (k0_pay46 (iblk m c 10 t)) (k0_pay55 (k0_pay44 (iblk m c 7 t)) (k0_pay45 (iblk m c 8 t)) (k0_pay50 (eH m c t)) (k0_pay51 (eH m c t)) k0_pay52)⟩,
      ⟨(Rect.unit (s := S512x512) ![0, 0] ![512, 512] inb_S512x512_S512x512_0_0).within (Rect.unit (s := S512x512) ![256, 0] ![128, 128] inb_S512x512_S128x128_256_0) (fun _ => rfl),
        k0_pay66 (eW0 m c t) (k0_pay46 (iblk m c 10 t)) (k0_pay55 (k0_pay44 (iblk m c 7 t)) (k0_pay45 (iblk m c 8 t)) (k0_pay50 (eH m c t)) (k0_pay51 (eH m c t)) k0_pay52)⟩,
      ⟨(Rect.unit (s := S512x512) ![0, 0] ![512, 512] inb_S512x512_S512x512_0_0).within (Rect.unit (s := S512x512) ![128, 384] ![128, 128] inb_S512x512_S128x128_128_384) (fun _ => rfl),
        k0_pay65 (k0_pay64 (eW3 m c t) (k0_pay46 (iblk m c 10 t)) (k0_pay55 (k0_pay44 (iblk m c 7 t)) (k0_pay45 (iblk m c 8 t)) (k0_pay50 (eH m c t)) (k0_pay51 (eH m c t)) k0_pay52))⟩,
      ⟨(Rect.unit (s := S512x512) ![0, 0] ![512, 512] inb_S512x512_S512x512_0_0).within (Rect.unit (s := S512x512) ![128, 256] ![128, 128] inb_S512x512_S128x128_128_256) (fun _ => rfl),
        k0_pay63 (eW2 m c t) (k0_pay46 (iblk m c 10 t)) (k0_pay55 (k0_pay44 (iblk m c 7 t)) (k0_pay45 (iblk m c 8 t)) (k0_pay50 (eH m c t)) (k0_pay51 (eH m c t)) k0_pay52)⟩,
      ⟨(Rect.unit (s := S512x512) ![0, 0] ![512, 512] inb_S512x512_S512x512_0_0).within (Rect.unit (s := S512x512) ![128, 128] ![128, 128] inb_S512x512_S128x128_128_128) (fun _ => rfl),
        k0_pay62 (eW1 m c t) (k0_pay46 (iblk m c 10 t)) (k0_pay55 (k0_pay44 (iblk m c 7 t)) (k0_pay45 (iblk m c 8 t)) (k0_pay50 (eH m c t)) (k0_pay51 (eH m c t)) k0_pay52)⟩,
      ⟨(Rect.unit (s := S512x512) ![0, 0] ![512, 512] inb_S512x512_S512x512_0_0).within (Rect.unit (s := S512x512) ![128, 0] ![128, 128] inb_S512x512_S128x128_128_0) (fun _ => rfl),
        k0_pay61 (eW0 m c t) (k0_pay46 (iblk m c 10 t)) (k0_pay55 (k0_pay44 (iblk m c 7 t)) (k0_pay45 (iblk m c 8 t)) (k0_pay50 (eH m c t)) (k0_pay51 (eH m c t)) k0_pay52)⟩,
      ⟨(Rect.unit (s := S512x512) ![0, 0] ![512, 512] inb_S512x512_S512x512_0_0).within (Rect.unit (s := S512x512) ![0, 384] ![128, 128] inb_S512x512_S128x128_0_384) (fun _ => rfl),
        k0_pay60 (k0_pay59 (eW3 m c t) (k0_pay44 (iblk m c 7 t)) (k0_pay45 (iblk m c 8 t)) (k0_pay46 (iblk m c 10 t)) (k0_pay50 (eH m c t)) (k0_pay51 (eH m c t)) k0_pay52)⟩,
      ⟨(Rect.unit (s := S512x512) ![0, 0] ![512, 512] inb_S512x512_S512x512_0_0).within (Rect.unit (s := S512x512) ![0, 256] ![128, 128] inb_S512x512_S128x128_0_256) (fun _ => rfl),
        k0_pay58 (eW2 m c t) (k0_pay44 (iblk m c 7 t)) (k0_pay45 (iblk m c 8 t)) (k0_pay46 (iblk m c 10 t)) (k0_pay50 (eH m c t)) (k0_pay51 (eH m c t)) k0_pay52⟩,
      ⟨(Rect.unit (s := S512x512) ![0, 0] ![512, 512] inb_S512x512_S512x512_0_0).within (Rect.unit (s := S512x512) ![0, 128] ![128, 128] inb_S512x512_S128x128_0_128) (fun _ => rfl),
        k0_pay57 (eW1 m c t) (k0_pay44 (iblk m c 7 t)) (k0_pay45 (iblk m c 8 t)) (k0_pay46 (iblk m c 10 t)) (k0_pay50 (eH m c t)) (k0_pay51 (eH m c t)) k0_pay52⟩,
      ⟨(Rect.unit (s := S512x512) ![0, 0] ![512, 512] inb_S512x512_S512x512_0_0).within (Rect.unit (s := S512x512) ![0, 0] ![128, 128] inb_S512x512_S128x128_0_0) (fun _ => rfl),
        k0_pay56 (eW0 m c t) (k0_pay44 (iblk m c 7 t)) (k0_pay45 (iblk m c 8 t)) (k0_pay46 (iblk m c 10 t)) (k0_pay50 (eH m c t)) (k0_pay51 (eH m c t)) k0_pay52⟩]
    (Rect.unit (s := S512x512) ![0, 0] ![512, 512] inb_S512x512_S512x512_0_0).toLoadRect
abbrev eDsg : FVec Ideal S512x512 .f32 := k0_pay79 (eDyc m c t) (eU m c t) (eMix m c t) (iblk m c 12 t)
abbrev eDvln : FVec Ideal S512x512 .f32 :=
  (View.whole cc0_scratch1).readCov (Val := Elt Ideal) [
      ⟨(Rect.unit (s := S512x512) ![0, 0] ![512, 512] inb_S512x512_S512x512_0_0).within (Rect.unit (s := S512x512) ![384, 384] ![128, 128] inb_S512x512_S128x128_384_384) (fun _ => rfl),
        k0_pay122 (eW3 m c t) (k0_pay83 (eU m c t) (eDsg m c t))⟩,
      ⟨(Rect.unit (s := S512x512) ![0, 0] ![512, 512] inb_S512x512_S512x512_0_0).within (Rect.unit (s := S512x512) ![384, 256] ![128, 128] inb_S512x512_S128x128_384_256) (fun _ => rfl),
        k0_pay120 (eW2 m c t) (k0_pay83 (eU m c t) (eDsg m c t))⟩,
      ⟨(Rect.unit (s := S512x512) ![0, 0] ![512, 512] inb_S512x512_S512x512_0_0).within (Rect.unit (s := S512x512) ![384, 128] ![128, 128] inb_S512x512_S128x128_384_128) (fun _ => rfl),
        k0_pay118 (eW1 m c t) (k0_pay83 (eU m c t) (eDsg m c t))⟩,
      ⟨(Rect.unit (s := S512x512) ![0, 0] ![512, 512] inb_S512x512_S512x512_0_0).within (Rect.unit (s := S512x512) ![384, 0] ![128, 128] inb_S512x512_S128x128_384_0) (fun _ => rfl),
        k0_pay116 (eW0 m c t) (k0_pay83 (eU m c t) (eDsg m c t))⟩,
      ⟨(Rect.unit (s := S512x512) ![0, 0] ![512, 512] inb_S512x512_S512x512_0_0).within (Rect.unit (s := S512x512) ![256, 384] ![128, 128] inb_S512x512_S128x128_256_384) (fun _ => rfl),
        k0_pay113 (eW3 m c t) (k0_pay83 (eU m c t) (eDsg m c t))⟩,
      ⟨(Rect.unit (s := S512x512) ![0, 0] ![512, 512] inb_S512x512_S512x512_0_0).within (Rect.unit (s := S512x512) ![256, 256] ![128, 128] inb_S512x512_S128x128_256_256) (fun _ => rfl),
        k0_pay110 (eW2 m c t) (k0_pay83 (eU m c t) (eDsg m c t))⟩,
      ⟨(Rect.unit (s := S512x512) ![0, 0] ![512, 512] inb_S512x512_S512x512_0_0).within (Rect.unit (s := S512x512) ![256, 128] ![128, 128] inb_S512x512_S128x128_256_128) (fun _ => rfl),
        k0_pay108 (eW1 m c t) (k0_pay83 (eU m c t) (eDsg m c t))⟩,
      ⟨(Rect.unit (s := S512x512) ![0, 0] ![512, 512] inb_S512x512_S512x512_0_0).within (Rect.unit (s := S512x512) ![256, 0] ![128, 128] inb_S512x512_S128x128_256_0) (fun _ => rfl),
        k0_pay105 (eW0 m c t) (k0_pay83 (eU m c t) (eDsg m c t))⟩,
      ⟨(Rect.unit (s := S512x512) ![0, 0] ![512, 512] inb_S512x512_S512x512_0_0).within (Rect.unit (s := S512x512) ![128, 384] ![128, 128] inb_S512x512_S128x128_128_384) (fun _ => rfl),
        k0_pay102 (k0_pay101 (eW3 m c t) (k0_pay83 (eU m c t) (eDsg m c t)))⟩,
      ⟨(Rect.unit (s := S512x512) ![0, 0] ![512, 512] inb_S512x512_S512x512_0_0).within (Rect.unit (s := S512x512) ![128, 256] ![128, 128] inb_S512x512_S128x128_128_256) (fun _ => rfl),
        k0_pay99 (eW2 m c t) (k0_pay83 (eU m c t) (eDsg m c t))⟩,
      ⟨(Rect.unit (s := S512x512) ![0, 0] ![512, 512] inb_S512x512_S512x512_0_0).within (Rect.unit (s := S512x512) ![128, 128] ![128, 128] inb_S512x512_S128x128_128_128) (fun _ => rfl),
        k0_pay97 (k0_pay96 (eW1 m c t) (k0_pay83 (eU m c t) (eDsg m c t)))⟩,
      ⟨(Rect.unit (s := S512x512) ![0, 0] ![512, 512] inb_S512x512_S512x512_0_0).within (Rect.unit (s := S512x512) ![128, 0] ![128, 128] inb_S512x512_S128x128_128_0) (fun _ => rfl),
        k0_pay94 (eW0 m c t) (k0_pay83 (eU m c t) (eDsg m c t))⟩,
      ⟨(Rect.unit (s := S512x512) ![0, 0] ![512, 512] inb_S512x512_S512x512_0_0).within (Rect.unit (s := S512x512) ![0, 384] ![128, 128] inb_S512x512_S128x128_0_384) (fun _ => rfl),
        k0_pay91 (eW3 m c t) (k0_pay83 (eU m c t) (eDsg m c t))⟩,
      ⟨(Rect.unit (s := S512x512) ![0, 0] ![512, 512] inb_S512x512_S512x512_0_0).within (Rect.unit (s := S512x512) ![0, 256] ![128, 128] inb_S512x512_S128x128_0_256) (fun _ => rfl),
        k0_pay89 (eW2 m c t) (k0_pay83 (eU m c t) (eDsg m c t))⟩,
      ⟨(Rect.unit (s := S512x512) ![0, 0] ![512, 512] inb_S512x512_S512x512_0_0).within (Rect.unit (s := S512x512) ![0, 128] ![128, 128] inb_S512x512_S128x128_0_128) (fun _ => rfl),
        k0_pay87 (eW1 m c t) (eU m c t) (eDsg m c t)⟩,
      ⟨(Rect.unit (s := S512x512) ![0, 0] ![512, 512] inb_S512x512_S512x512_0_0).within (Rect.unit (s := S512x512) ![0, 0] ![128, 128] inb_S512x512_S128x128_0_0) (fun _ => rfl),
        k0_pay85 (eW0 m c t) (eU m c t) (eDsg m c t)⟩]
    (Rect.unit (s := S512x512) ![0, 0] ![512, 512] inb_S512x512_S512x512_0_0).toLoadRect
abbrev eDuv : FVec Ideal S512x1024 .f32 :=
  k0_pay126 (k0_pay53 (k0_pay51 (eH m c t)) k0_pay52) (eXh m c t) (k0_pay81 (eMix m c t) (eDsg m c t)) (eDvln m c t) (iblk m c 7 t)
/-- The pieces of the block of the projected input's gradient. -/
abbrev eDhL : List (View.Piece (Elt Ideal) S512x2560 .bf16) := [
  ⟨Rect.unit (s := S512x2560) ![0, 0] ![512, 1024] inb_S512x2560_S512x1024_0_0, k0_pay131 (eDuv m c t) (k0_pay127 (k0_pay47 (eH m c t)))
    (k0_pay128 (k0_pay43 (eH m c t)) (k0_pay47 (eH m c t))) (k0_pay129 (k0_pay43 (eH m c t))) k0_pay130⟩,
  ⟨Rect.unit (s := S512x2560) ![0, 2048] ![512, 512] inb_S512x2560_S512x512_0_2048, k0_pay42 (eH m c t) (eDz m c t)⟩,
  ⟨Rect.unit (s := S512x2560) ![0, 1536] ![512, 512] inb_S512x2560_S512x512_0_1536,
    k0_pay41 (iblk m c 11 t) (eH m c t) (e32 m c t) (e33 m c t) (e34 m c t) (k0_pay35 (iblk m c 11 t))⟩,
  ⟨Rect.unit (s := S512x2560) ![0, 1024] ![512, 512] inb_S512x2560_S512x512_0_1024, k0_pay40 (eConv m c t) (eDsc m c t)⟩]

end Names

theorem pay17_at (X : Vec Ideal S16x1536 .f32) (a : Fin 16) (b : Fin 1536) : k0_pay17 X (ix2 a b) = X (ix2 a b) := by
  pointwise [k0_pay17]

theorem ld_halo (X : Vec Ideal S16x2560 .f32) (a : Fin 16) (b : Fin 1536) :
    (View.ld (Val := Elt Ideal) (e' := .f32) X (Rect.unit (s := S16x2560) ![0, 1024] ![16, 1536] inb_S16x2560_S16x1536_0_1024) : FVec Ideal S16x1536 .f32) (ix2 a b)
      = X (ix2 a ⟨1024 + b, by omega⟩) := by
  pointwise []

theorem ld_slab0 (X : Vec Ideal S4x128x128 .f32) (a b : Fin 128) :
    (View.ld (Val := Elt Ideal) (e' := .f32) X (Rect.unit (s := S4x128x128) ![0, 0, 0] ![1, 128, 128] inb_S4x128x128_S1x128x128_0_0_0) : FVec Ideal S1x128x128 .f32) (ix3 0 a b)
      = X (ix3 0 a b) := by
  pointwise []

theorem ld_slab1 (X : Vec Ideal S4x128x128 .f32) (a b : Fin 128) :
    (View.ld (Val := Elt Ideal) (e' := .f32) X (Rect.unit (s := S4x128x128) ![1, 0, 0] ![1, 128, 128] inb_S4x128x128_S1x128x128_1_0_0) : FVec Ideal S1x128x128 .f32) (ix3 0 a b)
      = X (ix3 1 a b) := by
  pointwise []

theorem ld_slab2 (X : Vec Ideal S4x128x128 .f32) (a b : Fin 128) :
    (View.ld (Val := Elt Ideal) (e' := .f32) X (Rect.unit (s := S4x128x128) ![2, 0, 0] ![1, 128, 128] inb_S4x128x128_S1x128x128_2_0_0) : FVec Ideal S1x128x128 .f32) (ix3 0 a b)
      = X (ix3 2 a b) := by
  pointwise []

theorem ld_slab3 (X : Vec Ideal S4x128x128 .f32) (a b : Fin 128) :
    (View.ld (Val := Elt Ideal) (e' := .f32) X (Rect.unit (s := S4x128x128) ![3, 0, 0] ![1, 128, 128] inb_S4x128x128_S1x128x128_3_0_0) : FVec Ideal S1x128x128 .f32) (ix3 0 a b)
      = X (ix3 3 a b) := by
  pointwise []

section Values

variable {m : (ℓ : Loc nD τ sig) → Buf (Elt Ideal) ℓ} {c : Dev nD} {p : Inp} (H : Holds p m c) (t : Fin cfg0.N)
include H

theorem hH (a : Fin 512) (b : Fin 2560) : eH m c t (ix2 a b) = ((p.h (512 * t.val + a) b : ℝ) : EReal) := by
  pointwise [k0_pay16]; exact b4_at H t a b

theorem hL (a : Fin 16) (b : Fin 1536) :
    eL m c t (ix2 a b) = ((p.h (16 * (32 * t.val - 1) + a) (1024 + b) : ℝ) : EReal) :=
  (pay17_at _ a b).trans ((ld_halo _ a b).trans (b5_at H t a ⟨1024 + b, by omega⟩))

theorem hR (a : Fin 16) (b : Fin 1536) :
    eR m c t (ix2 a b) = ((p.h (16 * min (32 * (t.val + 1)) 255 + a) (1024 + b) : ℝ) : EReal) :=
  (ld_halo _ a b).trans (b6_at H t a ⟨1024 + b, by omega⟩)

theorem hW0 (a b : Fin 128) : eW0 m c t (ix2 a b) = ((p.wm 0 a b : ℝ) : EReal) :=
  pay12_at p 0 _ (fun a b => (ld_slab0 _ a b).trans (b9_at H t 0 a b)) a b
theorem hW1 (a b : Fin 128) : eW1 m c t (ix2 a b) = ((p.wm 1 a b : ℝ) : EReal) :=
  pay12_at p 1 _ (fun a b => (ld_slab1 _ a b).trans (b9_at H t 1 a b)) a b
theorem hW2 (a b : Fin 128) : eW2 m c t (ix2 a b) = ((p.wm 2 a b : ℝ) : EReal) :=
  pay12_at p 2 _ (fun a b => (ld_slab2 _ a b).trans (b9_at H t 2 a b)) a b
theorem hW3 (a b : Fin 128) : eW3 m c t (ix2 a b) = ((p.wm 3 a b : ℝ) : EReal) :=
  pay12_at p 3 _ (fun a b => (ld_slab3 _ a b).trans (b9_at H t 3 a b)) a b

theorem hLng (j : Fin 512) : (k0_pay44 (iblk m c 7 t) : FVec Ideal S1x512 .f32) (ix2 0 j) = ((p.lng j : ℝ) : EReal) := by
  pointwise [k0_pay44]; exact b7_at H t j
theorem hLnb (j : Fin 512) : (k0_pay45 (iblk m c 8 t) : FVec Ideal S1x512 .f32) (ix2 0 j) = ((p.lnb j : ℝ) : EReal) := by
  pointwise [k0_pay45]; exact b8_at H t j
theorem hBs (s : Fin 128) (g : Fin 4) : (k0_pay46 (iblk m c 10 t) : FVec Ideal S128x4 .f32) (ix2 s g) = ((p.bs g s : ℝ) : EReal) := by
  pointwise [k0_pay46]; exact b10_at H t s g

omit H in
theorem lt8 : t.val < 8 := Nat.lt_of_lt_of_eq t.isLt N_0

theorem hDyc (r : Fin 528) (j : Fin 1024) (hok : ok t.val r) : eDyc m c t (ix2 r j) = ((p.dyc (512 * t.val + r) j : ℝ) : EReal) :=
  pay18_at p t.val _ _ _ (b0_at H t) (b1_at H t) (b14_at H t) r j hok
theorem h27 (r : Fin 528) (j : Fin 512) (hok : ok t.val r) : e27 m c t (ix2 r j) = ((p.dyc (512 * t.val + r) (512 + j) : ℝ) : EReal) :=
  pay27_at p t.val _ _ _ (b0_at H t) (b1_at H t) (b14_at H t) r j hok
theorem hZ0 (e : Fin 544) (j : Fin 512) (h16 : 16 ≤ (e : ℕ)) (hok : ok t.val (e - 16)) :
    eZ0 m c t (ix2 e j) = ((p.z (512 * t.val + e - 16) j : ℝ) : EReal) := by
  unfold eZ0 eT; rw [coord_val]; exact pay20_at' p t.val (lt8 t) _ _ _ (hH H t) (hL H t) (hR H t) e j h16 hok
theorem hZ2 (e : Fin 544) (j : Fin 512) (h16 : 16 ≤ (e : ℕ)) (hok : ok t.val (e - 16)) :
    eZ2 m c t (ix2 e j) = ((p.zs 2 (512 * t.val + e - 16) j : ℝ) : EReal) := by
  unfold eZ2 eT; rw [coord_val]; exact pay21_at p t.val (lt8 t) _ _ _ (hH H t) (hL H t) (hR H t) e j h16 hok
theorem hZ1 (e : Fin 544) (j : Fin 512) (h16 : 16 ≤ (e : ℕ)) (hok : ok t.val (e - 16)) :
    eZ1 m c t (ix2 e j) = ((p.zs 1 (512 * t.val + e - 16) j : ℝ) : EReal) := by
  unfold eZ1 eT; rw [coord_val]; exact pay22_at p t.val (lt8 t) _ _ _ (hH H t) (hL H t) (hR H t) e j h16 hok
theorem hConv (r : Fin 528) (j : Fin 512) (hok : ok t.val r) : eConv m c t (ix2 r j) = ((p.conv (512 * t.val + r) j : ℝ) : EReal) := by
  unfold eConv eT; rw [coord_val]; exact pay23_at p t.val (lt8 t) _ _ _ _ (b11_at H t) (hH H t) (hL H t) (hR H t) r j hok
theorem h24 (r : Fin 528) (j : Fin 512) (hok : ok t.val r) : e24 m c t (ix2 r j) = ((p.h (512 * t.val + r) (1024 + j) : ℝ) : EReal) :=
  pay24_at p t.val (lt8 t) _ _ _ (hH H t) (hL H t) (hR H t) r j hok
theorem hSc (r : Fin 528) (j : Fin 512) (hok : ok t.val r) : eSc m c t (ix2 r j) = ((p.sc (512 * t.val + r) j : ℝ) : EReal) := by
  unfold eSc eT; rw [coord_val]; exact pay25_at p t.val (lt8 t) _ _ _ _ (b11_at H t) (hH H t) (hL H t) (hR H t) r j hok
theorem hRs (r : Fin 528) (hok : ok t.val r) : eRs m c t (ix2 r 0) = ((rstd 512 (p.sc (512 * t.val + r)) : ℝ) : EReal) := by
  unfold eRs eT; rw [coord_val]; exact pay26_at p t.val (lt8 t) _ _ _ _ (b11_at H t) (hH H t) (hL H t) (hR H t) r hok
theorem hDsc (r : Fin 528) (j : Fin 512) (hok : ok t.val r) : eDsc m c t (ix2 r j) = ((p.dsc (512 * t.val + r) j : ℝ) : EReal) :=
  pay28_at p t.val _ _ _ _ (hSc H t) (hRs H t) (h27 H t) (b13_at H t) r j hok
omit H in
theorem hI (a : Fin 544) : eI (ix2 a 0) = BitVec.ofNat 32 a := by pointwise []
theorem hDconv (r j : Fin 512) : eDconv m c t (ix2 r j) = ((p.dconv (512 * t.val + r) j : ℝ) : EReal) := by
  unfold eDconv eT; rw [coord_val]
  exact pay31_at p t.val _ _ _ _ _ _ hI (h24 H t) (hSc H t) (hRs H t) (h27 H t) (b13_at H t) (lt8 t) r j
theorem h32 (r j : Fin 512) : e32 m c t (ix2 r j) = ((p.dcs 1 (512 * t.val + r) j : ℝ) : EReal) := by
  unfold e32 eT; rw [coord_val]
  exact pay32_at p t.val _ _ _ _ _ _ hI (h24 H t) (hSc H t) (hRs H t) (h27 H t) (b13_at H t) (lt8 t) r j
theorem h33 (r j : Fin 512) : e33 m c t (ix2 r j) = ((p.dcs 2 (512 * t.val + r) j : ℝ) : EReal) := by
  unfold e33 eT; rw [coord_val]
  exact pay33_at p t.val _ _ _ _ _ _ hI (h24 H t) (hSc H t) (hRs H t) (h27 H t) (b13_at H t) (lt8 t) r j
theorem h34 (r j : Fin 512) : e34 m c t (ix2 r j) = ((p.cw 2 j * p.dconv (512 * t.val + r) j : ℝ) : EReal) := by
  unfold e34 eT; rw [coord_val]
  exact pay34_at p t.val _ _ _ _ _ _ _ (b11_at H t) hI (h24 H t) (hSc H t) (hRs H t) (h27 H t) (b13_at H t) (lt8 t) r j
theorem hDz (r j : Fin 512) : eDz m c t (ix2 r j) = ((p.dz (512 * t.val + r) j : ℝ) : EReal) :=
  pay36_at p t.val _ _ _ _ (b11_at H t) (h32 H t) (h33 H t) (h34 H t) r j

theorem hU (r j : Fin 512) : eU m c t (ix2 r j) = ((p.u (512 * t.val + r) j : ℝ) : EReal) := pay49_at p t.val _ (hH H t) r j
theorem hXh (r j : Fin 512) : eXh m c t (ix2 r j) = ((p.xh (512 * t.val + r) j : ℝ) : EReal) := pay54_at p t.val _ (hH H t) r j
theorem hMix (r j : Fin 512) : eMix m c t (ix2 r j) = ((p.mixed (512 * t.val + r) j : ℝ) : EReal) :=
  mix_read p t.val _ _ _ _ (hW0 H t) (hW1 H t) (hW2 H t) (hW3 H t) _ _ _ _ _ _ (hBs H t)
    (pay55_at p t.val _ (hH H t) _ _ (hLng H t) (hLnb H t)) r j
theorem hDsg (r j : Fin 512) : eDsg m c t (ix2 r j) = ((p.dsg (512 * t.val + r) j : ℝ) : EReal) :=
  pay79_at p t.val _ _ _ _ (hDyc H t) (hU H t) (hMix H t) (b12_at H t) r j
theorem hDvln (r j : Fin 512) : eDvln m c t (ix2 r j) = ((p.dvln (512 * t.val + r) j : ℝ) : EReal) :=
  dvln_read p t.val _ _ _ _ (hW0 H t) (hW1 H t) (hW2 H t) (hW3 H t) _ _ (hU H t) (hDsg H t) r j
theorem hDuv (r : Fin 512) (j : Fin 1024) : eDuv m c t (ix2 r j)
    = ((if (j : ℕ) < 512 then p.du (512 * t.val + r) j else p.dv (512 * t.val + r) (j - 512) : ℝ) : EReal) :=
  pay126_at p t.val _ _ _ _ _ (hXh H t) (hDvln H t) (pay81_at p t.val _ _ (hMix H t) (hDsg H t))
    (pay53_at p t.val _ (hH H t)) (b7_at H t) r j

/-- The pieces of the projected input's gradient together are it. -/
theorem hDh (r : Fin 512) (j : Fin 2560) :
    View.canon (eDhL m c t) (ix2 r j) = ((p.dh (512 * t.val + r) j : ℝ) : EReal) := by
  have k1 := pay131_at p t.val _ _ _ (pay43_at p t.val _ (hH H t)) (pay47_at p t.val _ (hH H t)) (hDuv H t)
  have k2 := pay42_at p t.val _ _ (hH H t) (hDz H t)
  have k3 := pay41_at p t.val _ _ _ _ _ (b11_at H t) (hH H t) (h32 H t) (h33 H t) (h34 H t)
  have k4 := pay40_at p t.val _ _ (hConv H t) (hDsc H t)
  unfold eDhL
  canon_tiles x h using (View.cover_of_tiledBy (eDhL m c t) ![512, 512] (by sl_kernel_rfl) _)
  · idx_vars x
    pointwise [k1]
    rw [h0, h1]
  · idx_vars x
    pointwise [k2]
    refine congrArg (fun s : ℝ => (s : EReal)) ?_
    rw [h0, h1, Inp.dh, if_neg (by omega), if_neg (by omega), if_neg (by omega), if_neg (by omega)]
    congr 2 <;> omega
  · idx_vars x
    pointwise [k3]
    refine congrArg (fun s : ℝ => (s : EReal)) ?_
    rw [h0, h1, Inp.dh, if_neg (by omega), if_neg (by omega), if_neg (by omega), if_pos (by omega)]
    congr 2 <;> omega
  · idx_vars x
    pointwise [k4]
    refine congrArg (fun s : ℝ => (s : EReal)) ?_
    rw [h0, h1, Inp.dh, if_neg (by omega), if_neg (by omega), if_pos (by omega)]
    congr 2 <;> omega

omit H in
theorem idx_whole2560 (r : Fin 512) (j : Fin 2560) :
    (Rect.unit (s := S512x2560) ![0, 0] ![512, 2560] inb_S512x2560_S512x2560_0_0).toLoadRect.idx (ix2 r j) = ix2 r j := by
  funext a; fin_cases a <;> exact Fin.ext (by simp [LoadRect.idx, Rect.toLoadRect, Rect.unit])

/-- The gradient of the projected input, read back whole. -/
theorem hDhR (r : Fin 512) (j : Fin 2560) :
    ((ms0_16 t).view.readCov (eDhL m c t)
      (Rect.unit (s := S512x2560) ![0, 0] ![512, 2560] inb_S512x2560_S512x2560_0_0).toLoadRect : FVec Ideal S512x2560 .bf16) (ix2 r j)
      = ((p.dh (512 * t.val + r) j : ℝ) : EReal) := by
  rw [View.readCov_eq_canon']
  show View.canon _ ((Rect.unit (s := S512x2560) ![0, 0] ![512, 2560] inb_S512x2560_S512x2560_0_0).toLoadRect.idx (ix2 r j)) = _
  rw [idx_whole2560]
  exact hDh H t r j

end Values

end Cert.Mix.K
-- ==== Proof.WinA.lean ====
/- What the first grid point leaves in the outputs, at the model. -/
module

public import proofs.«01_k».proof.Proof.Point
public import proofs.«01_k».proof.Proof.KOuts
public import Idealize.ShloMosaic.Lib.Pipeline.ValueKit

@[expose] public section

set_option maxRecDepth 16384
set_option maxHeartbeats 1000000

noncomputable section

namespace Cert.Mix.K

open Cert.KernelIdeal Cert.KernelIdeal.Gen
open Idealize.ShloMosaic Idealize.ShloMosaic.TcCoe Idealize.ShloMosaic.Tactic Idealize.SL.Sem

variable {m : (ℓ : Loc nD τ sig) → Buf (Elt Ideal) ℓ} {c : Dev nD} {p : Inp} (H : Holds p m c) (t : Fin cfg0.N)
    (h0 : t.val % 8 = 0)

theorem fill3 (j : Fin 512) : (k0_pay3 : FVec Ideal S1x512 .f32) (ix2 0 j) = ((0 : ℝ) : EReal) := by pointwise [k0_pay3, lift]
theorem fill4 (j : Fin 512) : (k0_pay4 : FVec Ideal S1x512 .f32) (ix2 0 j) = ((0 : ℝ) : EReal) := by pointwise [k0_pay4, lift]
theorem fill6 (j : Fin 512) : (k0_pay6 : FVec Ideal S1x512 .f32) (ix2 0 j) = ((0 : ℝ) : EReal) := by pointwise [k0_pay6, lift]
theorem fill7 (j : Fin 512) : (k0_pay7 : FVec Ideal S1x512 .f32) (ix2 0 j) = ((0 : ℝ) : EReal) := by pointwise [k0_pay7, lift]
theorem fill10 (j : Fin 1024) : (k0_pay10 : FVec Ideal S1x1024 .f32) (ix2 0 j) = ((0 : ℝ) : EReal) := by pointwise [k0_pay10, lift]
theorem fill9 (a : Fin 128) (j : Fin 512) : (k0_pay9 : FVec Ideal S128x512 .f32) (ix2 a j) = ((0 : ℝ) : EReal) := by pointwise [k0_pay9, lift]
theorem fill5 (a : Fin 8) (j : Fin 512) : (k0_pay5 : FVec Ideal S8x512 .f32) (ix2 a j) = ((0 : ℝ) : EReal) := by pointwise [k0_pay5, lift]

section common

/-- The bias' gradient: four chunks added one after the other. -/
theorem dbs_add (p : Inp) (t : ℕ) (U D : FVec Ideal S512x512 .f32) (acc : FVec Ideal S128x512 .f32)
    (hU : ∀ r j : Fin 512, U (ix2 r j) = ((p.u (512 * t + r) j : ℝ) : EReal))
    (hD : ∀ r j : Fin 512, D (ix2 r j) = ((p.dsg (512 * t + r) j : ℝ) : EReal))
    (A : ℕ → ℕ → ℝ) (hacc : ∀ (a : Fin 128) (j : Fin 512), acc (ix2 a j) = ((A a j : ℝ) : EReal)) (a : Fin 128) (j : Fin 512) :
    k0_pay115 (k0_pay82 U D) (k0_pay104 (k0_pay82 U D) (k0_pay93 (k0_pay82 U D) (k0_pay84 U D acc))) (ix2 a j)
      = ((A a j + ∑ q : Fin 4, p.tbs (4 * t + q) a j : ℝ) : EReal) := by
  have hM := pay82_at p t U D hU hD
  pointwise [k0_pay115, k0_pay104, k0_pay93, k0_pay84, hM, hacc, lift]
  refine congrArg (fun s : ℝ => (s : EReal)) ?_
  rw [Fin.sum_univ_four]
  unfold Inp.tbs
  simp only [← add_assoc]
  refine congrArg₂ (· + ·) (congrArg₂ (· + ·) (congrArg₂ (· + ·) (congrArg₂ (· + ·) rfl ?_) ?_) ?_) ?_ <;>
    (congr 1; simp; omega)

theorem row_emb0 (d : Fin 8) (j : Fin 512) (h : d.val = 0) : (ix2 d j : S8x512.Idx)
    = (Rect.unit (s := S8x512) ![0, 0] ![1, 512] inb_S8x512_S1x512_0_0).emb (ix2 (0 : Fin 1) j) := by
  funext a; fin_cases a
  · exact Fin.ext (by show d.val = 0 + 1 * 0; omega)
  · exact Fin.ext (by show j.val = 0 + 1 * j.val; omega)

theorem row_emb1 (d : Fin 8) (j : Fin 512) (h : d.val = 1) : (ix2 d j : S8x512.Idx)
    = (Rect.unit (s := S8x512) ![1, 0] ![1, 512] inb_S8x512_S1x512_1_0).emb (ix2 (0 : Fin 1) j) := by
  funext a; fin_cases a
  · exact Fin.ext (by show d.val = 1 + 1 * 0; omega)
  · exact Fin.ext (by show j.val = 0 + 1 * j.val; omega)

theorem row_emb2 (d : Fin 8) (j : Fin 512) (h : d.val = 2) : (ix2 d j : S8x512.Idx)
    = (Rect.unit (s := S8x512) ![2, 0] ![1, 512] inb_S8x512_S1x512_2_0).emb (ix2 (0 : Fin 1) j) := by
  funext a; fin_cases a
  · exact Fin.ext (by show d.val = 2 + 1 * 0; omega)
  · exact Fin.ext (by show j.val = 0 + 1 * j.val; omega)

/-- The three rows of the convolution's gradient over what the buffer held: the row stored, or what was there. -/
theorem rows3 (x y z : FVec Ideal S1x512 .f32) (L : List (View.Piece (Elt Ideal) S8x512 .f32)) (d : Fin 8) (j : Fin 512) :
    View.canon (Val := Elt Ideal) (⟨Rect.unit (s := S8x512) ![2, 0] ![1, 512] inb_S8x512_S1x512_2_0, z⟩ ::
      ⟨Rect.unit (s := S8x512) ![1, 0] ![1, 512] inb_S8x512_S1x512_1_0, y⟩ ::
      ⟨Rect.unit (s := S8x512) ![0, 0] ![1, 512] inb_S8x512_S1x512_0_0, x⟩ :: L) (ix2 d j)
      = if d.val = 0 then x (ix2 0 j) else if d.val = 1 then y (ix2 0 j) else if d.val = 2 then z (ix2 0 j) else View.canon L (ix2 d j) := by
  have e (r : Rect S8x512) (w : r.shape.Idx → Elt Ideal .f32) (L : List (View.Piece (Elt Ideal) S8x512 .f32)) (i : r.shape.Idx) (y : S8x512.Idx)
      (h : y = r.emb i) : View.canon (⟨r, w⟩ :: L) y = w i := by rw [h]; exact View.canon_cons_emb r w L i
  by_cases h0 : d.val = 0
  · rw [if_pos h0, View.canon_cons_of_not_mem _ _ (by rw [Rect.mem_set_unit]; intro h; have := h 0; simp [h0] at this),
      View.canon_cons_of_not_mem _ _ (by rw [Rect.mem_set_unit]; intro h; have := h 0; simp [h0] at this)]
    exact e (Rect.unit (s := S8x512) ![0, 0] ![1, 512] inb_S8x512_S1x512_0_0) _ _ (ix2 (0 : Fin 1) j) _ (row_emb0 d j h0)
  rw [if_neg h0]
  by_cases h1 : d.val = 1
  · rw [if_pos h1, View.canon_cons_of_not_mem _ _ (by rw [Rect.mem_set_unit]; intro h; have := h 0; simp [h1] at this)]
    exact e (Rect.unit (s := S8x512) ![1, 0] ![1, 512] inb_S8x512_S1x512_1_0) _ _ (ix2 (0 : Fin 1) j) _ (row_emb1 d j h1)
  rw [if_neg h1]
  by_cases h2 : d.val = 2
  · rw [if_pos h2]
    exact e (Rect.unit (s := S8x512) ![2, 0] ![1, 512] inb_S8x512_S1x512_2_0) _ _ (ix2 (0 : Fin 1) j) _ (row_emb2 d j h2)
  rw [if_neg h2]
  rw [View.canon_cons_of_not_mem _ _ (by rw [Rect.mem_set_unit]; intro h; have := h 0; simp at this; omega),
      View.canon_cons_of_not_mem _ _ (by rw [Rect.mem_set_unit]; intro h; have := h 0; simp at this; omega),
      View.canon_cons_of_not_mem _ _ (by rw [Rect.mem_set_unit]; intro h; have := h 0; simp at this; omega)]

/-- The same over a buffer's contents. -/
theorem rows3_over (v : View sig .tc .vmem S8x512 .f32) (f : v.ty.Contents (Elt Ideal)) (x y z : FVec Ideal S1x512 .f32) (d : Fin 8) (j : Fin 512) :
    v.read (Elt Ideal) (v.writes (Elt Ideal) f [⟨Rect.unit (s := S8x512) ![2, 0] ![1, 512] inb_S8x512_S1x512_2_0, z⟩,
      ⟨Rect.unit (s := S8x512) ![1, 0] ![1, 512] inb_S8x512_S1x512_1_0, y⟩,
      ⟨Rect.unit (s := S8x512) ![0, 0] ![1, 512] inb_S8x512_S1x512_0_0, x⟩]) (ix2 d j)
      = if d.val = 0 then x (ix2 0 j) else if d.val = 1 then y (ix2 0 j) else if d.val = 2 then z (ix2 0 j)
        else v.read (Elt Ideal) f (ix2 d j) := by
  by_cases h0 : d.val = 0
  · rw [if_pos h0, View.read_writes_cons_miss _ _ _ _ _ (by rw [Rect.mem_set_unit]; intro h; have := h 0; simp [h0] at this),
      View.read_writes_cons_miss _ _ _ _ _ (by rw [Rect.mem_set_unit]; intro h; have := h 0; simp [h0] at this)]
    exact View.read_writes_cons_hit _ _ (Rect.unit (s := S8x512) ![0, 0] ![1, 512] inb_S8x512_S1x512_0_0) _ _ (ix2 (0 : Fin 1) j) _ (row_emb0 d j h0).symm
  rw [if_neg h0]
  by_cases h1 : d.val = 1
  · rw [if_pos h1, View.read_writes_cons_miss _ _ _ _ _ (by rw [Rect.mem_set_unit]; intro h; have := h 0; simp [h1] at this)]
    exact View.read_writes_cons_hit _ _ (Rect.unit (s := S8x512) ![1, 0] ![1, 512] inb_S8x512_S1x512_1_0) _ _ (ix2 (0 : Fin 1) j) _ (row_emb1 d j h1).symm
  rw [if_neg h1]
  by_cases h2 : d.val = 2
  · rw [if_pos h2]
    exact View.read_writes_cons_hit _ _ (Rect.unit (s := S8x512) ![2, 0] ![1, 512] inb_S8x512_S1x512_2_0) _ _ (ix2 (0 : Fin 1) j) _ (row_emb2 d j h2).symm
  rw [if_neg h2]
  rw [View.read_writes_cons_miss _ _ _ _ _ (by rw [Rect.mem_set_unit]; intro h; have := h 0; simp at this; omega),
      View.read_writes_cons_miss _ _ _ _ _ (by rw [Rect.mem_set_unit]; intro h; have := h 0; simp at this; omega),
      View.read_writes_cons_miss _ _ _ _ _ (by rw [Rect.mem_set_unit]; intro h; have := h 0; simp at this; omega)]
  rfl

/-- The zeroed buffer at an index. -/
theorem zero8 (d : Fin 8) (j : Fin 512) :
    View.canon (Val := Elt Ideal) (e := .f32) [⟨Rect.unit (s := S8x512) ![0, 0] ![8, 512] inb_S8x512_S8x512_0_0, (k0_pay5 : FVec Ideal S8x512 .f32)⟩] (ix2 d j)
      = ((0 : ℝ) : EReal) := by
  rw [View.canon_cons_unit_zero (by funext a; fin_cases a <;> rfl)]
  exact fill5 d j

/-- The rows read back before they are added to are zero. -/
theorem zero_row0 (v : View sig .tc .vmem S8x512 .f32) (j : Fin 512) :
    v.readCov (Val := Elt Ideal) [⟨Rect.unit (s := S8x512) ![0, 0] ![8, 512] inb_S8x512_S8x512_0_0, (k0_pay5 : FVec Ideal S8x512 .f32)⟩]
      (Rect.unit (s := S8x512) ![0, 0] ![1, 512] inb_S8x512_S1x512_0_0).toLoadRect (ix2 (0 : Fin 1) j) = ((0 : ℝ) : EReal) := by
  rw [View.readCov_eq_canon']
  show View.canon _ ((Rect.unit (s := S8x512) ![0, 0] ![1, 512] inb_S8x512_S1x512_0_0).emb (ix2 (0 : Fin 1) j)) = _
  rw [← row_emb0 0 j rfl]
  exact zero8 0 j
theorem zero_row1 (v : View sig .tc .vmem S8x512 .f32) (x : FVec Ideal S1x512 .f32) (j : Fin 512) :
    v.readCov (Val := Elt Ideal) [⟨Rect.unit (s := S8x512) ![0, 0] ![1, 512] inb_S8x512_S1x512_0_0, x⟩,
      ⟨Rect.unit (s := S8x512) ![0, 0] ![8, 512] inb_S8x512_S8x512_0_0, (k0_pay5 : FVec Ideal S8x512 .f32)⟩]
      (Rect.unit (s := S8x512) ![1, 0] ![1, 512] inb_S8x512_S1x512_1_0).toLoadRect (ix2 (0 : Fin 1) j) = ((0 : ℝ) : EReal) := by
  rw [View.readCov_eq_canon']
  show View.canon _ ((Rect.unit (s := S8x512) ![1, 0] ![1, 512] inb_S8x512_S1x512_1_0).emb (ix2 (0 : Fin 1) j)) = _
  rw [← row_emb1 1 j rfl, View.canon_cons_of_not_mem _ _ (by rw [Rect.mem_set_unit]; intro h; have := h 0; simp at this)]
  exact zero8 1 j
theorem zero_row2 (v : View sig .tc .vmem S8x512 .f32) (x y : FVec Ideal S1x512 .f32) (j : Fin 512) :
    v.readCov (Val := Elt Ideal) [⟨Rect.unit (s := S8x512) ![1, 0] ![1, 512] inb_S8x512_S1x512_1_0, y⟩,
      ⟨Rect.unit (s := S8x512) ![0, 0] ![1, 512] inb_S8x512_S1x512_0_0, x⟩,
      ⟨Rect.unit (s := S8x512) ![0, 0] ![8, 512] inb_S8x512_S8x512_0_0, (k0_pay5 : FVec Ideal S8x512 .f32)⟩]
      (Rect.unit (s := S8x512) ![2, 0] ![1, 512] inb_S8x512_S1x512_2_0).toLoadRect (ix2 (0 : Fin 1) j) = ((0 : ℝ) : EReal) := by
  rw [View.readCov_eq_canon']
  show View.canon _ ((Rect.unit (s := S8x512) ![2, 0] ![1, 512] inb_S8x512_S1x512_2_0).emb (ix2 (0 : Fin 1) j)) = _
  rw [← row_emb2 2 j rfl, View.canon_cons_of_not_mem _ _ (by rw [Rect.mem_set_unit]; intro h; have := h 0; simp at this),
    View.canon_cons_of_not_mem _ _ (by rw [Rect.mem_set_unit]; intro h; have := h 0; simp at this)]
  exact zero8 2 j

/-- A row of the block before, loaded. -/
theorem ld_row0 (X : Vec Ideal S8x512 .f32) (j : Fin 512) :
    (View.ld (Val := Elt Ideal) (e' := .f32) X (Rect.unit (s := S8x512) ![0, 0] ![1, 512] inb_S8x512_S1x512_0_0) : FVec Ideal S1x512 .f32) (ix2 0 j)
      = X (ix2 0 j) := by pointwise []
theorem ld_row1 (X : Vec Ideal S8x512 .f32) (j : Fin 512) :
    (View.ld (Val := Elt Ideal) (e' := .f32) X (Rect.unit (s := S8x512) ![1, 0] ![1, 512] inb_S8x512_S1x512_1_0) : FVec Ideal S1x512 .f32) (ix2 0 j)
      = X (ix2 1 j) := by pointwise []
theorem ld_row2 (X : Vec Ideal S8x512 .f32) (j : Fin 512) :
    (View.ld (Val := Elt Ideal) (e' := .f32) X (Rect.unit (s := S8x512) ![2, 0] ![1, 512] inb_S8x512_S1x512_2_0) : FVec Ideal S1x512 .f32) (ix2 0 j)
      = X (ix2 2 j) := by pointwise []

/-- A value given on the rows 0, 1, 2 and elsewhere. -/
theorem row_cases {d : ℕ} {x y z w v : EReal} (h0 : d = 0 → x = v) (h1 : d = 1 → y = v) (h2 : d = 2 → z = v) (h3 : ¬ d < 3 → w = v) :
    (if d = 0 then x else if d = 1 then y else if d = 2 then z else w) = v := by
  by_cases a0 : d = 0
  · rw [if_pos a0, h0 a0]
  rw [if_neg a0]
  by_cases a1 : d = 1
  · rw [if_pos a1, h1 a1]
  rw [if_neg a1]
  by_cases a2 : d = 2
  · rw [if_pos a2, h2 a2]
  rw [if_neg a2, h3 (by omega)]

end common

include H

theorem A16 (r : Fin 512) (j : Fin 2560) : (outA m c t h0).1 (ix2 r j) = ((p.dh (512 * t.val + r) j : ℝ) : EReal) := by
  unfold outA tA; frame_out
  exact hDh H t r j

theorem A17 (r : Fin 512) (j : Fin 1024) : (outA m c t h0).2.1 (ix2 r j) = ((p.dx (512 * t.val + r) j : ℝ) : EReal) := by
  unfold outA tA; frame_out
  exact pay2_at p t.val _ _ _ _ (hDhR H t) (b15_at H t) (b2_at H t) (b3_at H t) _ (b0_at H t) r j

theorem A18 (j : Fin 512) : (outA m c t h0).2.2.1 (ix2 0 j) = ((0 + ∑ r : Fin 512, p.tga (512 * t.val + r) j : ℝ) : EReal) := by
  unfold outA tA; frame_out
  exact pay80_at p t.val _ _ _ _ (hDyc H t) (hU H t) (hMix H t) (fun _ => 0) fill3 j

theorem A19 (j : Fin 512) : (outA m c t h0).2.2.2.1 (ix2 0 j) = ((0 + ∑ r : Fin 512, p.tgb (512 * t.val + r) j : ℝ) : EReal) := by
  unfold outA tA; frame_out
  exact pay29_at p t.val _ _ _ _ (hSc H t) (hRs H t) (h27 H t) (fun _ => 0) fill4 j

theorem A20 (d : Fin 8) (j : Fin 512) : (outA m c t h0).2.2.2.2.1 (ix2 d j)
    = ((if d.val < 3 then 0 + ∑ r : Fin 512, p.tcw (2 - d.val) (512 * t.val + r) j else 0 : ℝ) : EReal) := by
  unfold outA tA; frame_out
  refine (rows3 _ _ _ _ d j).trans (row_cases (fun h => ?_) (fun h => ?_) (fun h => ?_) (fun h => ?_))
  · rw [h]; exact pay37_at p t.val _ _ _ (hZ2 H t) (hDconv H t) (fun _ => 0) (zero_row0 _) j
  · rw [h]; exact pay38_at p t.val _ _ _ (hZ1 H t) (hDconv H t) (fun _ => 0) (zero_row1 _ _) j
  · rw [h]; exact pay39_at p t.val _ _ _ (hZ0 H t) (hDconv H t) (fun _ => 0) (zero_row2 _ _ _) j
  · rw [if_neg h]; exact zero8 d j

theorem A21 (j : Fin 512) : (outA m c t h0).2.2.2.2.2.1 (ix2 0 j) = ((0 + ∑ r : Fin 512, p.tlng (512 * t.val + r) j : ℝ) : EReal) := by
  unfold outA tA; frame_out
  exact pay124_at p t.val _ _ _ (hXh H t) (hDvln H t) (fun _ => 0) fill6 j

theorem A22 (j : Fin 512) : (outA m c t h0).2.2.2.2.2.2.1 (ix2 0 j) = ((0 + ∑ r : Fin 512, p.tlnb (512 * t.val + r) j : ℝ) : EReal) := by
  unfold outA tA; frame_out
  exact pay125_at p t.val _ _ (hDvln H t) (fun _ => 0) fill7 j

theorem A24 (a : Fin 128) (j : Fin 512) : (outA m c t h0).2.2.2.2.2.2.2.2.1 (ix2 a j)
    = ((0 + ∑ q : Fin 4, p.tbs (4 * t.val + q) a j : ℝ) : EReal) := by
  unfold outA tA; frame_out
  exact dbs_add p t.val _ _ _ (hU H t) (hDsg H t) (fun _ _ => 0) fill9 a j

theorem A25 (j : Fin 1024) : (outA m c t h0).2.2.2.2.2.2.2.2.2 (ix2 0 j) = ((0 + ∑ r : Fin 512, p.tgm (512 * t.val + r) j : ℝ) : EReal) := by
  unfold outA tA; frame_out
  exact pay1_at p t.val _ _ _ _ (hDhR H t) (b15_at H t) (b2_at H t) (fun _ => 0) fill10 j

end Cert.Mix.K
-- ==== Proof.Slabs.lean ====
/- The gradient of the token-mixing weights: the four heads' slabs of the accumulated output, each after a grid point's
   four chunks, and what reading the output at a head finds. -/
module

public import proofs.«01_k».proof.Proof.WinA

@[expose] public section

set_option maxRecDepth 16384
set_option maxHeartbeats 1000000

noncomputable section

namespace Cert.Mix.K

open Cert.KernelIdeal Cert.KernelIdeal.Gen
open Idealize.ShloMosaic Idealize.ShloMosaic.TcCoe Idealize.ShloMosaic.Tactic Idealize.SL.Sem

section chunks

variable (p : Inp) (t : ℕ) (V M : FVec Ideal S512x512 .bf16) (U D : FVec Ideal S512x512 .f32) (acc : FVec Ideal S1x128x128 .f32)
    (hV : ∀ r j : Fin 512, V (ix2 r j) = ((p.vln (512 * t + r) j : ℝ) : EReal))
    (hM : ∀ r j : Fin 512, M (ix2 r j) = ((p.dmx (512 * t + r) j : ℝ) : EReal))
    (hU : ∀ r j : Fin 512, U (ix2 r j) = ((p.u (512 * t + r) j : ℝ) : EReal))
    (hD : ∀ r j : Fin 512, D (ix2 r j) = ((p.dsg (512 * t + r) j : ℝ) : EReal))

/-- One chunk's term, from the rows of the tile it is read at. -/
theorem chunk_term (q g a b : ℕ) (f : Fin 128 → ℝ)
    (hf : ∀ j : Fin 128, f j = p.dmx (512 * t + (128 * q + a)) (128 * g + j) * p.vln (512 * t + (128 * q + b)) (128 * g + j)) :
    (if b ≤ a then 1 else 0 : ℝ) * ∑ j, f j = p.twsp (4 * t + q) g a b := by
  unfold Inp.twsp
  refine congrArg _ (Finset.sum_congr rfl fun j _ => ?_)
  rw [hf]
  refine congrArg₂ (· * ·) ?_ ?_ <;> (congr 1 <;> omega)

include hV hM hU hD in
/-- Head 0's slab after the four chunks. -/
theorem slab0_at (x : ℝ) (a b : Fin 128) (hacc : acc (ix3 0 a b) = ((x : ℝ) : EReal)) :
    k0_pay117 k0_pay11 V M (k0_pay107 (k0_pay106 k0_pay11 V M (k0_pay95 k0_pay11 V M (k0_pay86 k0_pay11 U V D acc)))) (ix3 0 a b)
      = ((x + ∑ q : Fin 4, p.twsp (4 * t + q) 0 a b : ℝ) : EReal) := by
  have hM' := pay83_at p t U D hU hD
  pointwise [k0_pay117, k0_pay107, k0_pay106, k0_pay95, k0_pay86, pay11_at, hV, hM, hM', hacc, coe_sum, lift]
  refine congrArg (fun s : ℝ => (s : EReal)) ?_
  rw [Fin.sum_univ_four]
  simp only [← add_assoc]
  refine congrArg₂ (· + ·) (congrArg₂ (· + ·) (congrArg₂ (· + ·) (congrArg₂ (· + ·) rfl ?_) ?_) ?_) ?_ <;>
    (refine chunk_term p t _ _ _ _ _ fun j => ?_; refine congrArg₂ (· * ·) ?_ ?_ <;> (congr 1 <;> simp <;> omega))

include hV hM in
/-- Head 1's slab after the four chunks. -/
theorem slab1_at (x : ℝ) (a b : Fin 128) (hacc : acc (ix3 0 a b) = ((x : ℝ) : EReal)) :
    k0_pay119 k0_pay11 V M (k0_pay109 k0_pay11 V M (k0_pay98 k0_pay11 V M (k0_pay88 k0_pay11 V M acc))) (ix3 0 a b)
      = ((x + ∑ q : Fin 4, p.twsp (4 * t + q) 1 a b : ℝ) : EReal) := by

  pointwise [k0_pay119, k0_pay109, k0_pay98, k0_pay88, pay11_at, hV, hM, hacc, coe_sum, lift]
  refine congrArg (fun s : ℝ => (s : EReal)) ?_
  rw [Fin.sum_univ_four]
  simp only [← add_assoc]
  refine congrArg₂ (· + ·) (congrArg₂ (· + ·) (congrArg₂ (· + ·) (congrArg₂ (· + ·) rfl ?_) ?_) ?_) ?_ <;>
    (refine chunk_term p t _ _ _ _ _ fun j => ?_; refine congrArg₂ (· * ·) ?_ ?_ <;> (congr 1 <;> simp <;> omega))

include hV hM in
/-- Head 2's slab after the four chunks. -/
theorem slab2_at (x : ℝ) (a b : Fin 128) (hacc : acc (ix3 0 a b) = ((x : ℝ) : EReal)) :
    k0_pay121 k0_pay11 V M (k0_pay112 (k0_pay111 k0_pay11 V M (k0_pay100 k0_pay11 V M (k0_pay90 k0_pay11 V M acc)))) (ix3 0 a b)
      = ((x + ∑ q : Fin 4, p.twsp (4 * t + q) 2 a b : ℝ) : EReal) := by

  pointwise [k0_pay121, k0_pay112, k0_pay111, k0_pay100, k0_pay90, pay11_at, hV, hM, hacc, coe_sum, lift]
  refine congrArg (fun s : ℝ => (s : EReal)) ?_
  rw [Fin.sum_univ_four]
  simp only [← add_assoc]
  refine congrArg₂ (· + ·) (congrArg₂ (· + ·) (congrArg₂ (· + ·) (congrArg₂ (· + ·) rfl ?_) ?_) ?_) ?_ <;>
    (refine chunk_term p t _ _ _ _ _ fun j => ?_; refine congrArg₂ (· * ·) ?_ ?_ <;> (congr 1 <;> simp <;> omega))

include hV hM in
/-- Head 3's slab after the four chunks. -/
theorem slab3_at (x : ℝ) (a b : Fin 128) (hacc : acc (ix3 0 a b) = ((x : ℝ) : EReal)) :
    k0_pay123 k0_pay11 V M (k0_pay114 k0_pay11 V M (k0_pay103 k0_pay11 V M (k0_pay92 k0_pay11 V M acc))) (ix3 0 a b)
      = ((x + ∑ q : Fin 4, p.twsp (4 * t + q) 3 a b : ℝ) : EReal) := by

  pointwise [k0_pay123, k0_pay114, k0_pay103, k0_pay92, pay11_at, hV, hM, hacc, coe_sum, lift]
  refine congrArg (fun s : ℝ => (s : EReal)) ?_
  rw [Fin.sum_univ_four]
  simp only [← add_assoc]
  refine congrArg₂ (· + ·) (congrArg₂ (· + ·) (congrArg₂ (· + ·) (congrArg₂ (· + ·) rfl ?_) ?_) ?_) ?_ <;>
    (refine chunk_term p t _ _ _ _ _ fun j => ?_; refine congrArg₂ (· * ·) ?_ ?_ <;> (congr 1 <;> simp <;> omega))

end chunks

theorem slab_emb0 (a b : Fin 128) : (ix3 (0 : Fin 4) a b : S4x128x128.Idx)
    = (Rect.unit (s := S4x128x128) ![0, 0, 0] ![1, 128, 128] inb_S4x128x128_S1x128x128_0_0_0).emb (ix3 (0 : Fin 1) a b) := by
  funext k; fin_cases k
  · exact Fin.ext (by show 0 = 0 + 1 * 0; omega)
  · exact Fin.ext (by show a.val = 0 + 1 * a.val; omega)
  · exact Fin.ext (by show b.val = 0 + 1 * b.val; omega)

theorem slab_emb1 (a b : Fin 128) : (ix3 (1 : Fin 4) a b : S4x128x128.Idx)
    = (Rect.unit (s := S4x128x128) ![1, 0, 0] ![1, 128, 128] inb_S4x128x128_S1x128x128_1_0_0).emb (ix3 (0 : Fin 1) a b) := by
  funext k; fin_cases k
  · exact Fin.ext (by show 1 = 1 + 1 * 0; omega)
  · exact Fin.ext (by show a.val = 0 + 1 * a.val; omega)
  · exact Fin.ext (by show b.val = 0 + 1 * b.val; omega)

theorem slab_emb2 (a b : Fin 128) : (ix3 (2 : Fin 4) a b : S4x128x128.Idx)
    = (Rect.unit (s := S4x128x128) ![2, 0, 0] ![1, 128, 128] inb_S4x128x128_S1x128x128_2_0_0).emb (ix3 (0 : Fin 1) a b) := by
  funext k; fin_cases k
  · exact Fin.ext (by show 2 = 2 + 1 * 0; omega)
  · exact Fin.ext (by show a.val = 0 + 1 * a.val; omega)
  · exact Fin.ext (by show b.val = 0 + 1 * b.val; omega)

theorem slab_emb3 (a b : Fin 128) : (ix3 (3 : Fin 4) a b : S4x128x128.Idx)
    = (Rect.unit (s := S4x128x128) ![3, 0, 0] ![1, 128, 128] inb_S4x128x128_S1x128x128_3_0_0).emb (ix3 (0 : Fin 1) a b) := by
  funext k; fin_cases k
  · exact Fin.ext (by show 3 = 3 + 1 * 0; omega)
  · exact Fin.ext (by show a.val = 0 + 1 * a.val; omega)
  · exact Fin.ext (by show b.val = 0 + 1 * b.val; omega)

/-- Reading the four slabs at a head. -/
theorem slabs4 (x : Fin 4 → FVec Ideal S1x128x128 .f32) (L : List (View.Piece (Elt Ideal) S4x128x128 .f32)) (g : Fin 4) (a b : Fin 128) :
    View.canon (Val := Elt Ideal) (⟨Rect.unit (s := S4x128x128) ![3, 0, 0] ![1, 128, 128] inb_S4x128x128_S1x128x128_3_0_0, x 3⟩ ::
      ⟨Rect.unit (s := S4x128x128) ![2, 0, 0] ![1, 128, 128] inb_S4x128x128_S1x128x128_2_0_0, x 2⟩ ::
      ⟨Rect.unit (s := S4x128x128) ![1, 0, 0] ![1, 128, 128] inb_S4x128x128_S1x128x128_1_0_0, x 1⟩ ::
      ⟨Rect.unit (s := S4x128x128) ![0, 0, 0] ![1, 128, 128] inb_S4x128x128_S1x128x128_0_0_0, x 0⟩ :: L) (ix3 g a b)
      = x g (ix3 0 a b) := by
  have e (r : Rect S4x128x128) (w : r.shape.Idx → Elt Ideal .f32) (L : List (View.Piece (Elt Ideal) S4x128x128 .f32)) (i : r.shape.Idx)
      (y : S4x128x128.Idx) (h : y = r.emb i) : View.canon (⟨r, w⟩ :: L) y = w i := by rw [h]; exact View.canon_cons_emb r w L i
  fin_cases g
  · rw [View.canon_cons_of_not_mem _ _ (by rw [Rect.mem_set_unit]; intro h; have := h 0; simp at this),
      View.canon_cons_of_not_mem _ _ (by rw [Rect.mem_set_unit]; intro h; have := h 0; simp at this),
      View.canon_cons_of_not_mem _ _ (by rw [Rect.mem_set_unit]; intro h; have := h 0; simp at this)]
    exact e (Rect.unit (s := S4x128x128) ![0, 0, 0] ![1, 128, 128] inb_S4x128x128_S1x128x128_0_0_0) _ _ (ix3 (0 : Fin 1) a b) _ (slab_emb0 a b)
  · rw [View.canon_cons_of_not_mem _ _ (by rw [Rect.mem_set_unit]; intro h; have := h 0; simp at this),
      View.canon_cons_of_not_mem _ _ (by rw [Rect.mem_set_unit]; intro h; have := h 0; simp at this)]
    exact e (Rect.unit (s := S4x128x128) ![1, 0, 0] ![1, 128, 128] inb_S4x128x128_S1x128x128_1_0_0) _ _ (ix3 (0 : Fin 1) a b) _ (slab_emb1 a b)
  · rw [View.canon_cons_of_not_mem _ _ (by rw [Rect.mem_set_unit]; intro h; have := h 0; simp at this)]
    exact e (Rect.unit (s := S4x128x128) ![2, 0, 0] ![1, 128, 128] inb_S4x128x128_S1x128x128_2_0_0) _ _ (ix3 (0 : Fin 1) a b) _ (slab_emb2 a b)
  · exact e (Rect.unit (s := S4x128x128) ![3, 0, 0] ![1, 128, 128] inb_S4x128x128_S1x128x128_3_0_0) _ _ (ix3 (0 : Fin 1) a b) _ (slab_emb3 a b)

end Cert.Mix.K

end
-- ==== Proof.WinB.lean ====
/- What a later grid point leaves in the outputs, at the model. -/
module

public import proofs.«01_k».proof.Proof.WinA
public import proofs.«01_k».proof.Proof.KOuts
public import Idealize.ShloMosaic.Lib.Pipeline.ValueKit

@[expose] public section

set_option maxRecDepth 16384
set_option maxHeartbeats 1000000

noncomputable section

namespace Cert.Mix.K

open Cert.KernelIdeal Cert.KernelIdeal.Gen
open Idealize.ShloMosaic Idealize.ShloMosaic.TcCoe Idealize.ShloMosaic.Tactic Idealize.SL.Sem

variable {m : (ℓ : Loc nD τ sig) → Buf (Elt Ideal) ℓ} {c : Dev nD} {p : Inp} (H : Holds p m c) (t : Fin cfg0.N)

include H

section later

variable (hB : ¬t.val % 8 = 0) (o : Outs Ideal)

theorem B16 (r : Fin 512) (j : Fin 2560) : (outB m c t hB o).1 (ix2 r j) = ((p.dh (512 * t.val + r) j : ℝ) : EReal) := by
  unfold outB tB; frame_out
  exact hDh H t r j

theorem B17 (r : Fin 512) (j : Fin 1024) : (outB m c t hB o).2.1 (ix2 r j) = ((p.dx (512 * t.val + r) j : ℝ) : EReal) := by
  unfold outB tB; frame_out
  exact pay2_at p t.val _ _ _ _ (hDhR H t) (b15_at H t) (b2_at H t) (b3_at H t) _ (b0_at H t) r j

theorem B18 (A : ℕ → ℝ) (ho : ∀ j : Fin 512, o.2.2.1 (ix2 0 j) = ((A j : ℝ) : EReal)) (j : Fin 512) : (outB m c t hB o).2.2.1 (ix2 0 j) = ((A j + ∑ r : Fin 512, p.tga (512 * t.val + r) j : ℝ) : EReal) := by
  unfold outB tB; frame_out
  exact pay80_at p t.val _ _ _ _ (hDyc H t) (hU H t) (hMix H t) A ho j

theorem B19 (A : ℕ → ℝ) (ho : ∀ j : Fin 512, o.2.2.2.1 (ix2 0 j) = ((A j : ℝ) : EReal)) (j : Fin 512) : (outB m c t hB o).2.2.2.1 (ix2 0 j) = ((A j + ∑ r : Fin 512, p.tgb (512 * t.val + r) j : ℝ) : EReal) := by
  unfold outB tB; frame_out
  exact pay29_at p t.val _ _ _ _ (hSc H t) (hRs H t) (h27 H t) A ho j

theorem B20 (A : ℕ → ℕ → ℝ) (ho : ∀ (d : Fin 8) (j : Fin 512), o.2.2.2.2.1 (ix2 d j) = ((if d.val < 3 then A d j else 0 : ℝ) : EReal))
    (d : Fin 8) (j : Fin 512) : (outB m c t hB o).2.2.2.2.1 (ix2 d j)
    = ((if d.val < 3 then A d j + ∑ r : Fin 512, p.tcw (2 - d.val) (512 * t.val + r) j else 0 : ℝ) : EReal) := by
  unfold outB tB; frame_out
  refine (rows3_over _ _ _ _ _ d j).trans (row_cases (fun h => ?_) (fun h => ?_) (fun h => ?_) (fun h => ?_))
  · rw [h]; exact pay37_at p t.val _ _ _ (hZ2 H t) (hDconv H t) (A 0) (fun j => (ld_row0 _ j).trans (ho 0 j)) j
  · rw [h]; exact pay38_at p t.val _ _ _ (hZ1 H t) (hDconv H t) (A 1) (fun j => (ld_row1 _ j).trans (ho 1 j)) j
  · rw [h]; exact pay39_at p t.val _ _ _ (hZ0 H t) (hDconv H t) (A 2) (fun j => (ld_row2 _ j).trans (ho 2 j)) j
  · rw [if_neg h, (hs0_20 t).read_unread, ho d j, if_neg h]

theorem B21 (A : ℕ → ℝ) (ho : ∀ j : Fin 512, o.2.2.2.2.2.1 (ix2 0 j) = ((A j : ℝ) : EReal)) (j : Fin 512) : (outB m c t hB o).2.2.2.2.2.1 (ix2 0 j) = ((A j + ∑ r : Fin 512, p.tlng (512 * t.val + r) j : ℝ) : EReal) := by
  unfold outB tB; frame_out
  exact pay124_at p t.val _ _ _ (hXh H t) (hDvln H t) A ho j

theorem B22 (A : ℕ → ℝ) (ho : ∀ j : Fin 512, o.2.2.2.2.2.2.1 (ix2 0 j) = ((A j : ℝ) : EReal)) (j : Fin 512) : (outB m c t hB o).2.2.2.2.2.2.1 (ix2 0 j) = ((A j + ∑ r : Fin 512, p.tlnb (512 * t.val + r) j : ℝ) : EReal) := by
  unfold outB tB; frame_out
  exact pay125_at p t.val _ _ (hDvln H t) A ho j

theorem B24 (A : ℕ → ℕ → ℝ) (ho : ∀ (a : Fin 128) (j : Fin 512), o.2.2.2.2.2.2.2.2.1 (ix2 a j) = ((A a j : ℝ) : EReal)) (a : Fin 128) (j : Fin 512) : (outB m c t hB o).2.2.2.2.2.2.2.2.1 (ix2 a j)
    = ((A a j + ∑ q : Fin 4, p.tbs (4 * t.val + q) a j : ℝ) : EReal) := by
  unfold outB tB; frame_out
  exact dbs_add p t.val _ _ _ (hU H t) (hDsg H t) A ho a j

theorem B25 (A : ℕ → ℝ) (ho : ∀ j : Fin 1024, o.2.2.2.2.2.2.2.2.2 (ix2 0 j) = ((A j : ℝ) : EReal)) (j : Fin 1024) : (outB m c t hB o).2.2.2.2.2.2.2.2.2 (ix2 0 j) = ((A j + ∑ r : Fin 512, p.tgm (512 * t.val + r) j : ℝ) : EReal) := by
  unfold outB tB; frame_out
  exact pay1_at p t.val _ _ _ _ (hDhR H t) (b15_at H t) (b2_at H t) A ho j

end later

end Cert.Mix.K
-- ==== Proof.Acc.lean ====
/- The accumulated outputs after every grid point: the sums over the points so far, and after the last one the sums over
   all the rows. -/
module

public import proofs.«01_k».proof.Proof.WinB

@[expose] public section

set_option maxRecDepth 16384

noncomputable section

namespace Cert.Mix.K

open Cert.KernelIdeal Cert.KernelIdeal.Gen
open Idealize.ShloMosaic Idealize.ShloMosaic.TcCoe Idealize.ShloMosaic.Tactic Idealize.SL.Sem

/-- A sum over points of `K` terms each is the sum over all the terms. -/
theorem sum_points (f : ℕ → ℝ) (K n : ℕ) :
    (∑ s ∈ Finset.range n, ∑ r : Fin K, f (K * s + r)) = ∑ k : Fin (K * n), f k := by
  rw [Fin.sum_univ_eq_sum_range]
  induction n with
  | zero => rfl
  | succ n ih => rw [Finset.sum_range_succ, ih, Nat.mul_succ, Finset.sum_range_add, Fin.sum_univ_eq_sum_range (fun r => f (K * n + r))]

variable {m : (ℓ : Loc nD τ sig) → Buf (Elt Ideal) ℓ} {c : Dev nD} {p : Inp} (H : Holds p m c)

/-- An output's component that starts from a term and adds one at every later point is the sum of the terms. -/
theorem outs_acc {ι κ : Type} (e : ι → κ) (P : Outs Ideal → ι → EReal) (f : ℕ → κ → ℝ)
    (hA : ∀ (t : Fin cfg0.N) (h : t.val % 8 = 0) (i : ι), P (outA m c t h) i = ((0 + f t.val (e i) : ℝ) : EReal))
    (hB : ∀ (t : Fin cfg0.N) (h : ¬t.val % 8 = 0) (o : Outs Ideal) (A : κ → ℝ), (∀ i, P o i = ((A (e i) : ℝ) : EReal)) →
      ∀ i, P (outB m c t h o) i = ((A (e i) + f t.val (e i) : ℝ) : EReal)) :
    ∀ (n : ℕ) (hn : n < cfg0.N) (i : ι), P (outsAt m c n hn) i = ((∑ s ∈ Finset.range (n + 1), f s (e i) : ℝ) : EReal)
  | 0, hn, i => by
    rw [show outsAt m c 0 hn = outA m c ⟨0, hn⟩ (Nat.zero_mod 8) from outsAt_A m c ⟨0, hn⟩ (Nat.zero_mod 8), hA, Finset.sum_range_one, zero_add]
  | n + 1, hn, i => by
    have h : ¬(n + 1) % 8 = 0 := by have : n + 1 < 8 := Nat.lt_of_lt_of_eq hn N_0; omega
    rw [show outsAt m c (n + 1) hn = outB m c ⟨n + 1, hn⟩ h (outsAt m c n (Nat.lt_of_succ_lt hn)) from outsAt_B m c ⟨n + 1, hn⟩ h,
      hB ⟨n + 1, hn⟩ h _ (fun k => ∑ s ∈ Finset.range (n + 1), f s k) (outs_acc e P f hA hB n (Nat.lt_of_succ_lt hn)) i,
      Finset.sum_range_succ _ (n + 1)]

include H

/-- Every point's block of the projected input's gradient, and of the layer input's. -/
theorem at16 (t : Fin cfg0.N) (r : Fin 512) (j : Fin 2560) :
    (outsAt m c t.val t.isLt).1 (ix2 r j) = ((p.dh (512 * t.val + r) j : ℝ) : EReal) := by
  by_cases h : t.val % 8 = 0
  · rw [outsAt_A m c t h]; exact A16 H t h r j
  · rw [outsAt_B m c t h]; exact B16 H t h _ r j

theorem at17 (t : Fin cfg0.N) (r : Fin 512) (j : Fin 1024) :
    (outsAt m c t.val t.isLt).2.1 (ix2 r j) = ((p.dx (512 * t.val + r) j : ℝ) : EReal) := by
  by_cases h : t.val % 8 = 0
  · rw [outsAt_A m c t h]; exact A17 H t h r j
  · rw [outsAt_B m c t h]; exact B17 H t h _ r j

/-- The gradients of the parameters after the last point. -/
theorem last18 (h : 7 < cfg0.N) (j : Fin 512) : (outsAt m c 7 h).2.2.1 (ix2 0 j) = ((∑ r : Fin 4096, p.tga r j : ℝ) : EReal) := by
  rw [outs_acc (fun j : Fin 512 => j.val) (fun o j => o.2.2.1 (ix2 0 j)) (fun t j => ∑ r : Fin 512, p.tga (512 * t + r) j)
    (fun t h j => A18 H t h j) (fun t h o A ho j => B18 H t h o A ho j) 7 h j, sum_points (fun r => p.tga r j) 512 8]

theorem last19 (h : 7 < cfg0.N) (j : Fin 512) : (outsAt m c 7 h).2.2.2.1 (ix2 0 j) = ((∑ r : Fin 4096, p.tgb r j : ℝ) : EReal) := by
  rw [outs_acc (fun j : Fin 512 => j.val) (fun o j => o.2.2.2.1 (ix2 0 j)) (fun t j => ∑ r : Fin 512, p.tgb (512 * t + r) j)
    (fun t h j => A19 H t h j) (fun t h o A ho j => B19 H t h o A ho j) 7 h j, sum_points (fun r => p.tgb r j) 512 8]

theorem last21 (h : 7 < cfg0.N) (j : Fin 512) : (outsAt m c 7 h).2.2.2.2.2.1 (ix2 0 j) = ((∑ r : Fin 4096, p.tlng r j : ℝ) : EReal) := by
  rw [outs_acc (fun j : Fin 512 => j.val) (fun o j => o.2.2.2.2.2.1 (ix2 0 j)) (fun t j => ∑ r : Fin 512, p.tlng (512 * t + r) j)
    (fun t h j => A21 H t h j) (fun t h o A ho j => B21 H t h o A ho j) 7 h j, sum_points (fun r => p.tlng r j) 512 8]

theorem last22 (h : 7 < cfg0.N) (j : Fin 512) : (outsAt m c 7 h).2.2.2.2.2.2.1 (ix2 0 j) = ((∑ r : Fin 4096, p.tlnb r j : ℝ) : EReal) := by
  rw [outs_acc (fun j : Fin 512 => j.val) (fun o j => o.2.2.2.2.2.2.1 (ix2 0 j)) (fun t j => ∑ r : Fin 512, p.tlnb (512 * t + r) j)
    (fun t h j => A22 H t h j) (fun t h o A ho j => B22 H t h o A ho j) 7 h j, sum_points (fun r => p.tlnb r j) 512 8]

theorem last25 (h : 7 < cfg0.N) (j : Fin 1024) : (outsAt m c 7 h).2.2.2.2.2.2.2.2.2 (ix2 0 j) = ((∑ r : Fin 4096, p.tgm r j : ℝ) : EReal) := by
  rw [outs_acc (fun j : Fin 1024 => j.val) (fun o j => o.2.2.2.2.2.2.2.2.2 (ix2 0 j)) (fun t j => ∑ r : Fin 512, p.tgm (512 * t + r) j)
    (fun t h j => A25 H t h j) (fun t h o A ho j => B25 H t h o A ho j) 7 h j, sum_points (fun r => p.tgm r j) 512 8]

theorem last24 (h : 7 < cfg0.N) (a : Fin 128) (j : Fin 512) :
    (outsAt m c 7 h).2.2.2.2.2.2.2.2.1 (ix2 a j) = ((∑ q : Fin 32, p.tbs q a j : ℝ) : EReal) := by
  rw [outs_acc (fun i : Fin 128 × Fin 512 => (i.1.val, i.2.val)) (fun o i => o.2.2.2.2.2.2.2.2.1 (ix2 i.1 i.2))
    (fun t i => ∑ q : Fin 4, p.tbs (4 * t + q) i.1 i.2) (fun t h i => A24 H t h i.1 i.2)
    (fun t h o A ho i => B24 H t h o (fun a j => A (a, j)) (fun a j => ho (a, j)) i.1 i.2) 7 h (a, j), sum_points (fun q => p.tbs q a j) 4 8]

/-- The convolution's gradient after point `n`: three rows of sums, the others zero. -/
theorem acc20 : ∀ (n : ℕ) (hn : n < cfg0.N) (d : Fin 8) (j : Fin 512), (outsAt m c n hn).2.2.2.2.1 (ix2 d j)
    = ((if d.val < 3 then ∑ s ∈ Finset.range (n + 1), ∑ r : Fin 512, p.tcw (2 - d.val) (512 * s + r) j else 0 : ℝ) : EReal)
  | 0, hn, d, j => by
    rw [show outsAt m c 0 hn = outA m c ⟨0, hn⟩ (Nat.zero_mod 8) from outsAt_A m c ⟨0, hn⟩ (Nat.zero_mod 8), A20 H, Finset.sum_range_one, zero_add]
  | n + 1, hn, d, j => by
    have h : ¬(n + 1) % 8 = 0 := by have : n + 1 < 8 := Nat.lt_of_lt_of_eq hn N_0; omega
    rw [show outsAt m c (n + 1) hn = outB m c ⟨n + 1, hn⟩ h (outsAt m c n (Nat.lt_of_succ_lt hn)) from outsAt_B m c ⟨n + 1, hn⟩ h,
      B20 H ⟨n + 1, hn⟩ h _ (fun d j => ∑ s ∈ Finset.range (n + 1), ∑ r : Fin 512, p.tcw (2 - d) (512 * s + r) j)
        (acc20 n (Nat.lt_of_succ_lt hn)) d j, Finset.sum_range_succ _ (n + 1)]

theorem last20 (h : 7 < cfg0.N) (d : Fin 8) (j : Fin 512) : (outsAt m c 7 h).2.2.2.2.1 (ix2 d j)
    = ((if d.val < 3 then ∑ r : Fin 4096, p.tcw (2 - d.val) r j else 0 : ℝ) : EReal) := by
  rw [acc20 H 7 h d j, sum_points (fun r => p.tcw (2 - d.val) r j) 512 8]

end Cert.Mix.K
-- ==== Proof.Win23.lean ====
/- The gradient of the token-mixing weights at every grid point and after the last: the sum over all 32 chunks of rows. -/
module

public import proofs.«01_k».proof.Proof.Slabs
public import proofs.«01_k».proof.Proof.Acc
public import Idealize.ShloMosaic.Lib.Pipeline.ValueKit
public import Idealize.ShloMosaic.Lib.Pipeline.ReadBack

@[expose] public section

set_option maxRecDepth 16384
set_option maxHeartbeats 1000000

noncomputable section

namespace Cert.Mix.K

open Cert.KernelIdeal Cert.KernelIdeal.Gen
open Idealize.ShloMosaic Idealize.ShloMosaic.TcCoe Idealize.ShloMosaic.Tactic Idealize.SL.Sem

variable {m : (ℓ : Loc nD τ sig) → Buf (Elt Ideal) ℓ} {c : Dev nD} {p : Inp} (H : Holds p m c) (t : Fin cfg0.N)

omit H in
theorem fill8 (g : Fin 4) (a b : Fin 128) : (k0_pay8 : FVec Ideal S4x128x128 .f32) (ix3 g a b) = ((0 : ℝ) : EReal) := by pointwise [k0_pay8, lift]

include H

/-- The first point: the term of its four chunks. -/
theorem A23 (h0 : t.val % 8 = 0) (g : Fin 4) (a b : Fin 128) :
    (outA m c t h0).2.2.2.2.2.2.2.1 (ix3 g a b) = ((0 + ∑ q : Fin 4, p.twsp (4 * t.val + q) g a b : ℝ) : EReal) := by
  unfold outA tA; frame_open
  simp (disch := decide) only [↓View.readCov_skip, ↓View.readCov_fill, View.read_writes_junk_eq_canon, View.ld_unit_lit', View.readCov_unit_lit',
    View.readCov_cons_unit_lit', View.readAt_eq_ld, Memref.IsWhole.read_unread, View.readCov_cons_toLoadRect]
  refine (slabs4 ![_, _, _, _] _ g a b).trans ?_
  have hV := pay55_at p t.val _ (hH H t) _ _ (hLng H t) (hLnb H t)
  have hM := pay83_at p t.val _ _ (hU H t) (hDsg H t)
  fin_cases g
  · exact slab0_at p t.val _ _ _ _ _ hV hM (hU H t) (hDsg H t) _ a b ((ld_slab0 _ a b).trans (fill8 0 a b))
  · exact slab1_at p t.val _ _ _ hV hM _ a b ((ld_slab1 _ a b).trans (fill8 1 a b))
  · exact slab2_at p t.val _ _ _ hV hM _ a b ((ld_slab2 _ a b).trans (fill8 2 a b))
  · exact slab3_at p t.val _ _ _ hV hM _ a b ((ld_slab3 _ a b).trans (fill8 3 a b))

/-- A later point: its four chunks' term added to what the point before left. -/
theorem B23 (hB : ¬t.val % 8 = 0) (o : Outs Ideal) (A : ℕ → ℕ → ℕ → ℝ)
    (ho : ∀ (g : Fin 4) (a b : Fin 128), o.2.2.2.2.2.2.2.1 (ix3 g a b) = ((A g a b : ℝ) : EReal)) (g : Fin 4) (a b : Fin 128) :
    (outB m c t hB o).2.2.2.2.2.2.2.1 (ix3 g a b) = ((A g a b + ∑ q : Fin 4, p.twsp (4 * t.val + q) g a b : ℝ) : EReal) := by
  unfold outB tB; frame_open
  simp (disch := decide) only [↓View.readCov_skip, ↓View.readCov_fill, View.read_writes_junk_eq_canon, View.ld_unit_lit', View.readCov_unit_lit',
    View.readCov_cons_unit_lit', View.readAt_eq_ld, Memref.IsWhole.read_unread, View.readCov_cons_toLoadRect]
  refine (slabs4 ![_, _, _, _] _ g a b).trans ?_
  have hV := pay55_at p t.val _ (hH H t) _ _ (hLng H t) (hLnb H t)
  have hM := pay83_at p t.val _ _ (hU H t) (hDsg H t)
  fin_cases g
  · exact slab0_at p t.val _ _ _ _ _ hV hM (hU H t) (hDsg H t) _ a b ((ld_slab0 _ a b).trans (ho 0 a b))
  · exact slab1_at p t.val _ _ _ hV hM _ a b ((ld_slab1 _ a b).trans (ho 1 a b))
  · exact slab2_at p t.val _ _ _ hV hM _ a b ((ld_slab2 _ a b).trans (ho 2 a b))
  · exact slab3_at p t.val _ _ _ hV hM _ a b ((ld_slab3 _ a b).trans (ho 3 a b))

omit t in
/-- After the last point: all 32 chunks. -/
theorem last23 (h : 7 < cfg0.N) (g : Fin 4) (a b : Fin 128) :
    (outsAt m c 7 h).2.2.2.2.2.2.2.1 (ix3 g a b) = ((∑ q : Fin 32, p.twsp q g a b : ℝ) : EReal) := by
  rw [outs_acc (fun i : Fin 4 × Fin 128 × Fin 128 => (i.1.val, i.2.1.val, i.2.2.val)) (fun o i => o.2.2.2.2.2.2.2.1 (ix3 i.1 i.2.1 i.2.2))
    (fun t i => ∑ q : Fin 4, p.twsp (4 * t + q) i.1 i.2.1 i.2.2) (fun t h i => A23 H t h i.1 i.2.1 i.2.2)
    (fun t h o A ho i => B23 H t h o (fun g a b => A (g, a, b)) (fun g a b => ho (g, a, b)) i.1 i.2.1 i.2.2) 7 h (g, a, b),
    sum_points (fun q => p.twsp q g a b) 4 8]

end Cert.Mix.K
end
-- ==== Proof.RefA.lean ====
/- The reference, forward: the projection, the two gates and the two groups, read on real numbers. -/
module

public import proofs.«01_k».proof.Proof.Reals
public import proofs.«01_k».proof.Proof.Gen.ReferenceIdeal.Read

@[expose] public section

set_option maxRecDepth 16384

noncomputable section

namespace Cert.Mix.R

open Idealize.ShloMosaic Idealize.ShloMosaic.TcCoe Idealize.SL.Sem
open Cert.ReferenceIdeal Cert.ReferenceIdeal.Gen Cert.ReferenceIdeal.Read

/-- The reference's arguments, holding the numbers of `p`. -/
structure Args (p : Inp) where
  x0 : FVec Ideal S4096x1024 .f32
  x1 : FVec Ideal S4096x1024 .f32
  x2 : FVec Ideal S1024 .f32
  x3 : FVec Ideal S1024x2560 .f32
  x4 : FVec Ideal S512 .f32
  x5 : FVec Ideal S512 .f32
  x6 : FVec Ideal S4x128x128 .f32
  x7 : FVec Ideal S4x128 .f32
  x8 : FVec Ideal S3x512 .f32
  x9 : FVec Ideal S512 .f32
  x10 : FVec Ideal S512 .f32
  x11 : FVec Ideal S1024x1024 .f32
  a0 : ∀ (r : Fin 4096) (j : Fin 1024), x0 (ix2 r j) = ((p.dy r j : ℝ) : EReal)
  a1 : ∀ (r : Fin 4096) (j : Fin 1024), x1 (ix2 r j) = ((p.x r j : ℝ) : EReal)
  a2 : ∀ j : Fin 1024, x2 (ix1 j) = ((p.gm j : ℝ) : EReal)
  a3 : ∀ (k : Fin 1024) (j : Fin 2560), x3 (ix2 k j) = ((p.win k j : ℝ) : EReal)
  a4 : ∀ j : Fin 512, x4 (ix1 j) = ((p.lng j : ℝ) : EReal)
  a5 : ∀ j : Fin 512, x5 (ix1 j) = ((p.lnb j : ℝ) : EReal)
  a6 : ∀ (g : Fin 4) (a b : Fin 128), x6 (ix3 g a b) = ((p.wsp g a b : ℝ) : EReal)
  a7 : ∀ (g : Fin 4) (a : Fin 128), x7 (ix2 g a) = ((p.bs g a : ℝ) : EReal)
  a8 : ∀ (d : Fin 3) (j : Fin 512), x8 (ix2 d j) = ((p.cw d j : ℝ) : EReal)
  a9 : ∀ j : Fin 512, x9 (ix1 j) = ((p.ga j : ℝ) : EReal)
  a10 : ∀ j : Fin 512, x10 (ix1 j) = ((p.gb j : ℝ) : EReal)
  a11 : ∀ a b : Fin 1024, x11 (ix2 a b) = ((p.wout a b : ℝ) : EReal)

variable {p : Inp} (A : Args p)

/-- Division by a mean square. -/
theorem div_msq (a : ℝ) (n : ℕ) (f : ℕ → ℝ) :
    Ideal.div (a : EReal) ((msq n f : ℝ) : EReal) = ((a * (1 / msq n f) : ℝ) : EReal) :=
  div_real _ _ (msq_pos n f).ne'

/-- Division by the lengths of a row. -/
theorem div_512 (a : ℝ) : Ideal.div (a : EReal) ((512 : ℝ) : EReal) = ((a * (1 / 512) : ℝ) : EReal) :=
  div_real _ _ (by norm_num)
theorem div_1024 (a : ℝ) : Ideal.div (a : EReal) ((1024 : ℝ) : EReal) = ((a * (1 / 1024) : ℝ) : EReal) :=
  div_real _ _ (by norm_num)
theorem div_1e6 (a : ℝ) : Ideal.div (a : EReal) ((1000000 : ℝ) : EReal) = ((a * (1 / 1000000) : ℝ) : EReal) :=
  div_real _ _ (by norm_num)

/-! ### The projection -/

theorem v9_at (r : Fin 4096) : val_main_v9 (F := Ideal) A.x1 (ix2 r 0) = ((msq 1024 (p.x r) : ℝ) : EReal) := by
  pointwise [val_main_v9, val_main_v7, val_main_v8, val_main_cst_1, val_main_v5, val_main_v6, val_main_cst_0,
    val_main_v4, val_main_cst, val_main_v3, A.a1, k_1024, k_eps, lift, coe_sum, div_1024]
  rfl

theorem v10_at (r : Fin 4096) : val_main_v10 (F := Ideal) A.x1 (ix2 r 0) = ((rstd 1024 (p.x r) : ℝ) : EReal) := by
  pointwise [val_main_v10, v9_at A]
  exact rsqrt_msq _ _

theorem v15_at (r : Fin 4096) (j : Fin 1024) :
    val_main_v15 (F := Ideal) A.x1 (ix2 r j) = ((p.x r j * rstd 1024 (p.x r) : ℝ) : EReal) := by
  pointwise [val_main_v15, val_main_v14, v10_at A, A.a1, lift]

theorem v19_at (r : Fin 4096) (j : Fin 2560) :
    val_main_v19 (F := Ideal) A.x1 A.x2 A.x3 (ix2 r j) = ((p.h r j : ℝ) : EReal) := by
  pointwise [val_main_v19, val_main_v18, val_main_v17, val_main_v16, v15_at A, A.a2, A.a3, lift, coe_sum]
  rfl

/-! ### The spatial gate -/

theorem v20_at (r : Fin 4096) (j : Fin 1024) :
    val_main_v20 (F := Ideal) A.x1 A.x2 A.x3 (ix2 r j) = ((p.h r j : ℝ) : EReal) := by
  pointwise [val_main_v20, v19_at A]

theorem v33_at (r : Fin 4096) (j : Fin 1024) :
    val_main_v33 (F := Ideal) A.x1 A.x2 A.x3 (ix2 r j) = ((gth (p.h r j) : ℝ) : EReal) := by
  pointwise [val_main_v33, val_main_v32, val_main_v31, val_main_cst_6, val_main_v30, val_main_v29, val_main_v28,
    val_main_cst_5, val_main_v27, val_main_v26, val_main_cst_4, val_main_v22, val_main_v21, v20_at A, k_44715,
    k_1e6, k_gc, lift, div_1e6]
  refine congrArg (fun s : ℝ => ((Real.tanh s : ℝ) : EReal)) ?_
  unfold gq
  ring

theorem v42_at (r : Fin 4096) (j : Fin 1024) :
    val_main_v42 (F := Ideal) A.x1 A.x2 A.x3 (ix2 r j) = ((1 / 2 * (1 + gth (p.h r j)) : ℝ) : EReal) := by
  pointwise [val_main_v42, val_main_v41, val_main_cst_10, val_main_v40, val_main_v39, val_main_cst_9, v33_at A,
    k_half, lift]

theorem v43_at (r : Fin 4096) (j : Fin 1024) :
    val_main_v43 (F := Ideal) A.x1 A.x2 A.x3 (ix2 r j) = ((gelu (p.h r j) : ℝ) : EReal) := by
  pointwise [val_main_v43, v42_at A, v20_at A, lift]
  refine congrArg (fun s : ℝ => (s : EReal)) ?_
  unfold gelu
  ring

theorem v44_at (r : Fin 4096) (j : Fin 512) :
    val_main_v44 (F := Ideal) A.x1 A.x2 A.x3 (ix2 r j) = ((p.u r j : ℝ) : EReal) := by
  pointwise [val_main_v44, v43_at A]
  rfl

theorem v45_at (r : Fin 4096) (j : Fin 512) :
    val_main_v45 (F := Ideal) A.x1 A.x2 A.x3 (ix2 r j) = ((p.v r j : ℝ) : EReal) := by
  pointwise [val_main_v45, v43_at A]
  rfl

theorem v49_at (r : Fin 4096) :
    val_main_v49 (F := Ideal) A.x1 A.x2 A.x3 (ix2 r 0) = (((∑ k : Fin 512,
    p.v r k) * (1 / (512 : ℕ)) : ℝ) : EReal) := by
  pointwise [val_main_v49, val_main_v48, val_main_cst_12, val_main_v47, val_main_v46, val_main_cst_11, v45_at A,
    k_512, lift, coe_sum, div_512]
  rfl

theorem v51_at (r : Fin 4096) (j : Fin 512) :
    val_main_v51 (F := Ideal) A.x1 A.x2 A.x3 (ix2 r j) = ((p.vc r j : ℝ) : EReal) := by
  pointwise [val_main_v51, val_main_v50, v49_at A, v45_at A, lift]
  rfl

theorem v60_at (r : Fin 4096) (j : Fin 512) :
    val_main_v60 (F := Ideal) A.x1 A.x2 A.x3 (ix2 r j) = ((p.vc r j : ℝ) : EReal) := by
  pointwise [val_main_v60, val_main_v59, v49_at A, v45_at A, lift]
  rfl

theorem v62_at (r : Fin 4096) :
    val_main_v62 (F := Ideal) A.x1 A.x2 A.x3 (ix2 r 0) = ((msq 512 (p.vc r) : ℝ) : EReal) := by
  pointwise [val_main_v62, val_main_v61, val_main_cst_16, val_main_v58, val_main_v57, val_main_cst_15, val_main_v56,
    val_main_v55, val_main_cst_14, val_main_v52, v51_at A, k_512, k_eps, lift, coe_sum, div_512]
  rfl

theorem v63_at (r : Fin 4096) :
    val_main_v63 (F := Ideal) A.x1 A.x2 A.x3 (ix2 r 0) = ((rstd 512 (p.vc r) : ℝ) : EReal) := by
  pointwise [val_main_v63, v62_at A]
  exact rsqrt_msq _ _

theorem v68_at (r : Fin 4096) (j : Fin 512) :
    val_main_v68 (F := Ideal) A.x1 A.x2 A.x3 (ix2 r j) = ((p.xh r j : ℝ) : EReal) := by
  pointwise [val_main_v68, val_main_v67, v60_at A, v63_at A, lift]
  rfl

theorem v74_at (r : Fin 4096) (j : Fin 512) :
    val_main_v74 (F := Ideal) A.x1 A.x2 A.x3 A.x4 A.x5 (ix2 r j) = ((p.vln r j : ℝ) : EReal) := by
  pointwise [val_main_v74, val_main_v73, val_main_v72, val_main_v71, val_main_v70, val_main_v69, v68_at A, A.a4,
    A.a5, lift]
  rfl

theorem v75_at (n : Fin 32) (a : Fin 128) (g : Fin 4) (b : Fin 128) :
    val_main_v75 (F := Ideal) A.x1 A.x2 A.x3 A.x4 A.x5 (ix4 n a g b) = ((p.vln (n * 128 + a) (g * 128 + b) : ℝ) : EReal) := by
  have e := v74_at A ⟨n * 128 + a, by omega⟩ ⟨g * 128 + b, by omega⟩
  pointwise [val_main_v75, e]

end Cert.Mix.R

end
-- ==== Proof.RefB.lean ====
/- The reference, forward: the mix over a chunk's positions, the convolution, and the two groups' normalisations, read
   on real numbers. -/
module

public import proofs.«01_k».proof.Proof.RefA

@[expose] public section

set_option maxRecDepth 16384

noncomputable section

namespace Cert.Mix.R

open Idealize.ShloMosaic Idealize.ShloMosaic.TcCoe Idealize.SL.Sem
open Cert.ReferenceIdeal Cert.ReferenceIdeal.Gen Cert.ReferenceIdeal.Read

variable {p : Inp} (A : Args p)

/-! ### The mix -/

theorem tril_word (a b : Fin 128) :
    IntOp.cmpi .sge (IntOp.addi (BitVec.ofNat 32 a) 0#32) (BitVec.ofNat 32 b) = if (b : ℕ) ≤ a then 1#1 else 0#1 :=
  (by decide +kernel : ∀ a b : Fin 128,
    IntOp.cmpi .sge (IntOp.addi (BitVec.ofNat 32 a) 0#32) (BitVec.ofNat 32 b) = if (b : ℕ) ≤ a then 1#1 else 0#1) a b

theorem v77_at (a b : Fin 128) :
    val_main_v77 (F := Ideal) (ix2 a b) = ((if (b : ℕ) ≤ a then 1 else 0 : ℝ) : EReal) := by
  pointwise [val_main_v77, val_main_v76, val_main_cst_18, val_main_call0_v5, val_main_call0_v4, val_main_call0_v2,
    val_main_call0_v3, val_main_call0_v1, val_main_call0_v0, val_main_call0_c, val_main_call0_cst]
  rw [tril_word]
  split <;> simp [Scalar.select]

theorem v80_at (g : Fin 4) (a b : Fin 128) :
    val_main_v80 (F := Ideal) A.x6 (ix3 g a b) = ((p.wm g a b : ℝ) : EReal) := by
  pointwise [val_main_v80, val_main_v79, val_main_v78, v77_at, A.a6, lift]
  rfl

/-- The mix at position `a` of chunk `n` and column `b` of head `g`. -/
theorem mixed_at {n g a b : ℕ} (ha : a < 128) (hb : b < 128) :
    (∑ s : Fin 128, p.vln (n * 128 + s) (g * 128 + b) * p.wm g a s) + p.bs g a
      = p.mixed (n * 128 + a) (g * 128 + b) := by
  unfold Inp.mixed
  rw [show (g * 128 + b) / 128 = g by omega, show (n * 128 + a) % 128 = a by omega,
    show (n * 128 + a) / 128 * 128 = n * 128 by omega]
  exact congrArg (· + _) (Finset.sum_congr rfl fun _ _ => mul_comm _ _)

theorem v85_at (n : Fin 32) (a : Fin 128) (g : Fin 4) (b : Fin 128) :
    val_main_v85 (F := Ideal) A.x1 A.x2 A.x3 A.x4 A.x5 A.x6 A.x7 (ix4 n a g b)
      = ((p.mixed (n * 128 + a) (g * 128 + b) : ℝ) : EReal) := by
  pointwise [val_main_v85, val_main_v84, val_main_v83, val_main_v82, val_main_v81, val_main_v2, val_main_v1,
    val_main_v0, v75_at A, v80_at A, A.a7, lift, coe_sum]
  rw [mixed_at a.2 b.2]

theorem v86_at (r : Fin 4096) (j : Fin 512) :
    val_main_v86 (F := Ideal) A.x1 A.x2 A.x3 A.x4 A.x5 A.x6 A.x7 (ix2 r j) = ((p.mixed r j : ℝ) : EReal) := by
  have e := v85_at A ⟨r / 128, by omega⟩ ⟨r % 128, by omega⟩ ⟨j / 128, by omega⟩ ⟨j % 128, by omega⟩
  pointwise [val_main_v86, e]
  rw [Nat.div_add_mod' (r : ℕ) 128, Nat.div_add_mod' (j : ℕ) 128]

theorem v87_at (r : Fin 4096) (j : Fin 512) :
    val_main_v87 (F := Ideal) A.x1 A.x2 A.x3 A.x4 A.x5 A.x6 A.x7 (ix2 r j) = ((p.sg r j : ℝ) : EReal) := by
  pointwise [val_main_v87, v44_at A, v86_at A, lift]
  rfl

theorem v94_at (r : Fin 4096) :
    val_main_v94 (F := Ideal) A.x1 A.x2 A.x3 A.x4 A.x5 A.x6 A.x7 (ix2 r 0) = ((msq 512 (p.sg r) : ℝ) : EReal) := by
  pointwise [val_main_v94, val_main_v93, val_main_cst_21, val_main_v92, val_main_v91, val_main_cst_20, val_main_v90,
    val_main_v89, val_main_cst_19, val_main_v88, v87_at A, k_512, k_eps, lift, coe_sum, div_512]
  rfl

theorem v95_at (r : Fin 4096) :
    val_main_v95 (F := Ideal) A.x1 A.x2 A.x3 A.x4 A.x5 A.x6 A.x7 (ix2 r 0) = ((rstd 512 (p.sg r) : ℝ) : EReal) := by
  pointwise [val_main_v95, v94_at A]
  exact rsqrt_msq _ _

theorem v100_at (r : Fin 4096) (j : Fin 512) :
    val_main_v100 (F := Ideal) A.x1 A.x2 A.x3 A.x4 A.x5 A.x6 A.x7 (ix2 r j) = ((p.sg r j * rstd 512 (p.sg r) : ℝ) : EReal) := by
  pointwise [val_main_v100, val_main_v99, v87_at A, v95_at A, lift]

/-! ### The convolution -/

theorem v105_at (r : Fin 4096) (j : Fin 512) :
    val_main_v105 (F := Ideal) A.x1 A.x2 A.x3 (ix2 r j) = ((p.h r (1024 + j) : ℝ) : EReal) := by
  pointwise [val_main_v105, val_main_v104, v19_at A]

theorem v106_at (r : Fin 4096) (j : Fin 512) :
    val_main_v106 (F := Ideal) A.x1 A.x2 A.x3 (ix2 r j) = ((p.h r (1536 + j) : ℝ) : EReal) := by
  pointwise [val_main_v106, val_main_v104, v19_at A]
  rw [show 1024 + (512 + (j : ℕ)) = 1536 + j by omega]

theorem v107_at (r : Fin 4096) (j : Fin 512) :
    val_main_v107 (F := Ideal) A.x1 A.x2 A.x3 (ix2 r j) = ((p.h r (2048 + j) : ℝ) : EReal) := by
  pointwise [val_main_v107, val_main_v104, v19_at A]
  rw [show 1024 + (1024 + (j : ℕ)) = 2048 + j by omega]

theorem v110_at (e : Fin 4098) (j : Fin 512) :
    val_main_v110 (F := Ideal) A.x1 A.x2 A.x3 (ix2 e j) = ((if (e : ℕ) < 2 then 0 else p.z (e - 2) j : ℝ) : EReal) := by
  pointwise [val_main_v110, val_main_v109, val_main_cst_23, val_main_v108, v106_at A, v107_at A, lift]
  by_cases h : (e : ℕ) < 2
  · rw [dif_pos h, if_pos h]
  · rw [dif_neg h, if_neg h]
    rfl

theorem v114_at (r : Fin 4096) (j : Fin 512) :
    val_main_v114 (F := Ideal) A.x1 A.x2 A.x3 (ix2 r j) = ((p.zs 2 r j : ℝ) : EReal) := by
  pointwise [val_main_v114, v110_at A]
  rfl

theorem v120_at (r : Fin 4096) (j : Fin 512) :
    val_main_v120 (F := Ideal) A.x1 A.x2 A.x3 (ix2 r j) = ((p.zs 1 r j : ℝ) : EReal) := by
  pointwise [val_main_v120, v110_at A]
  unfold Inp.zs
  by_cases h : (r : ℕ) < 1
  · rw [if_pos h, if_pos (by omega)]
  · rw [if_neg h, if_neg (by omega), show 1 + (r : ℕ) - 2 = r - 1 by omega]

theorem v127_at (r : Fin 4096) (j : Fin 512) :
    val_main_v127 (F := Ideal) A.x1 A.x2 A.x3 (ix2 r j) = ((p.z r j : ℝ) : EReal) := by
  pointwise [val_main_v127, v110_at A]

theorem v131_at (r : Fin 4096) (j : Fin 512) :
    val_main_v131 (F := Ideal) A.x1 A.x2 A.x3 A.x8 (ix2 r j) = ((p.conv r j : ℝ) : EReal) := by
  have c0 := A.a8 0
  have c1 := A.a8 1
  have c2 := A.a8 2
  pointwise [val_main_v131, val_main_v130, val_main_v129, val_main_v128, val_main_v126, val_main_v125,
    val_main_v124, val_main_v123, val_main_v122, val_main_v121, val_main_v119, val_main_v118, val_main_v117,
    val_main_v116, val_main_v115, val_main_v113, val_main_v112, v114_at A, v120_at A, v127_at A,
    c0, c1, c2, lift]
  rfl

theorem v132_at (r : Fin 4096) (j : Fin 512) :
    val_main_v132 (F := Ideal) A.x1 A.x2 A.x3 A.x8 (ix2 r j) = ((p.sc r j : ℝ) : EReal) := by
  pointwise [val_main_v132, v105_at A, v131_at A, lift]
  rfl

theorem v139_at (r : Fin 4096) :
    val_main_v139 (F := Ideal) A.x1 A.x2 A.x3 A.x8 (ix2 r 0) = ((msq 512 (p.sc r) : ℝ) : EReal) := by
  pointwise [val_main_v139, val_main_v138, val_main_cst_27, val_main_v137, val_main_v136, val_main_cst_26,
    val_main_v135, val_main_v134, val_main_cst_25, val_main_v133, v132_at A, k_512, k_eps, lift, coe_sum, div_512]
  rfl

theorem v140_at (r : Fin 4096) :
    val_main_v140 (F := Ideal) A.x1 A.x2 A.x3 A.x8 (ix2 r 0) = ((rstd 512 (p.sc r) : ℝ) : EReal) := by
  pointwise [val_main_v140, v139_at A]
  exact rsqrt_msq _ _

theorem v145_at (r : Fin 4096) (j : Fin 512) :
    val_main_v145 (F := Ideal) A.x1 A.x2 A.x3 A.x8 (ix2 r j) = ((p.sc r j * rstd 512 (p.sc r) : ℝ) : EReal) := by
  pointwise [val_main_v145, val_main_v144, v132_at A, v140_at A, lift]

/-! ### The cotangent of the two groups -/

theorem v151_at (r : Fin 4096) (j : Fin 1024) :
    val_main_v151 (F := Ideal) A.x0 A.x11 (ix2 r j) = ((p.dyc r j : ℝ) : EReal) := by
  pointwise [val_main_v151, A.a0, A.a11, lift, coe_sum]
  rfl

theorem v152_at (r : Fin 4096) (j : Fin 512) :
    val_main_v152 (F := Ideal) A.x0 A.x11 (ix2 r j) = ((p.dyc r j : ℝ) : EReal) := by
  pointwise [val_main_v152, v151_at A]

theorem v153_at (r : Fin 4096) (j : Fin 512) :
    val_main_v153 (F := Ideal) A.x0 A.x11 (ix2 r j) = ((p.dyc r (512 + j) : ℝ) : EReal) := by
  pointwise [val_main_v153, v151_at A]

end Cert.Mix.R

end
-- ==== Proof.RefC.lean ====
/- The reference, backward through the convolution group: its normalisation, its gates and the three taps, read on
   real numbers. -/
module

public import proofs.«01_k».proof.Proof.RefB

@[expose] public section

set_option maxRecDepth 16384

noncomputable section

namespace Cert.Mix.R

open Idealize.ShloMosaic Idealize.ShloMosaic.TcCoe Idealize.SL.Sem
open Cert.ReferenceIdeal Cert.ReferenceIdeal.Gen Cert.ReferenceIdeal.Read

variable {p : Inp} (A : Args p)

/-- The square of the reciprocal root is the reciprocal. -/
theorem rstd_sq (n : ℕ) (f : ℕ → ℝ) : 1 / msq n f = rstd n f * rstd n f := by
  unfold rstd
  rw [← mul_inv, Real.mul_self_sqrt (msq_pos n f).le, one_div]

/-- A normalisation's gradient as the chain rule composes it: the row's own term, and twice the mean square's. -/
theorem rms_chain (n : ℕ) (d x g : ℕ → ℝ) (j : ℕ) (q : ℝ)
    (hq : q = (∑ k : Fin n, x k * (d k * g k)) * (-(1 / 2) * (rstd n x * (1 / msq n x))) * (1 / n)) :
    d j * g j * rstd n x + x j * q + q * x j = rmsBwd n d x g j := by
  have e : ∑ k : Fin n, x k * (d k * g k) = ∑ k : Fin n, d k * g k * x k :=
    Finset.sum_congr rfl fun _ _ => mul_comm _ _
  rw [hq, rstd_sq, e]
  unfold rmsBwd
  ring

/-- A column's entries are all its first. -/
theorem one_col {w : FVec Ideal S4096x1 .f32} {f : ℕ → ℝ} (h : ∀ r : Fin 4096, w (ix2 r 0) = ((f r : ℝ) : EReal))
    (r : Fin 4096) (x : Fin 1) : w (ix2 r x) = ((f r : ℝ) : EReal) := by
  obtain rfl : x = 0 := Subsingleton.elim _ _
  exact h r

/-- What the mean square's path adds to a row of the convolution group. -/
theorem v169_at (r : Fin 4096) (j : Fin 512) :
    val_main_v169 (F := Ideal) A.x0 A.x1 A.x2 A.x3 A.x8 A.x10 A.x11 (ix2 r j)
      = (((∑ k : Fin 512, p.sc r k * (p.dyc r (512 + k) * p.gb k))
          * (-(1 / 2) * (rstd 512 (p.sc r) * (1 / msq 512 (p.sc r)))) * (1 / (512 : ℕ)) : ℝ) : EReal) := by
  pointwise [val_main_v169, val_main_v168, val_main_cst_33, val_main_v167, val_main_v166, val_main_cst_32,
    val_main_v165, val_main_v162, val_main_v161, val_main_cst_31, val_main_v160, val_main_v158, val_main_v157,
    val_main_v146, val_main_v143, val_main_v142, val_main_cst_28, val_main_v141, v132_at A,
    one_col (f := fun r => msq 512 (p.sc r)) (v139_at A), one_col (f := fun r => rstd 512 (p.sc r)) (v140_at A),
    v153_at A, A.a10, k_512, k_mhalf, lift, coe_sum, div_512, div_msq, Finset.univ_unique, Finset.sum_singleton]
  rfl

theorem v173_at (r : Fin 4096) (j : Fin 512) :
    val_main_v173 (F := Ideal) A.x0 A.x1 A.x2 A.x3 A.x8 A.x10 A.x11 (ix2 r j) = ((p.dsc r j : ℝ) : EReal) := by
  pointwise [val_main_v173, val_main_v172, val_main_v171, val_main_v170, val_main_v164, val_main_v163,
    val_main_v158, val_main_v157, val_main_v146, v169_at A, v132_at A, v140_at A, v153_at A, A.a10, lift]
  exact congrArg (fun s : ℝ => (s : EReal)) (rms_chain 512 (fun k => p.dyc r (512 + k)) (p.sc r) p.gb j _ rfl)

theorem v174_at (r : Fin 4096) (j : Fin 512) :
    val_main_v174 (F := Ideal) A.x0 A.x1 A.x2 A.x3 A.x8 A.x10 A.x11 (ix2 r j) = ((p.dconv r j : ℝ) : EReal) := by
  pointwise [val_main_v174, v173_at A, v105_at A, lift]
  exact congrArg (fun s : ℝ => (s : EReal)) (mul_comm _ _)

theorem v208_at (r : Fin 4096) (j : Fin 512) :
    val_main_v208 (F := Ideal) A.x0 A.x1 A.x2 A.x3 A.x8 A.x10 A.x11 (ix2 r j) = ((p.dz r j : ℝ) : EReal) := by
  have c0 := A.a8 0
  have c1 := A.a8 1
  have c2 := A.a8 2
  pointwise [val_main_v208, val_main_v203, val_main_v202, val_main_cst_44, val_main_v197, val_main_v196,
    val_main_v192, val_main_v191, val_main_cst_40, val_main_v186, val_main_v185, val_main_v182, val_main_cst_36,
    val_main_v177, val_main_v176, val_main_v128, val_main_v126, val_main_v125, val_main_v121, val_main_v119,
    val_main_v118, val_main_v115, val_main_v113, val_main_v112, v174_at A, c0, c1, c2, lift]
  unfold Inp.dz Inp.dcs
  rw [show (r : ℕ) + 1 = 2 + r - 1 by omega, show (r : ℕ) + 2 = 2 + r by omega]
  by_cases h1 : 2 + (r : ℕ) - 1 < 4096 <;> by_cases h2 : 2 + (r : ℕ) < 4096
  · rw [dif_pos ⟨by omega, h1⟩, dif_pos h2, if_pos h1, if_pos h2, lift.2.1, lift.2.1]
  · rw [dif_pos ⟨by omega, h1⟩, dif_neg h2, if_pos h1, if_neg h2, lift.2.1, lift.2.1, mul_zero]
  · omega
  · rw [dif_neg (fun h => h1 h.2), dif_neg h2, if_neg h1, if_neg h2, lift.2.1, lift.2.1, mul_zero, mul_zero]

/-- The convolution group's three column groups of the gradient, with nothing before them. -/
theorem v212_at (r : Fin 4096) (j : Fin 2560) :
    val_main_v212 (F := Ideal) A.x0 A.x1 A.x2 A.x3 A.x8 A.x10 A.x11 (ix2 r j)
      = ((if (j : ℕ) < 1024 then 0 else p.dh r j : ℝ) : EReal) := by
  pointwise [val_main_v212, val_main_cst_46, val_main_v211, val_main_v210, val_main_v209, val_main_v175, v173_at A,
    v131_at A, v208_at A, v106_at A, v107_at A, lift]
  unfold Inp.dh
  by_cases h1 : (j : ℕ) < 1024
  · rw [dif_neg (by omega), if_pos h1]
  rw [dif_pos (by omega), if_neg h1, if_neg (by omega), if_neg h1]
  by_cases h2 : (j : ℕ) - 1024 < 512
  · rw [dif_pos h2, if_pos (by omega)]
  rw [dif_neg h2, if_neg (by omega)]
  by_cases h3 : (j : ℕ) - 1024 - 512 < 512
  · rw [dif_pos h3, if_pos (by omega), show 2048 + ((j : ℕ) - 1024 - 512) = j + 512 by omega,
      show (j : ℕ) - 1024 - 512 = j - 1536 by omega]
  · rw [dif_neg h3, if_neg (by omega), show 1536 + ((j : ℕ) - 1024 - 512 - 512) = j - 512 by omega,
      show (j : ℕ) - 1024 - 512 - 512 = j - 2048 by omega, mul_comm]

/-! ### The gradients of the group's gain and of the taps -/

theorem v320_at (j : Fin 512) :
    val_main_v320 (F := Ideal) A.x0 A.x1 A.x2 A.x3 A.x8 A.x11 (ix2 0 j) = ((∑ r : Fin 4096,
    p.tgb r j : ℝ) : EReal) := by
  pointwise [val_main_v320, val_main_v159, val_main_cst_30, val_main_v156, val_main_v155, val_main_cst_29,
    val_main_v154, v145_at A, v153_at A, lift, coe_sum, Finset.univ_unique, Finset.sum_singleton]
  exact congrArg (fun s : ℝ => (s : EReal)) (Finset.sum_congr rfl fun _ _ => mul_comm _ _)

theorem v322_at (d : Fin 8) (j : Fin 512) :
    val_main_v322 (F := Ideal) A.x0 A.x1 A.x2 A.x3 A.x8 A.x10 A.x11 (ix2 d j)
      = ((if (d : ℕ) < 3 then ∑ r : Fin 4096, p.tcw (2 - d) r j else 0 : ℝ) : EReal) := by
  pointwise [val_main_v322, val_main_v321, val_main_cst_75, val_main_v206, val_main_v205, val_main_cst_45,
    val_main_v204, val_main_v201, val_main_cst_43, val_main_v200, val_main_v199, val_main_cst_42, val_main_v198,
    val_main_v195, val_main_v194, val_main_cst_41, val_main_v193, val_main_v190, val_main_cst_39, val_main_v189,
    val_main_v188, val_main_cst_38, val_main_v187, val_main_v184, val_main_cst_37, val_main_v183, val_main_v181,
    val_main_cst_35, val_main_v180, val_main_v179, val_main_cst_34, val_main_v178, v174_at A, v114_at A,
    v120_at A, v127_at A, lift, coe_sum, Finset.univ_unique, Finset.sum_singleton]
  obtain ⟨d, hd⟩ := d
  by_cases h3 : d < 3
  · rw [dif_pos h3, if_pos h3]
    have : d = 0 ∨ d = 1 ∨ d = 2 := by omega
    rcases this with rfl | rfl | rfl
    · dsimp only
      rw [dif_neg (by omega), dif_neg (by omega), dif_pos (by omega), lift.2.1, lift.2.1, zero_add, zero_add]
      rfl
    · dsimp only
      rw [dif_neg (by omega), dif_pos (by omega), dif_neg (by omega), lift.2.1, lift.2.1, zero_add, add_zero]
      rfl
    · dsimp only
      rw [dif_pos (by omega), dif_neg (by omega), dif_neg (by omega), lift.2.1, lift.2.1, add_zero, add_zero]
      exact congrArg (fun s : ℝ => (s : EReal)) (Finset.sum_congr rfl fun r _ => by
        unfold Inp.tcw
        rw [show 2 - 2 = 0 from rfl, Inp.zs_zero])
  · rw [dif_neg h3, if_neg h3]

end Cert.Mix.R

end
-- ==== Proof.RefD.lean ====
/- The reference, backward through the spatial gate: its normalisation, the mix, the layer normalisation and the
   gate, read on real numbers. -/
module

public import proofs.«01_k».proof.Proof.RefC

@[expose] public section

set_option maxRecDepth 16384

noncomputable section

namespace Cert.Mix.R

open Idealize.ShloMosaic Idealize.ShloMosaic.TcCoe Idealize.SL.Sem
open Cert.ReferenceIdeal Cert.ReferenceIdeal.Gen Cert.ReferenceIdeal.Read

variable {p : Inp} (A : Args p)

/-- What the mean square's path adds to a row of the gate group. -/
theorem v228_at (r : Fin 4096) (j : Fin 512) :
    val_main_v228 (F := Ideal) A.x0 A.x1 A.x2 A.x3 A.x4 A.x5 A.x6 A.x7 A.x9 A.x11 (ix2 r j)
      = (((∑ k : Fin 512, p.sg r k * (p.dyc r k * p.ga k))
          * (-(1 / 2) * (rstd 512 (p.sg r) * (1 / msq 512 (p.sg r)))) * (1 / (512 : ℕ)) : ℝ) : EReal) := by
  pointwise [val_main_v228, val_main_v227, val_main_cst_51, val_main_v226, val_main_v225, val_main_cst_50,
    val_main_v224, val_main_v221, val_main_v220, val_main_cst_49, val_main_v219, val_main_v217, val_main_v216,
    val_main_v101, val_main_v98, val_main_v97, val_main_cst_22, val_main_v96, v87_at A,
    one_col (f := fun r => msq 512 (p.sg r)) (v94_at A),
    one_col (f := fun r => rstd 512 (p.sg r)) (v95_at A), v152_at A, A.a9, k_512, k_mhalf, lift, coe_sum, div_512,
    div_msq,
    Finset.univ_unique, Finset.sum_singleton]
  rfl

theorem v232_at (r : Fin 4096) (j : Fin 512) :
    val_main_v232 (F := Ideal) A.x0 A.x1 A.x2 A.x3 A.x4 A.x5 A.x6 A.x7 A.x9 A.x11 (ix2 r j) = ((p.dsg r j : ℝ) : EReal) := by
  pointwise [val_main_v232, val_main_v231, val_main_v230, val_main_v229, val_main_v223, val_main_v222,
    val_main_v217, val_main_v216, val_main_v101, v228_at A, v87_at A, v95_at A, v152_at A, A.a9, lift]
  exact congrArg (fun s : ℝ => (s : EReal)) (rms_chain 512 (p.dyc r) (p.sg r) p.ga j _ rfl)

theorem v233_at (r : Fin 4096) (j : Fin 512) :
    val_main_v233 (F := Ideal) A.x0 A.x1 A.x2 A.x3 A.x4 A.x5 A.x6 A.x7 A.x9 A.x11 (ix2 r j) = ((p.dmx r j : ℝ) : EReal) := by
  pointwise [val_main_v233, v232_at A, v44_at A, lift]
  exact congrArg (fun s : ℝ => (s : EReal)) (mul_comm _ _)

theorem v234_at (r : Fin 4096) (j : Fin 512) :
    val_main_v234 (F := Ideal) A.x0 A.x1 A.x2 A.x3 A.x4 A.x5 A.x6 A.x7 A.x9 A.x11 (ix2 r j) = ((p.du r j : ℝ) : EReal) := by
  pointwise [val_main_v234, v232_at A, v86_at A, lift]
  rfl

theorem v235_at (n : Fin 32) (a : Fin 128) (g : Fin 4) (b : Fin 128) :
    val_main_v235 (F := Ideal) A.x0 A.x1 A.x2 A.x3 A.x4 A.x5 A.x6 A.x7 A.x9 A.x11 (ix4 n a g b)
      = ((p.dmx (n * 128 + a) (g * 128 + b) : ℝ) : EReal) := by
  have e := v233_at A ⟨n * 128 + a, by omega⟩ ⟨g * 128 + b, by omega⟩
  pointwise [val_main_v235, e]

/-- The cotangent of the normalised half at position `a` of chunk `n` and column `b` of head `g`. -/
theorem dvln_at {n g a b : ℕ} (ha : a < 128) (hb : b < 128) :
    (∑ s : Fin 128, p.dmx (n * 128 + s) (g * 128 + b) * p.wm g s a) = p.dvln (n * 128 + a) (g * 128 + b) := by
  unfold Inp.dvln
  rw [show (g * 128 + b) / 128 = g by omega, show (n * 128 + a) % 128 = a by omega,
    show (n * 128 + a) / 128 * 128 = n * 128 by omega]
  exact Finset.sum_congr rfl fun _ _ => mul_comm _ _

theorem v242_at (n : Fin 32) (a : Fin 128) (g : Fin 4) (b : Fin 128) :
    val_main_v242 (F := Ideal) A.x0 A.x1 A.x2 A.x3 A.x4 A.x5 A.x6 A.x7 A.x9 A.x11 (ix4 n a g b)
      = ((p.dvln (n * 128 + a) (g * 128 + b) : ℝ) : EReal) := by
  pointwise [val_main_v242, val_main_v241, val_main_v239, v235_at A, v80_at A, lift, coe_sum]
  rw [dvln_at a.2 b.2]

theorem v245_at (r : Fin 4096) (j : Fin 512) :
    val_main_v245 (F := Ideal) A.x0 A.x1 A.x2 A.x3 A.x4 A.x5 A.x6 A.x7 A.x9 A.x11 (ix2 r j) = ((p.dvln r j : ℝ) : EReal) := by
  have e := v242_at A ⟨r / 128, by omega⟩ ⟨r % 128, by omega⟩ ⟨j / 128, by omega⟩ ⟨j % 128, by omega⟩
  pointwise [val_main_v245, e]
  rw [Nat.div_add_mod' (r : ℕ) 128, Nat.div_add_mod' (j : ℕ) 128]

theorem v253_at (r : Fin 4096) (j : Fin 512) :
    val_main_v253 (F := Ideal) A.x0 A.x1 A.x2 A.x3 A.x4 A.x5 A.x6 A.x7 A.x9 A.x11 (ix2 r j) = ((p.dxh r j : ℝ) : EReal) := by
  pointwise [val_main_v253, val_main_v252, val_main_v69, v245_at A, A.a4, lift]
  rfl

/-- The entries less their mean sum to zero. -/
theorem vc_sum (r : ℕ) : ∑ k : Fin 512, p.vc r k = 0 := by
  unfold Inp.vc
  rw [Finset.sum_sub_distrib, Finset.sum_const, Finset.card_univ, Fintype.card_fin, nsmul_eq_mul]
  ring

/-- The layer normalisation's gradient as the chain rule composes it: the row's own term, the variance's path, and
    the mean's path through both. -/
theorem ln_chain (r j : ℕ) (q : ℝ)
    (hq : q = (∑ k : Fin 512, p.vc r k * p.dxh r k)
      * (-(1 / 2) * (rstd 512 (p.vc r) * (1 / msq 512 (p.vc r)))) * (1 / (512 : ℕ))) :
    p.dxh r j * rstd 512 (p.vc r) + q * (2 * p.vc r j)
        + ((∑ k : Fin 512, -(p.dxh r k * rstd 512 (p.vc r))) + ∑ k : Fin 512, -(q * (2 * p.vc r k))) * (1 / (512 : ℕ))
      = p.dv r j := by
  have e : ∑ k : Fin 512, p.dxh r k * p.xh r k = (∑ k : Fin 512, p.vc r k * p.dxh r k) * rstd 512 (p.vc r) := by
    rw [Finset.sum_mul]
    exact Finset.sum_congr rfl fun k _ => by unfold Inp.xh; ring
  have e0 : ∑ k : Fin 512, -(q * (2 * p.vc r k)) = 0 := by
    rw [Finset.sum_neg_distrib, ← Finset.mul_sum, ← Finset.mul_sum, vc_sum]
    ring
  have e1 : ∑ k : Fin 512, -(p.dxh r k * rstd 512 (p.vc r)) = -((∑ k : Fin 512, p.dxh r k) * rstd 512 (p.vc r)) := by
    rw [Finset.sum_neg_distrib, Finset.sum_mul]
  rw [e0, e1, hq, rstd_sq]
  unfold Inp.dv
  rw [e]
  unfold Inp.xh
  ring

theorem v267_at (r : Fin 4096) (j : Fin 512) :
    val_main_v267 (F := Ideal) A.x0 A.x1 A.x2 A.x3 A.x4 A.x5 A.x6 A.x7 A.x9 A.x11 (ix2 r j)
      = (((∑ k : Fin 512, p.vc r k * p.dxh r k)
          * (-(1 / 2) * (rstd 512 (p.vc r) * (1 / msq 512 (p.vc r)))) * (1 / (512 : ℕ)) : ℝ) : EReal) := by
  pointwise [val_main_v267, val_main_v266, val_main_cst_61, val_main_v265, val_main_v264, val_main_cst_60,
    val_main_v260, val_main_v257, val_main_v256, val_main_cst_58, val_main_v255, val_main_v66, val_main_v65,
    val_main_cst_17, val_main_v64, v60_at A, one_col (f := fun r => msq 512 (p.vc r)) (v62_at A),
    one_col (f := fun r => rstd 512 (p.vc r)) (v63_at A), v253_at A, k_512, k_mhalf, lift, coe_sum, div_512, div_msq,
    Finset.univ_unique, Finset.sum_singleton]
  rfl

theorem v278_at (r : Fin 4096) (j : Fin 512) :
    val_main_v278 (F := Ideal) A.x0 A.x1 A.x2 A.x3 A.x4 A.x5 A.x6 A.x7 A.x9 A.x11 (ix2 r j) = ((p.dv r j : ℝ) : EReal) := by
  pointwise [val_main_v278, val_main_v277, val_main_v276, val_main_cst_64, val_main_v275, val_main_v274,
    val_main_cst_63, val_main_v273, val_main_v272, val_main_v271, val_main_v270, val_main_cst_62, val_main_v269,
    val_main_v268, val_main_v263, val_main_v262, val_main_cst_59, val_main_v261, val_main_v259, val_main_v258,
    val_main_v54, val_main_v53, val_main_cst_13, v267_at A, v253_at A, v51_at A,
    one_col (f := fun r => rstd 512 (p.vc r)) (v63_at A), k_512, k_2, lift, coe_sum, div_512, Finset.univ_unique,
    Finset.sum_singleton]
  exact congrArg (fun s : ℝ => (s : EReal)) (ln_chain r j _ rfl)

theorem v279_at (r : Fin 4096) (j : Fin 1024) :
    val_main_v279 (F := Ideal) A.x0 A.x1 A.x2 A.x3 A.x4 A.x5 A.x6 A.x7 A.x9 A.x11 (ix2 r j)
      = ((if (j : ℕ) < 512 then p.du r j else p.dv r (j - 512) : ℝ) : EReal) := by
  pointwise [val_main_v279, v234_at A, v278_at A]
  by_cases h : (j : ℕ) < 512
  · rw [dif_pos h, if_pos h]
  · rw [dif_neg h, if_neg h]

theorem v293_at (r : Fin 4096) (j : Fin 1024) :
    val_main_v293 (F := Ideal) A.x0 A.x1 A.x2 A.x3 A.x4 A.x5 A.x6 A.x7 A.x9 A.x11 (ix2 r j) = ((p.dh r j : ℝ) : EReal) := by
  pointwise [val_main_v293, val_main_v292, val_main_v291, val_main_v290, val_main_cst_68, val_main_v289,
    val_main_v288, val_main_cst_67, val_main_v287, val_main_v286, val_main_v285, val_main_cst_66, val_main_v284,
    val_main_v283, val_main_v282, val_main_cst_65, val_main_v281, val_main_v280, val_main_v38, val_main_v37,
    val_main_v36, val_main_cst_8, val_main_v35, val_main_v34, val_main_cst_7, val_main_v25, val_main_v24,
    val_main_cst_3, val_main_v23, v20_at A, v33_at A, v42_at A,
    v279_at A, k_half, k_gc, k_1e6, k_44715, k_3, lift, div_1e6]
  refine congrArg (fun s : ℝ => (s : EReal)) ?_
  unfold Inp.dh
  rw [if_pos j.2]
  by_cases h : (j : ℕ) < 512
  · rw [if_pos h, if_pos h]
    unfold dgelu gq
    ring
  · rw [if_neg h, if_neg h]
    unfold dgelu gq
    ring

end Cert.Mix.R

end
-- ==== Proof.RefE.lean ====
/- The reference's ten results, read on real numbers. -/
module

public import proofs.«01_k».proof.Proof.RefD

@[expose] public section

set_option maxRecDepth 16384

noncomputable section

namespace Cert.Mix.R

open Idealize.ShloMosaic Idealize.ShloMosaic.TcCoe Idealize.SL.Sem
open Cert.ReferenceIdeal Cert.ReferenceIdeal.Gen Cert.ReferenceIdeal.Read

variable {p : Inp} (A : Args p)

theorem v295_at (r : Fin 4096) (j : Fin 2560) :
    val_main_v295 (F := Ideal) A.x0 A.x1 A.x2 A.x3 A.x4 A.x5 A.x6 A.x7 A.x8 A.x9 A.x10 A.x11 (ix2 r j) = ((p.dh r j : ℝ) : EReal) := by
  pointwise [val_main_v295, val_main_v294, val_main_cst_69, v212_at A, v293_at A, lift]
  by_cases h : (j : ℕ) < 1024
  · rw [if_pos h, dif_pos h, lift.2.1, zero_add]
  · rw [if_neg h, dif_neg h, lift.2.1, add_zero]

theorem v317_at (r : Fin 4096) (j : Fin 2560) :
    val_main_v317 (F := Ideal) A.x0 A.x1 A.x2 A.x3 A.x4 A.x5 A.x6 A.x7 A.x8 A.x9 A.x10 A.x11 (ix2 r j) = ((p.dh r j : ℝ) : EReal) := by
  pointwise [val_main_v317, v295_at A]

theorem v296_at (r : Fin 4096) (j : Fin 1024) :
    val_main_v296 (F := Ideal) A.x0 A.x1 A.x2 A.x3 A.x4 A.x5 A.x6 A.x7 A.x8 A.x9 A.x10 A.x11 (ix2 r j) = ((p.dxn r j : ℝ) : EReal) := by
  pointwise [val_main_v296, v295_at A, A.a3, lift, coe_sum]
  rfl

theorem v312_at (r : Fin 4096) (j : Fin 1024) :
    val_main_v312 (F := Ideal) A.x0 A.x1 A.x2 A.x3 A.x4 A.x5 A.x6 A.x7 A.x8 A.x9 A.x10 A.x11 (ix2 r j)
      = (((∑ k : Fin 1024, p.x r k * (p.dxn r k * p.gm k))
          * (-(1 / 2) * (rstd 1024 (p.x r) * (1 / msq 1024 (p.x r)))) * (1 / (1024 : ℕ)) : ℝ) : EReal) := by
  pointwise [val_main_v312, val_main_v311, val_main_cst_74, val_main_v310, val_main_v309, val_main_cst_73,
    val_main_v308, val_main_v305, val_main_v304, val_main_cst_72, val_main_v303, val_main_v301, val_main_v300,
    val_main_v16, val_main_v13, val_main_v12, val_main_cst_2, val_main_v11,
    one_col (f := fun r => msq 1024 (p.x r)) (v9_at A),
    one_col (f := fun r => rstd 1024 (p.x r)) (v10_at A), v296_at A, A.a1, A.a2, k_1024, k_mhalf, lift, coe_sum,
    div_1024, div_msq,
    Finset.univ_unique, Finset.sum_singleton]
  rfl

theorem v318_at (r : Fin 4096) (j : Fin 1024) :
    val_main_v318 (F := Ideal) A.x0 A.x1 A.x2 A.x3 A.x4 A.x5 A.x6 A.x7 A.x8 A.x9 A.x10 A.x11 (ix2 r j) = ((p.dx r j : ℝ) : EReal) := by
  pointwise [val_main_v318, val_main_v316, val_main_v315, val_main_v314, val_main_v313, val_main_v307,
    val_main_v306, val_main_v301, val_main_v300, val_main_v16, v312_at A, v296_at A, v10_at A, A.a0, A.a1, A.a2, lift]
  exact congrArg (fun s : ℝ => ((p.dy r j + s : ℝ) : EReal)) (rms_chain 1024 (p.dxn r) (p.x r) p.gm j _ rfl)

theorem v319_at (j : Fin 512) :
    val_main_v319 (F := Ideal) A.x0 A.x1 A.x2 A.x3 A.x4 A.x5 A.x6 A.x7 A.x11 (ix2 0 j) = ((∑ r : Fin 4096,
    p.tga r j : ℝ) : EReal) := by
  pointwise [val_main_v319, val_main_v218, val_main_cst_48, val_main_v215, val_main_v214, val_main_cst_47,
    val_main_v213, v100_at A, v152_at A, lift, coe_sum, Finset.univ_unique, Finset.sum_singleton]
  exact congrArg (fun s : ℝ => (s : EReal)) (Finset.sum_congr rfl fun _ _ => mul_comm _ _)

theorem v323_at (j : Fin 512) :
    val_main_v323 (F := Ideal) A.x0 A.x1 A.x2 A.x3 A.x4 A.x5 A.x6 A.x7 A.x9 A.x11 (ix2 0 j) = ((∑ r : Fin 4096,
    p.tlng r j : ℝ) : EReal) := by
  pointwise [val_main_v323, val_main_v254, val_main_cst_57, val_main_v251, val_main_v250, val_main_cst_56,
    val_main_v249, v68_at A, v245_at A, lift, coe_sum, Finset.univ_unique, Finset.sum_singleton]
  exact congrArg (fun s : ℝ => (s : EReal)) (Finset.sum_congr rfl fun _ _ => mul_comm _ _)

theorem v324_at (j : Fin 512) :
    val_main_v324 (F := Ideal) A.x0 A.x1 A.x2 A.x3 A.x4 A.x5 A.x6 A.x7 A.x9 A.x11 (ix2 0 j) = ((∑ r : Fin 4096,
    p.tlnb r j : ℝ) : EReal) := by
  pointwise [val_main_v324, val_main_v248, val_main_cst_55, val_main_v247, val_main_v246, val_main_cst_54,
    v245_at A, lift, coe_sum, Finset.univ_unique, Finset.sum_singleton]
  rfl

theorem v326_at (j : Fin 1024) :
    val_main_v326 (F := Ideal) A.x0 A.x1 A.x2 A.x3 A.x4 A.x5 A.x6 A.x7 A.x8 A.x9 A.x10 A.x11 (ix2 0 j)
      = ((∑ r : Fin 4096, p.tgm r j : ℝ) : EReal) := by
  pointwise [val_main_v326, val_main_v302, val_main_cst_71, val_main_v299, val_main_v298, val_main_cst_70,
    val_main_v297, v15_at A, v296_at A, lift, coe_sum, Finset.univ_unique, Finset.sum_singleton]
  exact congrArg (fun s : ℝ => (s : EReal)) (Finset.sum_congr rfl fun _ _ => mul_comm _ _)

theorem v325_at (a : Fin 128) (j : Fin 512) :
    val_main_v325 (F := Ideal) A.x0 A.x1 A.x2 A.x3 A.x4 A.x5 A.x6 A.x7 A.x9 A.x11 (ix2 a j)
      = ((∑ q : Fin 32, p.tbs q a j : ℝ) : EReal) := by
  have e := fun n => v235_at A n a ⟨j / 128, by omega⟩ ⟨j % 128, by omega⟩
  pointwise [val_main_v325, val_main_v238, val_main_cst_53, val_main_v237, val_main_v236, val_main_cst_52, e, lift,
    coe_sum, Finset.univ_unique, Finset.sum_singleton]
  rw [Nat.div_add_mod' (j : ℕ) 128]
  rfl

theorem v244_at (g : Fin 4) (a b : Fin 128) :
    val_main_v244 (F := Ideal) A.x0 A.x1 A.x2 A.x3 A.x4 A.x5 A.x6 A.x7 A.x9 A.x11 (ix3 g a b)
      = ((∑ q : Fin 32, p.twsp q g a b : ℝ) : EReal) := by
  pointwise [val_main_v244, val_main_v243, val_main_v240, val_main_v239, val_main_v78, v235_at A, v75_at A, v77_at,
    lift, coe_sum]
  rw [Finset.sum_mul]
  exact congrArg (fun s : ℝ => (s : EReal)) (Finset.sum_congr rfl fun _ _ => mul_comm _ _)

end Cert.Mix.R

end
-- ==== Proof.Results.lean ====
/- The ten result arrays at the model, and the reference's run: it ends with these arrays in its results. -/
module

public import proofs.«01_k».proof.Proof.RefE
public import proofs.«01_k».proof.Proof.Gen.ReferenceIdeal.Run

@[expose] public section

set_option maxRecDepth 16384

noncomputable section

namespace Cert.Mix

open Idealize.ShloMosaic Idealize.ShloMosaic.TcCoe Idealize.SL.Sem Idealize.ShloMosaic.StableHlo

/-! ## The result arrays -/

section

variable (p : Inp)

/-- The gradient of the projected input. -/
def o16 : FVec Ideal ⟨2, ![4096, 2560]⟩ .bf16 := fun i => ((p.dh (i 0) (i 1) : ℝ) : EReal)

/-- The gradient of the layer's input, its residual part included. -/
def o17 : FVec Ideal ⟨2, ![4096, 1024]⟩ .f32 := fun i => ((p.dx (i 0) (i 1) : ℝ) : EReal)

/-- The gradient of the gated group's gain. -/
def o18 : FVec Ideal ⟨2, ![1, 512]⟩ .f32 := fun i => ((∑ r : Fin 4096, p.tga r (i 1) : ℝ) : EReal)

/-- The gradient of the convolution group's gain. -/
def o19 : FVec Ideal ⟨2, ![1, 512]⟩ .f32 := fun i => ((∑ r : Fin 4096, p.tgb r (i 1) : ℝ) : EReal)

/-- The gradient of the three taps, in rows 0 to 2 of eight. -/
def o20 : FVec Ideal ⟨2, ![8, 512]⟩ .f32 := fun i => ((if (i 0).val < 3 then ∑ r : Fin 4096, p.tcw (2 - (i 0).val) r (i 1) else 0 : ℝ) : EReal)

/-- The gradients of the gate's normalisation, gain and shift. -/
def o21 : FVec Ideal ⟨2, ![1, 512]⟩ .f32 := fun i => ((∑ r : Fin 4096, p.tlng r (i 1) : ℝ) : EReal)
def o22 : FVec Ideal ⟨2, ![1, 512]⟩ .f32 := fun i => ((∑ r : Fin 4096, p.tlnb r (i 1) : ℝ) : EReal)

/-- The gradient of the spatial weights. -/
def o23 : FVec Ideal ⟨3, ![4, 128, 128]⟩ .f32 := fun i => ((∑ q : Fin 32, p.twsp q (i 0) (i 1) (i 2) : ℝ) : EReal)

/-- The gradient of the spatial bias, summed over the chunks. -/
def o24 : FVec Ideal ⟨2, ![128, 512]⟩ .f32 := fun i => ((∑ q : Fin 32, p.tbs q (i 0) (i 1) : ℝ) : EReal)

/-- The gradient of the input normalisation's gain. -/
def o25 : FVec Ideal ⟨2, ![1, 1024]⟩ .f32 := fun i => ((∑ r : Fin 4096, p.tgm r (i 1) : ℝ) : EReal)

end

/-! ## The reference -/

namespace R

open Cert.ReferenceIdeal Cert.ReferenceIdeal.Gen Cert.ReferenceIdeal.Read

/-- The contents of the reference's argument buffers are the given arrays. -/
structure Reads {p : Inp} (A : Args p) (V : Valuation τ sig (Elt Ideal)) : Prop where
  e0 : V (Proc.devRef .tc main_arg0) = A.x0
  e1 : V (Proc.devRef .tc main_arg1) = A.x1
  e2 : V (Proc.devRef .tc main_arg2) = A.x2
  e3 : V (Proc.devRef .tc main_arg3) = A.x3
  e4 : V (Proc.devRef .tc main_arg4) = A.x4
  e5 : V (Proc.devRef .tc main_arg5) = A.x5
  e6 : V (Proc.devRef .tc main_arg6) = A.x6
  e7 : V (Proc.devRef .tc main_arg7) = A.x7
  e8 : V (Proc.devRef .tc main_arg8) = A.x8
  e9 : V (Proc.devRef .tc main_arg9) = A.x9
  e10 : V (Proc.devRef .tc main_arg10) = A.x10
  e11 : V (Proc.devRef .tc main_arg11) = A.x11

variable {p : Inp} {A : Args p} {V : Valuation τ sig (Elt Ideal)} (E : Reads A V)

include E

theorem r317 : val_main_v317 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) = o16 p := by
  rw [E.e0, E.e1, E.e2, E.e3, E.e4, E.e5, E.e6, E.e7, E.e8, E.e9, E.e10, E.e11]
  funext i
  idx_vars i
  exact v317_at A _ _

theorem r318 : val_main_v318 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) = o17 p := by
  rw [E.e0, E.e1, E.e2, E.e3, E.e4, E.e5, E.e6, E.e7, E.e8, E.e9, E.e10, E.e11]
  funext i
  idx_vars i
  exact v318_at A _ _

theorem r319 : val_main_v319 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg11)) = o18 p := by
  rw [E.e0, E.e1, E.e2, E.e3, E.e4, E.e5, E.e6, E.e7, E.e11]
  funext i
  idx_vars i
  obtain rfl : i0 = 0 := Subsingleton.elim _ _
  exact v319_at A _

theorem r320 : val_main_v320 (F := Ideal) (V (Proc.devRef .tc main_arg0)) (V (Proc.devRef .tc main_arg1)) (V (Proc.devRef .tc main_arg2)) (V (Proc.devRef .tc main_arg3)) (V (Proc.devRef .tc main_arg8)) (V (Proc.devRef .tc main_arg11)) = o19 p := by
  rw [E.e0, E.e1, E.e2, E.e3, E.e8, E.e11]
  funext i
  idx_vars i
  obtain rfl : i0 = 0 := Subsingleton.elim _ _
  exact v320_at A _

theorem r322 : val_main_v322 (F := Ideal) (V (Proc.devRef .tc main_arg0)) (V (Proc.devRef .tc main_arg1)) (V (Proc.devRef .tc main_arg2)) (V (Proc.devRef .tc main_arg3)) (V (Proc.devRef .tc main_arg8)) (V (Proc.devRef .tc main_arg10)) (V (Proc.devRef .tc main_arg11)) = o20 p := by
  rw [E.e0, E.e1, E.e2, E.e3, E.e8, E.e10, E.e11]
  funext i
  idx_vars i
  exact v322_at A _ _

theorem r323 : val_main_v323 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg11)) = o21 p := by
  rw [E.e0, E.e1, E.e2, E.e3, E.e4, E.e5, E.e6, E.e7, E.e9, E.e11]
  funext i
  idx_vars i
  obtain rfl : i0 = 0 := Subsingleton.elim _ _
  exact v323_at A _

theorem r324 : val_main_v324 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg11)) = o22 p := by
  rw [E.e0, E.e1, E.e2, E.e3, E.e4, E.e5, E.e6, E.e7, E.e9, E.e11]
  funext i
  idx_vars i
  obtain rfl : i0 = 0 := Subsingleton.elim _ _
  exact v324_at A _

theorem r244 : val_main_v244 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg11)) = o23 p := by
  rw [E.e0, E.e1, E.e2, E.e3, E.e4, E.e5, E.e6, E.e7, E.e9, E.e11]
  funext i
  idx_vars i
  exact v244_at A _ _ _

theorem r325 : val_main_v325 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg11)) = o24 p := by
  rw [E.e0, E.e1, E.e2, E.e3, E.e4, E.e5, E.e6, E.e7, E.e9, E.e11]
  funext i
  idx_vars i
  exact v325_at A _ _

theorem r326 : val_main_v326 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) = o25 p := by
  rw [E.e0, E.e1, E.e2, E.e3, E.e4, E.e5, E.e6, E.e7, E.e8, E.e9, E.e10, E.e11]
  funext i
  idx_vars i
  obtain rfl : i0 = 0 := Subsingleton.elim _ _
  exact v326_at A _

omit E

/-- The run of the reference on memories whose arguments are the given arrays. -/
theorem run_results (m : (ℓ : Loc nD τ sig) → Buf (Elt Ideal) ℓ) (ρ : Dev nD → PrngReg) {p : Dev nD → Inp} {A : ∀ c, Args (p c)}
    (E : ∀ c, Reads (A c) (launchContents m c)) :
    θ_run defs (onTc (τ := τ) (main (F := Ideal))) ⟨m, fun _ => 0, ρ⟩ fun r => ∀ c : Dev nD,
      r.2.mem ((c.tc : Thread nD τ).loc main_v317) = o16 (p c)
      ∧ r.2.mem ((c.tc : Thread nD τ).loc main_v318) = o17 (p c)
      ∧ r.2.mem ((c.tc : Thread nD τ).loc main_v319) = o18 (p c)
      ∧ r.2.mem ((c.tc : Thread nD τ).loc main_v320) = o19 (p c)
      ∧ r.2.mem ((c.tc : Thread nD τ).loc main_v322) = o20 (p c)
      ∧ r.2.mem ((c.tc : Thread nD τ).loc main_v323) = o21 (p c)
      ∧ r.2.mem ((c.tc : Thread nD τ).loc main_v324) = o22 (p c)
      ∧ r.2.mem ((c.tc : Thread nD τ).loc main_v244) = o23 (p c)
      ∧ r.2.mem ((c.tc : Thread nD τ).loc main_v325) = o24 (p c)
      ∧ r.2.mem ((c.tc : Thread nD τ).loc main_v326) = o25 (p c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans ((val_main_v317_eq _).trans (r317 (E c))),
    (h c).2.1.trans ((val_main_v318_eq _).trans (r318 (E c))),
    (h c).2.2.1.trans ((val_main_v319_eq _).trans (r319 (E c))),
    (h c).2.2.2.1.trans ((val_main_v320_eq _).trans (r320 (E c))),
    (h c).2.2.2.2.1.trans ((val_main_v322_eq _).trans (r322 (E c))),
    (h c).2.2.2.2.2.1.trans ((val_main_v323_eq _).trans (r323 (E c))),
    (h c).2.2.2.2.2.2.1.trans ((val_main_v324_eq _).trans (r324 (E c))),
    (h c).2.2.2.2.2.2.2.1.trans ((val_main_v244_eq _).trans (r244 (E c))),
    (h c).2.2.2.2.2.2.2.2.1.trans ((val_main_v325_eq _).trans (r325 (E c))),
    (h c).2.2.2.2.2.2.2.2.2.1.trans ((val_main_v326_eq _).trans (r326 (E c))),
    (h c).2.2.2.2.2.2.2.2.2.2⟩)
    (Cert.ReferenceIdeal.Value.run m ρ)

end R

end Cert.Mix

end
-- ==== Proof.Arrays.lean ====
/- The ten output arrays after the last grid point, at the model: the two gradients written block by block, and the eight
   accumulated ones from the last point. -/
module

public import proofs.«01_k».proof.Proof.KDats
public import proofs.«01_k».proof.Proof.Win23
public import proofs.«01_k».proof.Proof.Results
public import Idealize.ShloMosaic.Lib.Pipeline.ValueKit

@[expose] public section

set_option maxRecDepth 16384
set_option maxHeartbeats 1000000

noncomputable section

namespace Cert.Mix.K

open Cert.KernelIdeal Cert.KernelIdeal.Gen
open Idealize.ShloMosaic Idealize.ShloMosaic.TcCoe Idealize.ShloMosaic.Tactic Idealize.SL.Sem

variable {m : (ℓ : Loc nD τ sig) → Buf (Elt Ideal) ℓ} {c : Dev nD} {p : Inp} (H : Holds p m c)

/-- The two gradients' blocks of 512 rows at each point. -/
theorem idx_rows : ∀ t : Fin cfg0.N, win0_16.index t = ![t.val, 0] ∧ win0_17.index t = ![t.val, 0] :=
  (by decide +kernel : ∀ t : Fin grid0.N, _)

include H

theorem arr16 : (dats m 0 c).arrAt 16 cfg0.N = o16 p := by
  refine (dats m 0 c).arrAt_eq_of_covers 16 _ (by decide +kernel) fun t hf y => ?_
  blk_simp
  rw [after_16]
  revert y
  show ∀ y : S512x2560.Idx, _
  intro y
  idx_vars y
  rw [show (outsAt m c t.val t.isLt).1 (ix2 y0 y1) = _ from at16 H t y0 y1]
  show _ = (((p.dh _ _ : ℝ)) : EReal)
  refine congrArg (fun s : ℝ => (s : EReal)) (congrArg₂ p.dh ?_ ?_)
  · blk_simp [idx_rows t]
    omega
  · blk_simp [idx_rows t]

theorem arr17 : (dats m 0 c).arrAt 17 cfg0.N = o17 p := by
  refine (dats m 0 c).arrAt_eq_of_covers 17 _ (by decide +kernel) fun t hf y => ?_
  blk_simp
  rw [after_17]
  revert y
  show ∀ y : S512x1024.Idx, _
  intro y
  idx_vars y
  rw [show (outsAt m c t.val t.isLt).2.1 (ix2 y0 y1) = _ from at17 H t y0 y1]
  show _ = (((p.dx _ _ : ℝ)) : EReal)
  refine congrArg (fun s : ℝ => (s : EReal)) (congrArg₂ p.dx ?_ ?_)
  · blk_simp [idx_rows t]
    omega
  · blk_simp [idx_rows t]

theorem arr18 : (dats m 0 c).arrAt 18 cfg0.N = o18 p := by
  refine (dats m 0 c).arrAt_eq_of_after_last 18 t0_7 (by decide +kernel) _ fun j => ?_
  blk_simp
  rw [after_18]
  idx_vars j
  obtain rfl : j0 = 0 := Subsingleton.elim _ _
  exact last18 H _ _

theorem arr19 : (dats m 0 c).arrAt 19 cfg0.N = o19 p := by
  refine (dats m 0 c).arrAt_eq_of_after_last 19 t0_7 (by decide +kernel) _ fun j => ?_
  blk_simp
  rw [after_19]
  idx_vars j
  obtain rfl : j0 = 0 := Subsingleton.elim _ _
  exact last19 H _ _

theorem arr21 : (dats m 0 c).arrAt 21 cfg0.N = o21 p := by
  refine (dats m 0 c).arrAt_eq_of_after_last 21 t0_7 (by decide +kernel) _ fun j => ?_
  blk_simp
  rw [after_21]
  idx_vars j
  obtain rfl : j0 = 0 := Subsingleton.elim _ _
  exact last21 H _ _

theorem arr22 : (dats m 0 c).arrAt 22 cfg0.N = o22 p := by
  refine (dats m 0 c).arrAt_eq_of_after_last 22 t0_7 (by decide +kernel) _ fun j => ?_
  blk_simp
  rw [after_22]
  idx_vars j
  obtain rfl : j0 = 0 := Subsingleton.elim _ _
  exact last22 H _ _

theorem arr25 : (dats m 0 c).arrAt 25 cfg0.N = o25 p := by
  refine (dats m 0 c).arrAt_eq_of_after_last 25 t0_7 (by decide +kernel) _ fun j => ?_
  blk_simp
  rw [after_25]
  idx_vars j
  obtain rfl : j0 = 0 := Subsingleton.elim _ _
  exact last25 H _ _

theorem arr20 : (dats m 0 c).arrAt 20 cfg0.N = o20 p := by
  refine (dats m 0 c).arrAt_eq_of_after_last 20 t0_7 (by decide +kernel) _ fun j => ?_
  blk_simp
  rw [after_20]
  idx_vars j
  exact last20 H _ _ _

theorem arr23 : (dats m 0 c).arrAt 23 cfg0.N = o23 p := by
  refine (dats m 0 c).arrAt_eq_of_after_last 23 t0_7 (by decide +kernel) _ fun j => ?_
  blk_simp
  rw [after_23]
  idx_vars j
  exact last23 H _ _ _ _

theorem arr24 : (dats m 0 c).arrAt 24 cfg0.N = o24 p := by
  refine (dats m 0 c).arrAt_eq_of_after_last 24 t0_7 (by decide +kernel) _ fun j => ?_
  blk_simp
  rw [after_24]
  idx_vars j
  exact last24 H _ _ _

end Cert.Mix.K

end
-- ==== Proof.Numbers.lean ====
/- What it says of an array that every entry of it is finite: its entries are real numbers, which functions of natural coordinates
   list. -/
module

public import proofs.«01_k».proof.Proof.Reals
public import Idealize.ShloMosaic.Lib.Claim
public import Idealize.ShloMosaic.Lib.ReduceAll

@[expose] public section

set_option maxRecDepth 16384

noncomputable section

namespace Cert.Mix

open Idealize.ShloMosaic Idealize.ShloMosaic.TcCoe Idealize.SL.Sem

/-- Every argument array is an array of real numbers. -/
abbrev IsReal {s : Shape} (x : FVec Ideal s .f32) : Prop := ∀ i, x i = (((x i : EReal).toReal : ℝ) : EReal)

/-- An extended real whose absolute value is below infinity is a real number. -/
theorem real_of_abs_lt (x : EReal) (h : max x (-x) < ⊤) : x = ((x.toReal : ℝ) : EReal) := by
  refine (EReal.coe_toReal (fun e => ?_) (fun e => ?_)).symm <;> subst e <;> simp at h

namespace Pre

/-- The shape of a single number. -/
abbrev S_ : Shape := ⟨0, ![]⟩

instance : Subsingleton S_.Idx := ⟨fun a b => funext fun k => k.elim0⟩

/-- One array's part of the precondition. -/
theorem isReal {s : Shape} {axes : List (Fin s.rank)} (x : FVec Ideal s .f32) (hb : S_.BroadcastsInDim s (![] : Fin 0 → Fin s.rank))
    (hr : s.ReducesTo axes S_) (h0 : 0 < S_.numel) (j : S_.Idx)
    (e : Host.reduce IntOp.andi (cmpf .olt (Host.absf x) (broadcastInDim s ![] hb (constant S_ .f32 0x7F800000#32)))
      (constantI S_ 1 1#1) hr h0 j = 1#1) : IsReal x := by
  intro i
  have h := Host.reduce_andi_all _ _ hr h0 j e i
  refine real_of_abs_lt _ ?_
  have h' : BitVec.ofBool (decide ((max (x i) (-(x i)) : EReal) < Ideal.ofBits .f32 0x7F800000#32)) = 1#1 := h
  rw [k_inf] at h'
  by_contra hn
  rw [decide_eq_false hn] at h'
  exact absurd h' (by decide)

end Pre

/-! ## The numbers of an array -/

/-- Rows and columns of a matrix as a function of two numbers, zero outside. -/
def mat {a b : ℕ} (x : FVec Ideal ⟨2, ![a, b]⟩ .f32) (r j : ℕ) : ℝ :=
  if h : r < a ∧ j < b then (x (ix2 ⟨r, h.1⟩ ⟨j, h.2⟩) : EReal).toReal else 0

/-- The same of a vector and of a stack of matrices. -/
def vec {a : ℕ} (x : FVec Ideal ⟨1, ![a]⟩ .f32) (j : ℕ) : ℝ := if h : j < a then (x (ix1 ⟨j, h⟩) : EReal).toReal else 0

def stack {a b d : ℕ} (x : FVec Ideal ⟨3, ![a, b, d]⟩ .f32) (g r j : ℕ) : ℝ :=
  if h : g < a ∧ r < b ∧ j < d then (x (ix3 ⟨g, h.1⟩ ⟨r, h.2.1⟩ ⟨j, h.2.2⟩) : EReal).toReal else 0

theorem mat_at {a b : ℕ} (x : FVec Ideal ⟨2, ![a, b]⟩ .f32) (h : IsReal x) (r : Fin a) (j : Fin b) :
    x (ix2 r j) = ((mat x r j : ℝ) : EReal) := by
  rw [mat, dif_pos ⟨r.2, j.2⟩]; exact h _

theorem vec_at {a : ℕ} (x : FVec Ideal ⟨1, ![a]⟩ .f32) (h : IsReal x) (j : Fin a) : x (ix1 j) = ((vec x j : ℝ) : EReal) := by
  rw [vec, dif_pos j.2]; exact h _

theorem stack_at {a b d : ℕ} (x : FVec Ideal ⟨3, ![a, b, d]⟩ .f32) (h : IsReal x) (g : Fin a) (r : Fin b) (j : Fin d) :
    x (ix3 g r j) = ((stack x g r j : ℝ) : EReal) := by
  rw [stack, dif_pos ⟨g.2, r.2, j.2⟩]; exact h _

end Cert.Mix

end
-- ==== Proof.Finite.lean ====
/- What the precondition says: every element of every argument array is a real number; the model's numbers are these. -/
module

public import proofs.«01_k».proof.Defs
public import proofs.«01_k».proof.Proof.Numbers
public import proofs.«01_k».proof.Proof.Blocks
public import proofs.«01_k».proof.Proof.RefA
public import proofs.«01_k».proof.Proof.Gen.Pre_finite
public import Idealize.ShloMosaic.Lib.ReduceAll

@[expose] public section

set_option maxRecDepth 16384

noncomputable section

namespace Cert.Mix

open Idealize.ShloMosaic Idealize.ShloMosaic.TcCoe Idealize.SL.Sem

namespace Pre

open Cert.Pre_finite

variable [Facts]

/-- The whole precondition, array by array. -/
theorem all_real (x0 x1 : FVec Ideal S4096x1024 .f32) (x2 : FVec Ideal S1024 .f32) (x3 : FVec Ideal S1024x2560 .f32)
    (x4 x5 : FVec Ideal S512 .f32) (x6 : FVec Ideal S4x128x128 .f32) (x7 : FVec Ideal S4x128 .f32) (x8 : FVec Ideal S3x512 .f32)
    (x9 x10 : FVec Ideal S512 .f32) (x11 : FVec Ideal S1024x1024 .f32)
    (h : fn (F := Ideal) x0 x1 x2 x3 x4 x5 x6 x7 x8 x9 x10 x11 = fun _ => 1#1) :
    IsReal x0 ∧ IsReal x1 ∧ IsReal x2 ∧ IsReal x3 ∧ IsReal x4 ∧ IsReal x5 ∧ IsReal x6 ∧ IsReal x7 ∧ IsReal x8 ∧ IsReal x9
      ∧ IsReal x10 ∧ IsReal x11 := by
  have e := congrFun h ix0
  unfold fn fn_part1 fn_part2 fn_part3 at e
  obtain ⟨e, e11⟩ := IntOp.andi_eq_one.mp e
  obtain ⟨e, e10⟩ := IntOp.andi_eq_one.mp e
  obtain ⟨e, e9⟩ := IntOp.andi_eq_one.mp e
  obtain ⟨e, e8⟩ := IntOp.andi_eq_one.mp e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨isReal _ _ _ _ _ e0, isReal _ _ _ _ _ e1, isReal _ _ _ _ _ e2, isReal _ _ _ _ _ e3, isReal _ _ _ _ _ e4, isReal _ _ _ _ _ e5,
    isReal _ _ _ _ _ e6, isReal _ _ _ _ _ e7, isReal _ _ _ _ _ e8, isReal _ _ _ _ _ e9, isReal _ _ _ _ _ e10, isReal _ _ _ _ _ e11⟩

end Pre

/-! ## The model's numbers of a memory -/

open Cert.KernelIdeal

variable (m : (ℓ : Loc nD τ sig) → Buf (Elt Ideal) ℓ) (c : Dev nD)

/-- The model's input read from the argument arrays on core `c`. -/
def inp : Inp where
  dy := mat (m ((c : Thread nD τ).loc main_arg0) : FVec Ideal S4096x1024 .f32)
  x := mat (m ((c : Thread nD τ).loc main_arg1) : FVec Ideal S4096x1024 .f32)
  gm := vec (m ((c : Thread nD τ).loc main_arg2) : FVec Ideal S1024 .f32)
  win := mat (m ((c : Thread nD τ).loc main_arg3) : FVec Ideal S1024x2560 .f32)
  lng := vec (m ((c : Thread nD τ).loc main_arg4) : FVec Ideal S512 .f32)
  lnb := vec (m ((c : Thread nD τ).loc main_arg5) : FVec Ideal S512 .f32)
  wsp := stack (m ((c : Thread nD τ).loc main_arg6) : FVec Ideal S4x128x128 .f32)
  bs := mat (m ((c : Thread nD τ).loc main_arg7) : FVec Ideal S4x128 .f32)
  cw := mat (m ((c : Thread nD τ).loc main_arg8) : FVec Ideal S3x512 .f32)
  ga := vec (m ((c : Thread nD τ).loc main_arg9) : FVec Ideal S512 .f32)
  gb := vec (m ((c : Thread nD τ).loc main_arg10) : FVec Ideal S512 .f32)
  wout := mat (m ((c : Thread nD τ).loc main_arg11) : FVec Ideal S1024x1024 .f32)

/-- Under the precondition the memory holds them. -/
theorem holds [hPre_finite : Cert.Pre_finite.Facts] (h : Pre_KernelIdeal_finite m) : K.Holds (inp m c) m c := by
  obtain ⟨h0, h1, h2, h3, h4, h5, h6, h7, h8, h9, h10, h11⟩ := Pre.all_real _ _ _ _ _ _ _ _ _ _ _ _ (h c)
  exact ⟨mat_at _ h0, mat_at _ h1, vec_at _ h2, mat_at _ h3, vec_at _ h4, vec_at _ h5, stack_at _ h6, mat_at _ h7, mat_at _ h8,
    vec_at _ h9, vec_at _ h10, mat_at _ h11⟩

/-- The reference's arguments. -/
def args {p : Inp} {m : (ℓ : Loc nD τ sig) → Buf (Elt Ideal) ℓ} {c : Dev nD} (H : K.Holds p m c) : R.Args p where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  a0 := H.a0
  a1 := H.a1
  a2 := H.a2
  a3 := H.a3
  a4 := H.a4
  a5 := H.a5
  a6 := H.a6
  a7 := H.a7
  a8 := H.a8
  a9 := H.a9
  a10 := H.a10
  a11 := H.a11

end Cert.Mix

end
-- ==== Proof.SwiModel.lean ====
/- The gated feed-forward block's gradient as functions of real numbers, row and column counted by naturals: the two
   halves of the projected input, the activation, its cotangent, and the cotangents of the halves and of the input. -/
module

public import proofs.«01_k».proof.Proof.Reals

@[expose] public section

noncomputable section

namespace Cert.Swi

open Idealize.ShloMosaic Cert.Mix
open scoped BigOperators

/-- The logistic function. -/
def sg (z : ℝ) : ℝ := 1 / (1 + Real.exp (-z))

/-- The arguments of the block's gradient, as real functions of natural coordinates. -/
structure Inp where
  /-- the cotangent of the block's output -/
  d : ℕ → ℕ → ℝ
  /-- the normalised input -/
  x : ℕ → ℕ → ℝ
  /-- the projection to the two halves, side by side -/
  w : ℕ → ℕ → ℝ
  /-- the output projection -/
  v : ℕ → ℕ → ℝ

namespace Inp

variable (p : Inp)

/-- The projected input: the gate's half in columns 0 to 2815, the other half after it. -/
def gu (r j : ℕ) : ℝ := ∑ k : Fin 1024, p.x r k * p.w k j

/-- The other half. -/
def up (r j : ℕ) : ℝ := p.gu r (2816 + j)

/-- The gate. -/
def gate (r j : ℕ) : ℝ := p.gu r j * sg (p.gu r j)

/-- The activation. -/
def act (r j : ℕ) : ℝ := p.gate r j * p.up r j

/-- The activation's cotangent. -/
def dact (r j : ℕ) : ℝ := ∑ k : Fin 1024, p.d r k * p.v j k

/-- The cotangents of the two halves. -/
def dgt (r j : ℕ) : ℝ := p.dact r j * p.up r j * (sg (p.gu r j) * (1 + p.gu r j * (1 - sg (p.gu r j))))
def dup (r j : ℕ) : ℝ := p.dact r j * p.gate r j

/-- The two side by side. -/
def dgu (r j : ℕ) : ℝ := if j < 2816 then p.dgt r j else p.dup r (j - 2816)

/-- What 704 columns of either half contribute to the input's cotangent. -/
def term (f r k : ℕ) : ℝ :=
  (∑ b : Fin 704, p.dgt r (704 * f + b) * p.w k (704 * f + b)) + ∑ b : Fin 704, p.dup r (704 * f + b) * p.w k (2816 + (704 * f + b))

/-- The input's cotangent. -/
def dxn (r k : ℕ) : ℝ := ∑ j : Fin 5632, p.dgu r j * p.w k j

theorem dgu_lo (r j : ℕ) (h : j < 2816) : p.dgu r j = p.dgt r j := if_pos h
theorem dgu_hi (r j : ℕ) : p.dgu r (2816 + j) = p.dup r j := by
  rw [dgu, if_neg (by omega), Nat.add_sub_cancel_left]

/-- A sum over four runs of 704 terms each is the sum over the 2816 terms. -/
theorem sum_runs (f : ℕ → ℝ) : (∑ s ∈ Finset.range 4, ∑ b : Fin 704, f (704 * s + b)) = ∑ j : Fin 2816, f j := by
  have e : ∀ n, (∑ s ∈ Finset.range n, ∑ b : Fin 704, f (704 * s + b)) = ∑ k ∈ Finset.range (704 * n), f k := by
    intro n
    induction n with
    | zero => rfl
    | succ n ih =>
      rw [Finset.sum_range_succ, ih, Nat.mul_succ, Finset.sum_range_add, Fin.sum_univ_eq_sum_range (fun r => f (704 * n + r))]
  rw [e 4, Fin.sum_univ_eq_sum_range (fun j => f j) 2816]

/-- The four contributions together are the input's cotangent. -/
theorem sum_term (r k : ℕ) : (∑ f ∈ Finset.range 4, p.term f r k) = p.dxn r k := by
  unfold term
  rw [Finset.sum_add_distrib, sum_runs (fun j => p.dgt r j * p.w k j), sum_runs (fun j => p.dup r j * p.w k (2816 + j)), dxn,
    Fin.sum_univ_eq_sum_range (fun j => p.dgu r j * p.w k j) 5632, show 5632 = 2816 + 2816 from rfl, Finset.sum_range_add,
    ← Fin.sum_univ_eq_sum_range (fun j => p.dgu r j * p.w k j) 2816,
    ← Fin.sum_univ_eq_sum_range (fun j => p.dgu r (2816 + j) * p.w k (2816 + j)) 2816]
  refine congrArg₂ (· + ·) (Finset.sum_congr rfl fun j _ => ?_) (Finset.sum_congr rfl fun j _ => ?_)
  · rw [p.dgu_lo r j j.2]
  · rw [p.dgu_hi r j]

end Inp

/-- The exponential of a real, and the logistic function's quotient. -/
theorem exp_real (r : ℝ) : Ideal.exp (r : EReal) = ((Real.exp r : ℝ) : EReal) := rfl

theorem one_add_exp_ne (z : ℝ) : 1 + Real.exp z ≠ 0 := (add_pos one_pos (Real.exp_pos z)).ne'

theorem div_exp (a z : ℝ) : Ideal.div (a : EReal) ((1 + Real.exp z : ℝ) : EReal) = ((a * (1 / (1 + Real.exp z)) : ℝ) : EReal) :=
  div_real _ _ (one_add_exp_ne z)

theorem k_1 : Ideal.ofBits .f32 0x3F800000#32 = ((1 : ℝ) : EReal) := by
  simp [Ideal.ofBits, Ideal.ieee, -EReal.coe_mul]; norm_num

end Cert.Swi

end
-- ==== Proof.SwiPay.lean ====
/- The entries of what the feed-forward gradient's kernel computes from 256 rows and 704 columns, one array at a time: where
   the loaded blocks hold the model's numbers from row `R` and column `C` on, so does each array computed from them. -/
module

public import proofs.«01_k».proof.Proof.SwiModel
public import proofs.«01_k».proof.Proof.Gen.Kernel2Ideal.Skeleton
public import Idealize.ShloMosaic.Lib.Claim
public import Idealize.ShloMosaic.Lib.Pipeline.ValueKit

@[expose] public section

set_option maxRecDepth 16384

noncomputable section

namespace Cert.Swi.K

open Idealize.ShloMosaic Idealize.ShloMosaic.TcCoe Idealize.SL.Sem
open Cert.Kernel2Ideal Cert.Kernel2Ideal.Gen Cert.Mix

section

variable (p : Inp) (R C : ℕ) (X : FVec Ideal S256x1024 .bf16) (V : FVec Ideal S704x1024 .bf16) (g u : FVec Ideal S1x1x256x704 .bf16)
  (w1 w2 : FVec Ideal S1x1x704x1024 .bf16)
  (hX : ∀ (a : Fin 256) (k : Fin 1024), X (ix2 a k) = ((p.d (R + a) k : ℝ) : EReal))
  (hV : ∀ (b : Fin 704) (k : Fin 1024), V (ix2 b k) = ((p.v (C + b) k : ℝ) : EReal))
  (hg : ∀ (a : Fin 256) (b : Fin 704), g (ix4 0 0 a b) = ((p.gu (R + a) (C + b) : ℝ) : EReal))
  (hu : ∀ (a : Fin 256) (b : Fin 704), u (ix4 0 0 a b) = ((p.up (R + a) (C + b) : ℝ) : EReal))
  (hw1 : ∀ (b : Fin 704) (k : Fin 1024), w1 (ix4 0 0 b k) = ((p.w k (C + b) : ℝ) : EReal))
  (hw2 : ∀ (b : Fin 704) (k : Fin 1024), w2 (ix4 0 0 b k) = ((p.w k (2816 + (C + b)) : ℝ) : EReal))
  (a : Fin 256) (b : Fin 704)

include hX hV in
theorem dact_at : k0_pay6 (F := Ideal) X V (ix2 a b) = ((p.dact (R + a) (C + b) : ℝ) : EReal) := by
  pointwise [k0_pay6, hX, hV, lift, coe_sum, zero_add]
  rfl

include hg in
theorem g_at : k0_pay7 (F := Ideal) g (ix2 a b) = ((p.gu (R + a) (C + b) : ℝ) : EReal) := by
  pointwise [k0_pay7, hg]

include hu in
theorem u_at : k0_pay8 (F := Ideal) u (ix2 a b) = ((p.up (R + a) (C + b) : ℝ) : EReal) := by
  pointwise [k0_pay8, hu]

include hg in
theorem sg_at : k0_pay9 (F := Ideal) g (ix2 a b) = ((sg (p.gu (R + a) (C + b)) : ℝ) : EReal) := by
  pointwise [k0_pay9, g_at p R C g hg, k_1, lift, exp_real, div_exp]
  refine congrArg (fun s : ℝ => (s : EReal)) ?_
  unfold sg
  rw [zero_sub]

include hg in
theorem gate_at : k0_pay10 (F := Ideal) g (ix2 a b) = ((p.gate (R + a) (C + b) : ℝ) : EReal) := by
  pointwise [k0_pay10, g_at p R C g hg, sg_at p R C g hg, lift]
  rfl

include hg hu in
theorem act_at : k0_pay11 (F := Ideal) g u (ix3 0 a b) = ((p.act (R + a) (C + b) : ℝ) : EReal) := by
  pointwise [k0_pay11, gate_at p R C g hg, u_at p R C u hu, lift]
  rfl

/-- The cotangent of the gate's half. -/
abbrev eDgt : FVec Ideal S256x704 .bf16 := k0_pay14 (F := Ideal) (k0_pay9 (F := Ideal) g) (k0_pay12 (F := Ideal) X V u) (k0_pay13 (F := Ideal) g)

/-- The cotangent of the other half. -/
abbrev eDup : FVec Ideal S256x704 .bf16 := k0_pay15 (F := Ideal) (k0_pay6 (F := Ideal) X V) (k0_pay10 (F := Ideal) g)

include hX hV hg hu in
theorem dgt_at : eDgt X V g u (ix2 a b) = ((p.dgt (R + a) (C + b) : ℝ) : EReal) := by
  pointwise [k0_pay14, k0_pay12, k0_pay13, g_at p R C g hg, sg_at p R C g hg, dact_at p R C X V hX hV, u_at p R C u hu, k_1, lift]
  rfl

include hX hV hg in
theorem dup_at : eDup X V g (ix2 a b) = ((p.dup (R + a) (C + b) : ℝ) : EReal) := by
  pointwise [k0_pay15, gate_at p R C g hg, dact_at p R C X V hX hV, lift]
  rfl

include hX hV hg hu in
theorem dgt4_at : k0_pay16 (F := Ideal) (k0_pay9 (F := Ideal) g) (k0_pay12 (F := Ideal) X V u) (k0_pay13 (F := Ideal) g) (ix4 0 0 a b) = ((p.dgt (R + a) (C + b) : ℝ) : EReal) := by
  pointwise [k0_pay16, dgt_at p R C X V g u hX hV hg hu]

include hX hV hg in
theorem dup4_at : k0_pay17 (F := Ideal) (k0_pay6 (F := Ideal) X V) (k0_pay10 (F := Ideal) g) (ix4 0 0 a b) = ((p.dup (R + a) (C + b) : ℝ) : EReal) := by
  pointwise [k0_pay17, dup_at p R C X V g hX hV hg]

include hX hV hg hu hw1 hw2 in
theorem add_at (f : ℕ) (hC : C = 704 * f) (acc : FVec Ideal S256x1024 .f32) (k : Fin 1024) (s : ℝ)
    (hacc : acc (ix2 a k) = ((s : ℝ) : EReal)) :
    k0_pay18 (F := Ideal) (k0_pay6 (F := Ideal) X V) (k0_pay9 (F := Ideal) g) (k0_pay10 (F := Ideal) g) (k0_pay12 (F := Ideal) X V u) (k0_pay13 (F := Ideal) g) w1 w2 acc (ix2 a k)
      = ((s + p.term f (R + a) k : ℝ) : EReal) := by
  subst hC
  pointwise [k0_pay18, dgt_at p R _ X V g u hX hV hg hu, dup_at p R _ X V g hX hV hg, hw1, hw2, hacc, lift, coe_sum, zero_add]
  rfl

end

/-! ### The other three runs of rows compute the same -/

section

variable (X : FVec Ideal S256x1024 .bf16) (V : FVec Ideal S704x1024 .bf16) (g u : FVec Ideal S1x1x256x704 .bf16)
  (w1 w2 : FVec Ideal S1x1x704x1024 .bf16) (acc : FVec Ideal S256x1024 .f32)

theorem act1 : k0_pay24 (F := Ideal) g u = k0_pay11 (F := Ideal) g u := rfl
theorem act2 : k0_pay35 (F := Ideal) (k0_pay31 (F := Ideal) g) (k0_pay32 (F := Ideal) u) (k0_pay33 (F := Ideal) g) = k0_pay11 (F := Ideal) g u := rfl
theorem act3 : k0_pay48 (F := Ideal) g u = k0_pay11 (F := Ideal) g u := rfl

theorem dgt1 : k0_pay27 (F := Ideal) (k0_pay19 (F := Ideal) X V) g u = k0_pay16 (F := Ideal) (k0_pay9 (F := Ideal) g) (k0_pay12 (F := Ideal) X V u) (k0_pay13 (F := Ideal) g) := rfl
theorem dgt2 : k0_pay38 (F := Ideal) (k0_pay30 (F := Ideal) X V) (k0_pay31 (F := Ideal) g) (k0_pay32 (F := Ideal) u) (k0_pay33 (F := Ideal) g) = k0_pay16 (F := Ideal) (k0_pay9 (F := Ideal) g) (k0_pay12 (F := Ideal) X V u) (k0_pay13 (F := Ideal) g) := rfl
theorem dgt3 : k0_pay2 (F := Ideal) (k0_pay49 (F := Ideal) X V g u) = k0_pay16 (F := Ideal) (k0_pay9 (F := Ideal) g) (k0_pay12 (F := Ideal) X V u) (k0_pay13 (F := Ideal) g) := rfl

theorem dup1 : k0_pay28 (F := Ideal) (k0_pay19 (F := Ideal) X V) g = k0_pay17 (F := Ideal) (k0_pay6 (F := Ideal) X V) (k0_pay10 (F := Ideal) g) := rfl
theorem dup2 : k0_pay39 (F := Ideal) (k0_pay30 (F := Ideal) X V) (k0_pay31 (F := Ideal) g) (k0_pay33 (F := Ideal) g) = k0_pay17 (F := Ideal) (k0_pay6 (F := Ideal) X V) (k0_pay10 (F := Ideal) g) := rfl
theorem dup3 : k0_pay3 (F := Ideal) (k0_pay43 (F := Ideal) X V) (k0_pay47 (F := Ideal) g) = k0_pay17 (F := Ideal) (k0_pay6 (F := Ideal) X V) (k0_pay10 (F := Ideal) g) := rfl

theorem add1 : k0_pay29 (F := Ideal) (k0_pay25 (F := Ideal) (k0_pay19 (F := Ideal) X V) g u) (k0_pay26 (F := Ideal) (k0_pay19 (F := Ideal) X V) g) w1 w2 acc
    = k0_pay18 (F := Ideal) (k0_pay6 (F := Ideal) X V) (k0_pay9 (F := Ideal) g) (k0_pay10 (F := Ideal) g) (k0_pay12 (F := Ideal) X V u) (k0_pay13 (F := Ideal) g) w1 w2 acc := rfl
theorem add2 : k0_pay42 (F := Ideal) (k0_pay40 (F := Ideal) (k0_pay30 (F := Ideal) X V) (k0_pay31 (F := Ideal) g) (k0_pay32 (F := Ideal) u) (k0_pay33 (F := Ideal) g) w1 w2) (k0_pay41 (F := Ideal) acc)
    = k0_pay18 (F := Ideal) (k0_pay6 (F := Ideal) X V) (k0_pay9 (F := Ideal) g) (k0_pay10 (F := Ideal) g) (k0_pay12 (F := Ideal) X V u) (k0_pay13 (F := Ideal) g) w1 w2 acc := rfl
theorem add3 : k0_pay4 (F := Ideal) (k0_pay43 (F := Ideal) X V) (k0_pay47 (F := Ideal) g) (k0_pay49 (F := Ideal) X V g u) w1 w2 acc
    = k0_pay18 (F := Ideal) (k0_pay6 (F := Ideal) X V) (k0_pay9 (F := Ideal) g) (k0_pay10 (F := Ideal) g) (k0_pay12 (F := Ideal) X V u) (k0_pay13 (F := Ideal) g) w1 w2 acc := rfl

end

end Cert.Swi.K

end
-- ==== Proof.SwiBlocks.lean ====
/- The arrays the feed-forward gradient's kernel is called on and the blocks of them a grid point reads, at the model: the
   projected input the host computes first, cut into its two halves of four column runs, and the weights it prepares. -/
module

public import proofs.«01_k».proof.Proof.Gen.Kernel2Ideal.Frame.Runs
public import proofs.«01_k».proof.Proof.SwiModel
public import Idealize.ShloMosaic.Lib.Claim
public import Idealize.ShloMosaic.Lib.Pipeline.ValueKit

@[expose] public section

set_option maxRecDepth 16384

noncomputable section

namespace Cert.Swi.K

open Idealize.ShloMosaic Idealize.ShloMosaic.TcCoe Idealize.SL.Sem
open Cert.Kernel2Ideal Cert.Kernel2Ideal.Gen Cert.Mix

/-- A memory whose four argument arrays on core `c` hold the model's numbers. -/
structure Holds (p : Inp) (m : (ℓ : Loc nD τ sig) → Buf (Elt Ideal) ℓ) (c : Dev nD) : Prop where
  a0 : ∀ (r : Fin 4096) (j : Fin 1024), (m ((c : Thread nD τ).loc main_arg0) : FVec Ideal S4096x1024 .f32) (ix2 r j) = ((p.d r j : ℝ) : EReal)
  a1 : ∀ (r : Fin 4096) (j : Fin 1024), (m ((c : Thread nD τ).loc main_arg1) : FVec Ideal S4096x1024 .f32) (ix2 r j) = ((p.x r j : ℝ) : EReal)
  a2 : ∀ (k : Fin 1024) (j : Fin 5632), (m ((c : Thread nD τ).loc main_arg2) : FVec Ideal S1024x5632 .f32) (ix2 k j) = ((p.w k j : ℝ) : EReal)
  a3 : ∀ (j : Fin 2816) (k : Fin 1024), (m ((c : Thread nD τ).loc main_arg3) : FVec Ideal S2816x1024 .f32) (ix2 j k) = ((p.v j k : ℝ) : EReal)

/-! ## What the host prepares -/

section Host

variable (m : (ℓ : Loc nD τ sig) → Buf (Elt Ideal) ℓ) (c : Dev nD)

/-- The projection of the normalised input. -/
def proj (x : FVec Ideal S4096x1024 .f32) (w : FVec Ideal S1024x5632 .f32) : FVec Ideal S4096x5632 .bf16 :=
  truncf (F := Ideal) .bf16 (Host.dotGeneral dot_S4096x1024_S1024x5632_S4096x5632_1_0_0_1_n_n none x w) bitsLt_bf16_f32

/-- The projection's weights, transposed. -/
def wT (w : FVec Ideal S1024x5632 .f32) : FVec Ideal S5632x1024 .bf16 :=
  truncf (F := Ideal) .bf16 (transpose S5632x1024 [1, 0] w transposes_S1024x5632_S5632x1024_1_0) bitsLt_bf16_f32

theorem V_v3 : (V m c main_v3 : FVec Ideal S2x4x4096x704 .bf16)
    = transpose S2x4x4096x704 [1, 2, 0, 3] (shapeCast S4096x2x4x704
      (proj (m ((c : Thread nD τ).loc main_arg1)) (m ((c : Thread nD τ).loc main_arg2))) shapeCasts_S4096x5632_S4096x2x4x704)
      transposes_S4096x2x4x704_S2x4x4096x704_1_2_0_3 := by
  unfold V; after_results; try rfl

theorem V_v6 : (V m c main_v6 : FVec Ideal S2x4x704x1024 .bf16)
    = shapeCast S2x4x704x1024 (wT (m ((c : Thread nD τ).loc main_arg2))) shapeCasts_S5632x1024_S2x4x704x1024 := by
  unfold V; after_results; try rfl

theorem V_v7 : (V m c main_v7 : FVec Ideal S4096x1024 .bf16)
    = truncf (F := Ideal) .bf16 (m ((c : Thread nD τ).loc main_arg0) : FVec Ideal S4096x1024 .f32) bitsLt_bf16_f32 := by
  unfold V; after_results; try rfl

theorem V_v8 : (V m c main_v8 : FVec Ideal S2816x1024 .bf16)
    = truncf (F := Ideal) .bf16 (m ((c : Thread nD τ).loc main_arg3) : FVec Ideal S2816x1024 .f32) bitsLt_bf16_f32 := by
  unfold V; after_results; try rfl

variable {m c} {p : Inp} (H : Holds p m c)
include H

theorem proj_at (r : Fin 4096) (j : Fin 5632) :
    proj (m ((c : Thread nD τ).loc main_arg1)) (m ((c : Thread nD τ).loc main_arg2)) (ix2 r j) = ((p.gu r j : ℝ) : EReal) := by
  pointwise [proj, H.a1, H.a2, lift, coe_sum]
  rfl

theorem wT_at (j : Fin 5632) (k : Fin 1024) :
    wT (m ((c : Thread nD τ).loc main_arg2)) (ix2 j k) = ((p.w k j : ℝ) : EReal) := by
  pointwise [wT, H.a2]

theorem v3_at (h : Fin 2) (f : Fin 4) (r : Fin 4096) (b : Fin 704) :
    (V m c main_v3 : FVec Ideal S2x4x4096x704 .bf16) (ix4 h f r b) = ((p.gu r (2816 * h + (704 * f + b)) : ℝ) : EReal) := by
  rw [V_v3]
  refine Eq.trans ?_ (proj_at H r ⟨2816 * h + (704 * f + b), by omega⟩)
  pointwise []
  exact congrArg _ (congrArg₂ ix2 rfl (Fin.ext (by show h.val * 2816 + f.val * 704 + b.val = 2816 * h.val + (704 * f.val + b.val); omega)))

theorem v6_at (h : Fin 2) (f : Fin 4) (b : Fin 704) (k : Fin 1024) :
    (V m c main_v6 : FVec Ideal S2x4x704x1024 .bf16) (ix4 h f b k) = ((p.w k (2816 * h + (704 * f + b)) : ℝ) : EReal) := by
  rw [V_v6]
  refine Eq.trans ?_ (wT_at H ⟨2816 * h + (704 * f + b), by omega⟩ k)
  pointwise []
  exact congrArg _ (congrArg₂ ix2 (Fin.ext (by show h.val * 2816 + f.val * 704 + b.val = 2816 * h.val + (704 * f.val + b.val); omega)) rfl)

theorem v7_at (r : Fin 4096) (j : Fin 1024) : (V m c main_v7 : FVec Ideal S4096x1024 .bf16) (ix2 r j) = ((p.d r j : ℝ) : EReal) := by
  rw [V_v7]; pointwise [H.a0]

theorem v8_at (j : Fin 2816) (k : Fin 1024) : (V m c main_v8 : FVec Ideal S2816x1024 .bf16) (ix2 j k) = ((p.v j k : ℝ) : EReal) := by
  rw [V_v8]; pointwise [H.a3]

end Host

/-! ## The blocks -/

/-- The block coordinates of the seven windows at each point. -/
theorem idx_win : ∀ t : Fin cfg0.N, win0_0.index t = ![t.val / 4, 0] ∧ win0_1.index t = ![0, t.val % 4, t.val / 4, 0]
    ∧ win0_2.index t = ![0, t.val % 4, 0, 0] ∧ win0_3.index t = ![t.val % 4, 0] ∧ win0_4.index t = ![t.val % 4, t.val / 4, 0]
    ∧ win0_5.index t = ![0, t.val % 4, t.val / 4, 0] ∧ win0_6.index t = ![t.val / 4, 0] :=
  (by decide +kernel : ∀ t : Fin grid0.N, _)

section Reads

variable {m : (ℓ : Loc nD τ sig) → Buf (Elt Ideal) ℓ} {c : Dev nD} {p : Inp} (H : Holds p m c) (t : Fin cfg0.N)
include H

theorem b0_at (a k : Fin 1024) :
    (iblk m c 0 t : FVec Ideal S1024x1024 .bf16) (ix2 a k) = ((p.d (1024 * (t.val / 4) + a) k : ℝ) : EReal) := by
  have ht : t.val < 16 := lt_of_lt_of_eq t.isLt N_0
  refine Eq.trans (b := (V m c main_v7 : FVec Ideal S4096x1024 .bf16) (ix2 ⟨1024 * (t.val / 4) + a, by omega⟩ k)) ?_ (v7_at H _ _)
  blk_point [iblk, idx_win t]

theorem b1_at (h : Fin 2) (a : Fin 1024) (b : Fin 704) :
    (iblk m c 1 t : FVec Ideal S2x1x1024x704 .bf16) (ix4 h 0 a b)
      = ((p.gu (1024 * (t.val / 4) + a) (2816 * h + (704 * (t.val % 4) + b)) : ℝ) : EReal) := by
  have ht : t.val < 16 := lt_of_lt_of_eq t.isLt N_0
  refine Eq.trans (b := (V m c main_v3 : FVec Ideal S2x4x4096x704 .bf16)
    (ix4 h ⟨t.val % 4, by omega⟩ ⟨1024 * (t.val / 4) + a, by omega⟩ b)) ?_ (v3_at H _ _ _ _)
  blk_point [iblk, idx_win t]

theorem b2_at (h : Fin 2) (b : Fin 704) (k : Fin 1024) :
    (iblk m c 2 t : FVec Ideal S2x1x704x1024 .bf16) (ix4 h 0 b k) = ((p.w k (2816 * h + (704 * (t.val % 4) + b)) : ℝ) : EReal) := by
  have ht : t.val < 16 := lt_of_lt_of_eq t.isLt N_0
  refine Eq.trans (b := (V m c main_v6 : FVec Ideal S2x4x704x1024 .bf16) (ix4 h ⟨t.val % 4, by omega⟩ b k)) ?_ (v6_at H _ _ _ _)
  blk_point [iblk, idx_win t]

theorem b3_at (b : Fin 704) (k : Fin 1024) :
    (iblk m c 3 t : FVec Ideal S704x1024 .bf16) (ix2 b k) = ((p.v (704 * (t.val % 4) + b) k : ℝ) : EReal) := by
  have ht : t.val < 16 := lt_of_lt_of_eq t.isLt N_0
  refine Eq.trans (b := (V m c main_v8 : FVec Ideal S2816x1024 .bf16) (ix2 ⟨704 * (t.val % 4) + b, by omega⟩ k)) ?_ (v8_at H _ _)
  blk_point [iblk, idx_win t]

end Reads

end Cert.Swi.K

end
-- ==== Proof.SwiRows.lean ====
/- Runs of 256 rows: reading a loaded run back at an entry, and reading four stored runs back at an entry. -/
module

public import proofs.«01_k».proof.Proof.SwiModel
public import proofs.«01_k».proof.Proof.Gen.Kernel2Ideal.Skeleton
public import Idealize.ShloMosaic.Lib.Claim
public import Idealize.ShloMosaic.Lib.Pipeline.ValueKit
public import Idealize.ShloMosaic.Lib.Pipeline.ReadBack

@[expose] public section

set_option maxRecDepth 16384
set_option maxHeartbeats 1000000

noncomputable section

namespace Cert.Swi.K

open Cert.Kernel2Ideal Cert.Kernel2Ideal.Gen Cert.Mix
open Idealize.ShloMosaic Idealize.ShloMosaic.TcCoe Idealize.ShloMosaic.Tactic Idealize.SL.Sem

theorem ldX0 (X : FVec Ideal S1024x1024 .bf16) (a : Fin 256) (k : Fin 1024) :
    (View.ld (Val := Elt Ideal) (e' := .bf16) X (Rect.unit (s := S1024x1024) ![0, 0] ![256, 1024] inb_S1024x1024_S256x1024_0_0) : FVec Ideal S256x1024 .bf16) (ix2 a k)
      = X (ix2 ⟨0 + a, by omega⟩ k) := by
  pointwise []

theorem ldS0 (X : FVec Ideal S1024x1024 .f32) (a : Fin 256) (k : Fin 1024) :
    (View.ld (Val := Elt Ideal) (e' := .f32) X (Rect.unit (s := S1024x1024) ![0, 0] ![256, 1024] inb_S1024x1024_S256x1024_0_0) : FVec Ideal S256x1024 .f32) (ix2 a k)
      = X (ix2 ⟨0 + a, by omega⟩ k) := by
  pointwise []

theorem ldG00 (X : FVec Ideal S2x1x1024x704 .bf16) (a : Fin 256) (b : Fin 704) :
    (View.ld (Val := Elt Ideal) (e' := .bf16) X (Rect.unit (s := S2x1x1024x704) ![0, 0, 0, 0] ![1, 1, 256, 704] inb_S2x1x1024x704_S1x1x256x704_0_0_0_0) : FVec Ideal S1x1x256x704 .bf16) (ix4 0 0 a b)
      = X (ix4 0 0 ⟨0 + a, by omega⟩ b) := by
  pointwise []

theorem ldG10 (X : FVec Ideal S2x1x1024x704 .bf16) (a : Fin 256) (b : Fin 704) :
    (View.ld (Val := Elt Ideal) (e' := .bf16) X (Rect.unit (s := S2x1x1024x704) ![1, 0, 0, 0] ![1, 1, 256, 704] inb_S2x1x1024x704_S1x1x256x704_1_0_0_0) : FVec Ideal S1x1x256x704 .bf16) (ix4 0 0 a b)
      = X (ix4 1 0 ⟨0 + a, by omega⟩ b) := by
  pointwise []

theorem ldX1 (X : FVec Ideal S1024x1024 .bf16) (a : Fin 256) (k : Fin 1024) :
    (View.ld (Val := Elt Ideal) (e' := .bf16) X (Rect.unit (s := S1024x1024) ![256, 0] ![256, 1024] inb_S1024x1024_S256x1024_256_0) : FVec Ideal S256x1024 .bf16) (ix2 a k)
      = X (ix2 ⟨256 + a, by omega⟩ k) := by
  pointwise []

theorem ldS1 (X : FVec Ideal S1024x1024 .f32) (a : Fin 256) (k : Fin 1024) :
    (View.ld (Val := Elt Ideal) (e' := .f32) X (Rect.unit (s := S1024x1024) ![256, 0] ![256, 1024] inb_S1024x1024_S256x1024_256_0) : FVec Ideal S256x1024 .f32) (ix2 a k)
      = X (ix2 ⟨256 + a, by omega⟩ k) := by
  pointwise []

theorem ldG01 (X : FVec Ideal S2x1x1024x704 .bf16) (a : Fin 256) (b : Fin 704) :
    (View.ld (Val := Elt Ideal) (e' := .bf16) X (Rect.unit (s := S2x1x1024x704) ![0, 0, 256, 0] ![1, 1, 256, 704] inb_S2x1x1024x704_S1x1x256x704_0_0_256_0) : FVec Ideal S1x1x256x704 .bf16) (ix4 0 0 a b)
      = X (ix4 0 0 ⟨256 + a, by omega⟩ b) := by
  pointwise []

theorem ldG11 (X : FVec Ideal S2x1x1024x704 .bf16) (a : Fin 256) (b : Fin 704) :
    (View.ld (Val := Elt Ideal) (e' := .bf16) X (Rect.unit (s := S2x1x1024x704) ![1, 0, 256, 0] ![1, 1, 256, 704] inb_S2x1x1024x704_S1x1x256x704_1_0_256_0) : FVec Ideal S1x1x256x704 .bf16) (ix4 0 0 a b)
      = X (ix4 1 0 ⟨256 + a, by omega⟩ b) := by
  pointwise []

theorem ldX2 (X : FVec Ideal S1024x1024 .bf16) (a : Fin 256) (k : Fin 1024) :
    (View.ld (Val := Elt Ideal) (e' := .bf16) X (Rect.unit (s := S1024x1024) ![512, 0] ![256, 1024] inb_S1024x1024_S256x1024_512_0) : FVec Ideal S256x1024 .bf16) (ix2 a k)
      = X (ix2 ⟨512 + a, by omega⟩ k) := by
  pointwise []

theorem ldS2 (X : FVec Ideal S1024x1024 .f32) (a : Fin 256) (k : Fin 1024) :
    (View.ld (Val := Elt Ideal) (e' := .f32) X (Rect.unit (s := S1024x1024) ![512, 0] ![256, 1024] inb_S1024x1024_S256x1024_512_0) : FVec Ideal S256x1024 .f32) (ix2 a k)
      = X (ix2 ⟨512 + a, by omega⟩ k) := by
  pointwise []

theorem ldG02 (X : FVec Ideal S2x1x1024x704 .bf16) (a : Fin 256) (b : Fin 704) :
    (View.ld (Val := Elt Ideal) (e' := .bf16) X (Rect.unit (s := S2x1x1024x704) ![0, 0, 512, 0] ![1, 1, 256, 704] inb_S2x1x1024x704_S1x1x256x704_0_0_512_0) : FVec Ideal S1x1x256x704 .bf16) (ix4 0 0 a b)
      = X (ix4 0 0 ⟨512 + a, by omega⟩ b) := by
  pointwise []

theorem ldG12 (X : FVec Ideal S2x1x1024x704 .bf16) (a : Fin 256) (b : Fin 704) :
    (View.ld (Val := Elt Ideal) (e' := .bf16) X (Rect.unit (s := S2x1x1024x704) ![1, 0, 512, 0] ![1, 1, 256, 704] inb_S2x1x1024x704_S1x1x256x704_1_0_512_0) : FVec Ideal S1x1x256x704 .bf16) (ix4 0 0 a b)
      = X (ix4 1 0 ⟨512 + a, by omega⟩ b) := by
  pointwise []

theorem ldX3 (X : FVec Ideal S1024x1024 .bf16) (a : Fin 256) (k : Fin 1024) :
    (View.ld (Val := Elt Ideal) (e' := .bf16) X (Rect.unit (s := S1024x1024) ![768, 0] ![256, 1024] inb_S1024x1024_S256x1024_768_0) : FVec Ideal S256x1024 .bf16) (ix2 a k)
      = X (ix2 ⟨768 + a, by omega⟩ k) := by
  pointwise []

theorem ldS3 (X : FVec Ideal S1024x1024 .f32) (a : Fin 256) (k : Fin 1024) :
    (View.ld (Val := Elt Ideal) (e' := .f32) X (Rect.unit (s := S1024x1024) ![768, 0] ![256, 1024] inb_S1024x1024_S256x1024_768_0) : FVec Ideal S256x1024 .f32) (ix2 a k)
      = X (ix2 ⟨768 + a, by omega⟩ k) := by
  pointwise []

theorem ldG03 (X : FVec Ideal S2x1x1024x704 .bf16) (a : Fin 256) (b : Fin 704) :
    (View.ld (Val := Elt Ideal) (e' := .bf16) X (Rect.unit (s := S2x1x1024x704) ![0, 0, 768, 0] ![1, 1, 256, 704] inb_S2x1x1024x704_S1x1x256x704_0_0_768_0) : FVec Ideal S1x1x256x704 .bf16) (ix4 0 0 a b)
      = X (ix4 0 0 ⟨768 + a, by omega⟩ b) := by
  pointwise []

theorem ldG13 (X : FVec Ideal S2x1x1024x704 .bf16) (a : Fin 256) (b : Fin 704) :
    (View.ld (Val := Elt Ideal) (e' := .bf16) X (Rect.unit (s := S2x1x1024x704) ![1, 0, 768, 0] ![1, 1, 256, 704] inb_S2x1x1024x704_S1x1x256x704_1_0_768_0) : FVec Ideal S1x1x256x704 .bf16) (ix4 0 0 a b)
      = X (ix4 1 0 ⟨768 + a, by omega⟩ b) := by
  pointwise []

theorem ldW0 (X : FVec Ideal S2x1x704x1024 .bf16) (b : Fin 704) (k : Fin 1024) :
    (View.ld (Val := Elt Ideal) (e' := .bf16) X (Rect.unit (s := S2x1x704x1024) ![0, 0, 0, 0] ![1, 1, 704, 1024] inb_S2x1x704x1024_S1x1x704x1024_0_0_0_0) : FVec Ideal S1x1x704x1024 .bf16) (ix4 0 0 b k)
      = X (ix4 0 0 b k) := by
  pointwise []

theorem ldW1 (X : FVec Ideal S2x1x704x1024 .bf16) (b : Fin 704) (k : Fin 1024) :
    (View.ld (Val := Elt Ideal) (e' := .bf16) X (Rect.unit (s := S2x1x704x1024) ![1, 0, 0, 0] ![1, 1, 704, 1024] inb_S2x1x704x1024_S1x1x704x1024_1_0_0_0) : FVec Ideal S1x1x704x1024 .bf16) (ix4 0 0 b k)
      = X (ix4 1 0 b k) := by
  pointwise []

theorem row_emb0 (a : Fin 256) (k : Fin 1024) : (ix2 ⟨0 + a, by omega⟩ k : S1024x1024.Idx)
    = (Rect.unit (s := S1024x1024) ![0, 0] ![256, 1024] inb_S1024x1024_S256x1024_0_0).emb (ix2 a k) := by
  funext d
  fin_cases d
  · exact Fin.ext (by show 0 + a.val = 0 + 1 * a.val; omega)
  · exact Fin.ext (by show k.val = 0 + 1 * k.val; omega)

theorem row_emb1 (a : Fin 256) (k : Fin 1024) : (ix2 ⟨256 + a, by omega⟩ k : S1024x1024.Idx)
    = (Rect.unit (s := S1024x1024) ![256, 0] ![256, 1024] inb_S1024x1024_S256x1024_256_0).emb (ix2 a k) := by
  funext d
  fin_cases d
  · exact Fin.ext (by show 256 + a.val = 256 + 1 * a.val; omega)
  · exact Fin.ext (by show k.val = 0 + 1 * k.val; omega)

theorem row_emb2 (a : Fin 256) (k : Fin 1024) : (ix2 ⟨512 + a, by omega⟩ k : S1024x1024.Idx)
    = (Rect.unit (s := S1024x1024) ![512, 0] ![256, 1024] inb_S1024x1024_S256x1024_512_0).emb (ix2 a k) := by
  funext d
  fin_cases d
  · exact Fin.ext (by show 512 + a.val = 512 + 1 * a.val; omega)
  · exact Fin.ext (by show k.val = 0 + 1 * k.val; omega)

theorem row_emb3 (a : Fin 256) (k : Fin 1024) : (ix2 ⟨768 + a, by omega⟩ k : S1024x1024.Idx)
    = (Rect.unit (s := S1024x1024) ![768, 0] ![256, 1024] inb_S1024x1024_S256x1024_768_0).emb (ix2 a k) := by
  funext d
  fin_cases d
  · exact Fin.ext (by show 768 + a.val = 768 + 1 * a.val; omega)
  · exact Fin.ext (by show k.val = 0 + 1 * k.val; omega)

theorem canon_first (r : Rect S1024x1024) (w : r.shape.Idx → Elt Ideal .f32) (L : List (View.Piece (Elt Ideal) S1024x1024 .f32)) (i : r.shape.Idx)
    (y : S1024x1024.Idx) (h : y = r.emb i) : View.canon (⟨r, w⟩ :: L) y = w i := by rw [h]; exact View.canon_cons_emb r w L i

/-- A row of 1024 lies in one of four runs. -/
theorem rows_cases (a : Fin 1024) : (∃ r : Fin 256, a = ⟨0 + r.val, by omega⟩) ∨ (∃ r : Fin 256, a = ⟨256 + r.val, by omega⟩)
    ∨ (∃ r : Fin 256, a = ⟨512 + r.val, by omega⟩) ∨ (∃ r : Fin 256, a = ⟨768 + r.val, by omega⟩) := by
  have h := a.isLt
  have h' : a.val / 256 = 0 ∨ a.val / 256 = 1 ∨ a.val / 256 = 2 ∨ a.val / 256 = 3 := by omega
  obtain e | e | e | e := h'
  · exact .inl ⟨⟨a.val % 256, by omega⟩, Fin.ext (by show a.val = 0 + a.val % 256; omega)⟩
  · exact .inr (.inl ⟨⟨a.val % 256, by omega⟩, Fin.ext (by show a.val = 256 + a.val % 256; omega)⟩)
  · exact .inr (.inr (.inl ⟨⟨a.val % 256, by omega⟩, Fin.ext (by show a.val = 512 + a.val % 256; omega)⟩))
  · exact .inr (.inr (.inr ⟨⟨a.val % 256, by omega⟩, Fin.ext (by show a.val = 768 + a.val % 256; omega)⟩))

variable (x : Fin 4 → FVec Ideal S256x1024 .f32) (L : List (View.Piece (Elt Ideal) S1024x1024 .f32)) (a : Fin 256) (k : Fin 1024)

/-- Four stored runs of rows, whatever was stored before them. -/
abbrev runs : List (View.Piece (Elt Ideal) S1024x1024 .f32) :=
      ⟨Rect.unit (s := S1024x1024) ![768, 0] ![256, 1024] inb_S1024x1024_S256x1024_768_0, x 3⟩ ::
      ⟨Rect.unit (s := S1024x1024) ![512, 0] ![256, 1024] inb_S1024x1024_S256x1024_512_0, x 2⟩ ::
      ⟨Rect.unit (s := S1024x1024) ![256, 0] ![256, 1024] inb_S1024x1024_S256x1024_256_0, x 1⟩ ::
      ⟨Rect.unit (s := S1024x1024) ![0, 0] ![256, 1024] inb_S1024x1024_S256x1024_0_0, x 0⟩ ::
      L

theorem runs0 : View.canon (Val := Elt Ideal) (runs x L) (ix2 ⟨0 + a, by omega⟩ k) = x 0 (ix2 a k) := by
  rw [runs,
      View.canon_cons_of_not_mem _ _ (by rw [Rect.mem_set_unit]; intro h; have := h 0; simp at this; omega),
      View.canon_cons_of_not_mem _ _ (by rw [Rect.mem_set_unit]; intro h; have := h 0; simp at this; omega),
      View.canon_cons_of_not_mem _ _ (by rw [Rect.mem_set_unit]; intro h; have := h 0; simp at this; omega)]
  exact canon_first (Rect.unit (s := S1024x1024) ![0, 0] ![256, 1024] inb_S1024x1024_S256x1024_0_0) _ _ (ix2 a k) _ (row_emb0 a k)

theorem runs1 : View.canon (Val := Elt Ideal) (runs x L) (ix2 ⟨256 + a, by omega⟩ k) = x 1 (ix2 a k) := by
  rw [runs,
      View.canon_cons_of_not_mem _ _ (by rw [Rect.mem_set_unit]; intro h; have := h 0; simp at this; omega),
      View.canon_cons_of_not_mem _ _ (by rw [Rect.mem_set_unit]; intro h; have := h 0; simp at this; omega)]
  exact canon_first (Rect.unit (s := S1024x1024) ![256, 0] ![256, 1024] inb_S1024x1024_S256x1024_256_0) _ _ (ix2 a k) _ (row_emb1 a k)

theorem runs2 : View.canon (Val := Elt Ideal) (runs x L) (ix2 ⟨512 + a, by omega⟩ k) = x 2 (ix2 a k) := by
  rw [runs,
      View.canon_cons_of_not_mem _ _ (by rw [Rect.mem_set_unit]; intro h; have := h 0; simp at this; omega)]
  exact canon_first (Rect.unit (s := S1024x1024) ![512, 0] ![256, 1024] inb_S1024x1024_S256x1024_512_0) _ _ (ix2 a k) _ (row_emb2 a k)

theorem runs3 : View.canon (Val := Elt Ideal) (runs x L) (ix2 ⟨768 + a, by omega⟩ k) = x 3 (ix2 a k) := by
  exact canon_first (Rect.unit (s := S1024x1024) ![768, 0] ![256, 1024] inb_S1024x1024_S256x1024_768_0) _ _ (ix2 a k) _ (row_emb3 a k)

end Cert.Swi.K

end
-- ==== Proof.SwiWin.lean ====
/- What a grid point of the feed-forward gradient's kernel leaves in its three outputs, at the model: the activation and the two
   halves' cotangents of its rows and columns, and what its columns add to the input's cotangent. -/
module

public import proofs.«01_k».proof.Proof.SwiPay
public import proofs.«01_k».proof.Proof.SwiBlocks
public import proofs.«01_k».proof.Proof.SwiRows
public import proofs.«01_k».proof.Proof.Gen.Kernel2Ideal.Frame
public import Idealize.ShloMosaic.Lib.Pipeline.ValueKit
public import Idealize.ShloMosaic.Lib.Pipeline.ReadBack

@[expose] public section

set_option maxRecDepth 16384
set_option maxHeartbeats 1000000

noncomputable section

namespace Cert.Swi.K

open Cert.Kernel2Ideal Cert.Kernel2Ideal.Gen Cert.Mix
open Idealize.ShloMosaic Idealize.ShloMosaic.TcCoe Idealize.ShloMosaic.Tactic Idealize.SL.Sem

theorem zeros_at (a k : Fin 1024) : (k0_pay5 : FVec Ideal S1024x1024 .f32) (ix2 a k) = ((0 : ℝ) : EReal) := by pointwise [k0_pay5, lift]

variable {m : (ℓ : Loc nD τ sig) → Buf (Elt Ideal) ℓ} {c : Dev nD} {p : Inp} (H : Holds p m c) (t : Fin cfg0.N)

include H

theorem lx0 (a : Fin 256) (k : Fin 1024) :
    (View.ld (Val := Elt Ideal) (e' := .bf16) (iblk m c 0 t) (Rect.unit (s := S1024x1024) ![0, 0] ![256, 1024] inb_S1024x1024_S256x1024_0_0) : FVec Ideal S256x1024 .bf16) (ix2 a k)
      = ((p.d (1024 * (t.val / 4) + 0 + a) k : ℝ) : EReal) := by
  refine (ldX0 _ a k).trans ((b0_at H t _ k).trans ?_)
  rw [← Nat.add_assoc]

theorem lg0 (a : Fin 256) (b : Fin 704) :
    (View.ld (Val := Elt Ideal) (e' := .bf16) (iblk m c 1 t) (Rect.unit (s := S2x1x1024x704) ![0, 0, 0, 0] ![1, 1, 256, 704] inb_S2x1x1024x704_S1x1x256x704_0_0_0_0) : FVec Ideal S1x1x256x704 .bf16) (ix4 0 0 a b)
      = ((p.gu (1024 * (t.val / 4) + 0 + a) (704 * (t.val % 4) + b) : ℝ) : EReal) := by
  refine (ldG00 _ a b).trans ((b1_at H t 0 _ b).trans ?_)
  refine congrArg (fun s : ℝ => (s : EReal)) ?_
  exact congrArg₂ p.gu (Nat.add_assoc _ _ _).symm (by show 2816 * 0 + _ = _; omega)

theorem lu0 (a : Fin 256) (b : Fin 704) :
    (View.ld (Val := Elt Ideal) (e' := .bf16) (iblk m c 1 t) (Rect.unit (s := S2x1x1024x704) ![1, 0, 0, 0] ![1, 1, 256, 704] inb_S2x1x1024x704_S1x1x256x704_1_0_0_0) : FVec Ideal S1x1x256x704 .bf16) (ix4 0 0 a b)
      = ((p.up (1024 * (t.val / 4) + 0 + a) (704 * (t.val % 4) + b) : ℝ) : EReal) := by
  refine (ldG10 _ a b).trans ((b1_at H t 1 _ b).trans ?_)
  refine congrArg (fun s : ℝ => (s : EReal)) ?_
  unfold Inp.up
  exact congrArg₂ p.gu (Nat.add_assoc _ _ _).symm (by show 2816 * 1 + _ = _; omega)

theorem lx1 (a : Fin 256) (k : Fin 1024) :
    (View.ld (Val := Elt Ideal) (e' := .bf16) (iblk m c 0 t) (Rect.unit (s := S1024x1024) ![256, 0] ![256, 1024] inb_S1024x1024_S256x1024_256_0) : FVec Ideal S256x1024 .bf16) (ix2 a k)
      = ((p.d (1024 * (t.val / 4) + 256 + a) k : ℝ) : EReal) := by
  refine (ldX1 _ a k).trans ((b0_at H t _ k).trans ?_)
  rw [← Nat.add_assoc]

theorem lg1 (a : Fin 256) (b : Fin 704) :
    (View.ld (Val := Elt Ideal) (e' := .bf16) (iblk m c 1 t) (Rect.unit (s := S2x1x1024x704) ![0, 0, 256, 0] ![1, 1, 256, 704] inb_S2x1x1024x704_S1x1x256x704_0_0_256_0) : FVec Ideal S1x1x256x704 .bf16) (ix4 0 0 a b)
      = ((p.gu (1024 * (t.val / 4) + 256 + a) (704 * (t.val % 4) + b) : ℝ) : EReal) := by
  refine (ldG01 _ a b).trans ((b1_at H t 0 _ b).trans ?_)
  refine congrArg (fun s : ℝ => (s : EReal)) ?_
  exact congrArg₂ p.gu (Nat.add_assoc _ _ _).symm (by show 2816 * 0 + _ = _; omega)

theorem lu1 (a : Fin 256) (b : Fin 704) :
    (View.ld (Val := Elt Ideal) (e' := .bf16) (iblk m c 1 t) (Rect.unit (s := S2x1x1024x704) ![1, 0, 256, 0] ![1, 1, 256, 704] inb_S2x1x1024x704_S1x1x256x704_1_0_256_0) : FVec Ideal S1x1x256x704 .bf16) (ix4 0 0 a b)
      = ((p.up (1024 * (t.val / 4) + 256 + a) (704 * (t.val % 4) + b) : ℝ) : EReal) := by
  refine (ldG11 _ a b).trans ((b1_at H t 1 _ b).trans ?_)
  refine congrArg (fun s : ℝ => (s : EReal)) ?_
  unfold Inp.up
  exact congrArg₂ p.gu (Nat.add_assoc _ _ _).symm (by show 2816 * 1 + _ = _; omega)

theorem lx2 (a : Fin 256) (k : Fin 1024) :
    (View.ld (Val := Elt Ideal) (e' := .bf16) (iblk m c 0 t) (Rect.unit (s := S1024x1024) ![512, 0] ![256, 1024] inb_S1024x1024_S256x1024_512_0) : FVec Ideal S256x1024 .bf16) (ix2 a k)
      = ((p.d (1024 * (t.val / 4) + 512 + a) k : ℝ) : EReal) := by
  refine (ldX2 _ a k).trans ((b0_at H t _ k).trans ?_)
  rw [← Nat.add_assoc]

theorem lg2 (a : Fin 256) (b : Fin 704) :
    (View.ld (Val := Elt Ideal) (e' := .bf16) (iblk m c 1 t) (Rect.unit (s := S2x1x1024x704) ![0, 0, 512, 0] ![1, 1, 256, 704] inb_S2x1x1024x704_S1x1x256x704_0_0_512_0) : FVec Ideal S1x1x256x704 .bf16) (ix4 0 0 a b)
      = ((p.gu (1024 * (t.val / 4) + 512 + a) (704 * (t.val % 4) + b) : ℝ) : EReal) := by
  refine (ldG02 _ a b).trans ((b1_at H t 0 _ b).trans ?_)
  refine congrArg (fun s : ℝ => (s : EReal)) ?_
  exact congrArg₂ p.gu (Nat.add_assoc _ _ _).symm (by show 2816 * 0 + _ = _; omega)

theorem lu2 (a : Fin 256) (b : Fin 704) :
    (View.ld (Val := Elt Ideal) (e' := .bf16) (iblk m c 1 t) (Rect.unit (s := S2x1x1024x704) ![1, 0, 512, 0] ![1, 1, 256, 704] inb_S2x1x1024x704_S1x1x256x704_1_0_512_0) : FVec Ideal S1x1x256x704 .bf16) (ix4 0 0 a b)
      = ((p.up (1024 * (t.val / 4) + 512 + a) (704 * (t.val % 4) + b) : ℝ) : EReal) := by
  refine (ldG12 _ a b).trans ((b1_at H t 1 _ b).trans ?_)
  refine congrArg (fun s : ℝ => (s : EReal)) ?_
  unfold Inp.up
  exact congrArg₂ p.gu (Nat.add_assoc _ _ _).symm (by show 2816 * 1 + _ = _; omega)

theorem lx3 (a : Fin 256) (k : Fin 1024) :
    (View.ld (Val := Elt Ideal) (e' := .bf16) (iblk m c 0 t) (Rect.unit (s := S1024x1024) ![768, 0] ![256, 1024] inb_S1024x1024_S256x1024_768_0) : FVec Ideal S256x1024 .bf16) (ix2 a k)
      = ((p.d (1024 * (t.val / 4) + 768 + a) k : ℝ) : EReal) := by
  refine (ldX3 _ a k).trans ((b0_at H t _ k).trans ?_)
  rw [← Nat.add_assoc]

theorem lg3 (a : Fin 256) (b : Fin 704) :
    (View.ld (Val := Elt Ideal) (e' := .bf16) (iblk m c 1 t) (Rect.unit (s := S2x1x1024x704) ![0, 0, 768, 0] ![1, 1, 256, 704] inb_S2x1x1024x704_S1x1x256x704_0_0_768_0) : FVec Ideal S1x1x256x704 .bf16) (ix4 0 0 a b)
      = ((p.gu (1024 * (t.val / 4) + 768 + a) (704 * (t.val % 4) + b) : ℝ) : EReal) := by
  refine (ldG03 _ a b).trans ((b1_at H t 0 _ b).trans ?_)
  refine congrArg (fun s : ℝ => (s : EReal)) ?_
  exact congrArg₂ p.gu (Nat.add_assoc _ _ _).symm (by show 2816 * 0 + _ = _; omega)

theorem lu3 (a : Fin 256) (b : Fin 704) :
    (View.ld (Val := Elt Ideal) (e' := .bf16) (iblk m c 1 t) (Rect.unit (s := S2x1x1024x704) ![1, 0, 768, 0] ![1, 1, 256, 704] inb_S2x1x1024x704_S1x1x256x704_1_0_768_0) : FVec Ideal S1x1x256x704 .bf16) (ix4 0 0 a b)
      = ((p.up (1024 * (t.val / 4) + 768 + a) (704 * (t.val % 4) + b) : ℝ) : EReal) := by
  refine (ldG13 _ a b).trans ((b1_at H t 1 _ b).trans ?_)
  refine congrArg (fun s : ℝ => (s : EReal)) ?_
  unfold Inp.up
  exact congrArg₂ p.gu (Nat.add_assoc _ _ _).symm (by show 2816 * 1 + _ = _; omega)

theorem lw0 (b : Fin 704) (k : Fin 1024) :
    (View.ld (Val := Elt Ideal) (e' := .bf16) (iblk m c 2 t) (Rect.unit (s := S2x1x704x1024) ![0, 0, 0, 0] ![1, 1, 704, 1024] inb_S2x1x704x1024_S1x1x704x1024_0_0_0_0) : FVec Ideal S1x1x704x1024 .bf16) (ix4 0 0 b k)
      = ((p.w k (704 * (t.val % 4) + b) : ℝ) : EReal) := by
  refine (ldW0 _ b k).trans ((b2_at H t 0 b k).trans ?_)
  refine congrArg (fun s : ℝ => (s : EReal)) ?_
  exact congrArg₂ p.w rfl (by show 2816 * 0 + _ = _; omega)

theorem lw1 (b : Fin 704) (k : Fin 1024) :
    (View.ld (Val := Elt Ideal) (e' := .bf16) (iblk m c 2 t) (Rect.unit (s := S2x1x704x1024) ![1, 0, 0, 0] ![1, 1, 704, 1024] inb_S2x1x704x1024_S1x1x704x1024_1_0_0_0) : FVec Ideal S1x1x704x1024 .bf16) (ix4 0 0 b k)
      = ((p.w k (2816 + (704 * (t.val % 4) + b)) : ℝ) : EReal) := by
  refine (ldW1 _ b k).trans ((b2_at H t 1 b k).trans ?_)
  refine congrArg (fun s : ℝ => (s : EReal)) ?_
  exact congrArg₂ p.w rfl (by show 2816 * 1 + _ = _; omega)

theorem A4 (h0 : t.val % 4 = 0) (a : Fin 1024) (b : Fin 704) :
    (outsAt0 m c t.val t.isLt).1 (ix3 0 a b) = ((p.act (1024 * (t.val / 4) + a) (704 * (t.val % 4) + b) : ℝ) : EReal) := by
  rw [outsAt0_A m c t h0]; frame_out
  canon_tiles x h
  · idx_vars x
    obtain rfl : x0 = 0 := Subsingleton.elim _ _
    rw [act3]
    exact (act_at p (1024 * (t.val / 4) + 768) (704 * (t.val % 4)) _ _ (lg3 H t) (lu3 H t) x1 x2).trans (congrArg (fun s : ℝ => (s : EReal)) (congrArg₂ p.act (by omega) (by omega)))
  · idx_vars x
    obtain rfl : x0 = 0 := Subsingleton.elim _ _
    rw [act2]
    exact (act_at p (1024 * (t.val / 4) + 512) (704 * (t.val % 4)) _ _ (lg2 H t) (lu2 H t) x1 x2).trans (congrArg (fun s : ℝ => (s : EReal)) (congrArg₂ p.act (by omega) (by omega)))
  · idx_vars x
    obtain rfl : x0 = 0 := Subsingleton.elim _ _
    rw [act1]
    exact (act_at p (1024 * (t.val / 4) + 256) (704 * (t.val % 4)) _ _ (lg1 H t) (lu1 H t) x1 x2).trans (congrArg (fun s : ℝ => (s : EReal)) (congrArg₂ p.act (by omega) (by omega)))
  · idx_vars x
    obtain rfl : x0 = 0 := Subsingleton.elim _ _
    exact (act_at p (1024 * (t.val / 4) + 0) (704 * (t.val % 4)) _ _ (lg0 H t) (lu0 H t) x1 x2).trans (congrArg (fun s : ℝ => (s : EReal)) (congrArg₂ p.act (by omega) (by omega)))

theorem A5 (h0 : t.val % 4 = 0) (h : Fin 2) (a : Fin 1024) (b : Fin 704) :
    (outsAt0 m c t.val t.isLt).2.1 (ix4 h 0 a b) = ((p.dgu (1024 * (t.val / 4) + a) (2816 * h + (704 * (t.val % 4) + b)) : ℝ) : EReal) := by
  rw [outsAt0_A m c t h0]; frame_out
  canon_tiles x hx
  · idx_vars x
    have e : 2816 * h.val + (704 * (t.val % 4) + b.val) = 2816 + (704 * (t.val % 4) + x3.val) := by omega
    obtain rfl : x0 = 0 := Subsingleton.elim _ _
    obtain rfl : x1 = 0 := Subsingleton.elim _ _
    rw [dup3]
    refine (dup4_at p (1024 * (t.val / 4) + 768) (704 * (t.val % 4)) _ _ _ (lx3 H t) (b3_at H t) (lg3 H t) x2 x3).trans (congrArg (fun s : ℝ => (s : EReal)) ?_)
    rw [e, p.dgu_hi]
    exact congrArg₂ p.dup (by omega) rfl
  · idx_vars x
    have e : 2816 * h.val + (704 * (t.val % 4) + b.val) = (704 * (t.val % 4) + x3.val) := by omega
    obtain rfl : x0 = 0 := Subsingleton.elim _ _
    obtain rfl : x1 = 0 := Subsingleton.elim _ _
    rw [dgt3]
    refine (dgt4_at p (1024 * (t.val / 4) + 768) (704 * (t.val % 4)) _ _ _ _ (lx3 H t) (b3_at H t) (lg3 H t) (lu3 H t) x2 x3).trans (congrArg (fun s : ℝ => (s : EReal)) ?_)
    rw [e, p.dgu_lo _ _ (by omega)]
    exact congrArg₂ p.dgt (by omega) rfl
  · idx_vars x
    have e : 2816 * h.val + (704 * (t.val % 4) + b.val) = 2816 + (704 * (t.val % 4) + x3.val) := by omega
    obtain rfl : x0 = 0 := Subsingleton.elim _ _
    obtain rfl : x1 = 0 := Subsingleton.elim _ _
    rw [dup2]
    refine (dup4_at p (1024 * (t.val / 4) + 512) (704 * (t.val % 4)) _ _ _ (lx2 H t) (b3_at H t) (lg2 H t) x2 x3).trans (congrArg (fun s : ℝ => (s : EReal)) ?_)
    rw [e, p.dgu_hi]
    exact congrArg₂ p.dup (by omega) rfl
  · idx_vars x
    have e : 2816 * h.val + (704 * (t.val % 4) + b.val) = (704 * (t.val % 4) + x3.val) := by omega
    obtain rfl : x0 = 0 := Subsingleton.elim _ _
    obtain rfl : x1 = 0 := Subsingleton.elim _ _
    rw [dgt2]
    refine (dgt4_at p (1024 * (t.val / 4) + 512) (704 * (t.val % 4)) _ _ _ _ (lx2 H t) (b3_at H t) (lg2 H t) (lu2 H t) x2 x3).trans (congrArg (fun s : ℝ => (s : EReal)) ?_)
    rw [e, p.dgu_lo _ _ (by omega)]
    exact congrArg₂ p.dgt (by omega) rfl
  · idx_vars x
    have e : 2816 * h.val + (704 * (t.val % 4) + b.val) = 2816 + (704 * (t.val % 4) + x3.val) := by omega
    obtain rfl : x0 = 0 := Subsingleton.elim _ _
    obtain rfl : x1 = 0 := Subsingleton.elim _ _
    rw [dup1]
    refine (dup4_at p (1024 * (t.val / 4) + 256) (704 * (t.val % 4)) _ _ _ (lx1 H t) (b3_at H t) (lg1 H t) x2 x3).trans (congrArg (fun s : ℝ => (s : EReal)) ?_)
    rw [e, p.dgu_hi]
    exact congrArg₂ p.dup (by omega) rfl
  · idx_vars x
    have e : 2816 * h.val + (704 * (t.val % 4) + b.val) = (704 * (t.val % 4) + x3.val) := by omega
    obtain rfl : x0 = 0 := Subsingleton.elim _ _
    obtain rfl : x1 = 0 := Subsingleton.elim _ _
    rw [dgt1]
    refine (dgt4_at p (1024 * (t.val / 4) + 256) (704 * (t.val % 4)) _ _ _ _ (lx1 H t) (b3_at H t) (lg1 H t) (lu1 H t) x2 x3).trans (congrArg (fun s : ℝ => (s : EReal)) ?_)
    rw [e, p.dgu_lo _ _ (by omega)]
    exact congrArg₂ p.dgt (by omega) rfl
  · idx_vars x
    have e : 2816 * h.val + (704 * (t.val % 4) + b.val) = 2816 + (704 * (t.val % 4) + x3.val) := by omega
    obtain rfl : x0 = 0 := Subsingleton.elim _ _
    obtain rfl : x1 = 0 := Subsingleton.elim _ _
    refine (dup4_at p (1024 * (t.val / 4) + 0) (704 * (t.val % 4)) _ _ _ (lx0 H t) (b3_at H t) (lg0 H t) x2 x3).trans (congrArg (fun s : ℝ => (s : EReal)) ?_)
    rw [e, p.dgu_hi]
    exact congrArg₂ p.dup (by omega) rfl
  · idx_vars x
    have e : 2816 * h.val + (704 * (t.val % 4) + b.val) = (704 * (t.val % 4) + x3.val) := by omega
    obtain rfl : x0 = 0 := Subsingleton.elim _ _
    obtain rfl : x1 = 0 := Subsingleton.elim _ _
    refine (dgt4_at p (1024 * (t.val / 4) + 0) (704 * (t.val % 4)) _ _ _ _ (lx0 H t) (b3_at H t) (lg0 H t) (lu0 H t) x2 x3).trans (congrArg (fun s : ℝ => (s : EReal)) ?_)
    rw [e, p.dgu_lo _ _ (by omega)]
    exact congrArg₂ p.dgt (by omega) rfl

theorem A6 (h0 : t.val % 4 = 0) (a : Fin 1024) (k : Fin 1024) :
    (outsAt0 m c t.val t.isLt).2.2 (ix2 a k) = ((0 + p.term (t.val % 4) (1024 * (t.val / 4) + a) k : ℝ) : EReal) := by
  rw [outsAt0_A m c t h0]; frame_open
  simp (disch := decide) only [↓View.readCov_skip, ↓View.readCov_fill, View.read_writes_junk_eq_canon, View.ld_unit_lit', View.readCov_unit_lit',
    View.readCov_cons_unit_lit', View.readAt_eq_ld, Memref.IsWhole.read_unread, View.readCov_cons_toLoadRect]
  obtain ⟨r, e⟩ | ⟨r, e⟩ | ⟨r, e⟩ | ⟨r, e⟩ := rows_cases a
  · rw [e]
    refine (runs0 ![_, _, _, _] _ r k).trans ?_
    refine (add_at p (1024 * (t.val / 4) + 0) (704 * (t.val % 4)) _ _ _ _ _ _ (lx0 H t) (b3_at H t) (lg0 H t) (lu0 H t) (lw0 H t) (lw1 H t) r _ rfl _ k _ ((ldS0 _ r k).trans (zeros_at _ _))).trans ?_
    rw [Nat.add_assoc]
  · rw [e]
    refine (runs1 ![_, _, _, _] _ r k).trans ?_
    refine (congrFun (add1 _ _ _ _ _ _ _) _).trans ?_
    refine (add_at p (1024 * (t.val / 4) + 256) (704 * (t.val % 4)) _ _ _ _ _ _ (lx1 H t) (b3_at H t) (lg1 H t) (lu1 H t) (lw0 H t) (lw1 H t) r _ rfl _ k _ ((ldS1 _ r k).trans (zeros_at _ _))).trans ?_
    rw [Nat.add_assoc]
  · rw [e]
    refine (runs2 ![_, _, _, _] _ r k).trans ?_
    refine (congrFun (add2 _ _ _ _ _ _ _) _).trans ?_
    refine (add_at p (1024 * (t.val / 4) + 512) (704 * (t.val % 4)) _ _ _ _ _ _ (lx2 H t) (b3_at H t) (lg2 H t) (lu2 H t) (lw0 H t) (lw1 H t) r _ rfl _ k _ ((ldS2 _ r k).trans (zeros_at _ _))).trans ?_
    rw [Nat.add_assoc]
  · rw [e]
    refine (runs3 ![_, _, _, _] _ r k).trans ?_
    refine (congrFun (add3 _ _ _ _ _ _ _) _).trans ?_
    refine (add_at p (1024 * (t.val / 4) + 768) (704 * (t.val % 4)) _ _ _ _ _ _ (lx3 H t) (b3_at H t) (lg3 H t) (lu3 H t) (lw0 H t) (lw1 H t) r _ rfl _ k _ ((ldS3 _ r k).trans (zeros_at _ _))).trans ?_
    rw [Nat.add_assoc]

theorem B4 (h0 : ¬t.val % 4 = 0) (a : Fin 1024) (b : Fin 704) :
    (outsAt0 m c t.val t.isLt).1 (ix3 0 a b) = ((p.act (1024 * (t.val / 4) + a) (704 * (t.val % 4) + b) : ℝ) : EReal) := by
  rw [outsAt0_B m c t h0]; frame_out
  canon_tiles x h
  · idx_vars x
    obtain rfl : x0 = 0 := Subsingleton.elim _ _
    rw [act3]
    exact (act_at p (1024 * (t.val / 4) + 768) (704 * (t.val % 4)) _ _ (lg3 H t) (lu3 H t) x1 x2).trans (congrArg (fun s : ℝ => (s : EReal)) (congrArg₂ p.act (by omega) (by omega)))
  · idx_vars x
    obtain rfl : x0 = 0 := Subsingleton.elim _ _
    rw [act2]
    exact (act_at p (1024 * (t.val / 4) + 512) (704 * (t.val % 4)) _ _ (lg2 H t) (lu2 H t) x1 x2).trans (congrArg (fun s : ℝ => (s : EReal)) (congrArg₂ p.act (by omega) (by omega)))
  · idx_vars x
    obtain rfl : x0 = 0 := Subsingleton.elim _ _
    rw [act1]
    exact (act_at p (1024 * (t.val / 4) + 256) (704 * (t.val % 4)) _ _ (lg1 H t) (lu1 H t) x1 x2).trans (congrArg (fun s : ℝ => (s : EReal)) (congrArg₂ p.act (by omega) (by omega)))
  · idx_vars x
    obtain rfl : x0 = 0 := Subsingleton.elim _ _
    exact (act_at p (1024 * (t.val / 4) + 0) (704 * (t.val % 4)) _ _ (lg0 H t) (lu0 H t) x1 x2).trans (congrArg (fun s : ℝ => (s : EReal)) (congrArg₂ p.act (by omega) (by omega)))

theorem B5 (h0 : ¬t.val % 4 = 0) (h : Fin 2) (a : Fin 1024) (b : Fin 704) :
    (outsAt0 m c t.val t.isLt).2.1 (ix4 h 0 a b) = ((p.dgu (1024 * (t.val / 4) + a) (2816 * h + (704 * (t.val % 4) + b)) : ℝ) : EReal) := by
  rw [outsAt0_B m c t h0]; frame_out
  canon_tiles x hx
  · idx_vars x
    have e : 2816 * h.val + (704 * (t.val % 4) + b.val) = 2816 + (704 * (t.val % 4) + x3.val) := by omega
    obtain rfl : x0 = 0 := Subsingleton.elim _ _
    obtain rfl : x1 = 0 := Subsingleton.elim _ _
    rw [dup3]
    refine (dup4_at p (1024 * (t.val / 4) + 768) (704 * (t.val % 4)) _ _ _ (lx3 H t) (b3_at H t) (lg3 H t) x2 x3).trans (congrArg (fun s : ℝ => (s : EReal)) ?_)
    rw [e, p.dgu_hi]
    exact congrArg₂ p.dup (by omega) rfl
  · idx_vars x
    have e : 2816 * h.val + (704 * (t.val % 4) + b.val) = (704 * (t.val % 4) + x3.val) := by omega
    obtain rfl : x0 = 0 := Subsingleton.elim _ _
    obtain rfl : x1 = 0 := Subsingleton.elim _ _
    rw [dgt3]
    refine (dgt4_at p (1024 * (t.val / 4) + 768) (704 * (t.val % 4)) _ _ _ _ (lx3 H t) (b3_at H t) (lg3 H t) (lu3 H t) x2 x3).trans (congrArg (fun s : ℝ => (s : EReal)) ?_)
    rw [e, p.dgu_lo _ _ (by omega)]
    exact congrArg₂ p.dgt (by omega) rfl
  · idx_vars x
    have e : 2816 * h.val + (704 * (t.val % 4) + b.val) = 2816 + (704 * (t.val % 4) + x3.val) := by omega
    obtain rfl : x0 = 0 := Subsingleton.elim _ _
    obtain rfl : x1 = 0 := Subsingleton.elim _ _
    rw [dup2]
    refine (dup4_at p (1024 * (t.val / 4) + 512) (704 * (t.val % 4)) _ _ _ (lx2 H t) (b3_at H t) (lg2 H t) x2 x3).trans (congrArg (fun s : ℝ => (s : EReal)) ?_)
    rw [e, p.dgu_hi]
    exact congrArg₂ p.dup (by omega) rfl
  · idx_vars x
    have e : 2816 * h.val + (704 * (t.val % 4) + b.val) = (704 * (t.val % 4) + x3.val) := by omega
    obtain rfl : x0 = 0 := Subsingleton.elim _ _
    obtain rfl : x1 = 0 := Subsingleton.elim _ _
    rw [dgt2]
    refine (dgt4_at p (1024 * (t.val / 4) + 512) (704 * (t.val % 4)) _ _ _ _ (lx2 H t) (b3_at H t) (lg2 H t) (lu2 H t) x2 x3).trans (congrArg (fun s : ℝ => (s : EReal)) ?_)
    rw [e, p.dgu_lo _ _ (by omega)]
    exact congrArg₂ p.dgt (by omega) rfl
  · idx_vars x
    have e : 2816 * h.val + (704 * (t.val % 4) + b.val) = 2816 + (704 * (t.val % 4) + x3.val) := by omega
    obtain rfl : x0 = 0 := Subsingleton.elim _ _
    obtain rfl : x1 = 0 := Subsingleton.elim _ _
    rw [dup1]
    refine (dup4_at p (1024 * (t.val / 4) + 256) (704 * (t.val % 4)) _ _ _ (lx1 H t) (b3_at H t) (lg1 H t) x2 x3).trans (congrArg (fun s : ℝ => (s : EReal)) ?_)
    rw [e, p.dgu_hi]
    exact congrArg₂ p.dup (by omega) rfl
  · idx_vars x
    have e : 2816 * h.val + (704 * (t.val % 4) + b.val) = (704 * (t.val % 4) + x3.val) := by omega
    obtain rfl : x0 = 0 := Subsingleton.elim _ _
    obtain rfl : x1 = 0 := Subsingleton.elim _ _
    rw [dgt1]
    refine (dgt4_at p (1024 * (t.val / 4) + 256) (704 * (t.val % 4)) _ _ _ _ (lx1 H t) (b3_at H t) (lg1 H t) (lu1 H t) x2 x3).trans (congrArg (fun s : ℝ => (s : EReal)) ?_)
    rw [e, p.dgu_lo _ _ (by omega)]
    exact congrArg₂ p.dgt (by omega) rfl
  · idx_vars x
    have e : 2816 * h.val + (704 * (t.val % 4) + b.val) = 2816 + (704 * (t.val % 4) + x3.val) := by omega
    obtain rfl : x0 = 0 := Subsingleton.elim _ _
    obtain rfl : x1 = 0 := Subsingleton.elim _ _
    refine (dup4_at p (1024 * (t.val / 4) + 0) (704 * (t.val % 4)) _ _ _ (lx0 H t) (b3_at H t) (lg0 H t) x2 x3).trans (congrArg (fun s : ℝ => (s : EReal)) ?_)
    rw [e, p.dgu_hi]
    exact congrArg₂ p.dup (by omega) rfl
  · idx_vars x
    have e : 2816 * h.val + (704 * (t.val % 4) + b.val) = (704 * (t.val % 4) + x3.val) := by omega
    obtain rfl : x0 = 0 := Subsingleton.elim _ _
    obtain rfl : x1 = 0 := Subsingleton.elim _ _
    refine (dgt4_at p (1024 * (t.val / 4) + 0) (704 * (t.val % 4)) _ _ _ _ (lx0 H t) (b3_at H t) (lg0 H t) (lu0 H t) x2 x3).trans (congrArg (fun s : ℝ => (s : EReal)) ?_)
    rw [e, p.dgu_lo _ _ (by omega)]
    exact congrArg₂ p.dgt (by omega) rfl

theorem B6 (h0 : ¬t.val % 4 = 0) (A : ℕ → ℕ → ℝ)
    (hA : ∀ a k : Fin 1024, (outsAt0 m c (t.val - 1) (by omega)).2.2 (ix2 a k) = ((A a k : ℝ) : EReal)) (a : Fin 1024) (k : Fin 1024) :
    (outsAt0 m c t.val t.isLt).2.2 (ix2 a k) = ((A a k + p.term (t.val % 4) (1024 * (t.val / 4) + a) k : ℝ) : EReal) := by
  rw [outsAt0_B m c t h0]; frame_open
  simp (disch := decide) only [↓View.readCov_skip, ↓View.readCov_fill, View.read_writes_junk_eq_canon, View.ld_unit_lit', View.readCov_unit_lit',
    View.readCov_cons_unit_lit', View.readAt_eq_ld, Memref.IsWhole.read_unread, View.readCov_cons_toLoadRect]
  obtain ⟨r, e⟩ | ⟨r, e⟩ | ⟨r, e⟩ | ⟨r, e⟩ := rows_cases a
  · rw [e]
    refine (runs0 ![_, _, _, _] _ r k).trans ?_
    refine (add_at p (1024 * (t.val / 4) + 0) (704 * (t.val % 4)) _ _ _ _ _ _ (lx0 H t) (b3_at H t) (lg0 H t) (lu0 H t) (lw0 H t) (lw1 H t) r _ rfl _ k _ ((ldS0 _ r k).trans (hA _ k))).trans ?_
    rw [Nat.add_assoc]
  · rw [e]
    refine (runs1 ![_, _, _, _] _ r k).trans ?_
    refine (congrFun (add1 _ _ _ _ _ _ _) _).trans ?_
    refine (add_at p (1024 * (t.val / 4) + 256) (704 * (t.val % 4)) _ _ _ _ _ _ (lx1 H t) (b3_at H t) (lg1 H t) (lu1 H t) (lw0 H t) (lw1 H t) r _ rfl _ k _ ((ldS1 _ r k).trans (hA _ k))).trans ?_
    rw [Nat.add_assoc]
  · rw [e]
    refine (runs2 ![_, _, _, _] _ r k).trans ?_
    refine (congrFun (add2 _ _ _ _ _ _ _) _).trans ?_
    refine (add_at p (1024 * (t.val / 4) + 512) (704 * (t.val % 4)) _ _ _ _ _ _ (lx2 H t) (b3_at H t) (lg2 H t) (lu2 H t) (lw0 H t) (lw1 H t) r _ rfl _ k _ ((ldS2 _ r k).trans (hA _ k))).trans ?_
    rw [Nat.add_assoc]
  · rw [e]
    refine (runs3 ![_, _, _, _] _ r k).trans ?_
    refine (congrFun (add3 _ _ _ _ _ _ _) _).trans ?_
    refine (add_at p (1024 * (t.val / 4) + 768) (704 * (t.val % 4)) _ _ _ _ _ _ (lx3 H t) (b3_at H t) (lg3 H t) (lu3 H t) (lw0 H t) (lw1 H t) r _ rfl _ k _ ((ldS3 _ r k).trans (hA _ k))).trans ?_
    rw [Nat.add_assoc]

end Cert.Swi.K

end
-- ==== Proof.SwiOuts.lean ====
/- The three result arrays of the feed-forward gradient at the model. -/
module

public import proofs.«01_k».proof.Proof.SwiModel
public import Idealize.ShloMosaic.Lib.Claim

@[expose] public section

set_option maxRecDepth 16384

noncomputable section

namespace Cert.Swi

open Idealize.ShloMosaic Idealize.ShloMosaic.TcCoe Idealize.SL.Sem

variable (p : Inp)

/-- The activation, in four runs of 704 columns. -/
def o4 : FVec Ideal ⟨3, ![4, 4096, 704]⟩ .bf16 := fun i => ((p.act (i 1) (704 * (i 0) + (i 2)) : ℝ) : EReal)

/-- The cotangents of the projection's two halves, each in four runs of 704 columns. -/
def o5 : FVec Ideal ⟨4, ![2, 4, 4096, 704]⟩ .bf16 := fun i => ((p.dgu (i 2) (2816 * (i 0) + (704 * (i 1) + (i 3))) : ℝ) : EReal)

/-- The input's cotangent. -/
def o6 : FVec Ideal ⟨2, ![4096, 1024]⟩ .f32 := fun i => ((p.dxn (i 0) (i 1) : ℝ) : EReal)

end Cert.Swi

end
-- ==== Proof.SwiArrays.lean ====
/- The arrays the feed-forward gradient's kernel ends with: each block of the two that are written once, and the input's cotangent,
   which four points of the grid add up. -/
module

public import proofs.«01_k».proof.Proof.SwiWin
public import proofs.«01_k».proof.Proof.SwiOuts

@[expose] public section

set_option maxRecDepth 16384

noncomputable section

namespace Cert.Swi.K

open Cert.Kernel2Ideal Cert.Kernel2Ideal.Gen Cert.Mix
open Idealize.ShloMosaic Idealize.ShloMosaic.TcCoe Idealize.ShloMosaic.Tactic Idealize.SL.Sem

variable {m : (ℓ : Loc nD τ sig) → Buf (Elt Ideal) ℓ} {c : Dev nD} {p : Inp} (H : Holds p m c)

include H

theorem at4 (t : Fin cfg0.N) (a : Fin 1024) (b : Fin 704) :
    (outsAt0 m c t.val t.isLt).1 (ix3 0 a b) = ((p.act (1024 * (t.val / 4) + a) (704 * (t.val % 4) + b) : ℝ) : EReal) := by
  by_cases h : t.val % 4 = 0
  · exact A4 H t h a b
  · exact B4 H t h a b

theorem at5 (t : Fin cfg0.N) (h : Fin 2) (a : Fin 1024) (b : Fin 704) :
    (outsAt0 m c t.val t.isLt).2.1 (ix4 h 0 a b) = ((p.dgu (1024 * (t.val / 4) + a) (2816 * h + (704 * (t.val % 4) + b)) : ℝ) : EReal) := by
  by_cases h0 : t.val % 4 = 0
  · exact A5 H t h0 h a b
  · exact B5 H t h0 h a b

/-- After the point at column run `f` the input's cotangent holds the first `f + 1` runs' terms. -/
theorem at6 : ∀ (n : ℕ) (hn : n < cfg0.N) (a k : Fin 1024),
    (outsAt0 m c n hn).2.2 (ix2 a k) = ((∑ s ∈ Finset.range (n % 4 + 1), p.term s (1024 * (n / 4) + a) k : ℝ) : EReal)
  | 0, hn, a, k => by
    rw [A6 H ⟨0, hn⟩ (Nat.zero_mod 4) a k, Finset.sum_range_one, zero_add]
    rfl
  | n + 1, hn, a, k => by
    by_cases h : (n + 1) % 4 = 0
    · rw [A6 H ⟨n + 1, hn⟩ h a k, zero_add]
      show ((p.term ((n + 1) % 4) (1024 * ((n + 1) / 4) + a) k : ℝ) : EReal) = _
      rw [h, zero_add, Finset.sum_range_one]
    · rw [B6 H ⟨n + 1, hn⟩ h (fun a k => ∑ s ∈ Finset.range (n % 4 + 1), p.term s (1024 * (n / 4) + a) k)
        (fun a k => at6 n (Nat.lt_of_succ_lt hn) a k) a k]
      show ((∑ s ∈ Finset.range (n % 4 + 1), p.term s (1024 * (n / 4) + a) k + p.term ((n + 1) % 4) (1024 * ((n + 1) / 4) + a) k : ℝ) : EReal) = _
      rw [Finset.sum_range_succ _ ((n + 1) % 4), show (n + 1) % 4 = n % 4 + 1 by omega, show (n + 1) / 4 = n / 4 by omega]

omit H in
/-- The input's cotangent is written out after the last run of columns. -/
theorem flush6 : ∀ t : Fin cfg0.N, win0_6.flush t = true → t.val % 4 = 3 :=
  (by decide +kernel : ∀ t : Fin grid0.N, _)

theorem arr4 : (dats m 0 c).arrAt 4 cfg0.N = o4 p := by
  refine (dats m 0 c).arrAt_eq_of_covers 4 _ (by decide +kernel) fun t hf y => ?_
  blk_simp
  rw [after0_4]
  revert y
  show ∀ y : S1x1024x704.Idx, _
  intro y
  idx_vars y
  obtain rfl : y0 = 0 := Subsingleton.elim _ _
  rw [show (outsAt0 m c t.val t.isLt).1 (ix3 0 y1 y2) = _ from at4 H t y1 y2]
  show _ = (((p.act _ _ : ℝ)) : EReal)
  refine congrArg (fun s : ℝ => (s : EReal)) (congrArg₂ p.act ?_ ?_)
  · blk_simp [idx_win t]
    omega
  · blk_simp [idx_win t]
    omega

theorem arr5 : (dats m 0 c).arrAt 5 cfg0.N = o5 p := by
  refine (dats m 0 c).arrAt_eq_of_covers 5 _ (by decide +kernel) fun t hf y => ?_
  blk_simp
  rw [after0_5]
  revert y
  show ∀ y : S2x1x1024x704.Idx, _
  intro y
  idx_vars y
  obtain rfl : y1 = 0 := Subsingleton.elim _ _
  rw [show (outsAt0 m c t.val t.isLt).2.1 (ix4 y0 0 y2 y3) = _ from at5 H t y0 y2 y3]
  show _ = (((p.dgu _ _ : ℝ)) : EReal)
  refine congrArg (fun s : ℝ => (s : EReal)) (congrArg₂ p.dgu ?_ ?_)
  · blk_simp [idx_win t]
    omega
  · blk_simp [idx_win t]
    omega

theorem arr6 : (dats m 0 c).arrAt 6 cfg0.N = o6 p := by
  refine (dats m 0 c).arrAt_eq_of_covers 6 _ (by decide +kernel) fun t hf y => ?_
  have h3 := flush6 t hf
  blk_simp
  rw [after0_6]
  revert y
  show ∀ y : S1024x1024.Idx, _
  intro y
  idx_vars y
  rw [show (outsAt0 m c t.val t.isLt).2.2 (ix2 y0 y1) = _ from at6 H t.val t.isLt y0 y1, h3, p.sum_term]
  show _ = (((p.dxn _ _ : ℝ)) : EReal)
  refine congrArg (fun s : ℝ => (s : EReal)) (congrArg₂ p.dxn ?_ ?_)
  · blk_simp [idx_win t]
    omega
  · blk_simp [idx_win t]

end Cert.Swi.K

end
-- ==== Proof.SwiRef.lean ====
/- The feed-forward gradient's reference, one array at a time, read on real numbers. -/
module

public import proofs.«01_k».proof.Proof.SwiModel
public import proofs.«01_k».proof.Proof.Gen.Reference2Ideal.Read
public import Idealize.ShloMosaic.Lib.Pipeline.ValueKit

@[expose] public section

set_option maxRecDepth 16384

noncomputable section

namespace Cert.Swi.R

open Idealize.ShloMosaic Idealize.ShloMosaic.TcCoe Idealize.SL.Sem
open Cert.Reference2Ideal Cert.Reference2Ideal.Gen Cert.Reference2Ideal.Read Cert.Mix

/-- The reference's arguments, holding the numbers of `p`. -/
structure Args (p : Inp) where
  x0 : FVec Ideal S4096x1024 .f32
  x1 : FVec Ideal S4096x1024 .f32
  x2 : FVec Ideal S1024x5632 .f32
  x3 : FVec Ideal S2816x1024 .f32
  a0 : ∀ (r : Fin 4096) (j : Fin 1024), x0 (ix2 r j) = ((p.d r j : ℝ) : EReal)
  a1 : ∀ (r : Fin 4096) (j : Fin 1024), x1 (ix2 r j) = ((p.x r j : ℝ) : EReal)
  a2 : ∀ (k : Fin 1024) (j : Fin 5632), x2 (ix2 k j) = ((p.w k j : ℝ) : EReal)
  a3 : ∀ (j : Fin 2816) (k : Fin 1024), x3 (ix2 j k) = ((p.v j k : ℝ) : EReal)

variable {p : Inp} (A : Args p)

theorem v0_at (r : Fin 4096) (j : Fin 5632) : val_main_v0 (F := Ideal) A.x1 A.x2 (ix2 r j) = ((p.gu r j : ℝ) : EReal) := by
  pointwise [val_main_v0, A.a1, A.a2, lift, coe_sum]
  rfl

theorem v1_at (r : Fin 4096) (j : Fin 2816) : val_main_v1 (F := Ideal) A.x1 A.x2 (ix2 r j) = ((p.gu r j : ℝ) : EReal) := by
  pointwise [val_main_v1, v0_at A]

theorem v2_at (r : Fin 4096) (j : Fin 2816) : val_main_v2 (F := Ideal) A.x1 A.x2 (ix2 r j) = ((p.up r j : ℝ) : EReal) := by
  pointwise [val_main_v2, v0_at A]
  rfl

theorem v3_2_at (r : Fin 4096) (j : Fin 2816) : val_main_v3_2 (F := Ideal) A.x1 A.x2 (ix2 r j) = ((sg (p.gu r j) : ℝ) : EReal) := by
  pointwise [val_main_v3_2, val_main_call0_v4, val_main_call0_cst_0, val_main_call0_v3, val_main_call0_v2, val_main_call0_cst,
    val_main_call0_v1, val_main_call0_v0, v1_at A, k_1, lift, exp_real, div_exp]
  refine congrArg (fun s : ℝ => (s : EReal)) ?_
  unfold sg
  ring

theorem v3_0_at (r : Fin 4096) (j : Fin 2816) : val_main_v3_0 (F := Ideal) A.x1 A.x2 (ix2 r j) = ((p.gate r j : ℝ) : EReal) := by
  pointwise [val_main_v3_0, v1_at A, v3_2_at A, lift]
  rfl

theorem v4_at (r : Fin 4096) (j : Fin 2816) : val_main_v4 (F := Ideal) A.x1 A.x2 (ix2 r j) = ((p.act r j : ℝ) : EReal) := by
  pointwise [val_main_v4, v3_0_at A, v2_at A, lift]
  rfl

theorem v6_at (r : Fin 4096) (j : Fin 2816) : val_main_v6 (F := Ideal) A.x0 A.x3 (ix2 r j) = ((p.dact r j : ℝ) : EReal) := by
  pointwise [val_main_v6, A.a0, A.a3, lift, coe_sum]
  rfl

theorem v7_at (r : Fin 4096) (j : Fin 2816) :
    val_main_v7 (F := Ideal) A.x0 A.x1 A.x2 A.x3 (ix2 r j) = ((p.dup r j : ℝ) : EReal) := by
  pointwise [val_main_v7, v3_0_at A, v6_at A, lift]
  exact congrArg (fun s : ℝ => (s : EReal)) (mul_comm _ _)

theorem v9_at (r : Fin 4096) (j : Fin 2816) :
    val_main_v9 (F := Ideal) A.x0 A.x1 A.x2 A.x3 (ix2 r j) = ((p.dgt r j : ℝ) : EReal) := by
  pointwise [val_main_v9, val_main_call1_v1, val_main_call1_v2, val_main_call1_v0, val_main_v8, val_main_v3_1, val_main_call0_v7,
    val_main_call0_v6, val_main_call0_cst_1, v1_at A, v2_at A, v3_2_at A, v6_at A, k_1, lift]
  refine congrArg (fun s : ℝ => (s : EReal)) ?_
  unfold Inp.dgt
  ring

theorem v10_at (r : Fin 4096) (j : Fin 5632) :
    val_main_v10 (F := Ideal) A.x0 A.x1 A.x2 A.x3 (ix2 r j) = ((p.dgu r j : ℝ) : EReal) := by
  pointwise [val_main_v10, v9_at A, v7_at A]
  unfold Inp.dgu
  split_ifs <;> rfl

theorem v11_at (r : Fin 4096) (k : Fin 1024) :
    val_main_v11 (F := Ideal) A.x0 A.x1 A.x2 A.x3 (ix2 r k) = ((p.dxn r k : ℝ) : EReal) := by
  pointwise [val_main_v11, v10_at A, A.a2, lift, coe_sum]
  rfl

theorem v14_at (f : Fin 4) (r : Fin 4096) (b : Fin 704) :
    val_main_v14 (F := Ideal) A.x1 A.x2 (ix3 f r b) = ((p.act r (704 * f + b) : ℝ) : EReal) := by
  refine Eq.trans ?_ (v4_at A r ⟨704 * f + b, by omega⟩)
  pointwise [val_main_v14, val_main_v13, val_main_v12]
  exact congrArg _ (congrArg₂ ix2 rfl (Fin.ext (by show f.val * 704 + b.val = 704 * f.val + b.val; omega)))

theorem v17_at (h : Fin 2) (f : Fin 4) (r : Fin 4096) (b : Fin 704) :
    val_main_v17 (F := Ideal) A.x0 A.x1 A.x2 A.x3 (ix4 h f r b) = ((p.dgu r (2816 * h + (704 * f + b)) : ℝ) : EReal) := by
  refine Eq.trans ?_ (v10_at A r ⟨2816 * h + (704 * f + b), by omega⟩)
  pointwise [val_main_v17, val_main_v16, val_main_v15]
  exact congrArg _ (congrArg₂ ix2 rfl (Fin.ext (by show h.val * 2816 + f.val * 704 + b.val = 2816 * h.val + (704 * f.val + b.val); omega)))

end Cert.Swi.R

end
-- ==== Proof.SwiResults.lean ====
/- The reference's run of the feed-forward gradient: it ends with the model's arrays in its results. -/
module

public import proofs.«01_k».proof.Proof.SwiRef
public import proofs.«01_k».proof.Proof.SwiOuts
public import proofs.«01_k».proof.Proof.Gen.Reference2Ideal.Run

@[expose] public section

set_option maxRecDepth 16384

noncomputable section

namespace Cert.Swi.R

open Cert.Reference2Ideal Cert.Reference2Ideal.Gen Cert.Reference2Ideal.Read Cert.Mix
open Idealize.ShloMosaic Idealize.ShloMosaic.TcCoe Idealize.ShloMosaic.Tactic Idealize.SL.Sem Idealize.ShloMosaic.StableHlo

theorem r14 {p : Inp} (A : Args p) : val_main_v14 (F := Ideal) A.x1 A.x2 = o4 p := by
  funext i
  idx_vars i
  exact v14_at A _ _ _

theorem r17 {p : Inp} (A : Args p) : val_main_v17 (F := Ideal) A.x0 A.x1 A.x2 A.x3 = o5 p := by
  funext i
  idx_vars i
  exact v17_at A _ _ _ _

theorem r11 {p : Inp} (A : Args p) : val_main_v11 (F := Ideal) A.x0 A.x1 A.x2 A.x3 = o6 p := by
  funext i
  idx_vars i
  exact v11_at A _ _

/-- A function of four equal arguments. -/
theorem arg4 {a b d e f : Type} (g : a → b → d → e → f) {x x' : a} {y y' : b} {z z' : d} {w w' : e} (hx : x = x') (hy : y = y')
    (hz : z = z') (hw : w = w') : g x y z w = g x' y' z' w' := by rw [hx, hy, hz, hw]

/-- The memory holds the arguments. -/
structure Reads {p : Inp} (A : Args p) (m : (ℓ : Loc nD τ sig) → Buf (Elt Ideal) ℓ) (c : Dev nD) : Prop where
  e0 : m ((c.tc : Thread nD τ).loc main_arg0) = A.x0
  e1 : m ((c.tc : Thread nD τ).loc main_arg1) = A.x1
  e2 : m ((c.tc : Thread nD τ).loc main_arg2) = A.x2
  e3 : m ((c.tc : Thread nD τ).loc main_arg3) = A.x3

variable (m : (ℓ : Loc nD τ sig) → Buf (Elt Ideal) ℓ) (ρ : Dev nD → PrngReg)

theorem run_results {p : Dev nD → Inp} {A : ∀ c, Args (p c)} (E : ∀ c, Reads (A c) m c) :
    θ_run defs (onTc (τ := τ) (main (F := Ideal))) ⟨m, fun _ => 0, ρ⟩ fun r => ∀ c : Dev nD,
      r.2.mem ((c.tc : Thread nD τ).loc main_v14) = o4 (p c)
      ∧ r.2.mem ((c.tc : Thread nD τ).loc main_v17) = o5 (p c)
      ∧ r.2.mem ((c.tc : Thread nD τ).loc main_v11) = o6 (p c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
    (h c).1.trans ((val_main_v14_eq _ _).trans ((congrArg₂ (val_main_v14 (F := Ideal)) (E c).e1 (E c).e2).trans (r14 (A c)))),
    (h c).2.1.trans ((val_main_v17_eq _ _ _ _).trans ((arg4 (val_main_v17 (F := Ideal)) (E c).e0 (E c).e1 (E c).e2 (E c).e3).trans (r17 (A c)))),
    (h c).2.2.1.trans ((val_main_v11_eq _ _ _ _).trans ((arg4 (val_main_v11 (F := Ideal)) (E c).e0 (E c).e1 (E c).e2 (E c).e3).trans (r11 (A c)))),
    (h c).2.2.2⟩)
    (Cert.Reference2Ideal.Value.run m ρ)

end Cert.Swi.R

end
-- ==== Proof.SwiFinite.lean ====
/- What the second precondition says: every entry of the four arguments is a real number; the model's numbers are these. -/
module

public import proofs.«01_k».proof.Defs
public import proofs.«01_k».proof.Proof.Numbers
public import proofs.«01_k».proof.Proof.SwiBlocks
public import proofs.«01_k».proof.Proof.SwiRef
public import proofs.«01_k».proof.Proof.Gen.Pre_finite_ffn

@[expose] public section

set_option maxRecDepth 16384

noncomputable section

namespace Cert.Swi

open Idealize.ShloMosaic Idealize.ShloMosaic.TcCoe Idealize.SL.Sem Cert.Mix

namespace Pre

open Cert.Pre_finite_ffn

variable [Facts]

/-- The whole precondition, array by array. -/
theorem all_real (x0 x1 : FVec Ideal S4096x1024 .f32) (x2 : FVec Ideal S1024x5632 .f32) (x3 : FVec Ideal S2816x1024 .f32)
    (h : fn (F := Ideal) x0 x1 x2 x3 = fun _ => 1#1) : IsReal x0 ∧ IsReal x1 ∧ IsReal x2 ∧ IsReal x3 := by
  have e := congrFun h ix0
  unfold fn fn_part1 at e
  obtain ⟨e, e3⟩ := IntOp.andi_eq_one.mp e
  obtain ⟨e, e2⟩ := IntOp.andi_eq_one.mp e
  obtain ⟨e0, e1⟩ := IntOp.andi_eq_one.mp e
  exact ⟨Mix.Pre.isReal _ _ _ _ _ e0, Mix.Pre.isReal _ _ _ _ _ e1, Mix.Pre.isReal _ _ _ _ _ e2, Mix.Pre.isReal _ _ _ _ _ e3⟩

end Pre

open Cert.Kernel2Ideal

variable (m : (ℓ : Loc nD τ sig) → Buf (Elt Ideal) ℓ) (c : Dev nD)

/-- The model's input read from the argument arrays on core `c`. -/
def inp : Inp where
  d := mat (m ((c : Thread nD τ).loc main_arg0) : FVec Ideal S4096x1024 .f32)
  x := mat (m ((c : Thread nD τ).loc main_arg1) : FVec Ideal S4096x1024 .f32)
  w := mat (m ((c : Thread nD τ).loc main_arg2) : FVec Ideal S1024x5632 .f32)
  v := mat (m ((c : Thread nD τ).loc main_arg3) : FVec Ideal S2816x1024 .f32)

/-- Under the precondition the memory holds them. -/
theorem holds [hPre_finite_ffn : Cert.Pre_finite_ffn.Facts] (h : Pre_Kernel2Ideal_finite_ffn m) : K.Holds (inp m c) m c := by
  obtain ⟨h0, h1, h2, h3⟩ := Pre.all_real _ _ _ _ (h c)
  exact ⟨mat_at _ h0, mat_at _ h1, mat_at _ h2, mat_at _ h3⟩

/-- The reference's arguments. -/
def args {p : Inp} {m : (ℓ : Loc nD τ sig) → Buf (Elt Ideal) ℓ} {c : Dev nD} (H : K.Holds p m c) : R.Args p where
  x0 := m ((c : Thread nD τ).loc main_arg0)
  x1 := m ((c : Thread nD τ).loc main_arg1)
  x2 := m ((c : Thread nD τ).loc main_arg2)
  x3 := m ((c : Thread nD τ).loc main_arg3)
  a0 := H.a0
  a1 := H.a1
  a2 := H.a2
  a3 := H.a3

end Cert.Swi

end
-- ==== Proof.SwiClaims.lean ====
/- The two claims about the feed-forward gradient that need the model: the reference's frame, and the equality of the three results. -/
module

public import proofs.«01_k».proof.Defs
public import proofs.«01_k».proof.Proof.SwiArrays
public import proofs.«01_k».proof.Proof.SwiResults
public import proofs.«01_k».proof.Proof.SwiFinite
public import proofs.«01_k».proof.Proof.Gen.Kernel2Ideal.Value
public import Idealize.ShloMosaic.Lib.Quiescent
public import Idealize.ShloMosaic.Adequacy
public import Idealize.ShloMosaic.Init

@[expose] public section

set_option maxRecDepth 16384

noncomputable section

namespace Cert.Swi

open Idealize.ShloMosaic Idealize.ShloMosaic.TcCoe Idealize.SL.Sem Idealize.ShloMosaic.StableHlo

/-- The reference leaves its arguments as they were and every counter at zero. -/
theorem reference_frame : quiescent_Reference2Ideal := fun m ρ _ =>
  (θ_run Reference2Ideal.defs _ _).mono (fun r h => And.intro (fun c => (h c).2.2.2)
    (Idealize.ShloMosaic.sem_eq_zero_of_no_sems (by decide) r.2)) (Reference2Ideal.Value.run (F := Ideal) m ρ)

/-- At every finite input the kernel's results are the reference's. -/
theorem agree : algebraic_Kernel2Ideal_Reference2Ideal_pre_finite_ffn := by
  intro m ρ m' ρ' hpre hagree
  have H := fun c => holds m c hpre
  refine ⟨fun c => o4 (inp m c), fun c => o5 (inp m c), fun c => o6 (inp m c), ?_, ?_⟩
  · exact (θ_run Kernel2Ideal.defs _ _).mono (fun r h c =>
        And.intro ((h c).1.trans (K.arr4 (H c))) <| And.intro ((h c).2.1.trans (K.arr5 (H c))) <|
        And.intro ((h c).2.2.1.trans (K.arr6 (H c))) (h c).2.2.2)
        (Kernel2Ideal.Value.run_blocks (F := Ideal) m ρ)
  · refine R.run_results m' ρ' (p := fun c => inp m c) (A := fun c => args (H c)) fun c => ?_
    obtain ⟨e0, e1, e2, e3⟩ := hagree c
    exact ⟨e0, e1, e2, e3⟩

end Cert.Swi

end
-- ==== Proof.WeightGateUp.lean ====
/- The gradient of SwiGLU's first weights: what the kernel leaves in its result is the reference's product, entry by entry. -/
module

public import proofs.«01_k».proof.Defs
public import proofs.«01_k».proof.Proof.Gen.Kernel3Ideal.Value
public import proofs.«01_k».proof.Proof.Gen.Reference3Ideal.Run
public import Idealize.ShloMosaic.Lib.Claim
public import Idealize.ShloMosaic.Lib.Quiescent
public import Idealize.ShloMosaic.Lib.Pipeline.ValueKit
public import Idealize.ShloMosaic.Adequacy
public import Idealize.ShloMosaic.Init

@[expose] public section

set_option maxRecDepth 16384

noncomputable section

namespace Cert.Weight.GateUp

open Idealize.ShloMosaic Idealize.ShloMosaic.TcCoe Idealize.ShloMosaic.Tactic Idealize.SL.Sem Idealize.ShloMosaic.StableHlo

/-! ## The reference -/

section Reference

open Cert.Reference3Ideal Cert.Reference3Ideal.Gen

/-- The gradient: every entry is a sum over the tokens. -/
def gradient (a : FVec Ideal S4096x5632 .f32) (b : FVec Ideal S4096x1024 .f32) : FVec Ideal S5632x1024 .f32 :=
  fun i => ∑ r : Fin 4096, a (ix2 r (i 0)) * b (ix2 r (i 1))

/-- It is what the reference computes. -/
theorem reference_eq (a : FVec Ideal S4096x5632 .f32) (b : FVec Ideal S4096x1024 .f32) :
    transpose S5632x1024 [1, 0] (transpose S1024x5632 [1, 0] (Host.dotGeneral (F := Ideal) dot_S4096x5632_S4096x1024_S5632x1024_0_0_1_1_n_n none a b)
      transposes_S5632x1024_S1024x5632_1_0) transposes_S1024x5632_S5632x1024_1_0 = gradient a b := by
  funext i
  idx_vars i
  pointwise [gradient]

/-- The reference leaves its arguments as they were and every counter at zero. -/
theorem reference_frame : quiescent_Reference3Ideal := fun m ρ _ =>
  (θ_run Reference3Ideal.defs _ _).mono (fun r h => And.intro (fun c => (h c).2)
    (Idealize.ShloMosaic.sem_eq_zero_of_no_sems (by decide) r.2)) (Reference3Ideal.Value.run (F := Ideal) m ρ)

end Reference

/-! ## The kernel -/

open Cert.Kernel3Ideal Cert.Kernel3Ideal.Gen

variable (m : (ℓ : Loc nD τ sig) → Buf (Elt Ideal) ℓ) (c : Dev nD)

/-- The gradient at the product, in runs of 704 columns, as the host prepares it. -/
theorem V_v2 : (V m c main_v2 : FVec Ideal S8x4096x704 .bf16)
    = transpose S8x4096x704 [1, 0, 2] (shapeCast S4096x8x704
      (truncf (F := Ideal) .bf16 (m ((c : Thread nD τ).loc main_arg0) : FVec Ideal S4096x5632 .f32) bitsLt_bf16_f32) shapeCasts_S4096x5632_S4096x8x704)
      transposes_S4096x8x704_S8x4096x704_1_0_2 := by
  unfold V; after_results; try rfl

theorem V_v3 : (V m c main_v3 : FVec Ideal S4096x1024 .bf16)
    = truncf (F := Ideal) .bf16 (m ((c : Thread nD τ).loc main_arg1) : FVec Ideal S4096x1024 .f32) bitsLt_bf16_f32 := by
  unfold V; after_results; try rfl

theorem v2_at (f : Fin 8) (r : Fin 4096) (i : Fin 704) : (V m c main_v2 : FVec Ideal S8x4096x704 .bf16) (ix3 f r i)
    = (m ((c : Thread nD τ).loc main_arg0) : FVec Ideal S4096x5632 .f32) (ix2 r ⟨704 * f + i, by omega⟩) := by
  rw [V_v2]
  pointwise []
  exact congrArg _ (congrArg₂ ix2 rfl (Fin.ext (by show f.val * 704 + i.val = 704 * f.val + i.val; omega)))

theorem v3_at (r : Fin 4096) (k : Fin 1024) : (V m c main_v3 : FVec Ideal S4096x1024 .bf16) (ix2 r k)
    = (m ((c : Thread nD τ).loc main_arg1) : FVec Ideal S4096x1024 .f32) (ix2 r k) := by
  rw [V_v3]; pointwise []

/-- The block coordinates of the three windows at each point. -/
theorem idx_win : ∀ t : Fin cfg0.N, win0_0.index t = ![t.val, 0, 0] ∧ win0_1.index t = ![0, 0] ∧ win0_2.index t = ![t.val, 0] :=
  (by decide +kernel : ∀ t : Fin grid0.N, _)

theorem b0_at (t : Fin cfg0.N) (r : Fin 4096) (i : Fin 704) (h : 704 * t.val + i < 5632) :
    (iblk m c 0 t : FVec Ideal S1x4096x704 .bf16) (ix3 0 r i)
      = (m ((c : Thread nD τ).loc main_arg0) : FVec Ideal S4096x5632 .f32) (ix2 r ⟨704 * t.val + i, h⟩) := by
  have ht : t.val < 8 := lt_of_lt_of_eq t.isLt N_0
  refine Eq.trans (b := (V m c main_v2 : FVec Ideal S8x4096x704 .bf16) (ix3 ⟨t.val, ht⟩ r i)) ?_ (v2_at m c _ _ _)
  blk_point [iblk, idx_win t]

theorem b1_at (t : Fin cfg0.N) (r : Fin 4096) (k : Fin 1024) : (iblk m c 1 t : FVec Ideal S4096x1024 .bf16) (ix2 r k)
    = (m ((c : Thread nD τ).loc main_arg1) : FVec Ideal S4096x1024 .f32) (ix2 r k) := by
  refine Eq.trans (b := (V m c main_v3 : FVec Ideal S4096x1024 .bf16) (ix2 r k)) ?_ (v3_at m c _ _)
  blk_point [iblk, idx_win t]

/-- What the body computes from its two blocks. -/
theorem out_at (x : FVec Ideal S1x4096x704 .bf16) (y : FVec Ideal S4096x1024 .bf16) (i : Fin 704) (k : Fin 1024) :
    out0_2 (F := Ideal) x y (ix2 i k) = ∑ r : Fin 4096, x (ix3 0 r i) * y (ix2 r k) := by
  unfold out0_2
  rw [View.canon_cons_unit_lit, View.ld_unit_lit, View.ld_unit_lit]
  rotate_left
  · decide
  · decide
  · decide
  pointwise [k0_pay1, zero_add]

/-- The kernel's result is the reference's. -/
theorem arr : (dats m 0 c).arrAt 2 cfg0.N = gradient (m ((c : Thread nD τ).loc main_arg0)) (m ((c : Thread nD τ).loc main_arg1)) := by
  refine (dats m 0 c).arrAt_eq_of_covers 2 _ (by decide +kernel) fun t hf y => ?_
  have ht : t.val < 8 := lt_of_lt_of_eq t.isLt N_0
  blk_simp
  rw [after0_2]
  revert y
  show ∀ y : S704x1024.Idx, _
  intro y
  idx_vars y
  rw [show out0_2 (F := Ideal) (iblk m c 0 t) (iblk m c 1 t) (ix2 y0 y1) = _ from out_at _ _ y0 y1]
  show _ = ∑ r : Fin 4096, (_ : EReal) * _
  refine Finset.sum_congr rfl fun r _ => congrArg₂ (· * ·) ((b0_at m c t r y0 (by omega)).trans ?_) ((b1_at m c t r y1).trans ?_)
  · refine congrArg _ (congrArg (ix2 r) (Fin.ext ?_))
    show 704 * t.val + y0.val = _
    blk_simp [idx_win t]
    omega
  · refine congrArg _ (congrArg (ix2 r) (Fin.ext ?_))
    blk_simp [idx_win t]

/-- At every input the kernel's result is the reference's. -/
theorem agree : algebraic_Kernel3Ideal_Reference3Ideal := by
  intro m ρ m' ρ' _ hagree
  refine ⟨fun c => gradient (m ((c : Thread nD τ).loc main_arg0)) (m ((c : Thread nD τ).loc main_arg1)), ?_, ?_⟩
  · exact (θ_run Kernel3Ideal.defs _ _).mono (fun r h c => And.intro ((h c).1.trans (arr m c)) (h c).2)
      (Kernel3Ideal.Value.run_blocks (F := Ideal) m ρ)
  · exact (θ_run Reference3Ideal.defs _ _).mono (fun r h c =>
      And.intro (((h c).1.trans (reference_eq _ _)).trans (congrArg₂ gradient (hagree c).1 (hagree c).2)) (h c).2)
      (Reference3Ideal.Value.run (F := Ideal) m' ρ')

end Cert.Weight.GateUp

end
-- ==== Proof.WeightDown.lean ====
/- The gradient of SwiGLU's second weights: what the kernel leaves in its result is the reference's product, entry by entry. -/
module

public import proofs.«01_k».proof.Defs
public import proofs.«01_k».proof.Proof.Gen.Kernel4Ideal.Value
public import proofs.«01_k».proof.Proof.Gen.Reference4Ideal.Run
public import Idealize.ShloMosaic.Lib.Claim
public import Idealize.ShloMosaic.Lib.Quiescent
public import Idealize.ShloMosaic.Lib.Pipeline.ValueKit
public import Idealize.ShloMosaic.Adequacy
public import Idealize.ShloMosaic.Init

@[expose] public section

set_option maxRecDepth 16384

noncomputable section

namespace Cert.Weight.Down

open Idealize.ShloMosaic Idealize.ShloMosaic.TcCoe Idealize.ShloMosaic.Tactic Idealize.SL.Sem Idealize.ShloMosaic.StableHlo

/-! ## The reference -/

section Reference

open Cert.Reference4Ideal Cert.Reference4Ideal.Gen

/-- The gradient: every entry is a sum over the tokens. -/
def gradient (a : FVec Ideal S4096x2816 .f32) (b : FVec Ideal S4096x1024 .f32) : FVec Ideal S2816x1024 .f32 :=
  fun i => ∑ r : Fin 4096, a (ix2 r (i 0)) * b (ix2 r (i 1))

/-- It is what the reference computes. -/
theorem reference_eq (a : FVec Ideal S4096x2816 .f32) (b : FVec Ideal S4096x1024 .f32) :
    transpose S2816x1024 [1, 0] (Host.dotGeneral (F := Ideal) dot_S4096x1024_S4096x2816_S1024x2816_0_0_1_1_n_n none b a)
      transposes_S1024x2816_S2816x1024_1_0 = gradient a b := by
  funext i
  idx_vars i
  pointwise [gradient]
  exact Finset.sum_congr rfl fun r _ => mul_comm _ _

/-- The reference leaves its arguments as they were and every counter at zero. -/
theorem reference_frame : quiescent_Reference4Ideal := fun m ρ _ =>
  (θ_run Reference4Ideal.defs _ _).mono (fun r h => And.intro (fun c => (h c).2)
    (Idealize.ShloMosaic.sem_eq_zero_of_no_sems (by decide) r.2)) (Reference4Ideal.Value.run (F := Ideal) m ρ)

end Reference

/-! ## The kernel -/

open Cert.Kernel4Ideal Cert.Kernel4Ideal.Gen

variable (m : (ℓ : Loc nD τ sig) → Buf (Elt Ideal) ℓ) (c : Dev nD)

/-- The gate's values, in runs of 704 columns, as the host prepares it. -/
theorem V_v2 : (V m c main_v2 : FVec Ideal S4x4096x704 .bf16)
    = transpose S4x4096x704 [1, 0, 2] (shapeCast S4096x4x704
      (truncf (F := Ideal) .bf16 (m ((c : Thread nD τ).loc main_arg0) : FVec Ideal S4096x2816 .f32) bitsLt_bf16_f32) shapeCasts_S4096x2816_S4096x4x704)
      transposes_S4096x4x704_S4x4096x704_1_0_2 := by
  unfold V; after_results; try rfl

theorem V_v3 : (V m c main_v3 : FVec Ideal S4096x1024 .bf16)
    = truncf (F := Ideal) .bf16 (m ((c : Thread nD τ).loc main_arg1) : FVec Ideal S4096x1024 .f32) bitsLt_bf16_f32 := by
  unfold V; after_results; try rfl

theorem v2_at (f : Fin 4) (r : Fin 4096) (i : Fin 704) : (V m c main_v2 : FVec Ideal S4x4096x704 .bf16) (ix3 f r i)
    = (m ((c : Thread nD τ).loc main_arg0) : FVec Ideal S4096x2816 .f32) (ix2 r ⟨704 * f + i, by omega⟩) := by
  rw [V_v2]
  pointwise []
  exact congrArg _ (congrArg₂ ix2 rfl (Fin.ext (by show f.val * 704 + i.val = 704 * f.val + i.val; omega)))

theorem v3_at (r : Fin 4096) (k : Fin 1024) : (V m c main_v3 : FVec Ideal S4096x1024 .bf16) (ix2 r k)
    = (m ((c : Thread nD τ).loc main_arg1) : FVec Ideal S4096x1024 .f32) (ix2 r k) := by
  rw [V_v3]; pointwise []

/-- The block coordinates of the three windows at each point. -/
theorem idx_win : ∀ t : Fin cfg0.N, win0_0.index t = ![t.val, 0, 0] ∧ win0_1.index t = ![0, 0] ∧ win0_2.index t = ![t.val, 0] :=
  (by decide +kernel : ∀ t : Fin grid0.N, _)

theorem b0_at (t : Fin cfg0.N) (r : Fin 4096) (i : Fin 704) (h : 704 * t.val + i < 2816) :
    (iblk m c 0 t : FVec Ideal S1x4096x704 .bf16) (ix3 0 r i)
      = (m ((c : Thread nD τ).loc main_arg0) : FVec Ideal S4096x2816 .f32) (ix2 r ⟨704 * t.val + i, h⟩) := by
  have ht : t.val < 4 := lt_of_lt_of_eq t.isLt N_0
  refine Eq.trans (b := (V m c main_v2 : FVec Ideal S4x4096x704 .bf16) (ix3 ⟨t.val, ht⟩ r i)) ?_ (v2_at m c _ _ _)
  blk_point [iblk, idx_win t]

theorem b1_at (t : Fin cfg0.N) (r : Fin 4096) (k : Fin 1024) : (iblk m c 1 t : FVec Ideal S4096x1024 .bf16) (ix2 r k)
    = (m ((c : Thread nD τ).loc main_arg1) : FVec Ideal S4096x1024 .f32) (ix2 r k) := by
  refine Eq.trans (b := (V m c main_v3 : FVec Ideal S4096x1024 .bf16) (ix2 r k)) ?_ (v3_at m c _ _)
  blk_point [iblk, idx_win t]

/-- What the body computes from its two blocks. -/
theorem out_at (x : FVec Ideal S1x4096x704 .bf16) (y : FVec Ideal S4096x1024 .bf16) (i : Fin 704) (k : Fin 1024) :
    out0_2 (F := Ideal) x y (ix2 i k) = ∑ r : Fin 4096, x (ix3 0 r i) * y (ix2 r k) := by
  unfold out0_2
  rw [View.canon_cons_unit_lit, View.ld_unit_lit, View.ld_unit_lit]
  rotate_left
  · decide
  · decide
  · decide
  pointwise [k0_pay1, zero_add]

/-- The kernel's result is the reference's. -/
theorem arr : (dats m 0 c).arrAt 2 cfg0.N = gradient (m ((c : Thread nD τ).loc main_arg0)) (m ((c : Thread nD τ).loc main_arg1)) := by
  refine (dats m 0 c).arrAt_eq_of_covers 2 _ (by decide +kernel) fun t hf y => ?_
  have ht : t.val < 4 := lt_of_lt_of_eq t.isLt N_0
  blk_simp
  rw [after0_2]
  revert y
  show ∀ y : S704x1024.Idx, _
  intro y
  idx_vars y
  rw [show out0_2 (F := Ideal) (iblk m c 0 t) (iblk m c 1 t) (ix2 y0 y1) = _ from out_at _ _ y0 y1]
  show _ = ∑ r : Fin 4096, (_ : EReal) * _
  refine Finset.sum_congr rfl fun r _ => congrArg₂ (· * ·) ((b0_at m c t r y0 (by omega)).trans ?_) ((b1_at m c t r y1).trans ?_)
  · refine congrArg _ (congrArg (ix2 r) (Fin.ext ?_))
    show 704 * t.val + y0.val = _
    blk_simp [idx_win t]
    omega
  · refine congrArg _ (congrArg (ix2 r) (Fin.ext ?_))
    blk_simp [idx_win t]

/-- At every input the kernel's result is the reference's. -/
theorem agree : algebraic_Kernel4Ideal_Reference4Ideal := by
  intro m ρ m' ρ' _ hagree
  refine ⟨fun c => gradient (m ((c : Thread nD τ).loc main_arg0)) (m ((c : Thread nD τ).loc main_arg1)), ?_, ?_⟩
  · exact (θ_run Kernel4Ideal.defs _ _).mono (fun r h c => And.intro ((h c).1.trans (arr m c)) (h c).2)
      (Kernel4Ideal.Value.run_blocks (F := Ideal) m ρ)
  · exact (θ_run Reference4Ideal.defs _ _).mono (fun r h c =>
      And.intro (((h c).1.trans (reference_eq _ _)).trans (congrArg₂ gradient (hagree c).1 (hagree c).2)) (h c).2)
      (Reference4Ideal.Value.run (F := Ideal) m' ρ')

end Cert.Weight.Down

end
-- ==== Proof.WeightIn.lean ====
/- The gradient of the projection's weights: what the kernel leaves in its result is the reference's product, entry by entry. -/
module

public import proofs.«01_k».proof.Defs
public import proofs.«01_k».proof.Proof.Gen.Kernel5Ideal.Value
public import proofs.«01_k».proof.Proof.Gen.Reference5Ideal.Run
public import Idealize.ShloMosaic.Lib.Claim
public import Idealize.ShloMosaic.Lib.Quiescent
public import Idealize.ShloMosaic.Lib.Pipeline.ValueKit
public import Idealize.ShloMosaic.Adequacy
public import Idealize.ShloMosaic.Init

@[expose] public section

set_option maxRecDepth 16384

noncomputable section

namespace Cert.Weight.In

open Idealize.ShloMosaic Idealize.ShloMosaic.TcCoe Idealize.ShloMosaic.Tactic Idealize.SL.Sem Idealize.ShloMosaic.StableHlo

/-! ## The reference -/

section Reference

open Cert.Reference5Ideal Cert.Reference5Ideal.Gen

/-- The gradient: every entry is a sum over the tokens. -/
def gradient (a : FVec Ideal S4096x2560 .f32) (b : FVec Ideal S4096x1024 .f32) : FVec Ideal S2560x1024 .f32 :=
  fun i => ∑ r : Fin 4096, a (ix2 r (i 0)) * b (ix2 r (i 1))

/-- It is what the reference computes. -/
theorem reference_eq (a : FVec Ideal S4096x2560 .f32) (b : FVec Ideal S4096x1024 .f32) :
    transpose S2560x1024 [1, 0] (transpose S1024x2560 [1, 0] (Host.dotGeneral (F := Ideal) dot_S4096x2560_S4096x1024_S2560x1024_0_0_1_1_n_n none a b)
      transposes_S2560x1024_S1024x2560_1_0) transposes_S1024x2560_S2560x1024_1_0 = gradient a b := by
  funext i
  idx_vars i
  pointwise [gradient]

/-- The reference leaves its arguments as they were and every counter at zero. -/
theorem reference_frame : quiescent_Reference5Ideal := fun m ρ _ =>
  (θ_run Reference5Ideal.defs _ _).mono (fun r h => And.intro (fun c => (h c).2)
    (Idealize.ShloMosaic.sem_eq_zero_of_no_sems (by decide) r.2)) (Reference5Ideal.Value.run (F := Ideal) m ρ)

end Reference

/-! ## The kernel -/

open Cert.Kernel5Ideal Cert.Kernel5Ideal.Gen

variable (m : (ℓ : Loc nD τ sig) → Buf (Elt Ideal) ℓ) (c : Dev nD)

theorem V_v0 : (V m c main_v0 : FVec Ideal S4096x2560 .bf16)
    = truncf (F := Ideal) .bf16 (m ((c : Thread nD τ).loc main_arg0) : FVec Ideal S4096x2560 .f32) bitsLt_bf16_f32 := by
  unfold V; after_results; try rfl

theorem V_v1 : (V m c main_v1 : FVec Ideal S4096x1024 .bf16)
    = truncf (F := Ideal) .bf16 (m ((c : Thread nD τ).loc main_arg1) : FVec Ideal S4096x1024 .f32) bitsLt_bf16_f32 := by
  unfold V; after_results; try rfl

theorem v0_at (r : Fin 4096) (i : Fin 2560) : (V m c main_v0 : FVec Ideal S4096x2560 .bf16) (ix2 r i)
    = (m ((c : Thread nD τ).loc main_arg0) : FVec Ideal S4096x2560 .f32) (ix2 r i) := by
  rw [V_v0]; pointwise []

theorem v1_at (r : Fin 4096) (k : Fin 1024) : (V m c main_v1 : FVec Ideal S4096x1024 .bf16) (ix2 r k)
    = (m ((c : Thread nD τ).loc main_arg1) : FVec Ideal S4096x1024 .f32) (ix2 r k) := by
  rw [V_v1]; pointwise []

/-- The block coordinates of the three windows at each point. -/
theorem idx_win : ∀ t : Fin cfg0.N, win0_0.index t = ![0, t.val] ∧ win0_1.index t = ![0, 0] ∧ win0_2.index t = ![t.val, 0] :=
  (by decide +kernel : ∀ t : Fin grid0.N, _)

theorem b0_at (t : Fin cfg0.N) (r : Fin 4096) (i : Fin 512) (h : 512 * t.val + i < 2560) :
    (iblk m c 0 t : FVec Ideal S4096x512 .bf16) (ix2 r i)
      = (m ((c : Thread nD τ).loc main_arg0) : FVec Ideal S4096x2560 .f32) (ix2 r ⟨512 * t.val + i, h⟩) := by
  have ht : t.val < 5 := lt_of_lt_of_eq t.isLt N_0
  refine Eq.trans (b := (V m c main_v0 : FVec Ideal S4096x2560 .bf16) (ix2 r ⟨512 * t.val + i, h⟩)) ?_ (v0_at m c _ _)
  blk_point [iblk, idx_win t]

theorem b1_at (t : Fin cfg0.N) (r : Fin 4096) (k : Fin 1024) : (iblk m c 1 t : FVec Ideal S4096x1024 .bf16) (ix2 r k)
    = (m ((c : Thread nD τ).loc main_arg1) : FVec Ideal S4096x1024 .f32) (ix2 r k) := by
  refine Eq.trans (b := (V m c main_v1 : FVec Ideal S4096x1024 .bf16) (ix2 r k)) ?_ (v1_at m c _ _)
  blk_point [iblk, idx_win t]

/-- What the body computes from its two blocks. -/
theorem out_at (x : FVec Ideal S4096x512 .bf16) (y : FVec Ideal S4096x1024 .bf16) (i : Fin 512) (k : Fin 1024) :
    out0_2 (F := Ideal) x y (ix2 i k) = ∑ r : Fin 4096, x (ix2 r i) * y (ix2 r k) := by
  unfold out0_2
  rw [View.canon_cons_unit_lit, View.ld_unit_lit, View.ld_unit_lit]
  rotate_left
  · decide
  · decide
  · decide
  pointwise [k0_pay1, zero_add]

/-- The kernel's result is the reference's. -/
theorem arr : (dats m 0 c).arrAt 2 cfg0.N = gradient (m ((c : Thread nD τ).loc main_arg0)) (m ((c : Thread nD τ).loc main_arg1)) := by
  refine (dats m 0 c).arrAt_eq_of_covers 2 _ (by decide +kernel) fun t hf y => ?_
  have ht : t.val < 5 := lt_of_lt_of_eq t.isLt N_0
  blk_simp
  rw [after0_2]
  revert y
  show ∀ y : S512x1024.Idx, _
  intro y
  idx_vars y
  rw [show out0_2 (F := Ideal) (iblk m c 0 t) (iblk m c 1 t) (ix2 y0 y1) = _ from out_at _ _ y0 y1]
  show _ = ∑ r : Fin 4096, (_ : EReal) * _
  refine Finset.sum_congr rfl fun r _ => congrArg₂ (· * ·) ((b0_at m c t r y0 (by omega)).trans ?_) ((b1_at m c t r y1).trans ?_)
  · refine congrArg _ (congrArg (ix2 r) (Fin.ext ?_))
    show 512 * t.val + y0.val = _
    blk_simp [idx_win t]
    omega
  · refine congrArg _ (congrArg (ix2 r) (Fin.ext ?_))
    blk_simp [idx_win t]

/-- At every input the kernel's result is the reference's. -/
theorem agree : algebraic_Kernel5Ideal_Reference5Ideal := by
  intro m ρ m' ρ' _ hagree
  refine ⟨fun c => gradient (m ((c : Thread nD τ).loc main_arg0)) (m ((c : Thread nD τ).loc main_arg1)), ?_, ?_⟩
  · exact (θ_run Kernel5Ideal.defs _ _).mono (fun r h c => And.intro ((h c).1.trans (arr m c)) (h c).2)
      (Kernel5Ideal.Value.run_blocks (F := Ideal) m ρ)
  · exact (θ_run Reference5Ideal.defs _ _).mono (fun r h c =>
      And.intro (((h c).1.trans (reference_eq _ _)).trans (congrArg₂ gradient (hagree c).1 (hagree c).2)) (h c).2)
      (Reference5Ideal.Value.run (F := Ideal) m' ρ')

end Cert.Weight.In

end
-- ==== Proof.WeightSquare.lean ====
/- The gradient of a square matrix of weights: what the kernel leaves in its result is the reference's product, entry by entry. -/
module

public import proofs.«01_k».proof.Defs
public import proofs.«01_k».proof.Proof.Gen.Kernel6Ideal.Value
public import proofs.«01_k».proof.Proof.Gen.Reference6Ideal.Run
public import Idealize.ShloMosaic.Lib.Claim
public import Idealize.ShloMosaic.Lib.Quiescent
public import Idealize.ShloMosaic.Lib.Pipeline.ValueKit
public import Idealize.ShloMosaic.Adequacy
public import Idealize.ShloMosaic.Init

@[expose] public section

set_option maxRecDepth 16384

noncomputable section

namespace Cert.Weight.Square

open Idealize.ShloMosaic Idealize.ShloMosaic.TcCoe Idealize.ShloMosaic.Tactic Idealize.SL.Sem Idealize.ShloMosaic.StableHlo

/-! ## The reference -/

section Reference

open Cert.Reference6Ideal Cert.Reference6Ideal.Gen

/-- The gradient: every entry is a sum over the tokens. -/
def gradient (a : FVec Ideal S4096x1024 .f32) (b : FVec Ideal S4096x1024 .f32) : FVec Ideal S1024x1024 .f32 :=
  fun i => ∑ r : Fin 4096, a (ix2 r (i 0)) * b (ix2 r (i 1))

/-- It is what the reference computes. -/
theorem reference_eq (a : FVec Ideal S4096x1024 .f32) (b : FVec Ideal S4096x1024 .f32) :
    transpose S1024x1024 [1, 0] (Host.dotGeneral (F := Ideal) dot_S4096x1024_S4096x1024_S1024x1024_0_0_1_1_n_n none b a)
      transposes_S1024x1024_S1024x1024_1_0 = gradient a b := by
  funext i
  idx_vars i
  pointwise [gradient]
  exact Finset.sum_congr rfl fun r _ => mul_comm _ _

/-- The reference leaves its arguments as they were and every counter at zero. -/
theorem reference_frame : quiescent_Reference6Ideal := fun m ρ _ =>
  (θ_run Reference6Ideal.defs _ _).mono (fun r h => And.intro (fun c => (h c).2)
    (Idealize.ShloMosaic.sem_eq_zero_of_no_sems (by decide) r.2)) (Reference6Ideal.Value.run (F := Ideal) m ρ)

end Reference

/-! ## The kernel -/

open Cert.Kernel6Ideal Cert.Kernel6Ideal.Gen

variable (m : (ℓ : Loc nD τ sig) → Buf (Elt Ideal) ℓ) (c : Dev nD)

theorem V_v0 : (V m c main_v0 : FVec Ideal S4096x1024 .bf16)
    = truncf (F := Ideal) .bf16 (m ((c : Thread nD τ).loc main_arg0) : FVec Ideal S4096x1024 .f32) bitsLt_bf16_f32 := by
  unfold V; after_results; try rfl

theorem V_v1 : (V m c main_v1 : FVec Ideal S4096x1024 .bf16)
    = truncf (F := Ideal) .bf16 (m ((c : Thread nD τ).loc main_arg1) : FVec Ideal S4096x1024 .f32) bitsLt_bf16_f32 := by
  unfold V; after_results; try rfl

theorem v0_at (r : Fin 4096) (i : Fin 1024) : (V m c main_v0 : FVec Ideal S4096x1024 .bf16) (ix2 r i)
    = (m ((c : Thread nD τ).loc main_arg0) : FVec Ideal S4096x1024 .f32) (ix2 r i) := by
  rw [V_v0]; pointwise []

theorem v1_at (r : Fin 4096) (k : Fin 1024) : (V m c main_v1 : FVec Ideal S4096x1024 .bf16) (ix2 r k)
    = (m ((c : Thread nD τ).loc main_arg1) : FVec Ideal S4096x1024 .f32) (ix2 r k) := by
  rw [V_v1]; pointwise []

/-- The block coordinates of the three windows at each point. -/
theorem idx_win : ∀ t : Fin cfg0.N, win0_0.index t = ![0, t.val] ∧ win0_1.index t = ![0, 0] ∧ win0_2.index t = ![t.val, 0] :=
  (by decide +kernel : ∀ t : Fin grid0.N, _)

theorem b0_at (t : Fin cfg0.N) (r : Fin 4096) (i : Fin 512) (h : 512 * t.val + i < 1024) :
    (iblk m c 0 t : FVec Ideal S4096x512 .bf16) (ix2 r i)
      = (m ((c : Thread nD τ).loc main_arg0) : FVec Ideal S4096x1024 .f32) (ix2 r ⟨512 * t.val + i, h⟩) := by
  have ht : t.val < 2 := lt_of_lt_of_eq t.isLt N_0
  refine Eq.trans (b := (V m c main_v0 : FVec Ideal S4096x1024 .bf16) (ix2 r ⟨512 * t.val + i, h⟩)) ?_ (v0_at m c _ _)
  blk_point [iblk, idx_win t]

theorem b1_at (t : Fin cfg0.N) (r : Fin 4096) (k : Fin 1024) : (iblk m c 1 t : FVec Ideal S4096x1024 .bf16) (ix2 r k)
    = (m ((c : Thread nD τ).loc main_arg1) : FVec Ideal S4096x1024 .f32) (ix2 r k) := by
  refine Eq.trans (b := (V m c main_v1 : FVec Ideal S4096x1024 .bf16) (ix2 r k)) ?_ (v1_at m c _ _)
  blk_point [iblk, idx_win t]

/-- What the body computes from its two blocks. -/
theorem out_at (x : FVec Ideal S4096x512 .bf16) (y : FVec Ideal S4096x1024 .bf16) (i : Fin 512) (k : Fin 1024) :
    out0_2 (F := Ideal) x y (ix2 i k) = ∑ r : Fin 4096, x (ix2 r i) * y (ix2 r k) := by
  unfold out0_2
  rw [View.canon_cons_unit_lit, View.ld_unit_lit, View.ld_unit_lit]
  rotate_left
  · decide
  · decide
  · decide
  pointwise [k0_pay1, zero_add]

/-- The kernel's result is the reference's. -/
theorem arr : (dats m 0 c).arrAt 2 cfg0.N = gradient (m ((c : Thread nD τ).loc main_arg0)) (m ((c : Thread nD τ).loc main_arg1)) := by
  refine (dats m 0 c).arrAt_eq_of_covers 2 _ (by decide +kernel) fun t hf y => ?_
  have ht : t.val < 2 := lt_of_lt_of_eq t.isLt N_0
  blk_simp
  rw [after0_2]
  revert y
  show ∀ y : S512x1024.Idx, _
  intro y
  idx_vars y
  rw [show out0_2 (F := Ideal) (iblk m c 0 t) (iblk m c 1 t) (ix2 y0 y1) = _ from out_at _ _ y0 y1]
  show _ = ∑ r : Fin 4096, (_ : EReal) * _
  refine Finset.sum_congr rfl fun r _ => congrArg₂ (· * ·) ((b0_at m c t r y0 (by omega)).trans ?_) ((b1_at m c t r y1).trans ?_)
  · refine congrArg _ (congrArg (ix2 r) (Fin.ext ?_))
    show 512 * t.val + y0.val = _
    blk_simp [idx_win t]
    omega
  · refine congrArg _ (congrArg (ix2 r) (Fin.ext ?_))
    blk_simp [idx_win t]

/-- At every input the kernel's result is the reference's. -/
theorem agree : algebraic_Kernel6Ideal_Reference6Ideal := by
  intro m ρ m' ρ' _ hagree
  refine ⟨fun c => gradient (m ((c : Thread nD τ).loc main_arg0)) (m ((c : Thread nD τ).loc main_arg1)), ?_, ?_⟩
  · exact (θ_run Kernel6Ideal.defs _ _).mono (fun r h c => And.intro ((h c).1.trans (arr m c)) (h c).2)
      (Kernel6Ideal.Value.run_blocks (F := Ideal) m ρ)
  · exact (θ_run Reference6Ideal.defs _ _).mono (fun r h c =>
      And.intro (((h c).1.trans (reference_eq _ _)).trans (congrArg₂ gradient (hagree c).1 (hagree c).2)) (h c).2)
      (Reference6Ideal.Value.run (F := Ideal) m' ρ')

end Cert.Weight.Square

end
-- ==== Proof.FfnBitsFrame.lean ====
/- The frame of the forward feed-forward kernel with float operations: arguments unchanged, counters at zero. -/
module

public import proofs.«01_k».proof.Proof.FfnBitsSound

@[expose] public section

set_option maxRecDepth 16384

noncomputable section

namespace Cert.Ffn.B

open Cert.Kernel7 Cert.Kernel7.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-- The body at any point. -/
theorem sound_body :
    bodyPre m c t ⊢ wp frame (wpE (defs₀ (F := F)) Variants.none c none) Set.univ (bodyAt0 t) (fun _ => bodyPost m c t) := by
  by_cases h0 : t.val % 4 = 0
  · exact sound_A m c t h0
  · exact sound_B m c t h0

/-- The body table's row at point `t` is the body over the point's buffers. -/
theorem defs₀_row : defs₀ (F := F) .tc cfg0.body (cfg0.bodyArgs t (cfg0.slots t)) = bodyAt0 t := by
  unfold defs₀; rw [Defs.onTc_tc]

set_option maxHeartbeats 4000000 in
/-- The body at every point, as the pipeline asks it. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs to completion; every array of the pipeline ends at what the proof data say, every other buffer as
    the launch found it, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The four arguments end as they were launched, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_quiescent m ρ))

/-- and so does every counter: the frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiescent m ρ))

end Cert.Ffn.B

end
-- ==== Proof.FfnRun.lean ====
/- The body of the forward feed-forward kernel at a grid point: one run for a row tile's first column run, which normalises the rows
   and starts the sum from the input, and one for the later ones, which add to it. -/
module

public import proofs.«01_k».proof.Proof.Gen.Kernel7Ideal.Frame
public import proofs.«01_k».proof.Proof.Gen.Kernel7Ideal.Skeleton

@[expose] public section

set_option maxRecDepth 16384

noncomputable section

namespace Cert.Ffn.K

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The body's branch and the buffers it is called with -/

/-- The condition of the body's branch, from the grid coordinates. -/
abbrev cond0_0 (i : grid0.Coords) : Prop := k0_cond1 i = 1#1

/-- It holds at the points that start a row tile. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- Each window's buffer at point `t`, and that it is a whole buffer. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1x704x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S704x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1x1024x704 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)

/-! ## The two runs -/

set_option maxHeartbeats 1000000 in
/-- THE BODY AT A ROW TILE'S FIRST COLUMN RUN. From the four inputs' buffers at `x0 … x3` and the outputs' at anything, the body
    ends with the inputs as they were and each output's buffer at the pieces its stores wrote; the run finds the pieces. -/
def runA (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S2x1x704x1024 .bf16) (harg4 : arg4.IsWhole)
    (arg5 : Memref sig .tc .vmem S704x1024 .bf16) (harg5 : arg5.IsWhole)
    (arg6 : Memref sig .tc .vmem S1024x1024 .bf16) (harg6 : arg6.IsWhole)
    (arg7 : Memref sig .tc .vmem S2x1x1024x704 .bf16) (harg7 : arg7.IsWhole)
    (arg8 : Memref sig .tc .vmem S1024x1024 .f32) (harg8 : arg8.IsWhole)
    (hc0 : cond0_0 i)
    (x0 : Vec F S1024x1024 .f32) (x1 : Vec F S1x1024 .f32) (x2 : Vec F S2x1x704x1024 .bf16) (x3 : Vec F S704x1024 .bf16) :
    Σ' (L4 : List (View.Piece (Elt F) S1024x1024 .bf16)), Σ' (L5 : List (View.Piece (Elt F) S2x1x1024x704 .bf16)),
    { L6 : List (View.Piece (Elt F) S1024x1024 .f32) //
      ∀ (E : Set ℕ) (K : PUnit → sProp 𝕄),
        iprop(owns (c : Thread nD τ) arg2 fullShare x0 ∗
          owns (c : Thread nD τ) arg3 fullShare x1 ∗
          owns (c : Thread nD τ) arg4 fullShare x2 ∗
          owns (c : Thread nD τ) arg5 fullShare x3 ∗
          (∃ d, owns (c : Thread nD τ) arg6 fullShare d) ∗
          (∃ d, owns (c : Thread nD τ) arg7 fullShare d) ∗
          (∃ d, owns (c : Thread nD τ) arg8 fullShare d) ∗
          (iprop(owns (c : Thread nD τ) arg2 fullShare x0 ∗
          owns (c : Thread nD τ) arg3 fullShare x1 ∗
          owns (c : Thread nD τ) arg4 fullShare x2 ∗
          owns (c : Thread nD τ) arg5 fullShare x3 ∗
          (∃ f, arg6.view.loc (c : Thread nD τ) ↦[arg6.view.set]{fullShare} arg6.view.writes (Elt F) f L4) ∗
          (∃ f, arg7.view.loc (c : Thread nD τ) ↦[arg7.view.set]{fullShare} arg7.view.writes (Elt F) f L5) ∗
          (∃ f, arg8.view.loc (c : Thread nD τ) ↦[arg8.view.set]{fullShare} arg8.view.writes (Elt F) f L6)) -∗ K ⟨⟩))
        ⊢ wp frame (wpE (defs₀ (F := F)) Variants.none c none) E (cc0_ffn_forward i arg2 harg2 arg3 harg3 arg4 harg4 arg5 harg5 arg6 harg6 arg7 harg7 arg8 harg8) K } := by
  refine ⟨?_, ?_, ?_, fun E K => ?run⟩
  case run =>
    simp only [cc0_ffn_forward_eq_skeleton]; unfold cc0_ffn_forward_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]; · iexists _; isplitr; (ipureintro; exact harg2.read_unread _); iexact H0
    isplitl [H1]; · iexists _; isplitr; (ipureintro; exact harg3.read_unread _); iexact H1
    isplitl [H2]; · iexists _; isplitr; (ipureintro; exact harg4.read_unread _); iexact H2
    isplitl [H3]; · iexists _; isplitr; (ipureintro; exact harg5.read_unread _); iexact H3
    isplitl [H4]; · iexists _; iexact H4
    isplitl [H5]; · iexists _; iexact H5
    iexists _; iexact H6

set_option maxHeartbeats 1000000 in
/-- THE BODY AT A LATER COLUMN RUN. The normalised rows' buffer holds `xo4`, which the body only reads, and the sum's buffer `xo6`. -/
def runB (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S2x1x704x1024 .bf16) (harg4 : arg4.IsWhole)
    (arg5 : Memref sig .tc .vmem S704x1024 .bf16) (harg5 : arg5.IsWhole)
    (arg6 : Memref sig .tc .vmem S1024x1024 .bf16) (harg6 : arg6.IsWhole)
    (arg7 : Memref sig .tc .vmem S2x1x1024x704 .bf16) (harg7 : arg7.IsWhole)
    (arg8 : Memref sig .tc .vmem S1024x1024 .f32) (harg8 : arg8.IsWhole)
    (hc0 : ¬cond0_0 i)
    (x0 : Vec F S1024x1024 .f32) (x1 : Vec F S1x1024 .f32) (x2 : Vec F S2x1x704x1024 .bf16) (x3 : Vec F S704x1024 .bf16)
    (xo4 : Vec F S1024x1024 .bf16) (xo6 : Vec F S1024x1024 .f32) :
    Σ' (L5 : List (View.Piece (Elt F) S2x1x1024x704 .bf16)),
    { L6 : List (View.Piece (Elt F) S1024x1024 .f32) //
      ∀ (E : Set ℕ) (K : PUnit → sProp 𝕄),
        iprop(owns (c : Thread nD τ) arg2 fullShare x0 ∗
          owns (c : Thread nD τ) arg3 fullShare x1 ∗
          owns (c : Thread nD τ) arg4 fullShare x2 ∗
          owns (c : Thread nD τ) arg5 fullShare x3 ∗
          owns (c : Thread nD τ) arg6 fullShare xo4 ∗
          (∃ d, owns (c : Thread nD τ) arg7 fullShare d) ∗
          owns (c : Thread nD τ) arg8 fullShare xo6 ∗
          (iprop(owns (c : Thread nD τ) arg2 fullShare x0 ∗
          owns (c : Thread nD τ) arg3 fullShare x1 ∗
          owns (c : Thread nD τ) arg4 fullShare x2 ∗
          owns (c : Thread nD τ) arg5 fullShare x3 ∗
          owns (c : Thread nD τ) arg6 fullShare xo4 ∗
          (∃ f, arg7.view.loc (c : Thread nD τ) ↦[arg7.view.set]{fullShare} arg7.view.writes (Elt F) f L5) ∗
          (∃ f, arg8.view.loc (c : Thread nD τ) ↦[arg8.view.set]{fullShare} arg8.view.writes (Elt F) f L6)) -∗ K ⟨⟩))
        ⊢ wp frame (wpE (defs₀ (F := F)) Variants.none c none) E (cc0_ffn_forward i arg2 harg2 arg3 harg3 arg4 harg4 arg5 harg5 arg6 harg6 arg7 harg7 arg8 harg8) K } := by
  refine ⟨?_, ?_, fun E K => ?run⟩
  case run =>
    simp only [cc0_ffn_forward_eq_skeleton]; unfold cc0_ffn_forward_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg8.eq_unread hf6
    sl_exec (disch := first | sl_exact hc0)
    sl_step
    iapply Hk
    isplitl [H0]; · iexists _; isplitr; (ipureintro; exact harg2.read_unread _); iexact H0
    isplitl [H1]; · iexists _; isplitr; (ipureintro; exact harg3.read_unread _); iexact H1
    isplitl [H2]; · iexists _; isplitr; (ipureintro; exact harg4.read_unread _); iexact H2
    isplitl [H3]; · iexists _; isplitr; (ipureintro; exact harg5.read_unread _); iexact H3
    isplitl [H4]; · iexists _; isplitr; (ipureintro; exact harg6.read_unread _); iexact H4
    isplitl [H5]; · iexists _; iexact H5
    iexists _; iexact H6

end Cert.Ffn.K

end
-- ==== Proof.FfnOuts.lean ====
/- What the forward feed-forward kernel's three outputs hold after each of the sixteen grid points (`outsAt`). -/
module

public import proofs.«01_k».proof.Proof.FfnRun
public import Idealize.ShloMosaic.Lib.Claim

@[expose] public section

set_option maxRecDepth 16384

noncomputable section

namespace Cert.Ffn.K

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-! ## What a point leaves in the outputs -/

/-- The outputs' blocks, in window order: the normalised rows, the projection's two halves, the sum. -/
abbrev Outs (F : FTy → Type) [FloatOps F] : Type :=
  Vec F S1024x1024 .bf16 × Vec F S2x1x1024x704 .bf16 × Vec F S1024x1024 .f32

/-- A view of each output's block to read the pieces back through. -/
abbrev VO0_4 : View sig .tc .vmem S1024x1024 .bf16 := (Memref.whole cc0_stg4_0 : Memref sig .tc .vmem S1024x1024 .bf16).view
abbrev VO0_5 : View sig .tc .vmem S2x1x1024x704 .bf16 := (Memref.whole cc0_stg5_0 : Memref sig .tc .vmem S2x1x1024x704 .bf16).view
abbrev VO0_6 : View sig .tc .vmem S1024x1024 .f32 := (Memref.whole cc0_stg6_0 : Memref sig .tc .vmem S1024x1024 .f32).view

/-- The body's run at a row tile's first point, over the point's buffers and input blocks. -/
abbrev tA (h0 : t.val % 4 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    ((hcond0_0 t).mpr h0) (iblk m c 0 t) (iblk m c 1 t) (iblk m c 2 t) (iblk m c 3 t)

/-- The body's run at a later point, the point before having left `o`. -/
abbrev tB (h0 : ¬t.val % 4 = 0) (o : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (fun h => h0 ((hcond0_0 t).mp h)) (iblk m c 0 t) (iblk m c 1 t) (iblk m c 2 t) (iblk m c 3 t) o.1 o.2.2

/-- What a row tile's first point leaves: the pieces its run wrote, read back. -/
def outA (h0 : t.val % 4 = 0) : Outs F :=
  (VO0_4.read (Elt F) (VO0_4.writes (Elt F) VO0_4.junk (tA m c t h0).1),
   VO0_5.read (Elt F) (VO0_5.writes (Elt F) VO0_5.junk (tA m c t h0).2.1),
   VO0_6.read (Elt F) (VO0_6.writes (Elt F) VO0_6.junk (tA m c t h0).2.2.1))

/-- What a later point leaves: the normalised rows as they were, the others from its run's pieces. -/
def outB (h0 : ¬t.val % 4 = 0) (o : Outs F) : Outs F :=
  (o.1,
   VO0_5.read (Elt F) (VO0_5.writes (Elt F) VO0_5.junk (tB m c t h0 o).1),
   VO0_6.read (Elt F) (VO0_6.writes (Elt F) VO0_6.junk (tB m c t h0 o).2.1))

/-- What the outputs hold after point `n`. -/
def outsAt : (n : ℕ) → n < cfg0.N → Outs F
  | 0, hn => outA m c ⟨0, hn⟩ (Nat.zero_mod 4)
  | n + 1, hn =>
    if h0 : (n + 1) % 4 = 0 then outA m c ⟨n + 1, hn⟩ h0
    else outB m c ⟨n + 1, hn⟩ h0 (outsAt n (Nat.lt_of_succ_lt hn))

theorem outsAt_A (h0 : t.val % 4 = 0) : outsAt m c t.val t.isLt = outA m c t h0 := by
  obtain ⟨n, hn⟩ := t
  cases n with
  | zero => exact rfl
  | succ n => exact (dif_pos h0).trans rfl

theorem outsAt_B (h0 : ¬t.val % 4 = 0) : outsAt m c t.val t.isLt
    = outB m c t h0 (outsAt m c (t.val - 1) (Nat.lt_of_le_of_lt (Nat.sub_le _ _) t.isLt)) := by
  obtain ⟨n, hn⟩ := t
  cases n with
  | zero => exact absurd (Nat.zero_mod 4) h0
  | succ n => exact (dif_neg h0).trans rfl

theorem outB_fst (h0 : ¬t.val % 4 = 0) (o : Outs F) : (outB m c t h0 o).1 = o.1 := by
  unfold outB; dsimp only

/-- A later point leaves the normalised rows as they were. -/
theorem outsAt_B_fst (h0 : ¬t.val % 4 = 0) : (outsAt m c t.val t.isLt).1
    = (outsAt m c (t.val - 1) (Nat.lt_of_le_of_lt (Nat.sub_le _ _) t.isLt)).1 := by
  rw [outsAt_B m c t h0, outB_fst]

/-! ## The stores cover the outputs' blocks -/

theorem coverA_4 (h0 : t.val % 4 = 0) (y : S1024x1024.Idx) : ∃ pc ∈ (tA m c t h0).1, y ∈ pc.1.set :=
  View.cover_of_tiledL (tA m c t h0).1 S1024x1024.size (by sl_kernel_rfl) y

theorem coverA_5 (h0 : t.val % 4 = 0) (y : S2x1x1024x704.Idx) : ∃ pc ∈ (tA m c t h0).2.1, y ∈ pc.1.set :=
  View.cover_of_tiledL (tA m c t h0).2.1 S1x1x1024x704.size (by sl_kernel_rfl) y

theorem coverA_6 (h0 : t.val % 4 = 0) (y : S1024x1024.Idx) : ∃ pc ∈ (tA m c t h0).2.2.1, y ∈ pc.1.set :=
  View.cover_of_tiledL (tA m c t h0).2.2.1 S1024x1024.size (by sl_kernel_rfl) y

theorem coverB_5 (h0 : ¬t.val % 4 = 0) (o : Outs F) (y : S2x1x1024x704.Idx) : ∃ pc ∈ (tB m c t h0 o).1, y ∈ pc.1.set :=
  View.cover_of_tiledL (tB m c t h0 o).1 S1x1x1024x704.size (by sl_kernel_rfl) y

theorem coverB_6 (h0 : ¬t.val % 4 = 0) (o : Outs F) (y : S1024x1024.Idx) : ∃ pc ∈ (tB m c t h0 o).2.1, y ∈ pc.1.set :=
  View.cover_of_tiledL (tB m c t h0 o).2.1 S1024x1024.size (by sl_kernel_rfl) y

end Cert.Ffn.K

end
-- ==== Proof.FfnModel.lean ====
/- The forward feed-forward block, entry by entry over extended reals: the normalised rows, their projection, the gated product and
   the rows with the block's output added; and the three result arrays made of them. -/
module

public import Idealize.ShloMosaic.Lib.Claim
public import Idealize.ShloMosaic.Lib.Pipeline.ValueKit

@[expose] public section

set_option maxRecDepth 16384

noncomputable section

namespace Cert.Ffn

open Idealize.ShloMosaic Idealize.ShloMosaic.TcCoe Idealize.ShloMosaic.Tactic Idealize.SL.Sem

/-- The arguments' entries: the rows, the scale, the projection's weights and the weights back. -/
structure Inp where
  x : ℕ → ℕ → EReal
  g : ℕ → EReal
  w : ℕ → ℕ → EReal
  v : ℕ → ℕ → EReal

namespace Inp

variable (p : Inp)

/-- The rows normalised by their root mean square, and scaled. -/
def xn (r k : ℕ) : EReal :=
  p.x r k * Ideal.rsqrt (Ideal.div (∑ j : Fin 1024, p.x r j * p.x r j) (Ideal.ofBits .f32 0x44800000#32) + Ideal.ofBits .f32 0x358637BD#32) * p.g k

/-- Their projection. -/
def gu (r j : ℕ) : EReal := ∑ k : Fin 1024, p.xn r k * p.w k j

/-- The gated product of the projection's two halves. -/
def act (r j : ℕ) : EReal := p.gu r j * Ideal.div 1 (1 + Ideal.exp (-p.gu r j)) * p.gu r (2816 + j)

/-- What one run of 704 columns contributes to the block's output. -/
def term (f r k : ℕ) : EReal := ∑ b : Fin 704, p.act r (704 * f + b) * p.v (704 * f + b) k

/-- The rows with the block's output added. -/
def y (r k : ℕ) : EReal := p.x r k + ∑ j : Fin 2816, p.act r j * p.v j k

/-- A sum over four runs of 704 terms each is the sum over the 2816 terms. -/
theorem sum_runs (f : ℕ → EReal) : (∑ s ∈ Finset.range 4, ∑ b : Fin 704, f (704 * s + b)) = ∑ j : Fin 2816, f j := by
  have e : ∀ n, (∑ s ∈ Finset.range n, ∑ b : Fin 704, f (704 * s + b)) = ∑ k ∈ Finset.range (704 * n), f k := by
    intro n
    induction n with
    | zero => rfl
    | succ n ih =>
      rw [Finset.sum_range_succ, ih, Nat.mul_succ, Finset.sum_range_add, Fin.sum_univ_eq_sum_range (fun r => f (704 * n + r))]
  rw [e 4, Fin.sum_univ_eq_sum_range (fun j => f j) 2816]

/-- The four contributions, added to the rows, are the result. -/
theorem sum_term (r k : ℕ) : p.x r k + (∑ f ∈ Finset.range 4, p.term f r k) = p.y r k := by
  unfold term y
  rw [sum_runs (fun j => p.act r j * p.v j k)]

end Inp

variable (p : Inp)

/-- The normalised rows. -/
def o4 : FVec Ideal ⟨2, ![4096, 1024]⟩ .bf16 := fun i => p.xn (i 0) (i 1)

/-- The projection's two halves, each in four runs of 704 columns. -/
def o5 : FVec Ideal ⟨4, ![2, 4, 4096, 704]⟩ .bf16 := fun i => p.gu (i 2) (2816 * (i 0) + (704 * (i 1) + (i 3)))

/-- The rows with the block's output added. -/
def o6 : FVec Ideal ⟨2, ![4096, 1024]⟩ .f32 := fun i => p.y (i 0) (i 1)

/-- The entries of four arrays. -/
def inp (x : FVec Ideal ⟨2, ![4096, 1024]⟩ .f32) (g : FVec Ideal ⟨1, ![1024]⟩ .f32) (w : FVec Ideal ⟨2, ![1024, 5632]⟩ .f32)
    (v : FVec Ideal ⟨2, ![2816, 1024]⟩ .f32) : Inp where
  x r k := if h : r < 4096 ∧ k < 1024 then x (ix2 ⟨r, h.1⟩ ⟨k, h.2⟩) else 0
  g k := if h : k < 1024 then g (ix1 ⟨k, h⟩) else 0
  w k j := if h : k < 1024 ∧ j < 5632 then w (ix2 ⟨k, h.1⟩ ⟨j, h.2⟩) else 0
  v j k := if h : j < 2816 ∧ k < 1024 then v (ix2 ⟨j, h.1⟩ ⟨k, h.2⟩) else 0

end Cert.Ffn

end
-- ==== Proof.FfnPay.lean ====
/- The entries of what the forward feed-forward kernel computes at a grid point, one array at a time: where the loaded blocks hold the
   model's numbers from row `R` and column `C` on, so does each array computed from them. -/
module

public import proofs.«01_k».proof.Proof.FfnModel
public import proofs.«01_k».proof.Proof.Gen.Kernel7Ideal.Skeleton
public import Idealize.ShloMosaic.Lib.Claim
public import Idealize.ShloMosaic.Lib.Pipeline.ValueKit

@[expose] public section

set_option maxRecDepth 16384

noncomputable section

namespace Cert.Ffn.K

open Cert.Kernel7Ideal Cert.Kernel7Ideal.Gen
open Idealize.ShloMosaic Idealize.ShloMosaic.TcCoe Idealize.ShloMosaic.Tactic Idealize.SL.Sem

variable (p : Inp) (R C : ℕ) (x : FVec Ideal S1024x1024 .f32) (g : FVec Ideal S1x1024 .f32) (n : FVec Ideal S1024x1024 .bf16)
  (u w : FVec Ideal S1x1x704x1024 .bf16) (v : FVec Ideal S704x1024 .bf16)
  (hx : ∀ a k : Fin 1024, x (ix2 a k) = p.x (R + a) k)
  (hg : ∀ k : Fin 1024, g (ix2 0 k) = p.g k)
  (hn : ∀ a k : Fin 1024, n (ix2 a k) = p.xn (R + a) k)
  (hu : ∀ (b : Fin 704) (k : Fin 1024), u (ix4 0 0 b k) = p.w k (C + b))
  (hw : ∀ (b : Fin 704) (k : Fin 1024), w (ix4 0 0 b k) = p.w k (2816 + (C + b)))
  (hv : ∀ (b : Fin 704) (k : Fin 1024), v (ix2 b k) = p.v (C + b) k)
  (a : Fin 1024) (b : Fin 704)

include hx hg in
theorem xn_at (k : Fin 1024) : k0_pay2 (F := Ideal) x g (ix2 a k) = p.xn (R + a) k := by
  pointwise [k0_pay2, hx, hg]
  rfl

include hn hu in
theorem gate_at : k0_pay4 (F := Ideal) n u (ix2 a b) = p.gu (R + a) (C + b) := by
  pointwise [k0_pay4, k0_pay3, hn, hu, zero_add]
  rfl

include hn hw in
theorem up_at : k0_pay5 (F := Ideal) n w (ix2 a b) = p.gu (R + a) (2816 + (C + b)) := by
  pointwise [k0_pay5, k0_pay3, hn, hw, zero_add]
  rfl

include hn hu in
theorem gate4_at : k0_pay6 (F := Ideal) n u (ix4 0 0 a b) = p.gu (R + a) (C + b) := by
  pointwise [k0_pay6, gate_at p R C n u hn hu]

include hn hw in
theorem up4_at : k0_pay7 (F := Ideal) n w (ix4 0 0 a b) = p.gu (R + a) (2816 + (C + b)) := by
  pointwise [k0_pay7, up_at p R C n w hn hw]

include hn hu hw in
theorem act_at : k0_pay8 (F := Ideal) n u w (ix2 a b) = p.act (R + a) (C + b) := by
  pointwise [k0_pay8, gate_at p R C n u hn hu, up_at p R C n w hn hw, zero_sub]
  rfl

include hn hu hw hv in
theorem add_at (f : ℕ) (hC : C = 704 * f) (acc : FVec Ideal S1024x1024 .f32) (k : Fin 1024) (s : EReal) (hacc : acc (ix2 a k) = s) :
    k0_pay1 (F := Ideal) (k0_pay8 (F := Ideal) n u w) acc v (ix2 a k) = s + p.term f (R + a) k := by
  subst hC
  pointwise [k0_pay1, act_at p R _ n u w hn hu hw, hv, hacc, zero_add]
  rfl

end Cert.Ffn.K

end
-- ==== Proof.FfnBlocks.lean ====
/- The arrays the forward feed-forward kernel is called on and the blocks of them a grid point reads, at the model. -/
module

public import proofs.«01_k».proof.Proof.Gen.Kernel7Ideal.Frame
public import proofs.«01_k».proof.Proof.FfnModel
public import Idealize.ShloMosaic.Lib.Claim
public import Idealize.ShloMosaic.Lib.Pipeline.ValueKit

@[expose] public section

set_option maxRecDepth 16384

noncomputable section

namespace Cert.Ffn.K

open Cert.Kernel7Ideal Cert.Kernel7Ideal.Gen
open Idealize.ShloMosaic Idealize.ShloMosaic.TcCoe Idealize.ShloMosaic.Tactic Idealize.SL.Sem

/-- A memory whose four argument arrays on core `c` hold the model's numbers. -/
structure Holds (p : Inp) (m : (ℓ : Loc nD τ sig) → Buf (Elt Ideal) ℓ) (c : Dev nD) : Prop where
  a0 : ∀ (r : Fin 4096) (j : Fin 1024), (m ((c : Thread nD τ).loc main_arg0) : FVec Ideal S4096x1024 .f32) (ix2 r j) = p.x r j
  a1 : ∀ (j : Fin 1024), (m ((c : Thread nD τ).loc main_arg1) : FVec Ideal S1024 .f32) (ix1 j) = p.g j
  a2 : ∀ (k : Fin 1024) (j : Fin 5632), (m ((c : Thread nD τ).loc main_arg2) : FVec Ideal S1024x5632 .f32) (ix2 k j) = p.w k j
  a3 : ∀ (j : Fin 2816) (k : Fin 1024), (m ((c : Thread nD τ).loc main_arg3) : FVec Ideal S2816x1024 .f32) (ix2 j k) = p.v j k

/-! ## What the host prepares -/

section Host

variable (m : (ℓ : Loc nD τ sig) → Buf (Elt Ideal) ℓ) (c : Dev nD)

/-- The projection's weights, transposed. -/
def wT (w : FVec Ideal S1024x5632 .f32) : FVec Ideal S5632x1024 .bf16 :=
  truncf (F := Ideal) .bf16 (transpose S5632x1024 [1, 0] w transposes_S1024x5632_S5632x1024_1_0) bitsLt_bf16_f32

theorem V_v2 : (V m c main_v2 : FVec Ideal S2x4x704x1024 .bf16)
    = shapeCast S2x4x704x1024 (wT (m ((c : Thread nD τ).loc main_arg2))) shapeCasts_S5632x1024_S2x4x704x1024 := by
  unfold V; after_results; try rfl

theorem V_v3 : (V m c main_v3 : FVec Ideal S1x1024 .f32)
    = shapeCast S1x1024 (m ((c : Thread nD τ).loc main_arg1) : FVec Ideal S1024 .f32) shapeCasts_S1024_S1x1024 := by
  unfold V; after_results; try rfl

theorem V_v4 : (V m c main_v4 : FVec Ideal S2816x1024 .bf16)
    = truncf (F := Ideal) .bf16 (m ((c : Thread nD τ).loc main_arg3) : FVec Ideal S2816x1024 .f32) bitsLt_bf16_f32 := by
  unfold V; after_results; try rfl

theorem V_a0 : (V m c main_arg0 : FVec Ideal S4096x1024 .f32) = m ((c : Thread nD τ).loc main_arg0) := by
  unfold V; after_results; try rfl

variable {m c} {p : Inp} (H : Holds p m c)
include H

theorem wT_at (j : Fin 5632) (k : Fin 1024) : wT (m ((c : Thread nD τ).loc main_arg2)) (ix2 j k) = p.w k j := by
  pointwise [wT, H.a2]

theorem v2_at (h : Fin 2) (f : Fin 4) (b : Fin 704) (k : Fin 1024) :
    (V m c main_v2 : FVec Ideal S2x4x704x1024 .bf16) (ix4 h f b k) = p.w k (2816 * h + (704 * f + b)) := by
  rw [V_v2]
  refine Eq.trans ?_ (wT_at H ⟨2816 * h + (704 * f + b), by omega⟩ k)
  pointwise []
  exact congrArg _ (congrArg₂ ix2 (Fin.ext (by show h.val * 2816 + f.val * 704 + b.val = 2816 * h.val + (704 * f.val + b.val); omega)) rfl)

theorem v3_at (j : Fin 1024) : (V m c main_v3 : FVec Ideal S1x1024 .f32) (ix2 0 j) = p.g j := by
  rw [V_v3]; pointwise [H.a1]

theorem v4_at (j : Fin 2816) (k : Fin 1024) : (V m c main_v4 : FVec Ideal S2816x1024 .bf16) (ix2 j k) = p.v j k := by
  rw [V_v4]; pointwise [H.a3]

theorem v0_at (r : Fin 4096) (k : Fin 1024) : (V m c main_arg0 : FVec Ideal S4096x1024 .f32) (ix2 r k) = p.x r k := by
  rw [V_a0]; exact H.a0 r k

end Host

/-! ## The blocks -/

/-- The block coordinates of the seven windows at each point. -/
theorem idx_win : ∀ t : Fin cfg0.N, win0_0.index t = ![t.val / 4, 0] ∧ win0_1.index t = ![0, 0]
    ∧ win0_2.index t = ![0, t.val % 4, 0, 0] ∧ win0_3.index t = ![t.val % 4, 0] ∧ win0_4.index t = ![t.val / 4, 0]
    ∧ win0_5.index t = ![0, t.val % 4, t.val / 4, 0] ∧ win0_6.index t = ![t.val / 4, 0] :=
  (by decide +kernel : ∀ t : Fin grid0.N, _)

section Reads

variable {m : (ℓ : Loc nD τ sig) → Buf (Elt Ideal) ℓ} {c : Dev nD} {p : Inp} (H : Holds p m c) (t : Fin cfg0.N)
include H

theorem b0_at (a k : Fin 1024) :
    (iblk m c 0 t : FVec Ideal S1024x1024 .f32) (ix2 a k) = p.x (1024 * (t.val / 4) + a) k := by
  have ht : t.val < 16 := lt_of_lt_of_eq t.isLt N_0
  refine Eq.trans (b := (V m c main_arg0 : FVec Ideal S4096x1024 .f32) (ix2 ⟨1024 * (t.val / 4) + a, by omega⟩ k)) ?_ (v0_at H _ _)
  blk_point [iblk, idx_win t]

theorem b1_at (k : Fin 1024) : (iblk m c 1 t : FVec Ideal S1x1024 .f32) (ix2 0 k) = p.g k := by
  refine Eq.trans (b := (V m c main_v3 : FVec Ideal S1x1024 .f32) (ix2 0 k)) ?_ (v3_at H _)
  blk_point [iblk, idx_win t]

theorem b2_at (h : Fin 2) (b : Fin 704) (k : Fin 1024) :
    (iblk m c 2 t : FVec Ideal S2x1x704x1024 .bf16) (ix4 h 0 b k) = p.w k (2816 * h + (704 * (t.val % 4) + b)) := by
  have ht : t.val < 16 := lt_of_lt_of_eq t.isLt N_0
  refine Eq.trans (b := (V m c main_v2 : FVec Ideal S2x4x704x1024 .bf16) (ix4 h ⟨t.val % 4, by omega⟩ b k)) ?_ (v2_at H _ _ _ _)
  blk_point [iblk, idx_win t]

theorem b3_at (b : Fin 704) (k : Fin 1024) :
    (iblk m c 3 t : FVec Ideal S704x1024 .bf16) (ix2 b k) = p.v (704 * (t.val % 4) + b) k := by
  have ht : t.val < 16 := lt_of_lt_of_eq t.isLt N_0
  refine Eq.trans (b := (V m c main_v4 : FVec Ideal S2816x1024 .bf16) (ix2 ⟨704 * (t.val % 4) + b, by omega⟩ k)) ?_ (v4_at H _ _)
  blk_point [iblk, idx_win t]

end Reads

end Cert.Ffn.K

end
-- ==== Proof.FfnWin.lean ====
/- What a grid point leaves in the three outputs, at the model. -/
module

public import proofs.«01_k».proof.Proof.FfnOuts
public import proofs.«01_k».proof.Proof.FfnPay
public import proofs.«01_k».proof.Proof.FfnBlocks

@[expose] public section

set_option maxHeartbeats 1000000
set_option maxRecDepth 16384

noncomputable section

namespace Cert.Ffn.K

open Cert.Kernel7Ideal Cert.Kernel7Ideal.Gen
open Idealize.ShloMosaic Idealize.ShloMosaic.TcCoe Idealize.ShloMosaic.Tactic Idealize.SL.Sem

/-! ## The two halves of the projection's weights -/

theorem ld0 (X : FVec Ideal S2x1x704x1024 .bf16) (b : Fin 704) (k : Fin 1024) :
    (View.ld (Val := Elt Ideal) (e' := .bf16) X (Rect.unit (s := S2x1x704x1024) ![0, 0, 0, 0] ![1, 1, 704, 1024] inb_S2x1x704x1024_S1x1x704x1024_0_0_0_0) : FVec Ideal S1x1x704x1024 .bf16) (ix4 0 0 b k)
      = X (ix4 0 0 b k) := by
  refine congrArg X ?_
  funext d; fin_cases d
  · rfl
  · rfl
  · exact Fin.ext (by show 0 + 1 * b.val = b.val; omega)
  · exact Fin.ext (by show 0 + 1 * k.val = k.val; omega)

theorem ld1 (X : FVec Ideal S2x1x704x1024 .bf16) (b : Fin 704) (k : Fin 1024) :
    (View.ld (Val := Elt Ideal) (e' := .bf16) X (Rect.unit (s := S2x1x704x1024) ![1, 0, 0, 0] ![1, 1, 704, 1024] inb_S2x1x704x1024_S1x1x704x1024_1_0_0_0) : FVec Ideal S1x1x704x1024 .bf16) (ix4 0 0 b k)
      = X (ix4 1 0 b k) := by
  refine congrArg X ?_
  funext d; fin_cases d
  · rfl
  · rfl
  · exact Fin.ext (by show 0 + 1 * b.val = b.val; omega)
  · exact Fin.ext (by show 0 + 1 * k.val = k.val; omega)

variable {m : (ℓ : Loc nD τ sig) → Buf (Elt Ideal) ℓ} {c : Dev nD} {p : Inp} (H : Holds p m c) (t : Fin cfg0.N)

include H

theorem loW (b : Fin 704) (k : Fin 1024) :
    (View.ld (Val := Elt Ideal) (e' := .bf16) (iblk m c 2 t) (Rect.unit (s := S2x1x704x1024) ![0, 0, 0, 0] ![1, 1, 704, 1024] inb_S2x1x704x1024_S1x1x704x1024_0_0_0_0) : FVec Ideal S1x1x704x1024 .bf16) (ix4 0 0 b k)
      = p.w k (704 * (t.val % 4) + b) := by
  refine (ld0 _ b k).trans ((b2_at H t 0 b k).trans (congrArg (p.w k) ?_))
  show 2816 * 0 + _ = _
  omega

theorem hiW (b : Fin 704) (k : Fin 1024) :
    (View.ld (Val := Elt Ideal) (e' := .bf16) (iblk m c 2 t) (Rect.unit (s := S2x1x704x1024) ![1, 0, 0, 0] ![1, 1, 704, 1024] inb_S2x1x704x1024_S1x1x704x1024_1_0_0_0) : FVec Ideal S1x1x704x1024 .bf16) (ix4 0 0 b k)
      = p.w k (2816 + (704 * (t.val % 4) + b)) := by
  refine (ld1 _ b k).trans ((b2_at H t 1 b k).trans (congrArg (p.w k) ?_))
  show 2816 * 1 + _ = _
  omega

/-! ## At a row tile's first point -/

theorem xnA (a k : Fin 1024) : k0_pay2 (F := Ideal) (iblk m c 0 t) (iblk m c 1 t) (ix2 a k) = p.xn (1024 * (t.val / 4) + a) k :=
  xn_at p (1024 * (t.val / 4)) _ _ (b0_at H t) (b1_at H t) a k

theorem A4 (hA : t.val % 4 = 0) (a k : Fin 1024) : (outA m c t hA).1 (ix2 a k) = p.xn (1024 * (t.val / 4) + a) k := by
  unfold outA tA; frame_out
  exact xnA H t a k

theorem A5 (hA : t.val % 4 = 0) (h : Fin 2) (a : Fin 1024) (b : Fin 704) :
    (outA m c t hA).2.1 (ix4 h 0 a b) = p.gu (1024 * (t.val / 4) + a) (2816 * h + (704 * (t.val % 4) + b)) := by
  unfold outA tA; frame_out
  canon_tiles x hx
  · idx_vars x
    obtain rfl : x0 = 0 := Subsingleton.elim _ _
    obtain rfl : x1 = 0 := Subsingleton.elim _ _
    refine (up4_at p (1024 * (t.val / 4)) (704 * (t.val % 4)) _ _ (xnA H t) (hiW H t) x2 x3).trans ?_
    exact congrArg₂ p.gu (by omega) (by omega)
  · idx_vars x
    obtain rfl : x0 = 0 := Subsingleton.elim _ _
    obtain rfl : x1 = 0 := Subsingleton.elim _ _
    refine (gate4_at p (1024 * (t.val / 4)) (704 * (t.val % 4)) _ _ (xnA H t) (loW H t) x2 x3).trans ?_
    exact congrArg₂ p.gu (by omega) (by omega)

theorem A6 (hA : t.val % 4 = 0) (a k : Fin 1024) :
    (outA m c t hA).2.2 (ix2 a k) = p.x (1024 * (t.val / 4) + a) k + p.term (t.val % 4) (1024 * (t.val / 4) + a) k := by
  unfold outA tA; frame_out
  exact add_at p (1024 * (t.val / 4)) (704 * (t.val % 4)) _ _ _ _ (xnA H t) (loW H t) (hiW H t) (b3_at H t) a (t.val % 4) rfl _ k _ (b0_at H t a k)

/-! ## At the later points -/

section later

variable (hB : ¬t.val % 4 = 0) (o : Outs Ideal) (ho : ∀ a k : Fin 1024, o.1 (ix2 a k) = p.xn (1024 * (t.val / 4) + a) k)
include ho

theorem B5 (h : Fin 2) (a : Fin 1024) (b : Fin 704) :
    (outB m c t hB o).2.1 (ix4 h 0 a b) = p.gu (1024 * (t.val / 4) + a) (2816 * h + (704 * (t.val % 4) + b)) := by
  unfold outB tB; frame_out
  canon_tiles x hx
  · idx_vars x
    obtain rfl : x0 = 0 := Subsingleton.elim _ _
    obtain rfl : x1 = 0 := Subsingleton.elim _ _
    refine (up4_at p (1024 * (t.val / 4)) (704 * (t.val % 4)) _ _ (ho) (hiW H t) x2 x3).trans ?_
    exact congrArg₂ p.gu (by omega) (by omega)
  · idx_vars x
    obtain rfl : x0 = 0 := Subsingleton.elim _ _
    obtain rfl : x1 = 0 := Subsingleton.elim _ _
    refine (gate4_at p (1024 * (t.val / 4)) (704 * (t.val % 4)) _ _ (ho) (loW H t) x2 x3).trans ?_
    exact congrArg₂ p.gu (by omega) (by omega)

theorem B6 (a k : Fin 1024) (s : EReal) (hs : o.2.2 (ix2 a k) = s) :
    (outB m c t hB o).2.2 (ix2 a k) = s + p.term (t.val % 4) (1024 * (t.val / 4) + a) k := by
  unfold outB tB; frame_out
  exact add_at p (1024 * (t.val / 4)) (704 * (t.val % 4)) _ _ _ _ ho (loW H t) (hiW H t) (b3_at H t) a (t.val % 4) rfl _ k _ hs

end later

end Cert.Ffn.K

end
-- ==== Proof.FfnDats.lean ====
/- The pipeline's proof data: every input's buffer stays at its block and every output's holds `outsAt`; what the body finds in the
   two outputs it carries from point to point; and what it is called with and what it returns. -/
module

public import proofs.«01_k».proof.Proof.FfnOuts

@[expose] public section

set_option maxRecDepth 16384

noncomputable section

namespace Cert.Ffn.K

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-- A buffer with pieces written that cover its block is owned at the pieces read back over anything. -/
theorem owns_of_writes {s : Shape} {e : EltTy} {a : Memref sig .tc .vmem s e} {v' : View sig .tc .vmem s e}
    {f f'} (L : List (View.Piece (Elt F) s e)) (h : ∀ y, ∃ pc ∈ L, y ∈ pc.1.set) :
    (iprop(a.view.loc (c : Thread nD τ) ↦[a.view.set]{fullShare} a.view.writes (Elt F) f L) : sProp 𝕄)
      ⊢ owns (c : Thread nD τ) a fullShare (v'.read (Elt F) (v'.writes (Elt F) f' L)) := by
  unfold owns
  iintro H
  iexists _; isplitr
  swap; · iexact H
  ipureintro; exact View.read_writes_of_cover _ _ _ _ _ h

/-! ## The pipeline's proof data -/

/-- The proof data: the arrays as the launch finds them, each input's buffer at its block after every point, the
    outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
    | ⟨6, _⟩ => (outsAt m c t.val t.isLt).2.2
    | ⟨_ + 7, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = (outsAt m c t.val t.isLt).1 := by dsimp only [dats]
theorem after_5 (t : Fin cfg0.N) : (dats m 0 c).after 5 t = (outsAt m c t.val t.isLt).2.1 := by dsimp only [dats]
theorem after_6 (t : Fin cfg0.N) : (dats m 0 c).after 6 t = (outsAt m c t.val t.isLt).2.2 := by dsimp only [dats]

theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d

/-- A point's number. -/
theorem point_lt : t.val < 16 := lt_of_lt_of_eq t.isLt (show cfg0.N = 16 from N_0)

/-- The normalised rows are stored at the points that start a row tile and left alone at the others. -/
theorem idle_4 (h0 : ¬t.val % 4 = 0) : cfg0.idle 4 (cfg0.grid.coords t) = true := by
  have h : ¬cond0_0 (grid0.coords t) := fun h => h0 ((hcond0_0 t).mp h)
  show (!(k0_cond1 (grid0.coords t) == 1#1)) = true
  rw [Bool.not_eq_true', beq_eq_false_iff_ne]
  exact h

theorem live_4 (h0 : t.val % 4 = 0) : cfg0.idle 4 (cfg0.grid.coords t) = false := by
  have h : cond0_0 (grid0.coords t) := (hcond0_0 t).mpr h0
  show (!(k0_cond1 (grid0.coords t) == 1#1)) = false
  rw [Bool.not_eq_false', beq_iff_eq]
  exact h

theorem flush_4 (h : ¬t.val % 4 = 3) : (cfg0.win 4).flush t = false :=
  Bool.eq_false_iff.mpr fun h' => h ((flush0_4 t).mp h')

/-- So at the later points of a row tile their buffer still holds what the tile's first point stored. -/
theorem before_4 : ∀ (n : ℕ) (hn : n < cfg0.N) (h0 : ¬n % 4 = 0) (d), (dats m 0 c).before 4 ⟨n, hn⟩ d
    = (outsAt m c (n - 1) (Nat.lt_of_le_of_lt (Nat.sub_le _ _) hn)).1
  | 0, hn, h0, d => absurd (Nat.zero_mod 4) h0
  | n + 1, hn, h0, d => by
    have hn' : n < cfg0.N := Nat.lt_of_succ_lt hn
    rw [Dat.before_of_pos _ 4 ⟨n + 1, hn⟩ (Nat.succ_ne_zero n) ((cfg0.win 4).fetch_out rfl _)]
    show (if (cfg0.win 4).flush ⟨n, hn'⟩ then d else (dats m 0 c).left 4 ⟨n, hn'⟩ d) = (outsAt m c n hn').1
    rw [flush_4 ⟨n, hn'⟩ (by show ¬n % 4 = 3; omega), if_neg Bool.false_ne_true]
    unfold Dat.left
    by_cases h : n % 4 = 0
    · rw [live_4 ⟨n, hn'⟩ h]
      show (dats m 0 c).kept 4 ⟨n, hn'⟩ d = _
      unfold Dat.kept
      rw [Pipeline.fill_of_clip_none 4 _ (fun _ => rfl) d ((dats m 0 c).after 4 ⟨n, hn'⟩), Window.fill_cut]
      exact after_4 m c ⟨n, hn'⟩
    · rw [idle_4 ⟨n, hn'⟩ h]
      show (dats m 0 c).before 4 ⟨n, hn'⟩ d = _
      rw [before_4 n hn' h d]
      have e := outsAt_B_fst m c ⟨n, hn'⟩ h
      dsimp only at e
      rw [e]

theorem before_6 (h0 : ¬t.val % 4 = 0) (d) : (dats m 0 c).before 6 t d
    = (outsAt m c (t.val - 1) (Nat.lt_of_le_of_lt (Nat.sub_le _ _) t.isLt)).2.2 := by
  have hN := point_lt t
  rw [Dat.before_out_kept _ 6 rfl t (by omega) (Bool.eq_false_iff.mpr fun h => by
    have := (flush0_6 _).mp h; dsimp only at this; omega) (fun _ => rfl) (fun _ _ => rfl)]
  dsimp only [dats]

/-! ## The body at every point -/

/-- What the body is called with at point `t`, -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t
    ∗ owns (c : Thread nD τ) (ms0_5 t) fullShare ((dats m 0 c).after 5 t)
    ∗ owns (c : Thread nD τ) (ms0_6 t) fullShare ((dats m 0 c).after 6 t))

end Cert.Ffn.K

end
-- ==== Proof.FfnArrays.lean ====
/- The arrays the forward feed-forward kernel ends with: the normalised rows, each block of the projection, and the result, which
   four points of the grid add up. -/
module

public import proofs.«01_k».proof.Proof.FfnWin
public import proofs.«01_k».proof.Proof.FfnDats

@[expose] public section

set_option maxRecDepth 16384

noncomputable section

namespace Cert.Ffn.K

open Cert.Kernel7Ideal Cert.Kernel7Ideal.Gen
open Idealize.ShloMosaic Idealize.ShloMosaic.TcCoe Idealize.ShloMosaic.Tactic Idealize.SL.Sem

variable {m : (ℓ : Loc nD τ sig) → Buf (Elt Ideal) ℓ} {c : Dev nD} {p : Inp} (H : Holds p m c)

include H

/-- Every point of a row tile leaves the tile's normalised rows. -/
theorem at4 : ∀ (n : ℕ) (hn : n < cfg0.N) (a k : Fin 1024), (outsAt m c n hn).1 (ix2 a k) = p.xn (1024 * (n / 4) + a) k
  | 0, hn, a, k => by
    rw [outsAt_A m c ⟨0, hn⟩ (Nat.zero_mod 4)]
    exact A4 H ⟨0, hn⟩ (Nat.zero_mod 4) a k
  | n + 1, hn, a, k => by
    by_cases h : (n + 1) % 4 = 0
    · rw [outsAt_A m c ⟨n + 1, hn⟩ h]
      exact A4 H ⟨n + 1, hn⟩ h a k
    · have e := outsAt_B_fst m c ⟨n + 1, hn⟩ h
      dsimp only at e
      rw [e]
      refine (at4 n (Nat.lt_of_succ_lt hn) a k).trans ?_
      rw [show (n + 1) / 4 = n / 4 by omega]

/-- What a later point finds of them. -/
theorem found4 (t : Fin cfg0.N) (h : ¬t.val % 4 = 0) (a k : Fin 1024) :
    (outsAt m c (t.val - 1) (Nat.lt_of_le_of_lt (Nat.sub_le _ _) t.isLt)).1 (ix2 a k) = p.xn (1024 * (t.val / 4) + a) k := by
  refine (at4 H _ _ a k).trans ?_
  rw [show (t.val - 1) / 4 = t.val / 4 by omega]

theorem at5 (t : Fin cfg0.N) (h : Fin 2) (a : Fin 1024) (b : Fin 704) :
    (outsAt m c t.val t.isLt).2.1 (ix4 h 0 a b) = p.gu (1024 * (t.val / 4) + a) (2816 * h + (704 * (t.val % 4) + b)) := by
  by_cases h0 : t.val % 4 = 0
  · rw [outsAt_A m c t h0]; exact A5 H t h0 h a b
  · rw [outsAt_B m c t h0]; exact B5 H t h0 _ (found4 H t h0) h a b

/-- After the point at column run `f` the result's block holds the rows and the first `f + 1` runs' terms. -/
theorem at6 : ∀ (n : ℕ) (hn : n < cfg0.N) (a k : Fin 1024), (outsAt m c n hn).2.2 (ix2 a k)
    = p.x (1024 * (n / 4) + a) k + ∑ s ∈ Finset.range (n % 4 + 1), p.term s (1024 * (n / 4) + a) k
  | 0, hn, a, k => by
    rw [outsAt_A m c ⟨0, hn⟩ (Nat.zero_mod 4), A6 H ⟨0, hn⟩ (Nat.zero_mod 4) a k, Finset.sum_range_one]
    rfl
  | n + 1, hn, a, k => by
    by_cases h : (n + 1) % 4 = 0
    · rw [outsAt_A m c ⟨n + 1, hn⟩ h, A6 H ⟨n + 1, hn⟩ h a k]
      show _ + p.term ((n + 1) % 4) (1024 * ((n + 1) / 4) + a) k = _
      rw [h, zero_add, Finset.sum_range_one]
    · rw [outsAt_B m c ⟨n + 1, hn⟩ h, B6 H ⟨n + 1, hn⟩ h _ (found4 H ⟨n + 1, hn⟩ h) a k _ (at6 n (Nat.lt_of_succ_lt hn) a k)]
      show _ + p.term ((n + 1) % 4) (1024 * ((n + 1) / 4) + a) k = _
      rw [Finset.sum_range_succ _ ((n + 1) % 4), show (n + 1) % 4 = n % 4 + 1 by omega, show (n + 1) / 4 = n / 4 by omega, add_assoc]

theorem arr4 : (dats m 0 c).arrAt 4 cfg0.N = o4 p := by
  refine (dats m 0 c).arrAt_eq_of_covers 4 _ (by decide +kernel) fun t hf y => ?_
  blk_simp
  rw [after_4]
  revert y
  show ∀ y : S1024x1024.Idx, _
  intro y
  idx_vars y
  rw [show (outsAt m c t.val t.isLt).1 (ix2 y0 y1) = _ from at4 H t.val t.isLt y0 y1]
  show _ = p.xn _ _
  refine congrArg₂ p.xn ?_ ?_
  · blk_simp [idx_win t]
    omega
  · blk_simp [idx_win t]

theorem arr5 : (dats m 0 c).arrAt 5 cfg0.N = o5 p := by
  refine (dats m 0 c).arrAt_eq_of_covers 5 _ (by decide +kernel) fun t hf y => ?_
  blk_simp
  rw [after_5]
  revert y
  show ∀ y : S2x1x1024x704.Idx, _
  intro y
  idx_vars y
  obtain rfl : y1 = 0 := Subsingleton.elim _ _
  rw [show (outsAt m c t.val t.isLt).2.1 (ix4 y0 0 y2 y3) = _ from at5 H t y0 y2 y3]
  show _ = p.gu _ _
  refine congrArg₂ p.gu ?_ ?_
  · blk_simp [idx_win t]
    omega
  · blk_simp [idx_win t]
    omega

theorem arr6 : (dats m 0 c).arrAt 6 cfg0.N = o6 p := by
  refine (dats m 0 c).arrAt_eq_of_covers 6 _ (by decide +kernel) fun t hf y => ?_
  have h3 := (flush0_6 t).mp hf
  blk_simp
  rw [after_6]
  revert y
  show ∀ y : S1024x1024.Idx, _
  intro y
  idx_vars y
  rw [show (outsAt m c t.val t.isLt).2.2 (ix2 y0 y1) = _ from at6 H t.val t.isLt y0 y1, h3, p.sum_term]
  show _ = p.y _ _
  refine congrArg₂ p.y ?_ ?_
  · blk_simp [idx_win t]
    omega
  · blk_simp [idx_win t]

end Cert.Ffn.K

end
-- ==== Proof.FfnSound.lean ====
/- The body at every grid point: the point's run applies to what the body is called with and leaves what it returns. -/
module

public import proofs.«01_k».proof.Proof.FfnDats

@[expose] public section

set_option maxRecDepth 16384

noncomputable section

namespace Cert.Ffn.K

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

set_option maxHeartbeats 2000000 in
/-- At a row tile's first point the inputs' buffers hold their blocks, so that point's run applies. -/
theorem sound_A (h0 : t.val % 4 = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_5, after_6]
  rw [show (dats m 0 c).leavesExact 4 t = owns (c : Thread nD τ) (ms0_4 t) fullShare ((dats m 0 c).after 4 t) from by
    unfold Dat.leavesExact; rw [live_4 t h0], after_4]
  rw [outsAt_A m c t h0]
  unfold outA; (try dsimp only)
  have cov4 := coverA_4 m c t h0
  have cov5 := coverA_5 m c t h0
  have cov6 := coverA_6 m c t h0
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((tA m c t h0).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (owns_of_writes c _ cov4); iexact H4
  isplitl [H5]
  · iapply (owns_of_writes c _ cov5); iexact H5
  iapply (owns_of_writes c _ cov6); iexact H6

/-- The normalised rows' buffer, left as it was found, is what the later point is to leave. -/
theorem leaves_4 (h0 : ¬t.val % 4 = 0) :
    (owns (c : Thread nD τ) (ms0_4 t) fullShare (outsAt m c (t.val - 1) (Nat.lt_of_le_of_lt (Nat.sub_le _ _) t.isLt)).1 : sProp 𝕄)
      ⊢ (dats m 0 c).leavesExact 4 t := by
  by_cases h3 : t.val % 4 = 3
  · rw [show (dats m 0 c).leavesExact 4 t = owns (c : Thread nD τ) (ms0_4 t) fullShare ((dats m 0 c).after 4 t) from by
      unfold Dat.leavesExact; rw [idle_4 t h0, (flush0_4 t).mpr h3], after_4, outsAt_B_fst m c t h0]
  · rw [Dat.leavesExact_idle _ 4 t (idle_4 t h0) (flush_4 t h3)]
    iintro H
    iexists (outsAt m c t.val t.isLt).1
    rw [before_4 m c t.val t.isLt h0]
    iexact H

set_option maxHeartbeats 2000000 in
/-- At a later point the two carried outputs' buffers hold what the point before left, so that point's run applies. -/
theorem sound_B (h0 : ¬t.val % 4 = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_5, after_6]
  have lv := leaves_4 m c t h0
  simp only [before_4 m c t.val t.isLt h0, before_6 m c t h0]
  rw [outsAt_B m c t h0]
  generalize outsAt m c (t.val - 1) (Nat.lt_of_le_of_lt (Nat.sub_le _ _) t.isLt) = o at lv ⊢
  unfold outB; (try dsimp only)
  have cov5 := coverB_5 m c t h0 o
  have cov6 := coverB_6 m c t h0 o
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((tB m c t h0 o).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply lv; iexact H4
  isplitl [H5]
  · iapply (owns_of_writes c _ cov5); iexact H5
  iapply (owns_of_writes c _ cov6); iexact H6

end Cert.Ffn.K

end
-- ==== Proof.FfnFrame.lean ====
/- The forward feed-forward kernel's run with every output array named, and its frame (arguments unchanged, counters at zero). -/
module

public import proofs.«01_k».proof.Proof.FfnSound

@[expose] public section

set_option maxRecDepth 16384

noncomputable section

namespace Cert.Ffn.K

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-- The body at any point. -/
theorem sound_body :
    bodyPre m c t ⊢ wp frame (wpE (defs₀ (F := F)) Variants.none c none) Set.univ (bodyAt0 t) (fun _ => bodyPost m c t) := by
  by_cases h0 : t.val % 4 = 0
  · exact sound_A m c t h0
  · exact sound_B m c t h0

/-- The body table's row at point `t` is the body over the point's buffers. -/
theorem defs₀_row : defs₀ (F := F) .tc cfg0.body (cfg0.bodyArgs t (cfg0.slots t)) = bodyAt0 t := by
  unfold defs₀; rw [Defs.onTc_tc]

set_option maxHeartbeats 4000000 in
/-- The body at every point, as the pipeline asks it. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs to completion; every array of the pipeline ends at what the proof data say, every other buffer as
    the launch found it, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The four arguments end as they were launched, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_quiescent m ρ))

/-- and so does every counter: the frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiescent m ρ))

/-- The run with each output array named. -/
theorem run_arrays : θ_run defs (onTc (τ := τ) (main (F := F))) ⟨m, fun _ => 0, ρ⟩ (fun r => ∀ c : Dev nD,
      (r.2.mem ((c.tc : Thread nD τ).loc main_v5_0) = (dats m 0 c).arrAt 4 cfg0.N
      ∧ r.2.mem ((c.tc : Thread nD τ).loc main_v5_1) = (dats m 0 c).arrAt 5 cfg0.N
      ∧ r.2.mem ((c.tc : Thread nD τ).loc main_v5_2) = (dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨⟨(h.1.1 c).1 4, (h.1.1 c).1 5, (h.1.1 c).1 6⟩, h.2 c⟩)
    (θ_run_and (run_quiescent m ρ) (unchanged m ρ))

end Cert.Ffn.K

end
-- ==== Proof.FfnRef.lean ====
/- The forward feed-forward block's reference, one array at a time, read at the model. -/
module

public import proofs.«01_k».proof.Proof.FfnModel
public import proofs.«01_k».proof.Proof.Gen.Reference7Ideal.Read
public import Idealize.ShloMosaic.Lib.Pipeline.ValueKit

@[expose] public section

set_option maxRecDepth 16384

noncomputable section

namespace Cert.Ffn.R

open Cert.Reference7Ideal Cert.Reference7Ideal.Gen Cert.Reference7Ideal.Read
open Idealize.ShloMosaic Idealize.ShloMosaic.TcCoe Idealize.ShloMosaic.Tactic Idealize.SL.Sem

/-- The reference's arguments, holding the numbers of `p`. -/
structure Args (p : Inp) where
  x0 : FVec Ideal S4096x1024 .f32
  x1 : FVec Ideal S1024 .f32
  x2 : FVec Ideal S1024x5632 .f32
  x3 : FVec Ideal S2816x1024 .f32
  a0 : ∀ (r : Fin 4096) (j : Fin 1024), x0 (ix2 r j) = p.x r j
  a1 : ∀ (j : Fin 1024), x1 (ix1 j) = p.g j
  a2 : ∀ (k : Fin 1024) (j : Fin 5632), x2 (ix2 k j) = p.w k j
  a3 : ∀ (j : Fin 2816) (k : Fin 1024), x3 (ix2 j k) = p.v j k

variable {p : Inp} (A : Args p)

theorem v12_at (r : Fin 4096) (k : Fin 1024) : val_main_v12 (F := Ideal) A.x0 A.x1 (ix2 r k) = p.xn r k := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0, A.a0, A.a1, zero_add]
  rfl

theorem v13_at (r : Fin 4096) (j : Fin 5632) : val_main_v13 (F := Ideal) A.x0 A.x1 A.x2 (ix2 r j) = p.gu r j := by
  pointwise [val_main_v13, v12_at A, A.a2]
  rfl

theorem v14_at (r : Fin 4096) (j : Fin 2816) : val_main_v14 (F := Ideal) A.x0 A.x1 A.x2 (ix2 r j) = p.gu r j := by
  pointwise [val_main_v14, v13_at A]

theorem v15_at (r : Fin 4096) (j : Fin 2816) : val_main_v15 (F := Ideal) A.x0 A.x1 A.x2 (ix2 r j) = p.gu r (2816 + j) := by
  pointwise [val_main_v15, v13_at A]

theorem v17_at (r : Fin 4096) (j : Fin 2816) : val_main_v17 (F := Ideal) A.x0 A.x1 A.x2 (ix2 r j) = p.act r j := by
  pointwise [val_main_v17, val_main_v16, val_main_call0_v5, val_main_call0_v4, val_main_call0_cst_0, val_main_call0_v3, val_main_call0_v2,
    val_main_call0_cst, val_main_call0_v1, val_main_call0_v0, v14_at A, v15_at A]
  rfl

theorem v19_at (r : Fin 4096) (k : Fin 1024) : val_main_v19 (F := Ideal) A.x0 A.x1 A.x2 A.x3 (ix2 r k) = p.y r k := by
  pointwise [val_main_v19, val_main_v18, v17_at A, A.a0, A.a3]
  rfl

theorem v20_at (r : Fin 4096) (k : Fin 1024) : val_main_v20 (F := Ideal) A.x0 A.x1 (ix2 r k) = p.xn r k := by
  pointwise [val_main_v20, v12_at A]

theorem v23_at (h : Fin 2) (f : Fin 4) (r : Fin 4096) (b : Fin 704) :
    val_main_v23 (F := Ideal) A.x0 A.x1 A.x2 (ix4 h f r b) = p.gu r (2816 * h + (704 * f + b)) := by
  refine Eq.trans ?_ (v13_at A r ⟨2816 * h + (704 * f + b), by omega⟩)
  pointwise [val_main_v23, val_main_v22, val_main_v21]
  exact congrArg _ (congrArg₂ ix2 rfl (Fin.ext (by show h.val * 2816 + f.val * 704 + b.val = 2816 * h.val + (704 * f.val + b.val); omega)))

end Cert.Ffn.R

end
-- ==== Proof.FfnResults.lean ====
/- The reference's run of the forward feed-forward block: it ends with the model's arrays in its results. -/
module

public import proofs.«01_k».proof.Proof.FfnRef
public import proofs.«01_k».proof.Proof.Gen.Reference7Ideal.Run

@[expose] public section

set_option maxRecDepth 16384

noncomputable section

namespace Cert.Ffn.R

open Cert.Reference7Ideal Cert.Reference7Ideal.Gen Cert.Reference7Ideal.Read
open Idealize.ShloMosaic Idealize.ShloMosaic.TcCoe Idealize.ShloMosaic.Tactic Idealize.SL.Sem

theorem r20 {p : Inp} (A : Args p) : val_main_v20 (F := Ideal) A.x0 A.x1 = o4 p := by
  funext i
  idx_vars i
  exact v20_at A _ _

theorem r23 {p : Inp} (A : Args p) : val_main_v23 (F := Ideal) A.x0 A.x1 A.x2 = o5 p := by
  funext i
  idx_vars i
  exact v23_at A _ _ _ _

theorem r19 {p : Inp} (A : Args p) : val_main_v19 (F := Ideal) A.x0 A.x1 A.x2 A.x3 = o6 p := by
  funext i
  idx_vars i
  exact v19_at A _ _

/-- A function of three equal arguments, -/
theorem arg3 {a b d f : Type} (g : a → b → d → f) {x x' : a} {y y' : b} {z z' : d} (hx : x = x') (hy : y = y') (hz : z = z') :
    g x y z = g x' y' z' := by rw [hx, hy, hz]

/-- and of four. -/
theorem arg4 {a b d e f : Type} (g : a → b → d → e → f) {x x' : a} {y y' : b} {z z' : d} {w w' : e} (hx : x = x') (hy : y = y')
    (hz : z = z') (hw : w = w') : g x y z w = g x' y' z' w' := by rw [hx, hy, hz, hw]

/-- The memory holds the arguments. -/
structure Reads {p : Inp} (A : Args p) (m : (ℓ : Loc nD τ sig) → Buf (Elt Ideal) ℓ) (c : Dev nD) : Prop where
  e0 : m ((c.tc : Thread nD τ).loc main_arg0) = A.x0
  e1 : m ((c.tc : Thread nD τ).loc main_arg1) = A.x1
  e2 : m ((c.tc : Thread nD τ).loc main_arg2) = A.x2
  e3 : m ((c.tc : Thread nD τ).loc main_arg3) = A.x3

variable (m : (ℓ : Loc nD τ sig) → Buf (Elt Ideal) ℓ) (ρ : Dev nD → PrngReg)

theorem run_results {p : Dev nD → Inp} {A : ∀ c, Args (p c)} (E : ∀ c, Reads (A c) m c) :
    θ_run defs (onTc (τ := τ) (main (F := Ideal))) ⟨m, fun _ => 0, ρ⟩ fun r => ∀ c : Dev nD,
      r.2.mem ((c.tc : Thread nD τ).loc main_v20) = o4 (p c)
      ∧ r.2.mem ((c.tc : Thread nD τ).loc main_v23) = o5 (p c)
      ∧ r.2.mem ((c.tc : Thread nD τ).loc main_v19) = o6 (p c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
    (h c).1.trans ((val_main_v20_eq _ _).trans ((congrArg₂ (val_main_v20 (F := Ideal)) (E c).e0 (E c).e1).trans (r20 (A c)))),
    (h c).2.1.trans ((val_main_v23_eq _ _ _).trans ((arg3 (val_main_v23 (F := Ideal)) (E c).e0 (E c).e1 (E c).e2).trans (r23 (A c)))),
    (h c).2.2.1.trans ((val_main_v19_eq _ _ _ _).trans ((arg4 (val_main_v19 (F := Ideal)) (E c).e0 (E c).e1 (E c).e2 (E c).e3).trans (r19 (A c)))),
    (h c).2.2.2⟩) (Cert.Reference7Ideal.Value.run (F := Ideal) m ρ)

end Cert.Ffn.R

end
-- ==== Proof.FfnClaims.lean ====
/- The claims about the forward feed-forward block that need its run or its model: the two frames, and the equality of the three
   results. -/
module

public import proofs.«01_k».proof.Defs
public import proofs.«01_k».proof.Proof.FfnArrays
public import proofs.«01_k».proof.Proof.FfnFrame
public import proofs.«01_k».proof.Proof.FfnResults
public import Idealize.ShloMosaic.Lib.Quiescent
public import Idealize.ShloMosaic.Adequacy
public import Idealize.ShloMosaic.Init

@[expose] public section

set_option maxRecDepth 16384

noncomputable section

namespace Cert.Ffn

open Idealize.ShloMosaic Idealize.ShloMosaic.TcCoe Idealize.SL.Sem Idealize.ShloMosaic.StableHlo

/-- The reference leaves its arguments as they were and every counter at zero. -/
theorem reference_frame : quiescent_Reference7Ideal := fun m ρ _ =>
  (θ_run Reference7Ideal.defs _ _).mono (fun r h => And.intro (fun c => (h c).2.2.2)
    (Idealize.ShloMosaic.sem_eq_zero_of_no_sems (by decide) r.2)) (Reference7Ideal.Value.run (F := Ideal) m ρ)

/-- And so does the kernel. -/
theorem kernel_frame : quiescent_Kernel7Ideal := fun m ρ _ => K.frame (F := Ideal) m ρ

section

open Cert.Kernel7Ideal

variable (m : (ℓ : Loc nD τ sig) → Buf (Elt Ideal) ℓ) (c : Dev nD)

/-- The kernel's arguments' entries. -/
def kinp : Inp := inp (m ((c : Thread nD τ).loc main_arg0)) (m ((c : Thread nD τ).loc main_arg1)) (m ((c : Thread nD τ).loc main_arg2))
  (m ((c : Thread nD τ).loc main_arg3))

/-- The kernel's memory holds them, -/
theorem holds : K.Holds (kinp m c) m c where
  a0 r j := by dsimp only [kinp, inp]; rw [dif_pos ⟨r.isLt, j.isLt⟩]
  a1 j := by dsimp only [kinp, inp]; rw [dif_pos j.isLt]
  a2 k j := by dsimp only [kinp, inp]; rw [dif_pos ⟨k.isLt, j.isLt⟩]
  a3 j k := by dsimp only [kinp, inp]; rw [dif_pos ⟨j.isLt, k.isLt⟩]

/-- and they are arguments for the reference. -/
def args : R.Args (kinp m c) where
  x0 := m ((c : Thread nD τ).loc main_arg0)
  x1 := m ((c : Thread nD τ).loc main_arg1)
  x2 := m ((c : Thread nD τ).loc main_arg2)
  x3 := m ((c : Thread nD τ).loc main_arg3)
  a0 := (holds m c).a0
  a1 := (holds m c).a1
  a2 := (holds m c).a2
  a3 := (holds m c).a3

end

/-- At every input the kernel's results are the reference's. -/
theorem agree : algebraic_Kernel7Ideal_Reference7Ideal := by
  intro m ρ m' ρ' _ hagree
  have H := fun c => holds m c
  refine ⟨fun c => o4 (kinp m c), fun c => o5 (kinp m c), fun c => o6 (kinp m c), ?_, ?_⟩
  · exact (θ_run Kernel7Ideal.defs _ _).mono (fun r h c =>
        And.intro ((h c).1.1.trans (K.arr4 (H c))) <| And.intro ((h c).1.2.1.trans (K.arr5 (H c))) <|
        And.intro ((h c).1.2.2.trans (K.arr6 (H c))) (h c).2)
        (K.run_arrays (F := Ideal) m ρ)
  · refine R.run_results m' ρ' (p := fun c => kinp m c) (A := fun c => args m c) fun c => ?_
    obtain ⟨e0, e1, e2, e3⟩ := hagree c
    exact ⟨e0, e1, e2, e3⟩

end Cert.Ffn

end
-- ==== Proof.AdamModel.lean ====
/- One step of AdamW, entry by entry over extended reals: the gradient, summed over four parts; the two moments; the change of the
   weight. -/
module

public import Idealize.ShloMosaic.Lib.Claim
public import Idealize.ShloMosaic.Lib.Pipeline.ValueKit

@[expose] public section

set_option maxRecDepth 16384

noncomputable section

namespace Cert.Adam

open Idealize.ShloMosaic Idealize.ShloMosaic.TcCoe Idealize.ShloMosaic.Tactic Idealize.SL.Sem

/-- The first moment after the step. -/
def moment1 (g m : EReal) : EReal := Ideal.ofBits .f32 0x3F666666#32 * m + Ideal.ofBits .f32 0x3DCCCCCD#32 * g

/-- The second moment after the step. -/
def moment2 (g v : EReal) : EReal := Ideal.ofBits .f32 0x3F7FBE77#32 * v + Ideal.ofBits .f32 0x3A83126F#32 * (g * g)

/-- The change of the weight: the corrected first moment over the corrected second's root, and the weight's decay. -/
def change (w g m v : EReal) : EReal :=
  Ideal.ofBits .f32 0xBA83126F#32 * (Ideal.div (Ideal.div (moment1 g m) (Ideal.ofBits .f32 0x3F26BD02#32))
    (Ideal.sqrt (Ideal.div (moment2 g v) (Ideal.ofBits .f32 0x3C231ACC#32)) + Ideal.ofBits .f32 0x322BCC77#32)
    + Ideal.ofBits .f32 0x3C23D70A#32 * w)

/-- The numbers that a step of one weight starts from: the device's own part of the gradient and the three it received, the
    weight and its two moments, by row and column. -/
structure Shard where
  k : ℕ → ℕ → EReal
  r : ℕ → ℕ → ℕ → EReal
  w : ℕ → ℕ → EReal
  m : ℕ → ℕ → EReal
  v : ℕ → ℕ → EReal

namespace Shard

variable (p : Shard) (a b : ℕ)

/-- The gradient: the four parts' sum. -/
def g : EReal := p.k a b + p.r 0 a b + p.r 1 a b + p.r 2 a b

def newM : EReal := moment1 (p.g a b) (p.m a b)
def newV : EReal := moment2 (p.g a b) (p.v a b)
def delta : EReal := change (p.w a b) (p.g a b) (p.m a b) (p.v a b)

end Shard

/-- An array's entries by natural row and column, zero outside the array. -/
def ent2 {R C : ℕ} (x : Fin R → Fin C → EReal) (a b : ℕ) : EReal := if h : a < R ∧ b < C then x ⟨a, h.1⟩ ⟨b, h.2⟩ else 0

theorem ent2_at {R C : ℕ} (x : Fin R → Fin C → EReal) (a : Fin R) (b : Fin C) : ent2 x a b = x a b := by
  unfold ent2; rw [dif_pos ⟨a.isLt, b.isLt⟩]

/-- The same of an array with a leading axis. -/
def ent3 {D R C : ℕ} (x : Fin D → Fin R → Fin C → EReal) (d a b : ℕ) : EReal := if h : d < D then ent2 (x ⟨d, h⟩) a b else 0

theorem ent3_at {D R C : ℕ} (x : Fin D → Fin R → Fin C → EReal) (d : Fin D) (a : Fin R) (b : Fin C) :
    ent3 x d a b = x d a b := by
  unfold ent3; rw [dif_pos d.isLt]; exact ent2_at _ a b

end Cert.Adam

end
-- ==== Proof.AdamConv.lean ====
/- AdamW of `conv_w`, one device's columns: what the kernel leaves in its three results is what the reference computes, entry by
   entry. -/
module

public import proofs.«01_k».proof.Defs
public import proofs.«01_k».proof.Proof.AdamModel
public import proofs.«01_k».proof.Proof.Gen.Kernel8Ideal.Value
public import proofs.«01_k».proof.Proof.Gen.Reference8Ideal.Run
public import Idealize.ShloMosaic.Lib.Claim
public import Idealize.ShloMosaic.Lib.Quiescent
public import Idealize.ShloMosaic.Lib.Pipeline.ValueKit
public import Idealize.ShloMosaic.Adequacy
public import Idealize.ShloMosaic.Init

@[expose] public section

set_option maxRecDepth 16384

noncomputable section

namespace Cert.Adam.Conv

open Idealize.ShloMosaic Idealize.ShloMosaic.TcCoe Idealize.ShloMosaic.Tactic Idealize.SL.Sem Idealize.ShloMosaic.StableHlo

/-- The three results, entry by entry. -/
def delta (w g m v : FVec Ideal Cert.Kernel8Ideal.S3x64 .f32) : FVec Ideal Cert.Kernel8Ideal.S3x64 .f32 :=
  fun i => change (w i) (g i) (m i) (v i)
def newM (g m : FVec Ideal Cert.Kernel8Ideal.S3x64 .f32) : FVec Ideal Cert.Kernel8Ideal.S3x64 .f32 := fun i => moment1 (g i) (m i)
def newV (g v : FVec Ideal Cert.Kernel8Ideal.S3x64 .f32) : FVec Ideal Cert.Kernel8Ideal.S3x64 .f32 := fun i => moment2 (g i) (v i)

section Reference

open Cert.Reference8Ideal Cert.Reference8Ideal.Gen

/-- The reference returns them. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v23) = delta (m ((c : Thread nD τ).loc main_arg0)) (m ((c : Thread nD τ).loc main_arg1))
        (m ((c : Thread nD τ).loc main_arg2)) (m ((c : Thread nD τ).loc main_arg3))
      ∧ r.2.mem ((c : Thread nD τ).loc main_v4) = newM (m ((c : Thread nD τ).loc main_arg1)) (m ((c : Thread nD τ).loc main_arg2))
      ∧ r.2.mem ((c : Thread nD τ).loc main_v10) = newV (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Reference8Ideal.Value.run (F := Ideal) m ρ)
  obtain ⟨h0, h1, h2, hk⟩ := h c
  refine ⟨?_, ?_, ?_, hk⟩
  · rw [h0]
    funext i
    idx_vars i
    pointwise []
    rfl
  · rw [h1]
    funext i
    idx_vars i
    pointwise []
    rfl
  · rw [h2]
    funext i
    idx_vars i
    pointwise []
    rfl

/-- The reference leaves its arguments as they were and every counter at zero. -/
theorem reference_frame : quiescent_Reference8Ideal := fun m ρ _ =>
  (θ_run Reference8Ideal.defs _ _).mono (fun r h => And.intro (fun c => (h c).2.2.2)
    (Idealize.ShloMosaic.sem_eq_zero_of_no_sems (by decide) r.2)) (Reference8Ideal.Value.run (F := Ideal) m ρ)

end Reference

open Cert.Kernel8Ideal Cert.Kernel8Ideal.Gen

/-- At every input the kernel's results are the reference's. -/
theorem agree : algebraic_Kernel8Ideal_Reference8Ideal := by
  intro m ρ m' ρ' _ hagree
  refine ⟨fun c => delta (m ((c : Thread nD τ).loc main_arg0)) (m ((c : Thread nD τ).loc main_arg1))
        (m ((c : Thread nD τ).loc main_arg2)) (m ((c : Thread nD τ).loc main_arg3)),
      fun c => newM (m ((c : Thread nD τ).loc main_arg1)) (m ((c : Thread nD τ).loc main_arg2)),
      fun c => newV (m ((c : Thread nD τ).loc main_arg1)) (m ((c : Thread nD τ).loc main_arg3)), ?_, ?_⟩
  · refine (θ_run Kernel8Ideal.defs _ _).mono (fun r h c => ?_) (Kernel8Ideal.Value.run (F := Ideal) m ρ)
    obtain ⟨h0, h1, h2, hk⟩ := h c
    exact ⟨h0.trans rfl, h1.trans rfl, h2.trans rfl, hk⟩
  · refine (θ_run Reference8Ideal.defs _ _).mono (fun r h c => ?_) (reference_run m' ρ')
    obtain ⟨e0, e1, e2, e3⟩ := hagree c
    obtain ⟨h0, h1, h2, hk⟩ := h c
    rw [e0, e1, e2, e3] at h0
    rw [e1, e2] at h1
    rw [e1, e3] at h2
    exact ⟨h0, h1, h2, hk⟩

end Cert.Adam.Conv

end
-- ==== Proof.AdamSquare.lean ====
/- AdamW on one device's rows of three square weights, those of the gated block's output projection and of attention's two
   square projections: what the kernel leaves in its twelve results is what the reference computes, entry by entry. -/
module

public import proofs.«01_k».proof.Defs
public import proofs.«01_k».proof.Proof.AdamModel
public import proofs.«01_k».proof.Proof.Gen.Kernel9Ideal.Value
public import proofs.«01_k».proof.Proof.Gen.Reference9Ideal.Run
public import Idealize.ShloMosaic.Lib.Quiescent
public import Idealize.ShloMosaic.Adequacy
public import Idealize.ShloMosaic.Init

@[expose] public section

set_option maxRecDepth 16384
set_option maxHeartbeats 1000000

noncomputable section

namespace Cert.Adam.Square

open Idealize.ShloMosaic Idealize.ShloMosaic.TcCoe Idealize.ShloMosaic.Tactic Idealize.SL.Sem Idealize.ShloMosaic.StableHlo

/-! ## The reference -/

section Reference

open Cert.Reference9Ideal Cert.Reference9Ideal.Gen

local notation "𝔸" => FVec Ideal S128x1024 FTy.f32
local notation "𝔹" => FVec Ideal S3x128x1024 FTy.bf16

/-- The numbers in one weight's five arguments. -/
def numbers (k : 𝔸) (r : 𝔹) (w m v : 𝔸) : Shard where
  k := ent2 fun (a : Fin 128) (b : Fin 1024) => k (ix2 a b)
  r := ent3 fun (d : Fin 3) (a : Fin 128) (b : Fin 1024) => r (ix3 d a b)
  w := ent2 fun (a : Fin 128) (b : Fin 1024) => w (ix2 a b)
  m := ent2 fun (a : Fin 128) (b : Fin 1024) => m (ix2 a b)
  v := ent2 fun (a : Fin 128) (b : Fin 1024) => v (ix2 a b)

/-- An array from its entries. -/
def arr (f : ℕ → ℕ → EReal) : 𝔸 := fun i => f (i 0) (i 1)

/-- What the reference returns, as arrays of the model's numbers. -/
theorem reference_run (m : (ℓ : Loc nD τ sig) → Buf (Elt Ideal) ℓ) (ρ : Dev nD → PrngReg) (p q o : Dev nD → Shard)
    (hp : ∀ c, p c = numbers (m ((c : Thread nD τ).loc main_arg0)) (m ((c : Thread nD τ).loc main_arg1)) (m ((c : Thread nD τ).loc main_arg2)) (m ((c : Thread nD τ).loc main_arg3)) (m ((c : Thread nD τ).loc main_arg4)))
    (hq : ∀ c, q c = numbers (m ((c : Thread nD τ).loc main_arg5)) (m ((c : Thread nD τ).loc main_arg6)) (m ((c : Thread nD τ).loc main_arg7)) (m ((c : Thread nD τ).loc main_arg8)) (m ((c : Thread nD τ).loc main_arg9)))
    (ho : ∀ c, o c = numbers (m ((c : Thread nD τ).loc main_arg10)) (m ((c : Thread nD τ).loc main_arg11)) (m ((c : Thread nD τ).loc main_arg12)) (m ((c : Thread nD τ).loc main_arg13)) (m ((c : Thread nD τ).loc main_arg14))) :
    θ_run defs (onTc (τ := τ) (main (F := Ideal))) ⟨m, fun _ => 0, ρ⟩ fun r => ∀ c : Dev nD,
      r.2.mem ((c : Thread nD τ).loc main_v2) = arr (p c).g
      ∧ r.2.mem ((c : Thread nD τ).loc main_v26) = arr (p c).delta
      ∧ r.2.mem ((c : Thread nD τ).loc main_v7) = arr (p c).newM
      ∧ r.2.mem ((c : Thread nD τ).loc main_v13) = arr (p c).newV
      ∧ r.2.mem ((c : Thread nD τ).loc main_v29) = arr (q c).g
      ∧ r.2.mem ((c : Thread nD τ).loc main_v53) = arr (q c).delta
      ∧ r.2.mem ((c : Thread nD τ).loc main_v34) = arr (q c).newM
      ∧ r.2.mem ((c : Thread nD τ).loc main_v40) = arr (q c).newV
      ∧ r.2.mem ((c : Thread nD τ).loc main_v56) = arr (o c).g
      ∧ r.2.mem ((c : Thread nD τ).loc main_v80) = arr (o c).delta
      ∧ r.2.mem ((c : Thread nD τ).loc main_v61) = arr (o c).newM
      ∧ r.2.mem ((c : Thread nD τ).loc main_v67) = arr (o c).newV
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) := by
  refine (θ_run defs _ _).mono (fun r h c => ?_) (Reference9Ideal.Value.run (F := Ideal) m ρ)
  obtain ⟨h0, h1, h2, h3, h4, h5, h6, h7, h8, h9, h10, h11, hk⟩ := h c
  have e0 : ∀ (a : Fin 128) (b : Fin 1024), (m ((c : Thread nD τ).loc main_arg0) : 𝔸) (ix2 a b) = (p c).k a b :=
    fun a b => by rw [hp c]; dsimp only [numbers]; rw [ent2_at]
  have e1 : ∀ (d : Fin 3) (a : Fin 128) (b : Fin 1024), (m ((c : Thread nD τ).loc main_arg1) : 𝔹) (ix3 d a b) = (p c).r d a b :=
    fun d a b => by rw [hp c]; dsimp only [numbers]; rw [ent3_at]
  have e2 : ∀ (a : Fin 128) (b : Fin 1024), (m ((c : Thread nD τ).loc main_arg2) : 𝔸) (ix2 a b) = (p c).w a b :=
    fun a b => by rw [hp c]; dsimp only [numbers]; rw [ent2_at]
  have e3 : ∀ (a : Fin 128) (b : Fin 1024), (m ((c : Thread nD τ).loc main_arg3) : 𝔸) (ix2 a b) = (p c).m a b :=
    fun a b => by rw [hp c]; dsimp only [numbers]; rw [ent2_at]
  have e4 : ∀ (a : Fin 128) (b : Fin 1024), (m ((c : Thread nD τ).loc main_arg4) : 𝔸) (ix2 a b) = (p c).v a b :=
    fun a b => by rw [hp c]; dsimp only [numbers]; rw [ent2_at]
  have gp : ∀ (a : Fin 128) (b : Fin 1024), (r.2.mem ((c : Thread nD τ).loc main_v2) : 𝔸) (ix2 a b) = (p c).g a b := by
    intro a b
    rw [h0]
    pointwise [e0, e1, Fin.sum_univ_three, zero_add]
    show (p c).k a b + ((p c).r 0 a b + (p c).r 1 a b + (p c).r 2 a b) = _
    rw [← add_assoc, ← add_assoc]
    rfl
  rw [← h0] at h1 h2 h3
  have e5 : ∀ (a : Fin 128) (b : Fin 1024), (m ((c : Thread nD τ).loc main_arg5) : 𝔸) (ix2 a b) = (q c).k a b :=
    fun a b => by rw [hq c]; dsimp only [numbers]; rw [ent2_at]
  have e6 : ∀ (d : Fin 3) (a : Fin 128) (b : Fin 1024), (m ((c : Thread nD τ).loc main_arg6) : 𝔹) (ix3 d a b) = (q c).r d a b :=
    fun d a b => by rw [hq c]; dsimp only [numbers]; rw [ent3_at]
  have e7 : ∀ (a : Fin 128) (b : Fin 1024), (m ((c : Thread nD τ).loc main_arg7) : 𝔸) (ix2 a b) = (q c).w a b :=
    fun a b => by rw [hq c]; dsimp only [numbers]; rw [ent2_at]
  have e8 : ∀ (a : Fin 128) (b : Fin 1024), (m ((c : Thread nD τ).loc main_arg8) : 𝔸) (ix2 a b) = (q c).m a b :=
    fun a b => by rw [hq c]; dsimp only [numbers]; rw [ent2_at]
  have e9 : ∀ (a : Fin 128) (b : Fin 1024), (m ((c : Thread nD τ).loc main_arg9) : 𝔸) (ix2 a b) = (q c).v a b :=
    fun a b => by rw [hq c]; dsimp only [numbers]; rw [ent2_at]
  have gq : ∀ (a : Fin 128) (b : Fin 1024), (r.2.mem ((c : Thread nD τ).loc main_v29) : 𝔸) (ix2 a b) = (q c).g a b := by
    intro a b
    rw [h4]
    pointwise [e5, e6, Fin.sum_univ_three, zero_add]
    show (q c).k a b + ((q c).r 0 a b + (q c).r 1 a b + (q c).r 2 a b) = _
    rw [← add_assoc, ← add_assoc]
    rfl
  rw [← h4] at h5 h6 h7
  have e10 : ∀ (a : Fin 128) (b : Fin 1024), (m ((c : Thread nD τ).loc main_arg10) : 𝔸) (ix2 a b) = (o c).k a b :=
    fun a b => by rw [ho c]; dsimp only [numbers]; rw [ent2_at]
  have e11 : ∀ (d : Fin 3) (a : Fin 128) (b : Fin 1024), (m ((c : Thread nD τ).loc main_arg11) : 𝔹) (ix3 d a b) = (o c).r d a b :=
    fun d a b => by rw [ho c]; dsimp only [numbers]; rw [ent3_at]
  have e12 : ∀ (a : Fin 128) (b : Fin 1024), (m ((c : Thread nD τ).loc main_arg12) : 𝔸) (ix2 a b) = (o c).w a b :=
    fun a b => by rw [ho c]; dsimp only [numbers]; rw [ent2_at]
  have e13 : ∀ (a : Fin 128) (b : Fin 1024), (m ((c : Thread nD τ).loc main_arg13) : 𝔸) (ix2 a b) = (o c).m a b :=
    fun a b => by rw [ho c]; dsimp only [numbers]; rw [ent2_at]
  have e14 : ∀ (a : Fin 128) (b : Fin 1024), (m ((c : Thread nD τ).loc main_arg14) : 𝔸) (ix2 a b) = (o c).v a b :=
    fun a b => by rw [ho c]; dsimp only [numbers]; rw [ent2_at]
  have go : ∀ (a : Fin 128) (b : Fin 1024), (r.2.mem ((c : Thread nD τ).loc main_v56) : 𝔸) (ix2 a b) = (o c).g a b := by
    intro a b
    rw [h8]
    pointwise [e10, e11, Fin.sum_univ_three, zero_add]
    show (o c).k a b + ((o c).r 0 a b + (o c).r 1 a b + (o c).r 2 a b) = _
    rw [← add_assoc, ← add_assoc]
    rfl
  rw [← h8] at h9 h10 h11
  refine ⟨?_, ?_, ?_, ?_, ?_, ?_, ?_, ?_, ?_, ?_, ?_, ?_, hk⟩
  · funext i
    idx_vars i
    exact gp i0 i1
  · rw [h1]
    funext i
    idx_vars i
    pointwise [gp, e2, e3, e4]
    rfl
  · rw [h2]
    funext i
    idx_vars i
    pointwise [gp, e3]
    rfl
  · rw [h3]
    funext i
    idx_vars i
    pointwise [gp, e4]
    rfl
  · funext i
    idx_vars i
    exact gq i0 i1
  · rw [h5]
    funext i
    idx_vars i
    pointwise [gq, e7, e8, e9]
    rfl
  · rw [h6]
    funext i
    idx_vars i
    pointwise [gq, e8]
    rfl
  · rw [h7]
    funext i
    idx_vars i
    pointwise [gq, e9]
    rfl
  · funext i
    idx_vars i
    exact go i0 i1
  · rw [h9]
    funext i
    idx_vars i
    pointwise [go, e12, e13, e14]
    rfl
  · rw [h10]
    funext i
    idx_vars i
    pointwise [go, e13]
    rfl
  · rw [h11]
    funext i
    idx_vars i
    pointwise [go, e14]
    rfl

/-- The reference leaves its arguments as they were and every counter at zero. -/
theorem reference_frame : quiescent_Reference9Ideal := fun m ρ _ =>
  (θ_run Reference9Ideal.defs _ _).mono (fun r h => And.intro (fun c => (h c).2.2.2.2.2.2.2.2.2.2.2.2)
    (Idealize.ShloMosaic.sem_eq_zero_of_no_sems (by decide) r.2)) (Reference9Ideal.Value.run (F := Ideal) m ρ)

end Reference

/-! ## The kernel -/

open Cert.Kernel9Ideal Cert.Kernel9Ideal.Gen

local notation "𝔸" => FVec Ideal S128x1024 FTy.f32
local notation "𝔹" => FVec Ideal S3x128x1024 FTy.bf16

/-! What the body computes of each weight's arguments. -/
section Body

variable {a : Fin 128} {b : Fin 1024} {k w m v : 𝔸} {r : 𝔹} {x0 x1 x2 x3 x5 x6 x7 x8 : 𝔸} {x4 x9 : 𝔹} {p : Shard}
  (hk : ∀ (a : Fin 128) (b : Fin 1024), k (ix2 a b) = p.k a b) (hr : ∀ (d : Fin 3) (a : Fin 128) (b : Fin 1024), r (ix3 d a b) = p.r d a b)
  (hw : ∀ (a : Fin 128) (b : Fin 1024), w (ix2 a b) = p.w a b) (hm : ∀ (a : Fin 128) (b : Fin 1024), m (ix2 a b) = p.m a b)
  (hv : ∀ (a : Fin 128) (b : Fin 1024), v (ix2 a b) = p.v a b)

include hk hr in
theorem out15 : out0_15 (F := Ideal) k r w m v x0 x4 x1 x2 x3 x5 x9 x6 x7 x8 (ix2 a b) = p.g a b := by
  unfold out0_15
  rw [View.canon_cons_unit_lit]
  rotate_left
  · decide
  pointwise [k0_pay1, k0_pay2, k0_pay3, k0_pay4, k0_pay5, k0_pay6, hk, hr]
  rfl

include hk hr hw hm hv in
theorem out16 : out0_16 (F := Ideal) k r w m v x0 x4 x1 x2 x3 x5 x9 x6 x7 x8 (ix2 a b) = p.delta a b := by
  unfold out0_16
  rw [View.canon_cons_unit_lit]
  rotate_left
  · decide
  pointwise [k0_pay1, k0_pay2, k0_pay3, k0_pay4, k0_pay5, k0_pay6, hk, hr, hw, hm, hv]
  rfl

include hk hr hm in
theorem out17 : out0_17 (F := Ideal) k r w m v x0 x4 x1 x2 x3 x5 x9 x6 x7 x8 (ix2 a b) = p.newM a b := by
  unfold out0_17
  rw [View.canon_cons_unit_lit]
  rotate_left
  · decide
  pointwise [k0_pay1, k0_pay2, k0_pay3, k0_pay4, k0_pay5, k0_pay6, hk, hr, hm]
  rfl

include hk hr hv in
theorem out18 : out0_18 (F := Ideal) k r w m v x0 x4 x1 x2 x3 x5 x9 x6 x7 x8 (ix2 a b) = p.newV a b := by
  unfold out0_18
  rw [View.canon_cons_unit_lit]
  rotate_left
  · decide
  pointwise [k0_pay1, k0_pay2, k0_pay3, k0_pay4, k0_pay5, k0_pay6, hk, hr, hv]
  rfl

include hk hr in
theorem out19 : out0_19 (F := Ideal) x0 x4 x1 x2 x3 k r w m v x5 x9 x6 x7 x8 (ix2 a b) = p.g a b := by
  unfold out0_19
  rw [View.canon_cons_unit_lit]
  rotate_left
  · decide
  pointwise [k0_pay7, k0_pay8, k0_pay9, k0_pay10, hk, hr]
  rfl

include hk hr hw hm hv in
theorem out20 : out0_20 (F := Ideal) x0 x4 x1 x2 x3 k r w m v x5 x9 x6 x7 x8 (ix2 a b) = p.delta a b := by
  unfold out0_20 k0_pay17
  rw [View.canon_cons_unit_lit]
  rotate_left
  · decide
  pointwise [k0_pay7, k0_pay8, k0_pay9, k0_pay10, hk, hr, hw, hm, hv]
  rfl

include hk hr hm in
theorem out21 : out0_21 (F := Ideal) x0 x4 x1 x2 x3 k r w m v x5 x9 x6 x7 x8 (ix2 a b) = p.newM a b := by
  unfold out0_21 k0_pay17
  rw [View.canon_cons_unit_lit]
  rotate_left
  · decide
  pointwise [k0_pay7, k0_pay8, k0_pay9, k0_pay10, hk, hr, hm]
  rfl

include hk hr hv in
theorem out22 : out0_22 (F := Ideal) x0 x4 x1 x2 x3 k r w m v x5 x9 x6 x7 x8 (ix2 a b) = p.newV a b := by
  unfold out0_22 k0_pay17
  rw [View.canon_cons_unit_lit]
  rotate_left
  · decide
  pointwise [k0_pay7, k0_pay8, k0_pay9, k0_pay10, hk, hr, hv]
  rfl

include hk hr in
theorem out23 : out0_23 (F := Ideal) x0 x4 x1 x2 x3 x5 x9 x6 x7 x8 k r w m v (ix2 a b) = p.g a b := by
  unfold out0_23 k0_pay18 k0_pay19
  rw [View.canon_cons_unit_lit]
  rotate_left
  · decide
  pointwise [k0_pay11, k0_pay12, k0_pay13, k0_pay14, k0_pay15, k0_pay16, hk, hr]
  rfl

include hk hr hw hm hv in
theorem out24 : out0_24 (F := Ideal) x0 x4 x1 x2 x3 x5 x9 x6 x7 x8 k r w m v (ix2 a b) = p.delta a b := by
  unfold out0_24 k0_pay18 k0_pay19
  rw [View.canon_cons_unit_lit]
  rotate_left
  · decide
  pointwise [k0_pay11, k0_pay12, k0_pay13, k0_pay14, k0_pay15, k0_pay16, hk, hr, hw, hm, hv]
  rfl

include hk hr hm in
theorem out25 : out0_25 (F := Ideal) x0 x4 x1 x2 x3 x5 x9 x6 x7 x8 k r w m v (ix2 a b) = p.newM a b := by
  unfold out0_25 k0_pay18 k0_pay19
  rw [View.canon_cons_unit_lit]
  rotate_left
  · decide
  pointwise [k0_pay11, k0_pay12, k0_pay13, k0_pay14, k0_pay15, k0_pay16, hk, hr, hm]
  rfl

include hk hr hv in
theorem out26 : out0_26 (F := Ideal) x0 x4 x1 x2 x3 x5 x9 x6 x7 x8 k r w m v (ix2 a b) = p.newV a b := by
  unfold out0_26 k0_pay18 k0_pay19
  rw [View.canon_cons_unit_lit]
  rotate_left
  · decide
  pointwise [k0_pay11, k0_pay12, k0_pay13, k0_pay14, k0_pay15, k0_pay16, hk, hr, hv]
  rfl

end Body

variable (m : (ℓ : Loc nD τ sig) → Buf (Elt Ideal) ℓ) (c : Dev nD)

/-! The numbers in the three weights' arguments. -/
abbrev inp0 : Shard := numbers (m ((c : Thread nD τ).loc main_arg0)) (m ((c : Thread nD τ).loc main_arg1)) (m ((c : Thread nD τ).loc main_arg2)) (m ((c : Thread nD τ).loc main_arg3)) (m ((c : Thread nD τ).loc main_arg4))
abbrev inp1 : Shard := numbers (m ((c : Thread nD τ).loc main_arg5)) (m ((c : Thread nD τ).loc main_arg6)) (m ((c : Thread nD τ).loc main_arg7)) (m ((c : Thread nD τ).loc main_arg8)) (m ((c : Thread nD τ).loc main_arg9))
abbrev inp2 : Shard := numbers (m ((c : Thread nD τ).loc main_arg10)) (m ((c : Thread nD τ).loc main_arg11)) (m ((c : Thread nD τ).loc main_arg12)) (m ((c : Thread nD τ).loc main_arg13)) (m ((c : Thread nD τ).loc main_arg14))

/-! Every window holds its whole array. -/

theorem win0 : ∀ t : Fin cfg0.N, win0_0.index t = ![0, 0] ∧ win0_1.index t = ![0, 0, 0] ∧ win0_2.index t = ![0, 0]
    ∧ win0_3.index t = ![0, 0] ∧ win0_4.index t = ![0, 0] ∧ win0_15.index t = ![0, 0]
    ∧ win0_16.index t = ![0, 0] ∧ win0_17.index t = ![0, 0] ∧ win0_18.index t = ![0, 0] :=
  (by decide +kernel : ∀ t : Fin grid0.N, _)

theorem win1 : ∀ t : Fin cfg0.N, win0_5.index t = ![0, 0] ∧ win0_6.index t = ![0, 0, 0] ∧ win0_7.index t = ![0, 0]
    ∧ win0_8.index t = ![0, 0] ∧ win0_9.index t = ![0, 0] ∧ win0_19.index t = ![0, 0]
    ∧ win0_20.index t = ![0, 0] ∧ win0_21.index t = ![0, 0] ∧ win0_22.index t = ![0, 0] :=
  (by decide +kernel : ∀ t : Fin grid0.N, _)

theorem win2 : ∀ t : Fin cfg0.N, win0_10.index t = ![0, 0] ∧ win0_11.index t = ![0, 0, 0] ∧ win0_12.index t = ![0, 0]
    ∧ win0_13.index t = ![0, 0] ∧ win0_14.index t = ![0, 0] ∧ win0_23.index t = ![0, 0]
    ∧ win0_24.index t = ![0, 0] ∧ win0_25.index t = ![0, 0] ∧ win0_26.index t = ![0, 0] :=
  (by decide +kernel : ∀ t : Fin grid0.N, _)

section Blocks

variable (t : Fin cfg0.N)

theorem b0_at (a : Fin 128) (b : Fin 1024) : (iblk m c 0 t : 𝔸) (ix2 a b) = (inp0 m c).k a b := by
  refine Eq.trans ?_ (ent2_at (fun a b => (V m c main_arg0 : 𝔸) (ix2 a b)) a b).symm
  blk_point [iblk, win0 t]

theorem b1_at (d : Fin 3) (a : Fin 128) (b : Fin 1024) :
    (iblk m c 1 t : 𝔹) (ix3 d a b) = (inp0 m c).r d a b := by
  refine Eq.trans ?_ (ent3_at (fun d a b => (V m c main_arg1 : 𝔹) (ix3 d a b)) d a b).symm
  blk_point [iblk, win0 t]

theorem b2_at (a : Fin 128) (b : Fin 1024) : (iblk m c 2 t : 𝔸) (ix2 a b) = (inp0 m c).w a b := by
  refine Eq.trans ?_ (ent2_at (fun a b => (V m c main_arg2 : 𝔸) (ix2 a b)) a b).symm
  blk_point [iblk, win0 t]

theorem b3_at (a : Fin 128) (b : Fin 1024) : (iblk m c 3 t : 𝔸) (ix2 a b) = (inp0 m c).m a b := by
  refine Eq.trans ?_ (ent2_at (fun a b => (V m c main_arg3 : 𝔸) (ix2 a b)) a b).symm
  blk_point [iblk, win0 t]

theorem b4_at (a : Fin 128) (b : Fin 1024) : (iblk m c 4 t : 𝔸) (ix2 a b) = (inp0 m c).v a b := by
  refine Eq.trans ?_ (ent2_at (fun a b => (V m c main_arg4 : 𝔸) (ix2 a b)) a b).symm
  blk_point [iblk, win0 t]

theorem b5_at (a : Fin 128) (b : Fin 1024) : (iblk m c 5 t : 𝔸) (ix2 a b) = (inp1 m c).k a b := by
  refine Eq.trans ?_ (ent2_at (fun a b => (V m c main_arg5 : 𝔸) (ix2 a b)) a b).symm
  blk_point [iblk, win1 t]

theorem b6_at (d : Fin 3) (a : Fin 128) (b : Fin 1024) :
    (iblk m c 6 t : 𝔹) (ix3 d a b) = (inp1 m c).r d a b := by
  refine Eq.trans ?_ (ent3_at (fun d a b => (V m c main_arg6 : 𝔹) (ix3 d a b)) d a b).symm
  blk_point [iblk, win1 t]

theorem b7_at (a : Fin 128) (b : Fin 1024) : (iblk m c 7 t : 𝔸) (ix2 a b) = (inp1 m c).w a b := by
  refine Eq.trans ?_ (ent2_at (fun a b => (V m c main_arg7 : 𝔸) (ix2 a b)) a b).symm
  blk_point [iblk, win1 t]

theorem b8_at (a : Fin 128) (b : Fin 1024) : (iblk m c 8 t : 𝔸) (ix2 a b) = (inp1 m c).m a b := by
  refine Eq.trans ?_ (ent2_at (fun a b => (V m c main_arg8 : 𝔸) (ix2 a b)) a b).symm
  blk_point [iblk, win1 t]

theorem b9_at (a : Fin 128) (b : Fin 1024) : (iblk m c 9 t : 𝔸) (ix2 a b) = (inp1 m c).v a b := by
  refine Eq.trans ?_ (ent2_at (fun a b => (V m c main_arg9 : 𝔸) (ix2 a b)) a b).symm
  blk_point [iblk, win1 t]

theorem b10_at (a : Fin 128) (b : Fin 1024) : (iblk m c 10 t : 𝔸) (ix2 a b) = (inp2 m c).k a b := by
  refine Eq.trans ?_ (ent2_at (fun a b => (V m c main_arg10 : 𝔸) (ix2 a b)) a b).symm
  blk_point [iblk, win2 t]

theorem b11_at (d : Fin 3) (a : Fin 128) (b : Fin 1024) :
    (iblk m c 11 t : 𝔹) (ix3 d a b) = (inp2 m c).r d a b := by
  refine Eq.trans ?_ (ent3_at (fun d a b => (V m c main_arg11 : 𝔹) (ix3 d a b)) d a b).symm
  blk_point [iblk, win2 t]

theorem b12_at (a : Fin 128) (b : Fin 1024) : (iblk m c 12 t : 𝔸) (ix2 a b) = (inp2 m c).w a b := by
  refine Eq.trans ?_ (ent2_at (fun a b => (V m c main_arg12 : 𝔸) (ix2 a b)) a b).symm
  blk_point [iblk, win2 t]

theorem b13_at (a : Fin 128) (b : Fin 1024) : (iblk m c 13 t : 𝔸) (ix2 a b) = (inp2 m c).m a b := by
  refine Eq.trans ?_ (ent2_at (fun a b => (V m c main_arg13 : 𝔸) (ix2 a b)) a b).symm
  blk_point [iblk, win2 t]

theorem b14_at (a : Fin 128) (b : Fin 1024) : (iblk m c 14 t : 𝔸) (ix2 a b) = (inp2 m c).v a b := by
  refine Eq.trans ?_ (ent2_at (fun a b => (V m c main_arg14 : 𝔸) (ix2 a b)) a b).symm
  blk_point [iblk, win2 t]

end Blocks

/-! What the kernel leaves in its twelve results. -/

theorem arr15 : (dats m 0 c).arrAt 15 cfg0.N = arr (inp0 m c).g := by
  refine (dats m 0 c).arrAt_eq_of_covers 15 _ (by decide +kernel) fun t hf y => ?_
  blk_simp
  rw [after0_15]
  change S128x1024.Idx at y
  idx_vars y
  refine (out15 (p := inp0 m c) (b0_at m c t) (b1_at m c t)).trans ?_
  show _ = (inp0 m c).g _ _
  refine congrArg₂ (inp0 m c).g ?_ ?_
  · blk_simp [win0 t]
  · blk_simp [win0 t]

theorem arr16 : (dats m 0 c).arrAt 16 cfg0.N = arr (inp0 m c).delta := by
  refine (dats m 0 c).arrAt_eq_of_covers 16 _ (by decide +kernel) fun t hf y => ?_
  blk_simp
  rw [after0_16]
  change S128x1024.Idx at y
  idx_vars y
  refine (out16 (p := inp0 m c) (b0_at m c t) (b1_at m c t) (b2_at m c t) (b3_at m c t) (b4_at m c t)).trans ?_
  show _ = (inp0 m c).delta _ _
  refine congrArg₂ (inp0 m c).delta ?_ ?_
  · blk_simp [win0 t]
  · blk_simp [win0 t]

theorem arr17 : (dats m 0 c).arrAt 17 cfg0.N = arr (inp0 m c).newM := by
  refine (dats m 0 c).arrAt_eq_of_covers 17 _ (by decide +kernel) fun t hf y => ?_
  blk_simp
  rw [after0_17]
  change S128x1024.Idx at y
  idx_vars y
  refine (out17 (p := inp0 m c) (b0_at m c t) (b1_at m c t) (b3_at m c t)).trans ?_
  show _ = (inp0 m c).newM _ _
  refine congrArg₂ (inp0 m c).newM ?_ ?_
  · blk_simp [win0 t]
  · blk_simp [win0 t]

theorem arr18 : (dats m 0 c).arrAt 18 cfg0.N = arr (inp0 m c).newV := by
  refine (dats m 0 c).arrAt_eq_of_covers 18 _ (by decide +kernel) fun t hf y => ?_
  blk_simp
  rw [after0_18]
  change S128x1024.Idx at y
  idx_vars y
  refine (out18 (p := inp0 m c) (b0_at m c t) (b1_at m c t) (b4_at m c t)).trans ?_
  show _ = (inp0 m c).newV _ _
  refine congrArg₂ (inp0 m c).newV ?_ ?_
  · blk_simp [win0 t]
  · blk_simp [win0 t]

theorem arr19 : (dats m 0 c).arrAt 19 cfg0.N = arr (inp1 m c).g := by
  refine (dats m 0 c).arrAt_eq_of_covers 19 _ (by decide +kernel) fun t hf y => ?_
  blk_simp
  rw [after0_19]
  change S128x1024.Idx at y
  idx_vars y
  refine (out19 (p := inp1 m c) (b5_at m c t) (b6_at m c t)).trans ?_
  show _ = (inp1 m c).g _ _
  refine congrArg₂ (inp1 m c).g ?_ ?_
  · blk_simp [win1 t]
  · blk_simp [win1 t]

theorem arr20 : (dats m 0 c).arrAt 20 cfg0.N = arr (inp1 m c).delta := by
  refine (dats m 0 c).arrAt_eq_of_covers 20 _ (by decide +kernel) fun t hf y => ?_
  blk_simp
  rw [after0_20]
  change S128x1024.Idx at y
  idx_vars y
  refine (out20 (p := inp1 m c) (b5_at m c t) (b6_at m c t) (b7_at m c t) (b8_at m c t) (b9_at m c t)).trans ?_
  show _ = (inp1 m c).delta _ _
  refine congrArg₂ (inp1 m c).delta ?_ ?_
  · blk_simp [win1 t]
  · blk_simp [win1 t]

theorem arr21 : (dats m 0 c).arrAt 21 cfg0.N = arr (inp1 m c).newM := by
  refine (dats m 0 c).arrAt_eq_of_covers 21 _ (by decide +kernel) fun t hf y => ?_
  blk_simp
  rw [after0_21]
  change S128x1024.Idx at y
  idx_vars y
  refine (out21 (p := inp1 m c) (b5_at m c t) (b6_at m c t) (b8_at m c t)).trans ?_
  show _ = (inp1 m c).newM _ _
  refine congrArg₂ (inp1 m c).newM ?_ ?_
  · blk_simp [win1 t]
  · blk_simp [win1 t]

theorem arr22 : (dats m 0 c).arrAt 22 cfg0.N = arr (inp1 m c).newV := by
  refine (dats m 0 c).arrAt_eq_of_covers 22 _ (by decide +kernel) fun t hf y => ?_
  blk_simp
  rw [after0_22]
  change S128x1024.Idx at y
  idx_vars y
  refine (out22 (p := inp1 m c) (b5_at m c t) (b6_at m c t) (b9_at m c t)).trans ?_
  show _ = (inp1 m c).newV _ _
  refine congrArg₂ (inp1 m c).newV ?_ ?_
  · blk_simp [win1 t]
  · blk_simp [win1 t]

theorem arr23 : (dats m 0 c).arrAt 23 cfg0.N = arr (inp2 m c).g := by
  refine (dats m 0 c).arrAt_eq_of_covers 23 _ (by decide +kernel) fun t hf y => ?_
  blk_simp
  rw [after0_23]
  change S128x1024.Idx at y
  idx_vars y
  refine (out23 (p := inp2 m c) (b10_at m c t) (b11_at m c t)).trans ?_
  show _ = (inp2 m c).g _ _
  refine congrArg₂ (inp2 m c).g ?_ ?_
  · blk_simp [win2 t]
  · blk_simp [win2 t]

theorem arr24 : (dats m 0 c).arrAt 24 cfg0.N = arr (inp2 m c).delta := by
  refine (dats m 0 c).arrAt_eq_of_covers 24 _ (by decide +kernel) fun t hf y => ?_
  blk_simp
  rw [after0_24]
  change S128x1024.Idx at y
  idx_vars y
  refine (out24 (p := inp2 m c) (b10_at m c t) (b11_at m c t) (b12_at m c t) (b13_at m c t) (b14_at m c t)).trans ?_
  show _ = (inp2 m c).delta _ _
  refine congrArg₂ (inp2 m c).delta ?_ ?_
  · blk_simp [win2 t]
  · blk_simp [win2 t]

theorem arr25 : (dats m 0 c).arrAt 25 cfg0.N = arr (inp2 m c).newM := by
  refine (dats m 0 c).arrAt_eq_of_covers 25 _ (by decide +kernel) fun t hf y => ?_
  blk_simp
  rw [after0_25]
  change S128x1024.Idx at y
  idx_vars y
  refine (out25 (p := inp2 m c) (b10_at m c t) (b11_at m c t) (b13_at m c t)).trans ?_
  show _ = (inp2 m c).newM _ _
  refine congrArg₂ (inp2 m c).newM ?_ ?_
  · blk_simp [win2 t]
  · blk_simp [win2 t]

theorem arr26 : (dats m 0 c).arrAt 26 cfg0.N = arr (inp2 m c).newV := by
  refine (dats m 0 c).arrAt_eq_of_covers 26 _ (by decide +kernel) fun t hf y => ?_
  blk_simp
  rw [after0_26]
  change S128x1024.Idx at y
  idx_vars y
  refine (out26 (p := inp2 m c) (b10_at m c t) (b11_at m c t) (b14_at m c t)).trans ?_
  show _ = (inp2 m c).newV _ _
  refine congrArg₂ (inp2 m c).newV ?_ ?_
  · blk_simp [win2 t]
  · blk_simp [win2 t]

/-- At every input the kernel's results are the reference's. -/
theorem agree : algebraic_Kernel9Ideal_Reference9Ideal := by
  intro m ρ m' ρ' _ hagree
  refine ⟨fun c => arr (inp0 m c).g, fun c => arr (inp0 m c).delta, fun c => arr (inp0 m c).newM, fun c => arr (inp0 m c).newV, fun c => arr (inp1 m c).g, fun c => arr (inp1 m c).delta, fun c => arr (inp1 m c).newM, fun c => arr (inp1 m c).newV, fun c => arr (inp2 m c).g, fun c => arr (inp2 m c).delta, fun c => arr (inp2 m c).newM, fun c => arr (inp2 m c).newV, ?_, ?_⟩
  · refine (θ_run Kernel9Ideal.defs _ _).mono (fun r h c => ?_) (Kernel9Ideal.Value.run_blocks (F := Ideal) m ρ)
    obtain ⟨h0, h1, h2, h3, h4, h5, h6, h7, h8, h9, h10, h11, hk⟩ := h c
    exact ⟨h0.trans (arr15 m c), h1.trans (arr16 m c), h2.trans (arr17 m c), h3.trans (arr18 m c), h4.trans (arr19 m c), h5.trans (arr20 m c), h6.trans (arr21 m c), h7.trans (arr22 m c), h8.trans (arr23 m c), h9.trans (arr24 m c), h10.trans (arr25 m c), h11.trans (arr26 m c), hk⟩
  · refine reference_run m' ρ' (fun c => inp0 m c) (fun c => inp1 m c) (fun c => inp2 m c) (fun c => ?_) (fun c => ?_) (fun c => ?_) <;>
      (obtain ⟨e0, e1, e2, e3, e4, e5, e6, e7, e8, e9, e10, e11, e12, e13, e14⟩ := hagree c)
    · rw [e0, e1, e2, e3, e4]
    · rw [e5, e6, e7, e8, e9]
    · rw [e10, e11, e12, e13, e14]

end Cert.Adam.Square

end
-- ==== Proof.AdamIn.lean ====
/- AdamW of `w_in`, one device's columns, as rows: what the kernel leaves in its four results is what the reference computes,
   entry by entry. -/
module

public import proofs.«01_k».proof.Defs
public import proofs.«01_k».proof.Proof.AdamModel
public import proofs.«01_k».proof.Proof.Gen.Kernel10Ideal.Value
public import proofs.«01_k».proof.Proof.Gen.Reference10Ideal.Run
public import Idealize.ShloMosaic.Lib.Quiescent
public import Idealize.ShloMosaic.Adequacy
public import Idealize.ShloMosaic.Init

@[expose] public section

set_option maxRecDepth 16384

noncomputable section

namespace Cert.Adam.In

open Idealize.ShloMosaic Idealize.ShloMosaic.TcCoe Idealize.ShloMosaic.Tactic Idealize.SL.Sem Idealize.ShloMosaic.StableHlo

/-! ## The reference -/

section Reference

open Cert.Reference10Ideal Cert.Reference10Ideal.Gen

local notation "𝔸" => FVec Ideal S320x1024 FTy.f32
local notation "𝔹" => FVec Ideal S3x320x1024 FTy.bf16

/-- The numbers in the five arguments. -/
def numbers (k : 𝔸) (r : 𝔹) (w m v : FVec Ideal S1024x320 .f32) : Shard where
  k := ent2 fun (a : Fin 320) (b : Fin 1024) => k (ix2 a b)
  r := ent3 fun (d : Fin 3) (a : Fin 320) (b : Fin 1024) => r (ix3 d a b)
  w := ent2 fun (a : Fin 320) (b : Fin 1024) => w (ix2 b a)
  m := ent2 fun (a : Fin 320) (b : Fin 1024) => m (ix2 b a)
  v := ent2 fun (a : Fin 320) (b : Fin 1024) => v (ix2 b a)

/-- An array from its entries. -/
def arr (f : ℕ → ℕ → EReal) : 𝔸 := fun i => f (i 0) (i 1)

/-- What the reference returns, as arrays of the model's numbers. -/
theorem reference_run (m : (ℓ : Loc nD τ sig) → Buf (Elt Ideal) ℓ) (ρ : Dev nD → PrngReg)
    (p : Dev nD → Shard) (hp : ∀ c, p c = numbers (m ((c : Thread nD τ).loc main_arg0)) (m ((c : Thread nD τ).loc main_arg1))
      (m ((c : Thread nD τ).loc main_arg2)) (m ((c : Thread nD τ).loc main_arg3)) (m ((c : Thread nD τ).loc main_arg4))) :
    θ_run defs (onTc (τ := τ) (main (F := Ideal))) ⟨m, fun _ => 0, ρ⟩ fun r => ∀ c : Dev nD,
      r.2.mem ((c : Thread nD τ).loc main_v5) = arr (p c).g
      ∧ r.2.mem ((c : Thread nD τ).loc main_v29) = arr (p c).delta
      ∧ r.2.mem ((c : Thread nD τ).loc main_v10) = arr (p c).newM
      ∧ r.2.mem ((c : Thread nD τ).loc main_v16) = arr (p c).newV
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Reference10Ideal.Value.run (F := Ideal) m ρ)
  obtain ⟨h0, h1, h2, h3, hk⟩ := h c
  have e0 : ∀ (a : Fin 320) (b : Fin 1024), (m ((c : Thread nD τ).loc main_arg0) : 𝔸) (ix2 a b) = (p c).k a b :=
    fun a b => by rw [hp c]; dsimp only [numbers]; rw [ent2_at]
  have e1 : ∀ (d : Fin 3) (a : Fin 320) (b : Fin 1024), (m ((c : Thread nD τ).loc main_arg1) : 𝔹) (ix3 d a b) = (p c).r d a b :=
    fun d a b => by rw [hp c]; dsimp only [numbers]; rw [ent3_at]
  have e2 : ∀ (a : Fin 320) (b : Fin 1024), (m ((c : Thread nD τ).loc main_arg2) : FVec Ideal S1024x320 .f32) (ix2 b a) = (p c).w a b :=
    fun a b => by rw [hp c]; dsimp only [numbers]; rw [ent2_at]
  have e3 : ∀ (a : Fin 320) (b : Fin 1024), (m ((c : Thread nD τ).loc main_arg3) : FVec Ideal S1024x320 .f32) (ix2 b a) = (p c).m a b :=
    fun a b => by rw [hp c]; dsimp only [numbers]; rw [ent2_at]
  have e4 : ∀ (a : Fin 320) (b : Fin 1024), (m ((c : Thread nD τ).loc main_arg4) : FVec Ideal S1024x320 .f32) (ix2 b a) = (p c).v a b :=
    fun a b => by rw [hp c]; dsimp only [numbers]; rw [ent2_at]
  have eg : ∀ (a : Fin 320) (b : Fin 1024), (r.2.mem ((c : Thread nD τ).loc main_v5) : 𝔸) (ix2 a b) = (p c).g a b := by
    intro a b
    rw [h0]
    pointwise [e0, e1, Fin.sum_univ_three, zero_add]
    show (p c).k a b + ((p c).r 0 a b + (p c).r 1 a b + (p c).r 2 a b) = _
    rw [← add_assoc, ← add_assoc]
    rfl
  rw [← h0] at h1 h2 h3
  refine ⟨?_, ?_, ?_, ?_, hk⟩
  · funext i
    idx_vars i
    exact eg i0 i1
  · rw [h1]
    funext i
    idx_vars i
    pointwise [eg, e2, e3, e4]
    rfl
  · rw [h2]
    funext i
    idx_vars i
    pointwise [eg, e3]
    rfl
  · rw [h3]
    funext i
    idx_vars i
    pointwise [eg, e4]
    rfl

/-- The reference leaves its arguments as they were and every counter at zero. -/
theorem reference_frame : quiescent_Reference10Ideal := fun m ρ _ =>
  (θ_run Reference10Ideal.defs _ _).mono (fun r h => And.intro (fun c => (h c).2.2.2.2)
    (Idealize.ShloMosaic.sem_eq_zero_of_no_sems (by decide) r.2)) (Reference10Ideal.Value.run (F := Ideal) m ρ)

end Reference

/-! ## The kernel -/

open Cert.Kernel10Ideal Cert.Kernel10Ideal.Gen

local notation "𝔸" => FVec Ideal S320x1024 FTy.f32
local notation "𝔹" => FVec Ideal S3x320x1024 FTy.bf16

/-! What the body computes from its blocks. -/
section Body

variable (x0 : FVec Ideal S160x1024 .f32) (x1 : FVec Ideal S3x160x1024 .bf16) (x2 x3 x4 : FVec Ideal S160x1024 .f32)
  (p : Shard) (R : ℕ)
  (h0 : ∀ (a : Fin 160) (b : Fin 1024), x0 (ix2 a b) = p.k (R + a) b)
  (h1 : ∀ (d : Fin 3) (a : Fin 160) (b : Fin 1024), x1 (ix3 d a b) = p.r d (R + a) b)
  (h2 : ∀ (a : Fin 160) (b : Fin 1024), x2 (ix2 a b) = p.w (R + a) b)
  (h3 : ∀ (a : Fin 160) (b : Fin 1024), x3 (ix2 a b) = p.m (R + a) b)
  (h4 : ∀ (a : Fin 160) (b : Fin 1024), x4 (ix2 a b) = p.v (R + a) b)
  (a : Fin 160) (b : Fin 1024)

include h0 h1 in
theorem out_g : out0_5 (F := Ideal) x0 x1 x2 x3 x4 (ix2 a b) = p.g (R + a) b := by
  unfold out0_5
  rw [View.canon_cons_unit_lit]
  rotate_left
  · decide
  pointwise [k0_pay1, k0_pay2, k0_pay3, k0_pay4, k0_pay5, k0_pay6, k0_pay7, h0, h1]
  rfl

include h0 h1 h2 h3 h4 in
theorem out_d : out0_6 (F := Ideal) x0 x1 x2 x3 x4 (ix2 a b) = p.delta (R + a) b := by
  unfold out0_6
  rw [View.canon_cons_unit_lit]
  rotate_left
  · decide
  pointwise [k0_pay1, k0_pay2, k0_pay3, k0_pay4, k0_pay5, k0_pay6, k0_pay7, h0, h1, h2, h3, h4]
  rfl

include h0 h1 h3 in
theorem out_m : out0_7 (F := Ideal) x0 x1 x2 x3 x4 (ix2 a b) = p.newM (R + a) b := by
  unfold out0_7
  rw [View.canon_cons_unit_lit]
  rotate_left
  · decide
  pointwise [k0_pay1, k0_pay2, k0_pay3, k0_pay4, k0_pay5, k0_pay6, k0_pay7, h0, h1, h3]
  rfl

include h0 h1 h4 in
theorem out_v : out0_8 (F := Ideal) x0 x1 x2 x3 x4 (ix2 a b) = p.newV (R + a) b := by
  unfold out0_8
  rw [View.canon_cons_unit_lit]
  rotate_left
  · decide
  pointwise [k0_pay1, k0_pay2, k0_pay3, k0_pay4, k0_pay5, k0_pay6, k0_pay7, h0, h1, h4]
  rfl

end Body

variable (m : (ℓ : Loc nD τ sig) → Buf (Elt Ideal) ℓ) (c : Dev nD)

/-- The numbers in the kernel's arguments. -/
abbrev inp : Shard := numbers (m ((c : Thread nD τ).loc main_arg0)) (m ((c : Thread nD τ).loc main_arg1))
  (m ((c : Thread nD τ).loc main_arg2)) (m ((c : Thread nD τ).loc main_arg3)) (m ((c : Thread nD τ).loc main_arg4))

/-- The block coordinates of the nine windows at each point. -/
theorem idx_win : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

section Blocks

variable (t : Fin cfg0.N)

theorem b0_at (a : Fin 160) (b : Fin 1024) : (iblk m c 0 t : FVec Ideal S160x1024 .f32) (ix2 a b) = (inp m c).k (160 * t.val + a) b := by
  have ht : t.val < 2 := lt_of_lt_of_eq t.isLt N_0
  refine Eq.trans ?_ (ent2_at (fun a b => (V m c main_arg0 : 𝔸) (ix2 a b)) ⟨160 * t.val + a, by omega⟩ b).symm
  blk_point [iblk, idx_win t]

theorem b1_at (d : Fin 3) (a : Fin 160) (b : Fin 1024) :
    (iblk m c 1 t : FVec Ideal S3x160x1024 .bf16) (ix3 d a b) = (inp m c).r d (160 * t.val + a) b := by
  have ht : t.val < 2 := lt_of_lt_of_eq t.isLt N_0
  refine Eq.trans ?_ (ent3_at (fun d a b => (V m c main_arg1 : 𝔹) (ix3 d a b)) d ⟨160 * t.val + a, by omega⟩ b).symm
  blk_point [iblk, idx_win t]

theorem V_v0 : (V m c main_v0 : 𝔸)
    = transpose S320x1024 [1, 0] (m ((c : Thread nD τ).loc main_arg2) : FVec Ideal S1024x320 .f32) transposes_S1024x320_S320x1024_1_0 := by
  unfold V; after_results; try rfl

theorem v0_at (a : Fin 320) (b : Fin 1024) : (V m c main_v0 : 𝔸) (ix2 a b)
    = (m ((c : Thread nD τ).loc main_arg2) : FVec Ideal S1024x320 .f32) (ix2 b a) := by
  rw [V_v0]; pointwise []

theorem V_v1 : (V m c main_v1 : 𝔸)
    = transpose S320x1024 [1, 0] (m ((c : Thread nD τ).loc main_arg3) : FVec Ideal S1024x320 .f32) transposes_S1024x320_S320x1024_1_0 := by
  unfold V; after_results; try rfl

theorem v1_at (a : Fin 320) (b : Fin 1024) : (V m c main_v1 : 𝔸) (ix2 a b)
    = (m ((c : Thread nD τ).loc main_arg3) : FVec Ideal S1024x320 .f32) (ix2 b a) := by
  rw [V_v1]; pointwise []

theorem V_v2 : (V m c main_v2 : 𝔸)
    = transpose S320x1024 [1, 0] (m ((c : Thread nD τ).loc main_arg4) : FVec Ideal S1024x320 .f32) transposes_S1024x320_S320x1024_1_0 := by
  unfold V; after_results; try rfl

theorem v2_at (a : Fin 320) (b : Fin 1024) : (V m c main_v2 : 𝔸) (ix2 a b)
    = (m ((c : Thread nD τ).loc main_arg4) : FVec Ideal S1024x320 .f32) (ix2 b a) := by
  rw [V_v2]; pointwise []

theorem b2_at (a : Fin 160) (b : Fin 1024) : (iblk m c 2 t : FVec Ideal S160x1024 .f32) (ix2 a b) = (inp m c).w (160 * t.val + a) b := by
  have ht : t.val < 2 := lt_of_lt_of_eq t.isLt N_0
  refine Eq.trans (b := (V m c main_v0 : 𝔸) (ix2 ⟨160 * t.val + a, by omega⟩ b)) ?_
    ((v0_at m c _ b).trans (ent2_at (fun (a : Fin 320) (b : Fin 1024) => (m ((c : Thread nD τ).loc main_arg2) : FVec Ideal S1024x320 .f32) (ix2 b a)) _ b).symm)
  blk_point [iblk, idx_win t]

theorem b3_at (a : Fin 160) (b : Fin 1024) : (iblk m c 3 t : FVec Ideal S160x1024 .f32) (ix2 a b) = (inp m c).m (160 * t.val + a) b := by
  have ht : t.val < 2 := lt_of_lt_of_eq t.isLt N_0
  refine Eq.trans (b := (V m c main_v1 : 𝔸) (ix2 ⟨160 * t.val + a, by omega⟩ b)) ?_
    ((v1_at m c _ b).trans (ent2_at (fun (a : Fin 320) (b : Fin 1024) => (m ((c : Thread nD τ).loc main_arg3) : FVec Ideal S1024x320 .f32) (ix2 b a)) _ b).symm)
  blk_point [iblk, idx_win t]

theorem b4_at (a : Fin 160) (b : Fin 1024) : (iblk m c 4 t : FVec Ideal S160x1024 .f32) (ix2 a b) = (inp m c).v (160 * t.val + a) b := by
  have ht : t.val < 2 := lt_of_lt_of_eq t.isLt N_0
  refine Eq.trans (b := (V m c main_v2 : 𝔸) (ix2 ⟨160 * t.val + a, by omega⟩ b)) ?_
    ((v2_at m c _ b).trans (ent2_at (fun (a : Fin 320) (b : Fin 1024) => (m ((c : Thread nD τ).loc main_arg4) : FVec Ideal S1024x320 .f32) (ix2 b a)) _ b).symm)
  blk_point [iblk, idx_win t]

end Blocks

/-- The kernel leaves the gradient, -/
theorem arr5 : (dats m 0 c).arrAt 5 cfg0.N = arr (inp m c).g := by
  refine (dats m 0 c).arrAt_eq_of_covers 5 _ (by decide +kernel) fun t hf y => ?_
  blk_simp
  rw [after0_5]
  change S160x1024.Idx at y
  idx_vars y
  refine (out_g _ _ _ _ _ (inp m c) (160 * t.val) (b0_at m c t) (b1_at m c t) y0 y1).trans ?_
  show _ = (inp m c).g _ _
  refine congrArg₂ (inp m c).g ?_ ?_
  · blk_simp [idx_win t]
    omega
  · blk_simp [idx_win t]

/-- the weight's change -/
theorem arr6 : (dats m 0 c).arrAt 6 cfg0.N = arr (inp m c).delta := by
  refine (dats m 0 c).arrAt_eq_of_covers 6 _ (by decide +kernel) fun t hf y => ?_
  blk_simp
  rw [after0_6]
  change S160x1024.Idx at y
  idx_vars y
  refine (out_d _ _ _ _ _ (inp m c) (160 * t.val) (b0_at m c t) (b1_at m c t) (b2_at m c t) (b3_at m c t) (b4_at m c t) y0 y1).trans ?_
  show _ = (inp m c).delta _ _
  refine congrArg₂ (inp m c).delta ?_ ?_
  · blk_simp [idx_win t]
    omega
  · blk_simp [idx_win t]

/-- and the two moments -/
theorem arr7 : (dats m 0 c).arrAt 7 cfg0.N = arr (inp m c).newM := by
  refine (dats m 0 c).arrAt_eq_of_covers 7 _ (by decide +kernel) fun t hf y => ?_
  blk_simp
  rw [after0_7]
  change S160x1024.Idx at y
  idx_vars y
  refine (out_m _ _ _ _ _ (inp m c) (160 * t.val) (b0_at m c t) (b1_at m c t) (b3_at m c t) y0 y1).trans ?_
  show _ = (inp m c).newM _ _
  refine congrArg₂ (inp m c).newM ?_ ?_
  · blk_simp [idx_win t]
    omega
  · blk_simp [idx_win t]

/-- in its results. -/
theorem arr8 : (dats m 0 c).arrAt 8 cfg0.N = arr (inp m c).newV := by
  refine (dats m 0 c).arrAt_eq_of_covers 8 _ (by decide +kernel) fun t hf y => ?_
  blk_simp
  rw [after0_8]
  change S160x1024.Idx at y
  idx_vars y
  refine (out_v _ _ _ _ _ (inp m c) (160 * t.val) (b0_at m c t) (b1_at m c t) (b4_at m c t) y0 y1).trans ?_
  show _ = (inp m c).newV _ _
  refine congrArg₂ (inp m c).newV ?_ ?_
  · blk_simp [idx_win t]
    omega
  · blk_simp [idx_win t]

/-- At every input the kernel's results are the reference's. -/
theorem agree : algebraic_Kernel10Ideal_Reference10Ideal := by
  intro m ρ m' ρ' _ hagree
  refine ⟨fun c => arr (inp m c).g, fun c => arr (inp m c).delta, fun c => arr (inp m c).newM, fun c => arr (inp m c).newV, ?_, ?_⟩
  · exact (θ_run Kernel10Ideal.defs _ _).mono (fun r h c =>
        And.intro ((h c).1.trans (arr5 m c)) <| And.intro ((h c).2.1.trans (arr6 m c)) <|
        And.intro ((h c).2.2.1.trans (arr7 m c)) <| And.intro ((h c).2.2.2.1.trans (arr8 m c)) (h c).2.2.2.2)
      (Kernel10Ideal.Value.run_blocks (F := Ideal) m ρ)
  · refine reference_run m' ρ' (fun c => inp m c) fun c => ?_
    obtain ⟨e0, e1, e2, e3, e4⟩ := hagree c
    rw [e0, e1, e2, e3, e4]

end Cert.Adam.In

end
-- ==== Proof.AdamGateUp.lean ====
/- AdamW of `w_gate_up`, one device's columns, as rows: what the kernel leaves in its four results is what the reference computes,
   entry by entry. -/
module

public import proofs.«01_k».proof.Defs
public import proofs.«01_k».proof.Proof.AdamModel
public import proofs.«01_k».proof.Proof.Gen.Kernel11Ideal.Value
public import proofs.«01_k».proof.Proof.Gen.Reference11Ideal.Run
public import Idealize.ShloMosaic.Lib.Quiescent
public import Idealize.ShloMosaic.Adequacy
public import Idealize.ShloMosaic.Init

@[expose] public section

set_option maxRecDepth 16384

noncomputable section

namespace Cert.Adam.GateUp

open Idealize.ShloMosaic Idealize.ShloMosaic.TcCoe Idealize.ShloMosaic.Tactic Idealize.SL.Sem Idealize.ShloMosaic.StableHlo

/-! ## The reference -/

section Reference

open Cert.Reference11Ideal Cert.Reference11Ideal.Gen

local notation "𝔸" => FVec Ideal S704x1024 FTy.f32
local notation "𝔹" => FVec Ideal S3x704x1024 FTy.bf16

/-- The numbers in the five arguments. -/
def numbers (k : 𝔸) (r : 𝔹) (w m v : FVec Ideal S1024x704 .f32) : Shard where
  k := ent2 fun (a : Fin 704) (b : Fin 1024) => k (ix2 a b)
  r := ent3 fun (d : Fin 3) (a : Fin 704) (b : Fin 1024) => r (ix3 d a b)
  w := ent2 fun (a : Fin 704) (b : Fin 1024) => w (ix2 b a)
  m := ent2 fun (a : Fin 704) (b : Fin 1024) => m (ix2 b a)
  v := ent2 fun (a : Fin 704) (b : Fin 1024) => v (ix2 b a)

/-- An array from its entries. -/
def arr (f : ℕ → ℕ → EReal) : 𝔸 := fun i => f (i 0) (i 1)

/-- What the reference returns, as arrays of the model's numbers. -/
theorem reference_run (m : (ℓ : Loc nD τ sig) → Buf (Elt Ideal) ℓ) (ρ : Dev nD → PrngReg)
    (p : Dev nD → Shard) (hp : ∀ c, p c = numbers (m ((c : Thread nD τ).loc main_arg0)) (m ((c : Thread nD τ).loc main_arg1))
      (m ((c : Thread nD τ).loc main_arg2)) (m ((c : Thread nD τ).loc main_arg3)) (m ((c : Thread nD τ).loc main_arg4))) :
    θ_run defs (onTc (τ := τ) (main (F := Ideal))) ⟨m, fun _ => 0, ρ⟩ fun r => ∀ c : Dev nD,
      r.2.mem ((c : Thread nD τ).loc main_v5) = arr (p c).g
      ∧ r.2.mem ((c : Thread nD τ).loc main_v29) = arr (p c).delta
      ∧ r.2.mem ((c : Thread nD τ).loc main_v10) = arr (p c).newM
      ∧ r.2.mem ((c : Thread nD τ).loc main_v16) = arr (p c).newV
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Reference11Ideal.Value.run (F := Ideal) m ρ)
  obtain ⟨h0, h1, h2, h3, hk⟩ := h c
  have e0 : ∀ (a : Fin 704) (b : Fin 1024), (m ((c : Thread nD τ).loc main_arg0) : 𝔸) (ix2 a b) = (p c).k a b :=
    fun a b => by rw [hp c]; dsimp only [numbers]; rw [ent2_at]
  have e1 : ∀ (d : Fin 3) (a : Fin 704) (b : Fin 1024), (m ((c : Thread nD τ).loc main_arg1) : 𝔹) (ix3 d a b) = (p c).r d a b :=
    fun d a b => by rw [hp c]; dsimp only [numbers]; rw [ent3_at]
  have e2 : ∀ (a : Fin 704) (b : Fin 1024), (m ((c : Thread nD τ).loc main_arg2) : FVec Ideal S1024x704 .f32) (ix2 b a) = (p c).w a b :=
    fun a b => by rw [hp c]; dsimp only [numbers]; rw [ent2_at]
  have e3 : ∀ (a : Fin 704) (b : Fin 1024), (m ((c : Thread nD τ).loc main_arg3) : FVec Ideal S1024x704 .f32) (ix2 b a) = (p c).m a b :=
    fun a b => by rw [hp c]; dsimp only [numbers]; rw [ent2_at]
  have e4 : ∀ (a : Fin 704) (b : Fin 1024), (m ((c : Thread nD τ).loc main_arg4) : FVec Ideal S1024x704 .f32) (ix2 b a) = (p c).v a b :=
    fun a b => by rw [hp c]; dsimp only [numbers]; rw [ent2_at]
  have eg : ∀ (a : Fin 704) (b : Fin 1024), (r.2.mem ((c : Thread nD τ).loc main_v5) : 𝔸) (ix2 a b) = (p c).g a b := by
    intro a b
    rw [h0]
    pointwise [e0, e1, Fin.sum_univ_three, zero_add]
    show (p c).k a b + ((p c).r 0 a b + (p c).r 1 a b + (p c).r 2 a b) = _
    rw [← add_assoc, ← add_assoc]
    rfl
  rw [← h0] at h1 h2 h3
  refine ⟨?_, ?_, ?_, ?_, hk⟩
  · funext i
    idx_vars i
    exact eg i0 i1
  · rw [h1]
    funext i
    idx_vars i
    pointwise [eg, e2, e3, e4]
    rfl
  · rw [h2]
    funext i
    idx_vars i
    pointwise [eg, e3]
    rfl
  · rw [h3]
    funext i
    idx_vars i
    pointwise [eg, e4]
    rfl

/-- The reference leaves its arguments as they were and every counter at zero. -/
theorem reference_frame : quiescent_Reference11Ideal := fun m ρ _ =>
  (θ_run Reference11Ideal.defs _ _).mono (fun r h => And.intro (fun c => (h c).2.2.2.2)
    (Idealize.ShloMosaic.sem_eq_zero_of_no_sems (by decide) r.2)) (Reference11Ideal.Value.run (F := Ideal) m ρ)

end Reference

/-! ## The kernel -/

open Cert.Kernel11Ideal Cert.Kernel11Ideal.Gen

local notation "𝔸" => FVec Ideal S704x1024 FTy.f32
local notation "𝔹" => FVec Ideal S3x704x1024 FTy.bf16

/-! What the body computes from its blocks. -/
section Body

variable (x0 : FVec Ideal S176x1024 .f32) (x1 : FVec Ideal S3x176x1024 .bf16) (x2 x3 x4 : FVec Ideal S176x1024 .f32)
  (p : Shard) (R : ℕ)
  (h0 : ∀ (a : Fin 176) (b : Fin 1024), x0 (ix2 a b) = p.k (R + a) b)
  (h1 : ∀ (d : Fin 3) (a : Fin 176) (b : Fin 1024), x1 (ix3 d a b) = p.r d (R + a) b)
  (h2 : ∀ (a : Fin 176) (b : Fin 1024), x2 (ix2 a b) = p.w (R + a) b)
  (h3 : ∀ (a : Fin 176) (b : Fin 1024), x3 (ix2 a b) = p.m (R + a) b)
  (h4 : ∀ (a : Fin 176) (b : Fin 1024), x4 (ix2 a b) = p.v (R + a) b)
  (a : Fin 176) (b : Fin 1024)

include h0 h1 in
theorem out_g : out0_5 (F := Ideal) x0 x1 x2 x3 x4 (ix2 a b) = p.g (R + a) b := by
  unfold out0_5
  rw [View.canon_cons_unit_lit]
  rotate_left
  · decide
  pointwise [k0_pay1, k0_pay2, k0_pay3, k0_pay4, k0_pay5, k0_pay6, k0_pay7, h0, h1]
  rfl

include h0 h1 h2 h3 h4 in
theorem out_d : out0_6 (F := Ideal) x0 x1 x2 x3 x4 (ix2 a b) = p.delta (R + a) b := by
  unfold out0_6
  rw [View.canon_cons_unit_lit]
  rotate_left
  · decide
  pointwise [k0_pay1, k0_pay2, k0_pay3, k0_pay4, k0_pay5, k0_pay6, k0_pay7, h0, h1, h2, h3, h4]
  rfl

include h0 h1 h3 in
theorem out_m : out0_7 (F := Ideal) x0 x1 x2 x3 x4 (ix2 a b) = p.newM (R + a) b := by
  unfold out0_7
  rw [View.canon_cons_unit_lit]
  rotate_left
  · decide
  pointwise [k0_pay1, k0_pay2, k0_pay3, k0_pay4, k0_pay5, k0_pay6, k0_pay7, h0, h1, h3]
  rfl

include h0 h1 h4 in
theorem out_v : out0_8 (F := Ideal) x0 x1 x2 x3 x4 (ix2 a b) = p.newV (R + a) b := by
  unfold out0_8
  rw [View.canon_cons_unit_lit]
  rotate_left
  · decide
  pointwise [k0_pay1, k0_pay2, k0_pay3, k0_pay4, k0_pay5, k0_pay6, k0_pay7, h0, h1, h4]
  rfl

end Body

variable (m : (ℓ : Loc nD τ sig) → Buf (Elt Ideal) ℓ) (c : Dev nD)

/-- The numbers in the kernel's arguments. -/
abbrev inp : Shard := numbers (m ((c : Thread nD τ).loc main_arg0)) (m ((c : Thread nD τ).loc main_arg1))
  (m ((c : Thread nD τ).loc main_arg2)) (m ((c : Thread nD τ).loc main_arg3)) (m ((c : Thread nD τ).loc main_arg4))

/-- The block coordinates of the nine windows at each point. -/
theorem idx_win : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

section Blocks

variable (t : Fin cfg0.N)

theorem b0_at (a : Fin 176) (b : Fin 1024) : (iblk m c 0 t : FVec Ideal S176x1024 .f32) (ix2 a b) = (inp m c).k (176 * t.val + a) b := by
  have ht : t.val < 4 := lt_of_lt_of_eq t.isLt N_0
  refine Eq.trans ?_ (ent2_at (fun a b => (V m c main_arg0 : 𝔸) (ix2 a b)) ⟨176 * t.val + a, by omega⟩ b).symm
  blk_point [iblk, idx_win t]

theorem b1_at (d : Fin 3) (a : Fin 176) (b : Fin 1024) :
    (iblk m c 1 t : FVec Ideal S3x176x1024 .bf16) (ix3 d a b) = (inp m c).r d (176 * t.val + a) b := by
  have ht : t.val < 4 := lt_of_lt_of_eq t.isLt N_0
  refine Eq.trans ?_ (ent3_at (fun d a b => (V m c main_arg1 : 𝔹) (ix3 d a b)) d ⟨176 * t.val + a, by omega⟩ b).symm
  blk_point [iblk, idx_win t]

theorem V_v0 : (V m c main_v0 : 𝔸)
    = transpose S704x1024 [1, 0] (m ((c : Thread nD τ).loc main_arg2) : FVec Ideal S1024x704 .f32) transposes_S1024x704_S704x1024_1_0 := by
  unfold V; after_results; try rfl

theorem v0_at (a : Fin 704) (b : Fin 1024) : (V m c main_v0 : 𝔸) (ix2 a b)
    = (m ((c : Thread nD τ).loc main_arg2) : FVec Ideal S1024x704 .f32) (ix2 b a) := by
  rw [V_v0]; pointwise []

theorem V_v1 : (V m c main_v1 : 𝔸)
    = transpose S704x1024 [1, 0] (m ((c : Thread nD τ).loc main_arg3) : FVec Ideal S1024x704 .f32) transposes_S1024x704_S704x1024_1_0 := by
  unfold V; after_results; try rfl

theorem v1_at (a : Fin 704) (b : Fin 1024) : (V m c main_v1 : 𝔸) (ix2 a b)
    = (m ((c : Thread nD τ).loc main_arg3) : FVec Ideal S1024x704 .f32) (ix2 b a) := by
  rw [V_v1]; pointwise []

theorem V_v2 : (V m c main_v2 : 𝔸)
    = transpose S704x1024 [1, 0] (m ((c : Thread nD τ).loc main_arg4) : FVec Ideal S1024x704 .f32) transposes_S1024x704_S704x1024_1_0 := by
  unfold V; after_results; try rfl

theorem v2_at (a : Fin 704) (b : Fin 1024) : (V m c main_v2 : 𝔸) (ix2 a b)
    = (m ((c : Thread nD τ).loc main_arg4) : FVec Ideal S1024x704 .f32) (ix2 b a) := by
  rw [V_v2]; pointwise []

theorem b2_at (a : Fin 176) (b : Fin 1024) : (iblk m c 2 t : FVec Ideal S176x1024 .f32) (ix2 a b) = (inp m c).w (176 * t.val + a) b := by
  have ht : t.val < 4 := lt_of_lt_of_eq t.isLt N_0
  refine Eq.trans (b := (V m c main_v0 : 𝔸) (ix2 ⟨176 * t.val + a, by omega⟩ b)) ?_
    ((v0_at m c _ b).trans (ent2_at (fun (a : Fin 704) (b : Fin 1024) => (m ((c : Thread nD τ).loc main_arg2) : FVec Ideal S1024x704 .f32) (ix2 b a)) _ b).symm)
  blk_point [iblk, idx_win t]

theorem b3_at (a : Fin 176) (b : Fin 1024) : (iblk m c 3 t : FVec Ideal S176x1024 .f32) (ix2 a b) = (inp m c).m (176 * t.val + a) b := by
  have ht : t.val < 4 := lt_of_lt_of_eq t.isLt N_0
  refine Eq.trans (b := (V m c main_v1 : 𝔸) (ix2 ⟨176 * t.val + a, by omega⟩ b)) ?_
    ((v1_at m c _ b).trans (ent2_at (fun (a : Fin 704) (b : Fin 1024) => (m ((c : Thread nD τ).loc main_arg3) : FVec Ideal S1024x704 .f32) (ix2 b a)) _ b).symm)
  blk_point [iblk, idx_win t]

theorem b4_at (a : Fin 176) (b : Fin 1024) : (iblk m c 4 t : FVec Ideal S176x1024 .f32) (ix2 a b) = (inp m c).v (176 * t.val + a) b := by
  have ht : t.val < 4 := lt_of_lt_of_eq t.isLt N_0
  refine Eq.trans (b := (V m c main_v2 : 𝔸) (ix2 ⟨176 * t.val + a, by omega⟩ b)) ?_
    ((v2_at m c _ b).trans (ent2_at (fun (a : Fin 704) (b : Fin 1024) => (m ((c : Thread nD τ).loc main_arg4) : FVec Ideal S1024x704 .f32) (ix2 b a)) _ b).symm)
  blk_point [iblk, idx_win t]

end Blocks

/-- The kernel leaves the gradient, -/
theorem arr5 : (dats m 0 c).arrAt 5 cfg0.N = arr (inp m c).g := by
  refine (dats m 0 c).arrAt_eq_of_covers 5 _ (by decide +kernel) fun t hf y => ?_
  blk_simp
  rw [after0_5]
  change S176x1024.Idx at y
  idx_vars y
  refine (out_g _ _ _ _ _ (inp m c) (176 * t.val) (b0_at m c t) (b1_at m c t) y0 y1).trans ?_
  show _ = (inp m c).g _ _
  refine congrArg₂ (inp m c).g ?_ ?_
  · blk_simp [idx_win t]
    omega
  · blk_simp [idx_win t]

/-- the weight's change -/
theorem arr6 : (dats m 0 c).arrAt 6 cfg0.N = arr (inp m c).delta := by
  refine (dats m 0 c).arrAt_eq_of_covers 6 _ (by decide +kernel) fun t hf y => ?_
  blk_simp
  rw [after0_6]
  change S176x1024.Idx at y
  idx_vars y
  refine (out_d _ _ _ _ _ (inp m c) (176 * t.val) (b0_at m c t) (b1_at m c t) (b2_at m c t) (b3_at m c t) (b4_at m c t) y0 y1).trans ?_
  show _ = (inp m c).delta _ _
  refine congrArg₂ (inp m c).delta ?_ ?_
  · blk_simp [idx_win t]
    omega
  · blk_simp [idx_win t]

/-- and the two moments -/
theorem arr7 : (dats m 0 c).arrAt 7 cfg0.N = arr (inp m c).newM := by
  refine (dats m 0 c).arrAt_eq_of_covers 7 _ (by decide +kernel) fun t hf y => ?_
  blk_simp
  rw [after0_7]
  change S176x1024.Idx at y
  idx_vars y
  refine (out_m _ _ _ _ _ (inp m c) (176 * t.val) (b0_at m c t) (b1_at m c t) (b3_at m c t) y0 y1).trans ?_
  show _ = (inp m c).newM _ _
  refine congrArg₂ (inp m c).newM ?_ ?_
  · blk_simp [idx_win t]
    omega
  · blk_simp [idx_win t]

/-- in its results. -/
theorem arr8 : (dats m 0 c).arrAt 8 cfg0.N = arr (inp m c).newV := by
  refine (dats m 0 c).arrAt_eq_of_covers 8 _ (by decide +kernel) fun t hf y => ?_
  blk_simp
  rw [after0_8]
  change S176x1024.Idx at y
  idx_vars y
  refine (out_v _ _ _ _ _ (inp m c) (176 * t.val) (b0_at m c t) (b1_at m c t) (b4_at m c t) y0 y1).trans ?_
  show _ = (inp m c).newV _ _
  refine congrArg₂ (inp m c).newV ?_ ?_
  · blk_simp [idx_win t]
    omega
  · blk_simp [idx_win t]

/-- At every input the kernel's results are the reference's. -/
theorem agree : algebraic_Kernel11Ideal_Reference11Ideal := by
  intro m ρ m' ρ' _ hagree
  refine ⟨fun c => arr (inp m c).g, fun c => arr (inp m c).delta, fun c => arr (inp m c).newM, fun c => arr (inp m c).newV, ?_, ?_⟩
  · exact (θ_run Kernel11Ideal.defs _ _).mono (fun r h c =>
        And.intro ((h c).1.trans (arr5 m c)) <| And.intro ((h c).2.1.trans (arr6 m c)) <|
        And.intro ((h c).2.2.1.trans (arr7 m c)) <| And.intro ((h c).2.2.2.1.trans (arr8 m c)) (h c).2.2.2.2)
      (Kernel11Ideal.Value.run_blocks (F := Ideal) m ρ)
  · refine reference_run m' ρ' (fun c => inp m c) fun c => ?_
    obtain ⟨e0, e1, e2, e3, e4⟩ := hagree c
    rw [e0, e1, e2, e3, e4]

end Cert.Adam.GateUp

end
-- ==== Proof.AdamDown.lean ====
/- AdamW of `w_down`, one device's rows: what the kernel leaves in its four results is what the reference computes,
   entry by entry. -/
module

public import proofs.«01_k».proof.Defs
public import proofs.«01_k».proof.Proof.AdamModel
public import proofs.«01_k».proof.Proof.Gen.Kernel12Ideal.Value
public import proofs.«01_k».proof.Proof.Gen.Reference12Ideal.Run
public import Idealize.ShloMosaic.Lib.Quiescent
public import Idealize.ShloMosaic.Adequacy
public import Idealize.ShloMosaic.Init

@[expose] public section

set_option maxRecDepth 16384

noncomputable section

namespace Cert.Adam.Down

open Idealize.ShloMosaic Idealize.ShloMosaic.TcCoe Idealize.ShloMosaic.Tactic Idealize.SL.Sem Idealize.ShloMosaic.StableHlo

/-! ## The reference -/

section Reference

open Cert.Reference12Ideal Cert.Reference12Ideal.Gen

local notation "𝔸" => FVec Ideal S352x1024 FTy.f32
local notation "𝔹" => FVec Ideal S3x352x1024 FTy.bf16

/-- The numbers in the five arguments. -/
def numbers (k : 𝔸) (r : 𝔹) (w m v : 𝔸) : Shard where
  k := ent2 fun (a : Fin 352) (b : Fin 1024) => k (ix2 a b)
  r := ent3 fun (d : Fin 3) (a : Fin 352) (b : Fin 1024) => r (ix3 d a b)
  w := ent2 fun (a : Fin 352) (b : Fin 1024) => w (ix2 a b)
  m := ent2 fun (a : Fin 352) (b : Fin 1024) => m (ix2 a b)
  v := ent2 fun (a : Fin 352) (b : Fin 1024) => v (ix2 a b)

/-- An array from its entries. -/
def arr (f : ℕ → ℕ → EReal) : 𝔸 := fun i => f (i 0) (i 1)

/-- What the reference returns, as arrays of the model's numbers. -/
theorem reference_run (m : (ℓ : Loc nD τ sig) → Buf (Elt Ideal) ℓ) (ρ : Dev nD → PrngReg)
    (p : Dev nD → Shard) (hp : ∀ c, p c = numbers (m ((c : Thread nD τ).loc main_arg0)) (m ((c : Thread nD τ).loc main_arg1))
      (m ((c : Thread nD τ).loc main_arg2)) (m ((c : Thread nD τ).loc main_arg3)) (m ((c : Thread nD τ).loc main_arg4))) :
    θ_run defs (onTc (τ := τ) (main (F := Ideal))) ⟨m, fun _ => 0, ρ⟩ fun r => ∀ c : Dev nD,
      r.2.mem ((c : Thread nD τ).loc main_v2) = arr (p c).g
      ∧ r.2.mem ((c : Thread nD τ).loc main_v26) = arr (p c).delta
      ∧ r.2.mem ((c : Thread nD τ).loc main_v7) = arr (p c).newM
      ∧ r.2.mem ((c : Thread nD τ).loc main_v13) = arr (p c).newV
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Reference12Ideal.Value.run (F := Ideal) m ρ)
  obtain ⟨h0, h1, h2, h3, hk⟩ := h c
  have e0 : ∀ (a : Fin 352) (b : Fin 1024), (m ((c : Thread nD τ).loc main_arg0) : 𝔸) (ix2 a b) = (p c).k a b :=
    fun a b => by rw [hp c]; dsimp only [numbers]; rw [ent2_at]
  have e1 : ∀ (d : Fin 3) (a : Fin 352) (b : Fin 1024), (m ((c : Thread nD τ).loc main_arg1) : 𝔹) (ix3 d a b) = (p c).r d a b :=
    fun d a b => by rw [hp c]; dsimp only [numbers]; rw [ent3_at]
  have e2 : ∀ (a : Fin 352) (b : Fin 1024), (m ((c : Thread nD τ).loc main_arg2) : 𝔸) (ix2 a b) = (p c).w a b :=
    fun a b => by rw [hp c]; dsimp only [numbers]; rw [ent2_at]
  have e3 : ∀ (a : Fin 352) (b : Fin 1024), (m ((c : Thread nD τ).loc main_arg3) : 𝔸) (ix2 a b) = (p c).m a b :=
    fun a b => by rw [hp c]; dsimp only [numbers]; rw [ent2_at]
  have e4 : ∀ (a : Fin 352) (b : Fin 1024), (m ((c : Thread nD τ).loc main_arg4) : 𝔸) (ix2 a b) = (p c).v a b :=
    fun a b => by rw [hp c]; dsimp only [numbers]; rw [ent2_at]
  have eg : ∀ (a : Fin 352) (b : Fin 1024), (r.2.mem ((c : Thread nD τ).loc main_v2) : 𝔸) (ix2 a b) = (p c).g a b := by
    intro a b
    rw [h0]
    pointwise [e0, e1, Fin.sum_univ_three, zero_add]
    show (p c).k a b + ((p c).r 0 a b + (p c).r 1 a b + (p c).r 2 a b) = _
    rw [← add_assoc, ← add_assoc]
    rfl
  rw [← h0] at h1 h2 h3
  refine ⟨?_, ?_, ?_, ?_, hk⟩
  · funext i
    idx_vars i
    exact eg i0 i1
  · rw [h1]
    funext i
    idx_vars i
    pointwise [eg, e2, e3, e4]
    rfl
  · rw [h2]
    funext i
    idx_vars i
    pointwise [eg, e3]
    rfl
  · rw [h3]
    funext i
    idx_vars i
    pointwise [eg, e4]
    rfl

/-- The reference leaves its arguments as they were and every counter at zero. -/
theorem reference_frame : quiescent_Reference12Ideal := fun m ρ _ =>
  (θ_run Reference12Ideal.defs _ _).mono (fun r h => And.intro (fun c => (h c).2.2.2.2)
    (Idealize.ShloMosaic.sem_eq_zero_of_no_sems (by decide) r.2)) (Reference12Ideal.Value.run (F := Ideal) m ρ)

end Reference

/-! ## The kernel -/

open Cert.Kernel12Ideal Cert.Kernel12Ideal.Gen

local notation "𝔸" => FVec Ideal S352x1024 FTy.f32
local notation "𝔹" => FVec Ideal S3x352x1024 FTy.bf16

/-! What the body computes from its blocks. -/
section Body

variable (x0 : FVec Ideal S176x1024 .f32) (x1 : FVec Ideal S3x176x1024 .bf16) (x2 x3 x4 : FVec Ideal S176x1024 .f32)
  (p : Shard) (R : ℕ)
  (h0 : ∀ (a : Fin 176) (b : Fin 1024), x0 (ix2 a b) = p.k (R + a) b)
  (h1 : ∀ (d : Fin 3) (a : Fin 176) (b : Fin 1024), x1 (ix3 d a b) = p.r d (R + a) b)
  (h2 : ∀ (a : Fin 176) (b : Fin 1024), x2 (ix2 a b) = p.w (R + a) b)
  (h3 : ∀ (a : Fin 176) (b : Fin 1024), x3 (ix2 a b) = p.m (R + a) b)
  (h4 : ∀ (a : Fin 176) (b : Fin 1024), x4 (ix2 a b) = p.v (R + a) b)
  (a : Fin 176) (b : Fin 1024)

include h0 h1 in
theorem out_g : out0_5 (F := Ideal) x0 x1 x2 x3 x4 (ix2 a b) = p.g (R + a) b := by
  unfold out0_5
  rw [View.canon_cons_unit_lit]
  rotate_left
  · decide
  pointwise [k0_pay1, k0_pay2, k0_pay3, k0_pay4, k0_pay5, k0_pay6, h0, h1]
  rfl

include h0 h1 h2 h3 h4 in
theorem out_d : out0_6 (F := Ideal) x0 x1 x2 x3 x4 (ix2 a b) = p.delta (R + a) b := by
  unfold out0_6
  rw [View.canon_cons_unit_lit]
  rotate_left
  · decide
  pointwise [k0_pay1, k0_pay2, k0_pay3, k0_pay4, k0_pay5, k0_pay6, h0, h1, h2, h3, h4]
  rfl

include h0 h1 h3 in
theorem out_m : out0_7 (F := Ideal) x0 x1 x2 x3 x4 (ix2 a b) = p.newM (R + a) b := by
  unfold out0_7
  rw [View.canon_cons_unit_lit]
  rotate_left
  · decide
  pointwise [k0_pay1, k0_pay2, k0_pay3, k0_pay4, k0_pay5, k0_pay6, h0, h1, h3]
  rfl

include h0 h1 h4 in
theorem out_v : out0_8 (F := Ideal) x0 x1 x2 x3 x4 (ix2 a b) = p.newV (R + a) b := by
  unfold out0_8
  rw [View.canon_cons_unit_lit]
  rotate_left
  · decide
  pointwise [k0_pay1, k0_pay2, k0_pay3, k0_pay4, k0_pay5, k0_pay6, h0, h1, h4]
  rfl

end Body

variable (m : (ℓ : Loc nD τ sig) → Buf (Elt Ideal) ℓ) (c : Dev nD)

/-- The numbers in the kernel's arguments. -/
abbrev inp : Shard := numbers (m ((c : Thread nD τ).loc main_arg0)) (m ((c : Thread nD τ).loc main_arg1))
  (m ((c : Thread nD τ).loc main_arg2)) (m ((c : Thread nD τ).loc main_arg3)) (m ((c : Thread nD τ).loc main_arg4))

/-- The block coordinates of the nine windows at each point. -/
theorem idx_win : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

section Blocks

variable (t : Fin cfg0.N)

theorem b0_at (a : Fin 176) (b : Fin 1024) : (iblk m c 0 t : FVec Ideal S176x1024 .f32) (ix2 a b) = (inp m c).k (176 * t.val + a) b := by
  have ht : t.val < 2 := lt_of_lt_of_eq t.isLt N_0
  refine Eq.trans ?_ (ent2_at (fun a b => (V m c main_arg0 : 𝔸) (ix2 a b)) ⟨176 * t.val + a, by omega⟩ b).symm
  blk_point [iblk, idx_win t]

theorem b1_at (d : Fin 3) (a : Fin 176) (b : Fin 1024) :
    (iblk m c 1 t : FVec Ideal S3x176x1024 .bf16) (ix3 d a b) = (inp m c).r d (176 * t.val + a) b := by
  have ht : t.val < 2 := lt_of_lt_of_eq t.isLt N_0
  refine Eq.trans ?_ (ent3_at (fun d a b => (V m c main_arg1 : 𝔹) (ix3 d a b)) d ⟨176 * t.val + a, by omega⟩ b).symm
  blk_point [iblk, idx_win t]

theorem b2_at (a : Fin 176) (b : Fin 1024) : (iblk m c 2 t : FVec Ideal S176x1024 .f32) (ix2 a b) = (inp m c).w (176 * t.val + a) b := by
  have ht : t.val < 2 := lt_of_lt_of_eq t.isLt N_0
  refine Eq.trans ?_ (ent2_at (fun a b => (V m c main_arg2 : 𝔸) (ix2 a b)) ⟨176 * t.val + a, by omega⟩ b).symm
  blk_point [iblk, idx_win t]

theorem b3_at (a : Fin 176) (b : Fin 1024) : (iblk m c 3 t : FVec Ideal S176x1024 .f32) (ix2 a b) = (inp m c).m (176 * t.val + a) b := by
  have ht : t.val < 2 := lt_of_lt_of_eq t.isLt N_0
  refine Eq.trans ?_ (ent2_at (fun a b => (V m c main_arg3 : 𝔸) (ix2 a b)) ⟨176 * t.val + a, by omega⟩ b).symm
  blk_point [iblk, idx_win t]

theorem b4_at (a : Fin 176) (b : Fin 1024) : (iblk m c 4 t : FVec Ideal S176x1024 .f32) (ix2 a b) = (inp m c).v (176 * t.val + a) b := by
  have ht : t.val < 2 := lt_of_lt_of_eq t.isLt N_0
  refine Eq.trans ?_ (ent2_at (fun a b => (V m c main_arg4 : 𝔸) (ix2 a b)) ⟨176 * t.val + a, by omega⟩ b).symm
  blk_point [iblk, idx_win t]

end Blocks

/-- The kernel leaves the gradient, -/
theorem arr5 : (dats m 0 c).arrAt 5 cfg0.N = arr (inp m c).g := by
  refine (dats m 0 c).arrAt_eq_of_covers 5 _ (by decide +kernel) fun t hf y => ?_
  blk_simp
  rw [after0_5]
  change S176x1024.Idx at y
  idx_vars y
  refine (out_g _ _ _ _ _ (inp m c) (176 * t.val) (b0_at m c t) (b1_at m c t) y0 y1).trans ?_
  show _ = (inp m c).g _ _
  refine congrArg₂ (inp m c).g ?_ ?_
  · blk_simp [idx_win t]
    omega
  · blk_simp [idx_win t]

/-- the weight's change -/
theorem arr6 : (dats m 0 c).arrAt 6 cfg0.N = arr (inp m c).delta := by
  refine (dats m 0 c).arrAt_eq_of_covers 6 _ (by decide +kernel) fun t hf y => ?_
  blk_simp
  rw [after0_6]
  change S176x1024.Idx at y
  idx_vars y
  refine (out_d _ _ _ _ _ (inp m c) (176 * t.val) (b0_at m c t) (b1_at m c t) (b2_at m c t) (b3_at m c t) (b4_at m c t) y0 y1).trans ?_
  show _ = (inp m c).delta _ _
  refine congrArg₂ (inp m c).delta ?_ ?_
  · blk_simp [idx_win t]
    omega
  · blk_simp [idx_win t]

/-- and the two moments -/
theorem arr7 : (dats m 0 c).arrAt 7 cfg0.N = arr (inp m c).newM := by
  refine (dats m 0 c).arrAt_eq_of_covers 7 _ (by decide +kernel) fun t hf y => ?_
  blk_simp
  rw [after0_7]
  change S176x1024.Idx at y
  idx_vars y
  refine (out_m _ _ _ _ _ (inp m c) (176 * t.val) (b0_at m c t) (b1_at m c t) (b3_at m c t) y0 y1).trans ?_
  show _ = (inp m c).newM _ _
  refine congrArg₂ (inp m c).newM ?_ ?_
  · blk_simp [idx_win t]
    omega
  · blk_simp [idx_win t]

/-- in its results. -/
theorem arr8 : (dats m 0 c).arrAt 8 cfg0.N = arr (inp m c).newV := by
  refine (dats m 0 c).arrAt_eq_of_covers 8 _ (by decide +kernel) fun t hf y => ?_
  blk_simp
  rw [after0_8]
  change S176x1024.Idx at y
  idx_vars y
  refine (out_v _ _ _ _ _ (inp m c) (176 * t.val) (b0_at m c t) (b1_at m c t) (b4_at m c t) y0 y1).trans ?_
  show _ = (inp m c).newV _ _
  refine congrArg₂ (inp m c).newV ?_ ?_
  · blk_simp [idx_win t]
    omega
  · blk_simp [idx_win t]

/-- At every input the kernel's results are the reference's. -/
theorem agree : algebraic_Kernel12Ideal_Reference12Ideal := by
  intro m ρ m' ρ' _ hagree
  refine ⟨fun c => arr (inp m c).g, fun c => arr (inp m c).delta, fun c => arr (inp m c).newM, fun c => arr (inp m c).newV, ?_, ?_⟩
  · exact (θ_run Kernel12Ideal.defs _ _).mono (fun r h c =>
        And.intro ((h c).1.trans (arr5 m c)) <| And.intro ((h c).2.1.trans (arr6 m c)) <|
        And.intro ((h c).2.2.1.trans (arr7 m c)) <| And.intro ((h c).2.2.2.1.trans (arr8 m c)) (h c).2.2.2.2)
      (Kernel12Ideal.Value.run_blocks (F := Ideal) m ρ)
  · refine reference_run m' ρ' (fun c => inp m c) fun c => ?_
    obtain ⟨e0, e1, e2, e3, e4⟩ := hagree c
    rw [e0, e1, e2, e3, e4]

end Cert.Adam.Down

end
-- ==== Proof.AdamKv.lean ====
/- AdamW of `w_kv`, one device's columns: what the kernel leaves in its four results is what the reference computes,
   entry by entry. -/
module

public import proofs.«01_k».proof.Defs
public import proofs.«01_k».proof.Proof.AdamModel
public import proofs.«01_k».proof.Proof.Gen.Kernel13Ideal.Value
public import proofs.«01_k».proof.Proof.Gen.Reference13Ideal.Run
public import Idealize.ShloMosaic.Lib.Quiescent
public import Idealize.ShloMosaic.Adequacy
public import Idealize.ShloMosaic.Init

@[expose] public section

set_option maxRecDepth 16384

noncomputable section

namespace Cert.Adam.Kv

open Idealize.ShloMosaic Idealize.ShloMosaic.TcCoe Idealize.ShloMosaic.Tactic Idealize.SL.Sem Idealize.ShloMosaic.StableHlo

/-! ## The reference -/

section Reference

open Cert.Reference13Ideal Cert.Reference13Ideal.Gen

local notation "𝔸" => FVec Ideal S1024x256 FTy.f32
local notation "𝔹" => FVec Ideal S3x1024x256 FTy.bf16

/-- The numbers in the five arguments. -/
def numbers (k : 𝔸) (r : 𝔹) (w m v : 𝔸) : Shard where
  k := ent2 fun (a : Fin 1024) (b : Fin 256) => k (ix2 a b)
  r := ent3 fun (d : Fin 3) (a : Fin 1024) (b : Fin 256) => r (ix3 d a b)
  w := ent2 fun (a : Fin 1024) (b : Fin 256) => w (ix2 a b)
  m := ent2 fun (a : Fin 1024) (b : Fin 256) => m (ix2 a b)
  v := ent2 fun (a : Fin 1024) (b : Fin 256) => v (ix2 a b)

/-- An array from its entries. -/
def arr (f : ℕ → ℕ → EReal) : 𝔸 := fun i => f (i 0) (i 1)

/-- What the reference returns, as arrays of the model's numbers. -/
theorem reference_run (m : (ℓ : Loc nD τ sig) → Buf (Elt Ideal) ℓ) (ρ : Dev nD → PrngReg)
    (p : Dev nD → Shard) (hp : ∀ c, p c = numbers (m ((c : Thread nD τ).loc main_arg0)) (m ((c : Thread nD τ).loc main_arg1))
      (m ((c : Thread nD τ).loc main_arg2)) (m ((c : Thread nD τ).loc main_arg3)) (m ((c : Thread nD τ).loc main_arg4))) :
    θ_run defs (onTc (τ := τ) (main (F := Ideal))) ⟨m, fun _ => 0, ρ⟩ fun r => ∀ c : Dev nD,
      r.2.mem ((c : Thread nD τ).loc main_v2) = arr (p c).g
      ∧ r.2.mem ((c : Thread nD τ).loc main_v26) = arr (p c).delta
      ∧ r.2.mem ((c : Thread nD τ).loc main_v7) = arr (p c).newM
      ∧ r.2.mem ((c : Thread nD τ).loc main_v13) = arr (p c).newV
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Reference13Ideal.Value.run (F := Ideal) m ρ)
  obtain ⟨h0, h1, h2, h3, hk⟩ := h c
  have e0 : ∀ (a : Fin 1024) (b : Fin 256), (m ((c : Thread nD τ).loc main_arg0) : 𝔸) (ix2 a b) = (p c).k a b :=
    fun a b => by rw [hp c]; dsimp only [numbers]; rw [ent2_at]
  have e1 : ∀ (d : Fin 3) (a : Fin 1024) (b : Fin 256), (m ((c : Thread nD τ).loc main_arg1) : 𝔹) (ix3 d a b) = (p c).r d a b :=
    fun d a b => by rw [hp c]; dsimp only [numbers]; rw [ent3_at]
  have e2 : ∀ (a : Fin 1024) (b : Fin 256), (m ((c : Thread nD τ).loc main_arg2) : 𝔸) (ix2 a b) = (p c).w a b :=
    fun a b => by rw [hp c]; dsimp only [numbers]; rw [ent2_at]
  have e3 : ∀ (a : Fin 1024) (b : Fin 256), (m ((c : Thread nD τ).loc main_arg3) : 𝔸) (ix2 a b) = (p c).m a b :=
    fun a b => by rw [hp c]; dsimp only [numbers]; rw [ent2_at]
  have e4 : ∀ (a : Fin 1024) (b : Fin 256), (m ((c : Thread nD τ).loc main_arg4) : 𝔸) (ix2 a b) = (p c).v a b :=
    fun a b => by rw [hp c]; dsimp only [numbers]; rw [ent2_at]
  have eg : ∀ (a : Fin 1024) (b : Fin 256), (r.2.mem ((c : Thread nD τ).loc main_v2) : 𝔸) (ix2 a b) = (p c).g a b := by
    intro a b
    rw [h0]
    pointwise [e0, e1, Fin.sum_univ_three, zero_add]
    show (p c).k a b + ((p c).r 0 a b + (p c).r 1 a b + (p c).r 2 a b) = _
    rw [← add_assoc, ← add_assoc]
    rfl
  rw [← h0] at h1 h2 h3
  refine ⟨?_, ?_, ?_, ?_, hk⟩
  · funext i
    idx_vars i
    exact eg i0 i1
  · rw [h1]
    funext i
    idx_vars i
    pointwise [eg, e2, e3, e4]
    rfl
  · rw [h2]
    funext i
    idx_vars i
    pointwise [eg, e3]
    rfl
  · rw [h3]
    funext i
    idx_vars i
    pointwise [eg, e4]
    rfl

/-- The reference leaves its arguments as they were and every counter at zero. -/
theorem reference_frame : quiescent_Reference13Ideal := fun m ρ _ =>
  (θ_run Reference13Ideal.defs _ _).mono (fun r h => And.intro (fun c => (h c).2.2.2.2)
    (Idealize.ShloMosaic.sem_eq_zero_of_no_sems (by decide) r.2)) (Reference13Ideal.Value.run (F := Ideal) m ρ)

end Reference

/-! ## The kernel -/

open Cert.Kernel13Ideal Cert.Kernel13Ideal.Gen

local notation "𝔸" => FVec Ideal S1024x256 FTy.f32
local notation "𝔹" => FVec Ideal S3x1024x256 FTy.bf16

/-! What the body computes from its blocks. -/
section Body

variable (x0 : FVec Ideal S256x256 .f32) (x1 : FVec Ideal S3x256x256 .bf16) (x2 x3 x4 : FVec Ideal S256x256 .f32)
  (p : Shard) (R : ℕ)
  (h0 : ∀ (a : Fin 256) (b : Fin 256), x0 (ix2 a b) = p.k (R + a) b)
  (h1 : ∀ (d : Fin 3) (a : Fin 256) (b : Fin 256), x1 (ix3 d a b) = p.r d (R + a) b)
  (h2 : ∀ (a : Fin 256) (b : Fin 256), x2 (ix2 a b) = p.w (R + a) b)
  (h3 : ∀ (a : Fin 256) (b : Fin 256), x3 (ix2 a b) = p.m (R + a) b)
  (h4 : ∀ (a : Fin 256) (b : Fin 256), x4 (ix2 a b) = p.v (R + a) b)
  (a : Fin 256) (b : Fin 256)

include h0 h1 in
theorem out_g : out0_5 (F := Ideal) x0 x1 x2 x3 x4 (ix2 a b) = p.g (R + a) b := by
  unfold out0_5
  rw [View.canon_cons_unit_lit]
  rotate_left
  · decide
  pointwise [k0_pay1, k0_pay2, k0_pay3, k0_pay4, k0_pay5, k0_pay6, h0, h1]
  rfl

include h0 h1 h2 h3 h4 in
theorem out_d : out0_6 (F := Ideal) x0 x1 x2 x3 x4 (ix2 a b) = p.delta (R + a) b := by
  unfold out0_6
  rw [View.canon_cons_unit_lit]
  rotate_left
  · decide
  pointwise [k0_pay1, k0_pay2, k0_pay3, k0_pay4, k0_pay5, k0_pay6, h0, h1, h2, h3, h4]
  rfl

include h0 h1 h3 in
theorem out_m : out0_7 (F := Ideal) x0 x1 x2 x3 x4 (ix2 a b) = p.newM (R + a) b := by
  unfold out0_7
  rw [View.canon_cons_unit_lit]
  rotate_left
  · decide
  pointwise [k0_pay1, k0_pay2, k0_pay3, k0_pay4, k0_pay5, k0_pay6, h0, h1, h3]
  rfl

include h0 h1 h4 in
theorem out_v : out0_8 (F := Ideal) x0 x1 x2 x3 x4 (ix2 a b) = p.newV (R + a) b := by
  unfold out0_8
  rw [View.canon_cons_unit_lit]
  rotate_left
  · decide
  pointwise [k0_pay1, k0_pay2, k0_pay3, k0_pay4, k0_pay5, k0_pay6, h0, h1, h4]
  rfl

end Body

variable (m : (ℓ : Loc nD τ sig) → Buf (Elt Ideal) ℓ) (c : Dev nD)

/-- The numbers in the kernel's arguments. -/
abbrev inp : Shard := numbers (m ((c : Thread nD τ).loc main_arg0)) (m ((c : Thread nD τ).loc main_arg1))
  (m ((c : Thread nD τ).loc main_arg2)) (m ((c : Thread nD τ).loc main_arg3)) (m ((c : Thread nD τ).loc main_arg4))

/-- The block coordinates of the nine windows at each point. -/
theorem idx_win : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

section Blocks

variable (t : Fin cfg0.N)

theorem b0_at (a : Fin 256) (b : Fin 256) : (iblk m c 0 t : FVec Ideal S256x256 .f32) (ix2 a b) = (inp m c).k (256 * t.val + a) b := by
  have ht : t.val < 4 := lt_of_lt_of_eq t.isLt N_0
  refine Eq.trans ?_ (ent2_at (fun a b => (V m c main_arg0 : 𝔸) (ix2 a b)) ⟨256 * t.val + a, by omega⟩ b).symm
  blk_point [iblk, idx_win t]

theorem b1_at (d : Fin 3) (a : Fin 256) (b : Fin 256) :
    (iblk m c 1 t : FVec Ideal S3x256x256 .bf16) (ix3 d a b) = (inp m c).r d (256 * t.val + a) b := by
  have ht : t.val < 4 := lt_of_lt_of_eq t.isLt N_0
  refine Eq.trans ?_ (ent3_at (fun d a b => (V m c main_arg1 : 𝔹) (ix3 d a b)) d ⟨256 * t.val + a, by omega⟩ b).symm
  blk_point [iblk, idx_win t]

theorem b2_at (a : Fin 256) (b : Fin 256) : (iblk m c 2 t : FVec Ideal S256x256 .f32) (ix2 a b) = (inp m c).w (256 * t.val + a) b := by
  have ht : t.val < 4 := lt_of_lt_of_eq t.isLt N_0
  refine Eq.trans ?_ (ent2_at (fun a b => (V m c main_arg2 : 𝔸) (ix2 a b)) ⟨256 * t.val + a, by omega⟩ b).symm
  blk_point [iblk, idx_win t]

theorem b3_at (a : Fin 256) (b : Fin 256) : (iblk m c 3 t : FVec Ideal S256x256 .f32) (ix2 a b) = (inp m c).m (256 * t.val + a) b := by
  have ht : t.val < 4 := lt_of_lt_of_eq t.isLt N_0
  refine Eq.trans ?_ (ent2_at (fun a b => (V m c main_arg3 : 𝔸) (ix2 a b)) ⟨256 * t.val + a, by omega⟩ b).symm
  blk_point [iblk, idx_win t]

theorem b4_at (a : Fin 256) (b : Fin 256) : (iblk m c 4 t : FVec Ideal S256x256 .f32) (ix2 a b) = (inp m c).v (256 * t.val + a) b := by
  have ht : t.val < 4 := lt_of_lt_of_eq t.isLt N_0
  refine Eq.trans ?_ (ent2_at (fun a b => (V m c main_arg4 : 𝔸) (ix2 a b)) ⟨256 * t.val + a, by omega⟩ b).symm
  blk_point [iblk, idx_win t]

end Blocks

/-- The kernel leaves the gradient, -/
theorem arr5 : (dats m 0 c).arrAt 5 cfg0.N = arr (inp m c).g := by
  refine (dats m 0 c).arrAt_eq_of_covers 5 _ (by decide +kernel) fun t hf y => ?_
  blk_simp
  rw [after0_5]
  change S256x256.Idx at y
  idx_vars y
  refine (out_g _ _ _ _ _ (inp m c) (256 * t.val) (b0_at m c t) (b1_at m c t) y0 y1).trans ?_
  show _ = (inp m c).g _ _
  refine congrArg₂ (inp m c).g ?_ ?_
  · blk_simp [idx_win t]
    omega
  · blk_simp [idx_win t]

/-- the weight's change -/
theorem arr6 : (dats m 0 c).arrAt 6 cfg0.N = arr (inp m c).delta := by
  refine (dats m 0 c).arrAt_eq_of_covers 6 _ (by decide +kernel) fun t hf y => ?_
  blk_simp
  rw [after0_6]
  change S256x256.Idx at y
  idx_vars y
  refine (out_d _ _ _ _ _ (inp m c) (256 * t.val) (b0_at m c t) (b1_at m c t) (b2_at m c t) (b3_at m c t) (b4_at m c t) y0 y1).trans ?_
  show _ = (inp m c).delta _ _
  refine congrArg₂ (inp m c).delta ?_ ?_
  · blk_simp [idx_win t]
    omega
  · blk_simp [idx_win t]

/-- and the two moments -/
theorem arr7 : (dats m 0 c).arrAt 7 cfg0.N = arr (inp m c).newM := by
  refine (dats m 0 c).arrAt_eq_of_covers 7 _ (by decide +kernel) fun t hf y => ?_
  blk_simp
  rw [after0_7]
  change S256x256.Idx at y
  idx_vars y
  refine (out_m _ _ _ _ _ (inp m c) (256 * t.val) (b0_at m c t) (b1_at m c t) (b3_at m c t) y0 y1).trans ?_
  show _ = (inp m c).newM _ _
  refine congrArg₂ (inp m c).newM ?_ ?_
  · blk_simp [idx_win t]
    omega
  · blk_simp [idx_win t]

/-- in its results. -/
theorem arr8 : (dats m 0 c).arrAt 8 cfg0.N = arr (inp m c).newV := by
  refine (dats m 0 c).arrAt_eq_of_covers 8 _ (by decide +kernel) fun t hf y => ?_
  blk_simp
  rw [after0_8]
  change S256x256.Idx at y
  idx_vars y
  refine (out_v _ _ _ _ _ (inp m c) (256 * t.val) (b0_at m c t) (b1_at m c t) (b4_at m c t) y0 y1).trans ?_
  show _ = (inp m c).newV _ _
  refine congrArg₂ (inp m c).newV ?_ ?_
  · blk_simp [idx_win t]
    omega
  · blk_simp [idx_win t]

/-- At every input the kernel's results are the reference's. -/
theorem agree : algebraic_Kernel13Ideal_Reference13Ideal := by
  intro m ρ m' ρ' _ hagree
  refine ⟨fun c => arr (inp m c).g, fun c => arr (inp m c).delta, fun c => arr (inp m c).newM, fun c => arr (inp m c).newV, ?_, ?_⟩
  · exact (θ_run Kernel13Ideal.defs _ _).mono (fun r h c =>
        And.intro ((h c).1.trans (arr5 m c)) <| And.intro ((h c).2.1.trans (arr6 m c)) <|
        And.intro ((h c).2.2.1.trans (arr7 m c)) <| And.intro ((h c).2.2.2.1.trans (arr8 m c)) (h c).2.2.2.2)
      (Kernel13Ideal.Value.run_blocks (F := Ideal) m ρ)
  · refine reference_run m' ρ' (fun c => inp m c) fun c => ?_
    obtain ⟨e0, e1, e2, e3, e4⟩ := hagree c
    rw [e0, e1, e2, e3, e4]

end Cert.Adam.Kv

end
-- ==== Proof.lean ====
/- The certificate, for the gradients of the mixing layer, of SwiGLU and of the large weights, for SwiGLU's forward pass and for AdamW: for each
   kernel its frames at both readings and its reference's, the named constants, and the equality of what the kernel computes with
   the reference's. -/
module

public import proofs.«01_k».proof.Defs
public import proofs.«01_k».proof.Proof.BitsFrame
public import proofs.«01_k».proof.Proof.Gen.ReferenceIdeal.Run
public import proofs.«01_k».proof.Proof.KFrame
public import proofs.«01_k».proof.Proof.Arrays
public import proofs.«01_k».proof.Proof.Finite
public import proofs.«01_k».proof.Proof.SwiClaims
public import proofs.«01_k».proof.Proof.WeightGateUp
public import proofs.«01_k».proof.Proof.WeightDown
public import proofs.«01_k».proof.Proof.WeightIn
public import proofs.«01_k».proof.Proof.WeightSquare
public import proofs.«01_k».proof.Proof.FfnBitsFrame
public import proofs.«01_k».proof.Proof.FfnClaims
public import proofs.«01_k».proof.Proof.AdamConv
public import proofs.«01_k».proof.Proof.AdamSquare
public import proofs.«01_k».proof.Proof.AdamIn
public import proofs.«01_k».proof.Proof.AdamGateUp
public import proofs.«01_k».proof.Proof.AdamDown
public import proofs.«01_k».proof.Proof.AdamKv
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import Idealize.ShloMosaic.Lib.Quiescent
public import Idealize.ShloMosaic.Adequacy
public import Idealize.ShloMosaic.Init

@[expose] public section

set_option maxRecDepth 16384

noncomputable section

namespace Cert.Mix

open Idealize.ShloMosaic Idealize.ShloMosaic.TcCoe Idealize.SL.Sem Idealize.ShloMosaic.StableHlo

/-- The reference leaves its arguments as they were and every counter at zero. -/
theorem reference_frame : quiescent_ReferenceIdeal := fun m ρ _ =>
  (θ_run ReferenceIdeal.defs _ _).mono (fun r h => And.intro (fun c => (h c).2.2.2.2.2.2.2.2.2.2)
    (Idealize.ShloMosaic.sem_eq_zero_of_no_sems (by decide) r.2)) (ReferenceIdeal.Value.run (F := Ideal) m ρ)

/-- At every finite input the kernel's results are the reference's. -/
theorem agree : algebraic_KernelIdeal_ReferenceIdeal_pre_finite := by
  intro m ρ m' ρ' hpre hagree
  have H := fun c => holds m c hpre
  refine ⟨fun c => o16 (inp m c), fun c => o17 (inp m c), fun c => o18 (inp m c), fun c => o19 (inp m c),
    fun c => o20 (inp m c), fun c => o21 (inp m c), fun c => o22 (inp m c), fun c => o23 (inp m c), fun c => o24 (inp m c),
    fun c => o25 (inp m c), ?_, ?_⟩
  · exact (θ_run KernelIdeal.defs _ _).mono (fun r h c =>
        And.intro ((h c).1.1.trans (K.arr16 (H c))) <| And.intro ((h c).1.2.1.trans (K.arr17 (H c))) <|
        And.intro ((h c).1.2.2.1.trans (K.arr18 (H c))) <| And.intro ((h c).1.2.2.2.1.trans (K.arr19 (H c))) <|
        And.intro ((h c).1.2.2.2.2.1.trans (K.arr20 (H c))) <| And.intro ((h c).1.2.2.2.2.2.1.trans (K.arr21 (H c))) <|
        And.intro ((h c).1.2.2.2.2.2.2.1.trans (K.arr22 (H c))) <| And.intro ((h c).1.2.2.2.2.2.2.2.1.trans (K.arr23 (H c))) <|
        And.intro ((h c).1.2.2.2.2.2.2.2.2.1.trans (K.arr24 (H c))) <|
        And.intro ((h c).1.2.2.2.2.2.2.2.2.2.trans (K.arr25 (H c))) (h c).2)
        (K.run_arrays (F := Ideal) m ρ)
  · refine R.run_results m' ρ' (p := fun c => inp m c) (A := fun c => args (H c)) fun c => ?_
    obtain ⟨e0, e1, e2, e3, e4, e5, e6, e7, e8, e9, e10, e11⟩ := hagree c
    exact ⟨e0, e1, e2, e3, e4, e5, e6, e7, e8, e9, e10, e11⟩

end Cert.Mix

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.Gen.facts, Cert.Pre_finite_ffn.Gen.facts,
    fun m ρ _ => Cert.Mix.B.frame m ρ, fun m ρ _ => Cert.Mix.K.frame m ρ, fun m ρ _ => Cert.Mix.K.frame m ρ,
    Cert.Mix.reference_frame, fun m ρ _ => Cert.Mix.reference_frame m ρ trivial,
    fun m ρ _ => Cert.Kernel2.Gen.frame m ρ, fun m ρ _ => Cert.Kernel2Ideal.Gen.frame m ρ,
    fun m ρ _ => Cert.Kernel2Ideal.Gen.frame m ρ,
    Cert.Swi.reference_frame, fun m ρ _ => Cert.Swi.reference_frame m ρ trivial,
    fun m ρ _ => Cert.Kernel3.Gen.frame m ρ, fun m ρ _ => Cert.Kernel3Ideal.Gen.frame m ρ, Cert.Weight.GateUp.reference_frame,
    fun m ρ _ => Cert.Kernel4.Gen.frame m ρ, fun m ρ _ => Cert.Kernel4Ideal.Gen.frame m ρ, Cert.Weight.Down.reference_frame,
    fun m ρ _ => Cert.Kernel5.Gen.frame m ρ, fun m ρ _ => Cert.Kernel5Ideal.Gen.frame m ρ, Cert.Weight.In.reference_frame,
    fun m ρ _ => Cert.Kernel6.Gen.frame m ρ, fun m ρ _ => Cert.Kernel6Ideal.Gen.frame m ρ, Cert.Weight.Square.reference_frame,
    fun m ρ _ => Cert.Ffn.B.frame m ρ, Cert.Ffn.kernel_frame, Cert.Ffn.reference_frame,
    fun m ρ _ => Cert.Kernel8.Gen.frame m ρ, fun m ρ _ => Cert.Kernel8Ideal.Gen.frame m ρ, Cert.Adam.Conv.reference_frame,
    fun m ρ _ => Cert.Kernel9.Gen.frame m ρ, fun m ρ _ => Cert.Kernel9Ideal.Gen.frame m ρ, Cert.Adam.Square.reference_frame,
    fun m ρ _ => Cert.Kernel10.Gen.frame m ρ, fun m ρ _ => Cert.Kernel10Ideal.Gen.frame m ρ, Cert.Adam.In.reference_frame,
    fun m ρ _ => Cert.Kernel11.Gen.frame m ρ, fun m ρ _ => Cert.Kernel11Ideal.Gen.frame m ρ, Cert.Adam.GateUp.reference_frame,
    fun m ρ _ => Cert.Kernel12.Gen.frame m ρ, fun m ρ _ => Cert.Kernel12Ideal.Gen.frame m ρ, Cert.Adam.Down.reference_frame,
    fun m ρ _ => Cert.Kernel13.Gen.frame m ρ, fun m ρ _ => Cert.Kernel13Ideal.Gen.frame m ρ, Cert.Adam.Kv.reference_frame,
    ⟨IdealRules.named_const.statement Cert.KernelIdeal.κ "gelu_a" .f32 0x3D372713#32 ((8943 / 200000 : ℝ) : EReal) rfl,
      IdealRules.named_const.statement Cert.KernelIdeal.κ "gelu_3a" .f32 0x3E095D4F#32 ((26829 / 200000 : ℝ) : EReal) rfl⟩,
    Cert.Mix.agree, trivial, Cert.Swi.agree, trivial, Cert.Weight.GateUp.agree, trivial, Cert.Weight.Down.agree,
    trivial, Cert.Weight.In.agree, trivial, Cert.Weight.Square.agree,
    trivial, Cert.Ffn.agree,
    trivial, Cert.Adam.Conv.agree, trivial, Cert.Adam.Square.agree,
    trivial, Cert.Adam.In.agree, trivial, Cert.Adam.GateUp.agree,
    trivial, Cert.Adam.Down.agree, trivial, Cert.Adam.Kv.agree⟩

end Cert.Proof

end
